-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_pre_finite [hPre_pre_finite : Cert.Pre_pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_pre_finite [hPre_pre_finite : Cert.Pre_pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_out_finite [hPre_out_finite : Cert.Pre_out_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_out_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).1 = (fun _ => 1#1)
    ∧ (Cert.Pre_out_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.1 = (fun _ => 1#1)
    ∧ (Cert.Pre_out_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.2.1 = (fun _ => 1#1)
    ∧ (Cert.Pre_out_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.2.2.1 = (fun _ => 1#1)
    ∧ (Cert.Pre_out_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_out_finite [hPre_out_finite : Cert.Pre_out_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_out_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).1 = (fun _ => 1#1)
    ∧ (Cert.Pre_out_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.1 = (fun _ => 1#1)
    ∧ (Cert.Pre_out_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.2.1 = (fun _ => 1#1)
    ∧ (Cert.Pre_out_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.2.2.1 = (fun _ => 1#1)
    ∧ (Cert.Pre_out_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 [hPre_on_mesh : Cert.Pre_on_mesh.Facts] (m : (ℓ : Loc Cert.Kernel7.nD Cert.Kernel7.τ Cert.Kernel7.sig) → Buf (Elt Bits) ℓ) : Prop :=
  ∀ c : Dev Cert.Kernel7.nD,
    (Cert.Pre_on_mesh.fn (F := Bits) (m ((c.tc : Thread Cert.Kernel7.nD Cert.Kernel7.τ).loc Cert.Kernel7.main_arg0)) (m ((c.tc : Thread Cert.Kernel7.nD Cert.Kernel7.τ).loc Cert.Kernel7.main_arg1)) (m ((c.tc : Thread Cert.Kernel7.nD Cert.Kernel7.τ).loc Cert.Kernel7.main_arg2)) (m ((c.tc : Thread Cert.Kernel7.nD Cert.Kernel7.τ).loc Cert.Kernel7.main_arg3)) (m ((c.tc : Thread Cert.Kernel7.nD Cert.Kernel7.τ).loc Cert.Kernel7.main_arg4))) = (fun _ => 1#1)

def Pre_Kernel7Ideal [hPre_on_mesh : Cert.Pre_on_mesh.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_on_mesh.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_on_mesh [hPre_on_mesh : Cert.Pre_on_mesh.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_on_mesh.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_pre_finite [hKernel2Ideal : Cert.Kernel2Ideal.Facts] [hPre_pre_finite : Cert.Pre_pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_pre_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_pre_finite [hReference2Ideal : Cert.Reference2Ideal.Facts] [hPre_pre_finite : Cert.Pre_pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_pre_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_out_finite [hKernel5Ideal : Cert.Kernel5Ideal.Facts] [hPre_out_finite : Cert.Pre_out_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_out_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_out_finite [hReference5Ideal : Cert.Reference5Ideal.Facts] [hPre_out_finite : Cert.Pre_out_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_out_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] [hPre_on_mesh : Cert.Pre_on_mesh.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] [hPre_on_mesh : Cert.Pre_on_mesh.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Reference7Ideal_pre_on_mesh [hReference7Ideal : Cert.Reference7Ideal.Facts] [hPre_on_mesh : Cert.Pre_on_mesh.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_on_mesh m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6)
      ∧ r.2.mem ((c.tc : Thread Cert.Kernel15.nD Cert.Kernel15.τ).loc Cert.Kernel15.main_arg7) = m ((c.tc : Thread Cert.Kernel15.nD Cert.Kernel15.τ).loc Cert.Kernel15.main_arg7)
      ∧ r.2.mem ((c.tc : Thread Cert.Kernel15.nD Cert.Kernel15.τ).loc Cert.Kernel15.main_arg8) = m ((c.tc : Thread Cert.Kernel15.nD Cert.Kernel15.τ).loc Cert.Kernel15.main_arg8))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
      ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7)
      ∧ r.2.mem ((c.tc : Thread Cert.Reference15Ideal.nD Cert.Reference15Ideal.τ).loc Cert.Reference15Ideal.main_arg8) = m ((c.tc : Thread Cert.Reference15Ideal.nD Cert.Reference15Ideal.τ).loc Cert.Reference15Ideal.main_arg8))
      ∧ r.2.sem = fun _ => 0)

def preserves_Kernel2_Kernel2Ideal : Prop :=
  True

def algebraic_Kernel2Ideal_Reference2Ideal_pre_pre_finite [hKernel2Ideal : Cert.Kernel2Ideal.Facts] [hReference2Ideal : Cert.Reference2Ideal.Facts] [hPre_pre_finite : Cert.Pre_pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_pre_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v40) = v0 c
          ∧ r.2.mem ((c.tc : Thread Cert.Reference2Ideal.nD Cert.Reference2Ideal.τ).loc Cert.Reference2Ideal.main_v42) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_v8) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_v8) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal_pre_out_finite [hKernel5Ideal : Cert.Kernel5Ideal.Facts] [hReference5Ideal : Cert.Reference5Ideal.Facts] [hPre_out_finite : Cert.Pre_out_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_out_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)) (v4 : (c : Dev Cert.Kernel5Ideal.nD) → Buf (Elt Ideal) ((c.tc : Thread Cert.Kernel5Ideal.nD Cert.Kernel5Ideal.τ).loc Cert.Kernel5Ideal.main_v0_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_v0_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v56) = v0 c
          ∧ r.2.mem ((c.tc : Thread Cert.Reference5Ideal.nD Cert.Reference5Ideal.τ).loc Cert.Reference5Ideal.main_v33) = v1 c
          ∧ r.2.mem ((c.tc : Thread Cert.Reference5Ideal.nD Cert.Reference5Ideal.τ).loc Cert.Reference5Ideal.main_v53) = v2 c
          ∧ r.2.mem ((c.tc : Thread Cert.Reference5Ideal.nD Cert.Reference5Ideal.τ).loc Cert.Reference5Ideal.main_v55) = v3 c
          ∧ r.2.mem ((c.tc : Thread Cert.Reference5Ideal.nD Cert.Reference5Ideal.τ).loc Cert.Reference5Ideal.main_v58) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v63) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] [hPre_on_mesh : Cert.Pre_on_mesh.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v11) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v23) = v0 c
          ∧ r.2.mem ((c.tc : Thread Cert.Reference8Ideal.nD Cert.Reference8Ideal.τ).loc Cert.Reference8Ideal.main_v4) = v1 c
          ∧ r.2.mem ((c.tc : Thread Cert.Reference8Ideal.nD Cert.Reference8Ideal.τ).loc Cert.Reference8Ideal.main_v10) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v23) = v0 c
          ∧ r.2.mem ((c.tc : Thread Cert.Reference9Ideal.nD Cert.Reference9Ideal.τ).loc Cert.Reference9Ideal.main_v4) = v1 c
          ∧ r.2.mem ((c.tc : Thread Cert.Reference9Ideal.nD Cert.Reference9Ideal.τ).loc Cert.Reference9Ideal.main_v10) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v23) = v0 c
          ∧ r.2.mem ((c.tc : Thread Cert.Reference10Ideal.nD Cert.Reference10Ideal.τ).loc Cert.Reference10Ideal.main_v4) = v1 c
          ∧ r.2.mem ((c.tc : Thread Cert.Reference10Ideal.nD Cert.Reference10Ideal.τ).loc Cert.Reference10Ideal.main_v10) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v23) = v0 c
          ∧ r.2.mem ((c.tc : Thread Cert.Reference11Ideal.nD Cert.Reference11Ideal.τ).loc Cert.Reference11Ideal.main_v4) = v1 c
          ∧ r.2.mem ((c.tc : Thread Cert.Reference11Ideal.nD Cert.Reference11Ideal.τ).loc Cert.Reference11Ideal.main_v10) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v23) = v0 c
          ∧ r.2.mem ((c.tc : Thread Cert.Reference12Ideal.nD Cert.Reference12Ideal.τ).loc Cert.Reference12Ideal.main_v4) = v1 c
          ∧ r.2.mem ((c.tc : Thread Cert.Reference12Ideal.nD Cert.Reference12Ideal.τ).loc Cert.Reference12Ideal.main_v10) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v12) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v11_0)) (v1 : (c : Dev Cert.Kernel14Ideal.nD) → Buf (Elt Ideal) ((c.tc : Thread Cert.Kernel14Ideal.nD Cert.Kernel14Ideal.τ).loc Cert.Kernel14Ideal.main_v11_1)) (v2 : (c : Dev Cert.Kernel14Ideal.nD) → Buf (Elt Ideal) ((c.tc : Thread Cert.Kernel14Ideal.nD Cert.Kernel14Ideal.τ).loc Cert.Kernel14Ideal.main_v11_2)) (v3 : (c : Dev Cert.Kernel14Ideal.nD) → Buf (Elt Ideal) ((c.tc : Thread Cert.Kernel14Ideal.nD Cert.Kernel14Ideal.τ).loc Cert.Kernel14Ideal.main_v11_3)) (v4 : (c : Dev Cert.Kernel14Ideal.nD) → Buf (Elt Ideal) ((c.tc : Thread Cert.Kernel14Ideal.nD Cert.Kernel14Ideal.τ).loc Cert.Kernel14Ideal.main_v11_4)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v11_0) = v0 c
          ∧ r.2.mem ((c.tc : Thread Cert.Kernel14Ideal.nD Cert.Kernel14Ideal.τ).loc Cert.Kernel14Ideal.main_v11_1) = v1 c
          ∧ r.2.mem ((c.tc : Thread Cert.Kernel14Ideal.nD Cert.Kernel14Ideal.τ).loc Cert.Kernel14Ideal.main_v11_2) = v2 c
          ∧ r.2.mem ((c.tc : Thread Cert.Kernel14Ideal.nD Cert.Kernel14Ideal.τ).loc Cert.Kernel14Ideal.main_v11_3) = v3 c
          ∧ r.2.mem ((c.tc : Thread Cert.Kernel14Ideal.nD Cert.Kernel14Ideal.τ).loc Cert.Kernel14Ideal.main_v11_4) = v4 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v8) = v0 c
          ∧ r.2.mem ((c.tc : Thread Cert.Reference14Ideal.nD Cert.Reference14Ideal.τ).loc Cert.Reference14Ideal.main_v12) = v1 c
          ∧ r.2.mem ((c.tc : Thread Cert.Reference14Ideal.nD Cert.Reference14Ideal.τ).loc Cert.Reference14Ideal.main_v47) = v2 c
          ∧ r.2.mem ((c.tc : Thread Cert.Reference14Ideal.nD Cert.Reference14Ideal.τ).loc Cert.Reference14Ideal.main_v48) = v3 c
          ∧ r.2.mem ((c.tc : Thread Cert.Reference14Ideal.nD Cert.Reference14Ideal.τ).loc Cert.Reference14Ideal.main_v59) = v4 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)
      ∧ m' ((c.tc : Thread Cert.Reference15Ideal.nD Cert.Reference15Ideal.τ).loc Cert.Reference15Ideal.main_arg7) = m ((c.tc : Thread Cert.Kernel15Ideal.nD Cert.Kernel15Ideal.τ).loc Cert.Kernel15Ideal.main_arg7)
      ∧ m' ((c.tc : Thread Cert.Reference15Ideal.nD Cert.Reference15Ideal.τ).loc Cert.Reference15Ideal.main_arg8) = m ((c.tc : Thread Cert.Kernel15Ideal.nD Cert.Kernel15Ideal.τ).loc Cert.Kernel15Ideal.main_arg8)) →
    ∃ (v0 : (c : Dev Cert.Kernel15Ideal.nD) → Buf (Elt Ideal) ((c.tc : Thread Cert.Kernel15Ideal.nD Cert.Kernel15Ideal.τ).loc Cert.Kernel15Ideal.main_v11_0)) (v1 : (c : Dev Cert.Kernel15Ideal.nD) → Buf (Elt Ideal) ((c.tc : Thread Cert.Kernel15Ideal.nD Cert.Kernel15Ideal.τ).loc Cert.Kernel15Ideal.main_v11_1)) (v2 : (c : Dev Cert.Kernel15Ideal.nD) → Buf (Elt Ideal) ((c.tc : Thread Cert.Kernel15Ideal.nD Cert.Kernel15Ideal.τ).loc Cert.Kernel15Ideal.main_v11_2)) (v3 : (c : Dev Cert.Kernel15Ideal.nD) → Buf (Elt Ideal) ((c.tc : Thread Cert.Kernel15Ideal.nD Cert.Kernel15Ideal.τ).loc Cert.Kernel15Ideal.main_v11_3)) (v4 : (c : Dev Cert.Kernel15Ideal.nD) → Buf (Elt Ideal) ((c.tc : Thread Cert.Kernel15Ideal.nD Cert.Kernel15Ideal.τ).loc Cert.Kernel15Ideal.main_v11_4)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v11_0) = v0 c
          ∧ r.2.mem ((c.tc : Thread Cert.Kernel15Ideal.nD Cert.Kernel15Ideal.τ).loc Cert.Kernel15Ideal.main_v11_1) = v1 c
          ∧ r.2.mem ((c.tc : Thread Cert.Kernel15Ideal.nD Cert.Kernel15Ideal.τ).loc Cert.Kernel15Ideal.main_v11_2) = v2 c
          ∧ r.2.mem ((c.tc : Thread Cert.Kernel15Ideal.nD Cert.Kernel15Ideal.τ).loc Cert.Kernel15Ideal.main_v11_3) = v3 c
          ∧ r.2.mem ((c.tc : Thread Cert.Kernel15Ideal.nD Cert.Kernel15Ideal.τ).loc Cert.Kernel15Ideal.main_v11_4) = v4 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
          ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
          ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v139) = v0 c
          ∧ r.2.mem ((c.tc : Thread Cert.Reference15Ideal.nD Cert.Reference15Ideal.τ).loc Cert.Reference15Ideal.main_v131) = v1 c
          ∧ r.2.mem ((c.tc : Thread Cert.Reference15Ideal.nD Cert.Reference15Ideal.τ).loc Cert.Reference15Ideal.main_v142) = v2 c
          ∧ r.2.mem ((c.tc : Thread Cert.Reference15Ideal.nD Cert.Reference15Ideal.τ).loc Cert.Reference15Ideal.main_v143) = v3 c
          ∧ r.2.mem ((c.tc : Thread Cert.Reference15Ideal.nD Cert.Reference15Ideal.τ).loc Cert.Reference15Ideal.main_v144) = v4 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6)
          ∧ r.2.mem ((c.tc : Thread Cert.Reference15Ideal.nD Cert.Reference15Ideal.τ).loc Cert.Reference15Ideal.main_arg7) = m' ((c.tc : Thread Cert.Reference15Ideal.nD Cert.Reference15Ideal.τ).loc Cert.Reference15Ideal.main_arg7)
          ∧ r.2.mem ((c.tc : Thread Cert.Reference15Ideal.nD Cert.Reference15Ideal.τ).loc Cert.Reference15Ideal.main_arg8) = m' ((c.tc : Thread Cert.Reference15Ideal.nD Cert.Reference15Ideal.τ).loc Cert.Reference15Ideal.main_arg8))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_pre_finite : Cert.Pre_pre_finite.Facts) (hPre_out_finite : Cert.Pre_out_finite.Facts) (hPre_on_mesh : Cert.Pre_on_mesh.Facts),
    quiescent_Kernel2 (hKernel2 := hKernel2)
    ∧ quiescent_Kernel2Ideal (hKernel2Ideal := hKernel2Ideal)
    ∧ quiescent_Kernel2Ideal_pre_pre_finite (hKernel2Ideal := hKernel2Ideal) (hPre_pre_finite := hPre_pre_finite)
    ∧ quiescent_Reference2Ideal (hReference2Ideal := hReference2Ideal)
    ∧ quiescent_Reference2Ideal_pre_pre_finite (hReference2Ideal := hReference2Ideal) (hPre_pre_finite := hPre_pre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_out_finite (hKernel5Ideal := hKernel5Ideal) (hPre_out_finite := hPre_out_finite)
    ∧ quiescent_Reference5Ideal (hReference5Ideal := hReference5Ideal)
    ∧ quiescent_Reference5Ideal_pre_out_finite (hReference5Ideal := hReference5Ideal) (hPre_out_finite := hPre_out_finite)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7) (hPre_on_mesh := hPre_on_mesh)
    ∧ quiescent_Kernel7Ideal (hKernel7Ideal := hKernel7Ideal) (hPre_on_mesh := hPre_on_mesh)
    ∧ quiescent_Reference7Ideal (hReference7Ideal := hReference7Ideal)
    ∧ quiescent_Reference7Ideal_pre_on_mesh (hReference7Ideal := hReference7Ideal) (hPre_on_mesh := hPre_on_mesh)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel2_Kernel2Ideal
    ∧ algebraic_Kernel2Ideal_Reference2Ideal_pre_pre_finite (hKernel2Ideal := hKernel2Ideal) (hReference2Ideal := hReference2Ideal) (hPre_pre_finite := hPre_pre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_out_finite (hKernel5Ideal := hKernel5Ideal) (hReference5Ideal := hReference5Ideal) (hPre_out_finite := hPre_out_finite)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal) (hPre_on_mesh := hPre_on_mesh)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Pre_on_mesh.lean ====
abbrev S2 : Shape := ⟨1, ![2]⟩
abbrev S4096x2048 : Shape := ⟨2, ![4096, 2048]⟩
abbrev S4x2048x1536 : Shape := ⟨3, ![4, 2048, 1536]⟩
abbrev S4096x6144 : Shape := ⟨2, ![4096, 6144]⟩
abbrev S8x128 : Shape := ⟨2, ![8, 128]⟩
abbrev S_ : Shape := ⟨0, ![]⟩

class Facts : Prop where
  bcast_S_S2 : S_.BroadcastsInDim S2 (![] : Fin 0 → Fin S2.rank)

variable [Facts]

def fn {F : FTy → Type} [FloatOps F] (main_arg0 : IVec S2 32) (main_arg1 : FVec F S4096x2048 .bf16) (main_arg2 : FVec F S4x2048x1536 .bf16) (main_arg3 : FVec F S4096x6144 .f32) (main_arg4 : FVec F S8x128 .f32) : IVec S2 1 :=
  let main_c : IVec S_ 32 := constantI S_ 32 0#32
  let main_v0 : IVec S2 32 := broadcastInDim S2 ![] bcast_S_S2 main_c
  let main_v1 : IVec S2 1 := cmpi .sge main_arg0 main_v0
  let main_c_0 : IVec S_ 32 := constantI S_ 32 4#32
  let main_v2 : IVec S2 32 := broadcastInDim S2 ![] bcast_S_S2 main_c_0
  let main_v3 : IVec S2 1 := cmpi .slt main_arg0 main_v2
  let main_v4 : IVec S2 1 := andi main_v1 main_v3
  main_v4
-- ==== Pre_out_finite.lean ====
abbrev S4096x2048 : Shape := ⟨2, ![4096, 2048]⟩
abbrev S2048x2048 : Shape := ⟨2, ![2048, 2048]⟩
abbrev S1x2048 : Shape := ⟨2, ![1, 2048]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  bcast_S_S2048x2048 : S_.BroadcastsInDim S2048x2048 (![] : Fin 0 → Fin S2048x2048.rank)
  bcast_S_S1x2048 : S_.BroadcastsInDim S1x2048 (![] : Fin 0 → Fin S1x2048.rank)

variable [Facts]

def fn {F : FTy → Type} [FloatOps F] (main_arg0 : FVec F S4096x2048 .bf16) (main_arg1 : FVec F S2048x2048 .bf16) (main_arg2 : FVec F S4096x2048 .f32) (main_arg3 : FVec F S4096x2048 .f32) (main_arg4 : FVec F S1x2048 .f32) : IVec S4096x2048 1 × IVec S2048x2048 1 × IVec S4096x2048 1 × IVec S4096x2048 1 × IVec S1x2048 1 :=
  let main_v0 : FVec F S4096x2048 .f32 := (extf .f32 · bitsLt_bf16_f32) main_arg0
  let main_v1 : FVec F S2048x2048 .f32 := (extf .f32 · bitsLt_bf16_f32) main_arg1
  let main_v2 : FVec F S4096x2048 .f32 := Host.absf main_v0
  let main_cst : FVec F S_ .f32 := constant S_ .f32 0x7F800000#32
  let main_v3 : FVec F S4096x2048 .f32 := broadcastInDim S4096x2048 ![] bcast_S_S4096x2048 main_cst
  let main_v4 : IVec S4096x2048 1 := cmpf .olt main_v2 main_v3
  let main_v5 : FVec F S2048x2048 .f32 := Host.absf main_v1
  let main_cst_0 : FVec F S_ .f32 := constant S_ .f32 0x7F800000#32
  let main_v6 : FVec F S2048x2048 .f32 := broadcastInDim S2048x2048 ![] bcast_S_S2048x2048 main_cst_0
  let main_v7 : IVec S2048x2048 1 := cmpf .olt main_v5 main_v6
  let main_v8 : FVec F S4096x2048 .f32 := Host.absf main_arg2
  let main_cst_1 : FVec F S_ .f32 := constant S_ .f32 0x7F800000#32
  let main_v9 : FVec F S4096x2048 .f32 := broadcastInDim S4096x2048 ![] bcast_S_S4096x2048 main_cst_1
  let main_v10 : IVec S4096x2048 1 := cmpf .olt main_v8 main_v9
  let main_v11 : FVec F S4096x2048 .f32 := Host.absf main_arg3
  let main_cst_2 : FVec F S_ .f32 := constant S_ .f32 0x7F800000#32
  let main_v12 : FVec F S4096x2048 .f32 := broadcastInDim S4096x2048 ![] bcast_S_S4096x2048 main_cst_2
  let main_v13 : IVec S4096x2048 1 := cmpf .olt main_v11 main_v12
  let main_v14 : FVec F S1x2048 .f32 := Host.absf main_arg4
  let main_cst_3 : FVec F S_ .f32 := constant S_ .f32 0x7F800000#32
  let main_v15 : FVec F S1x2048 .f32 := broadcastInDim S1x2048 ![] bcast_S_S1x2048 main_cst_3
  let main_v16 : IVec S1x2048 1 := cmpf .olt main_v14 main_v15
  (main_v4, main_v7, main_v10, main_v13, main_v16)
-- ==== Pre_pre_finite.lean ====
abbrev S4096x6144 : Shape := ⟨2, ![4096, 6144]⟩
abbrev S4x2048x1536 : Shape := ⟨3, ![4, 2048, 1536]⟩
abbrev S4096x2048 : Shape := ⟨2, ![4096, 2048]⟩
abbrev S1x2048 : Shape := ⟨2, ![1, 2048]⟩
abbrev S_ : Shape := ⟨0, ![]⟩

class Facts : Prop where
  bitsLt_bf16_f32 : FTy.bits .bf16 < FTy.bits .f32
  bcast_S_S4096x6144 : S_.BroadcastsInDim S4096x6144 (![] : Fin 0 → Fin S4096x6144.rank)
  bcast_S_S4x2048x1536 : S_.BroadcastsInDim S4x2048x1536 (![] : Fin 0 → Fin S4x2048x1536.rank)
  bcast_S_S4096x2048 : S_.BroadcastsInDim S4096x2048 (![] : Fin 0 → Fin S4096x2048.rank)
  bcast_S_S1x2048 : S_.BroadcastsInDim S1x2048 (![] : Fin 0 → Fin S1x2048.rank)

variable [Facts]

def fn {F : FTy → Type} [FloatOps F] (main_arg0 : FVec F S4096x6144 .bf16) (main_arg1 : FVec F S4x2048x1536 .bf16) (main_arg2 : FVec F S4096x2048 .f32) (main_arg3 : FVec F S4096x2048 .f32) (main_arg4 : FVec F S1x2048 .f32) : IVec S4096x6144 1 × IVec S4x2048x1536 1 × IVec S4096x2048 1 × IVec S1x2048 1 :=
  let main_v0 : FVec F S4096x6144 .f32 := (extf .f32 · bitsLt_bf16_f32) main_arg0
  let main_v1 : FVec F S4x2048x1536 .f32 := (extf .f32 · bitsLt_bf16_f32) main_arg1
  let main_v2 : FVec F S4096x6144 .f32 := Host.absf main_v0
  let main_cst : FVec F S_ .f32 := constant S_ .f32 0x7F800000#32
  let main_v3 : FVec F S4096x6144 .f32 := broadcastInDim S4096x6144 ![] bcast_S_S4096x6144 main_cst
  let main_v4 : IVec S4096x6144 1 := cmpf .olt main_v2 main_v3
  let main_v5 : FVec F S4x2048x1536 .f32 := Host.absf main_v1
  let main_cst_0 : FVec F S_ .f32 := constant S_ .f32 0x7F800000#32
  let main_v6 : FVec F S4x2048x1536 .f32 := broadcastInDim S4x2048x1536 ![] bcast_S_S4x2048x1536 main_cst_0
  let main_v7 : IVec S4x2048x1536 1 := cmpf .olt main_v5 main_v6
  let main_v8 : FVec F S4096x2048 .f32 := Host.absf main_arg2
  let main_cst_1 : FVec F S_ .f32 := constant S_ .f32 0x7F800000#32
  let main_v9 : FVec F S4096x2048 .f32 := broadcastInDim S4096x2048 ![] bcast_S_S4096x2048 main_cst_1
  let main_v10 : IVec S4096x2048 1 := cmpf .olt main_v8 main_v9
  let main_v11 : FVec F S1x2048 .f32 := Host.absf main_arg4
  let main_cst_2 : FVec F S_ .f32 := constant S_ .f32 0x7F800000#32
  let main_v12 : FVec F S1x2048 .f32 := broadcastInDim S1x2048 ![] bcast_S_S1x2048 main_cst_2
  let main_v13 : IVec S1x2048 1 := cmpf .olt main_v11 main_v12
  (main_v4, main_v7, main_v10, main_v13)
-- ==== Kernel2.lean ====
abbrev S4096x6144 : Shape := ⟨2, ![4096, 6144]⟩
abbrev S4x2048x1536 : Shape := ⟨3, ![4, 2048, 1536]⟩
abbrev S4096x2048 : Shape := ⟨2, ![4096, 2048]⟩
abbrev S1x2048 : Shape := ⟨2, ![1, 2048]⟩
abbrev S8x2048 : Shape := ⟨2, ![8, 2048]⟩
abbrev S256x6144 : Shape := ⟨2, ![256, 6144]⟩
abbrev S256x2048 : Shape := ⟨2, ![256, 2048]⟩
abbrev S256x1536 : Shape := ⟨2, ![256, 1536]⟩
abbrev S1x2048x1536 : Shape := ⟨3, ![1, 2048, 1536]⟩
abbrev S2048x1536 : Shape := ⟨2, ![2048, 1536]⟩
abbrev S256 : Shape := ⟨1, ![256]⟩
abbrev S256x1 : Shape := ⟨2, ![256, 1]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S4096x6144, .bf16⟩
  | .hbm, ⟨1, _⟩ => ⟨S4x2048x1536, .bf16⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S8x2048, .f32⟩
  | .local _ .vmem, ⟨0, _⟩ => ⟨S256x6144, .bf16⟩
  | .local _ .vmem, ⟨1, _⟩ => ⟨S256x6144, .bf16⟩
  | .local _ .vmem, ⟨2, _⟩ => ⟨S4x2048x1536, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S8x2048, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x2048x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference2Ideal.lean ====
abbrev S4096x6144 : Shape := ⟨2, ![4096, 6144]⟩
abbrev S4x2048x1536 : Shape := ⟨3, ![4, 2048, 1536]⟩
abbrev S4096x2048 : Shape := ⟨2, ![4096, 2048]⟩
abbrev S1x2048 : Shape := ⟨2, ![1, 2048]⟩
abbrev S2048x4x1536 : Shape := ⟨3, ![2048, 4, 1536]⟩
abbrev S2048x6144 : Shape := ⟨2, ![2048, 6144]⟩
abbrev S_ : Shape := ⟨0, ![]⟩
abbrev S4096 : Shape := ⟨1, ![4096]⟩
abbrev S4096x1 : Shape := ⟨2, ![4096, 1]⟩
abbrev S2048 : Shape := ⟨1, ![2048]⟩
abbrev S7x2048 : Shape := ⟨2, ![7, 2048]⟩
abbrev S8x2048 : Shape := ⟨2, ![8, 2048]⟩

abbrev nBuf : Space → Nat
  | .hbm => 57
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S4x2048x1536, .bf16⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S4x2048x1536, .f32⟩
  | .hbm, ⟨6, _⟩ => ⟨S2048x4x1536, .f32⟩
  | .hbm, ⟨7, _⟩ => ⟨S2048x6144, .f32⟩
  | .hbm, ⟨8, _⟩ => ⟨S4096x2048, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x6144, .f32⟩
  | .hbm, ⟨28, _⟩ => ⟨S4096x6144, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S2048, .f32⟩
  | .hbm, ⟨33, _⟩ => ⟨S1x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S_, .f32⟩
  | .hbm, ⟨55, _⟩ => ⟨S7x2048, .f32⟩
  | .hbm, ⟨56, _⟩ => ⟨S8x2048, .f32⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Kernel3.lean ====
abbrev S4096x2048 : Shape := ⟨2, ![4096, 2048]⟩
abbrev S4096x6144 : Shape := ⟨2, ![4096, 6144]⟩
abbrev S4x2048x1536 : Shape := ⟨3, ![4, 2048, 1536]⟩
abbrev S512x1024 : Shape := ⟨2, ![512, 1024]⟩
abbrev S512x1536 : Shape := ⟨2, ![512, 1536]⟩
abbrev S1x1024x1536 : Shape := ⟨3, ![1, 1024, 1536]⟩
abbrev S1024x1536 : Shape := ⟨2, ![1024, 1536]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S4x2048x1536, .f32⟩
  | .hbm, ⟨3, _⟩ => ⟨S4x2048x1536, .bf16⟩
  | .local _ .vmem, ⟨0, _⟩ => ⟨S512x1024, .bf16⟩
  | .local _ .vmem, ⟨1, _⟩ => ⟨S512x1024, .bf16⟩
  | .local _ .vmem, ⟨2, _⟩ => ⟨S512x1536, .bf16⟩
  | .local _ .vmem, ⟨3, _⟩ => ⟨S512x1536, .bf16⟩
  | .local _ .vmem, ⟨4, _⟩ => ⟨S1x1024x1536, .f32⟩
  | .local _ .vmem, ⟨5, _⟩ => ⟨S1x1024x1536, .f32⟩
  | .local _ .vmem, ⟨6, _⟩ => ⟨S1x1024x1536, .bf16⟩
  | .local _ .vmem, ⟨7, _⟩ => ⟨S1x1024x1536, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S4096x2048 : Shape := ⟨2, ![4096, 2048]⟩
abbrev S4096x6144 : Shape := ⟨2, ![4096, 6144]⟩
abbrev S_ : Shape := ⟨0, ![]⟩
abbrev S2048x6144 : Shape := ⟨2, ![2048, 6144]⟩
abbrev S6144x2048 : Shape := ⟨2, ![6144, 2048]⟩
abbrev S2048x4x1536 : Shape := ⟨3, ![2048, 4, 1536]⟩
abbrev S4x2048x1536 : Shape := ⟨3, ![4, 2048, 1536]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S_, .f32⟩
  | .hbm, ⟨3, _⟩ => ⟨S2048x6144, .f32⟩
  | .hbm, ⟨4, _⟩ => ⟨S4096x2048, .f32⟩
  | .hbm, ⟨5, _⟩ => ⟨S4096x6144, .f32⟩
  | .hbm, ⟨6, _⟩ => ⟨S4096x6144, .f32⟩
  | .hbm, ⟨7, _⟩ => ⟨S6144x2048, .f32⟩
  | .hbm, ⟨8, _⟩ => ⟨S2048x6144, .f32⟩
  | .hbm, ⟨9, _⟩ => ⟨S2048x4x1536, .f32⟩
  | .hbm, ⟨10, _⟩ => ⟨S4x2048x1536, .f32⟩
  | .hbm, ⟨11, _⟩ => ⟨S4x2048x1536, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S4096x2048 : Shape := ⟨2, ![4096, 2048]⟩
abbrev S1x2048x2048 : Shape := ⟨3, ![1, 2048, 2048]⟩
abbrev S512x1024 : Shape := ⟨2, ![512, 1024]⟩
abbrev S512x2048 : Shape := ⟨2, ![512, 2048]⟩
abbrev S1x1024x2048 : Shape := ⟨3, ![1, 1024, 2048]⟩
abbrev S1024x2048 : Shape := ⟨2, ![1024, 2048]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S1x2048x2048, .f32⟩
  | .hbm, ⟨3, _⟩ => ⟨S1x2048x2048, .bf16⟩
  | .local _ .vmem, ⟨0, _⟩ => ⟨S512x1024, .bf16⟩
  | .local _ .vmem, ⟨1, _⟩ => ⟨S512x1024, .bf16⟩
  | .local _ .vmem, ⟨2, _⟩ => ⟨S512x2048, .bf16⟩
  | .local _ .vmem, ⟨3, _⟩ => ⟨S512x2048, .bf16⟩
  | .local _ .vmem, ⟨4, _⟩ => ⟨S1x1024x2048, .f32⟩
  | .local _ .vmem, ⟨5, _⟩ => ⟨S1x1024x2048, .f32⟩
  | .local _ .vmem, ⟨6, _⟩ => ⟨S1x1024x2048, .bf16⟩
  | .local _ .vmem, ⟨7, _⟩ => ⟨S1x1024x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference4Ideal.lean ====
abbrev S4096x2048 : Shape := ⟨2, ![4096, 2048]⟩
abbrev S_ : Shape := ⟨0, ![]⟩
abbrev S2048x2048 : Shape := ⟨2, ![2048, 2048]⟩
abbrev S1x2048x2048 : Shape := ⟨3, ![1, 2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S1x2048x2048, .f32⟩
  | .hbm, ⟨10, _⟩ => ⟨S1x2048x2048, .f32⟩
  | .hbm, ⟨11, _⟩ => ⟨S1x2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S4096x2048 : Shape := ⟨2, ![4096, 2048]⟩
abbrev S2048x2048 : Shape := ⟨2, ![2048, 2048]⟩
abbrev S1x2048 : Shape := ⟨2, ![1, 2048]⟩
abbrev S8x128 : Shape := ⟨2, ![8, 128]⟩
abbrev S8x2048 : Shape := ⟨2, ![8, 2048]⟩
abbrev S256x2048 : Shape := ⟨2, ![256, 2048]⟩
abbrev S256 : Shape := ⟨1, ![256]⟩
abbrev S256x1 : Shape := ⟨2, ![256, 1]⟩
abbrev S1x256x2048 : Shape := ⟨3, ![1, 256, 2048]⟩
abbrev S1 : Shape := ⟨1, ![1]⟩
abbrev S1x1x1 : Shape := ⟨3, ![1, 1, 1]⟩
abbrev S2048 : Shape := ⟨1, ![2048]⟩

abbrev nBuf : Space → Nat
  | .hbm => 10
  | .vmem => 16
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S8x128, .f32⟩
  | .hbm, ⟨6, _⟩ => ⟨S4096x2048, .f32⟩
  | .hbm, ⟨7, _⟩ => ⟨S4096x2048, .bf16⟩
  | .hbm, ⟨8, _⟩ => ⟨S4096x2048, .f32⟩
  | .hbm, ⟨9, _⟩ => ⟨S8x2048, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S8x128, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S256x2048, .f32⟩
  | .local _ .vmem, ⟨14, _⟩ => ⟨S256x2048, .f32⟩
  | .local _ .vmem, ⟨15, _⟩ => ⟨S8x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference5Ideal.lean ====
abbrev S4096x2048 : Shape := ⟨2, ![4096, 2048]⟩
abbrev S2048x2048 : Shape := ⟨2, ![2048, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩
abbrev S8x128 : Shape := ⟨2, ![8, 128]⟩
abbrev S7x2048 : Shape := ⟨2, ![7, 2048]⟩
abbrev S8x2048 : Shape := ⟨2, ![8, 2048]⟩

abbrev nBuf : Space → Nat
  | .hbm => 81
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S4096, .f32⟩
  | .hbm, ⟨46, _⟩ => ⟨S_, .f32⟩
  | .hbm, ⟨47, _⟩ => ⟨S4096, .f32⟩
  | .hbm, ⟨48, _⟩ => ⟨S4096, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S2048, .f32⟩
  | .hbm, ⟨54, _⟩ => ⟨S1x2048, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S_, .f32⟩
  | .hbm, ⟨59, _⟩ => ⟨S4096, .f32⟩
  | .hbm, ⟨60, _⟩ => ⟨S4096x1, .f32⟩
  | .hbm, ⟨61, _⟩ => ⟨S4096x2048, .f32⟩
  | .hbm, ⟨62, _⟩ => ⟨S4096x2048, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S_, .f32⟩
  | .hbm, ⟨68, _⟩ => ⟨S4096, .f32⟩
  | .hbm, ⟨69, _⟩ => ⟨S4096x2048, .f32⟩
  | .hbm, ⟨70, _⟩ => ⟨S4096x2048, .f32⟩
  | .hbm, ⟨71, _⟩ => ⟨S4096x2048, .f32⟩
  | .hbm, ⟨72, _⟩ => ⟨S4096x2048, .f32⟩
  | .hbm, ⟨73, _⟩ => ⟨S4096x2048, .f32⟩
  | .hbm, ⟨74, _⟩ => ⟨S4096x2048, .bf16⟩
  | .hbm, ⟨75, _⟩ => ⟨S4096x2048, .f32⟩
  | .hbm, ⟨76, _⟩ => ⟨S4096x2048, .f32⟩
  | .hbm, ⟨77, _⟩ => ⟨S8x128, .f32⟩
  | .hbm, ⟨78, _⟩ => ⟨S_, .f32⟩
  | .hbm, ⟨79, _⟩ => ⟨S7x2048, .f32⟩
  | .hbm, ⟨80, _⟩ => ⟨S8x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_13 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_15 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]
-- ==== Kernel6.lean ====
abbrev S4096x6144 : Shape := ⟨2, ![4096, 6144]⟩
abbrev S4096x1024 : Shape := ⟨2, ![4096, 1024]⟩
abbrev S8x1024 : Shape := ⟨2, ![8, 1024]⟩
abbrev S1x1024 : Shape := ⟨2, ![1, 1024]⟩
abbrev S1024x1024 : Shape := ⟨2, ![1024, 1024]⟩
abbrev S4096x2048 : Shape := ⟨2, ![4096, 2048]⟩
abbrev S256x1024 : Shape := ⟨2, ![256, 1024]⟩
abbrev S256x2048 : Shape := ⟨2, ![256, 2048]⟩
abbrev S264x1024 : Shape := ⟨2, ![264, 1024]⟩

abbrev nBuf : Space → Nat
  | .hbm => 7
  | .vmem => 19
  | .smem => 0
  | _ => 0

abbrev bufTy : (tb : Table) → Fin (tcTables nBuf tb) → BufTy
  | .hbm, ⟨0, _⟩ => ⟨S4096x6144, .f32⟩
  | .hbm, ⟨1, _⟩ => ⟨S4096x1024, .f32⟩
  | .hbm, ⟨2, _⟩ => ⟨S8x1024, .f32⟩
  | .hbm, ⟨3, _⟩ => ⟨S1x1024, .f32⟩
  | .hbm, ⟨4, _⟩ => ⟨S1024x1024, .bf16⟩
  | .hbm, ⟨5, _⟩ => ⟨S1x1024, .f32⟩
  | .hbm, ⟨6, _⟩ => ⟨S4096x2048, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S8x1024, .f32⟩
  | .local _ .vmem, ⟨13, _⟩ => ⟨S1x1024, .f32⟩
  | .local _ .vmem, ⟨14, _⟩ => ⟨S1024x1024, .bf16⟩
  | .local _ .vmem, ⟨15, _⟩ => ⟨S1x1024, .f32⟩
  | .local _ .vmem, ⟨16, _⟩ => ⟨S256x2048, .bf16⟩
  | .local _ .vmem, ⟨17, _⟩ => ⟨S256x2048, .bf16⟩
  | .local _ .vmem, ⟨18, _⟩ => ⟨S264x1024, .f32⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference6Ideal.lean ====
abbrev S4096x6144 : Shape := ⟨2, ![4096, 6144]⟩
abbrev S4096x1024 : Shape := ⟨2, ![4096, 1024]⟩
abbrev S8x1024 : Shape := ⟨2, ![8, 1024]⟩
abbrev S1x1024 : Shape := ⟨2, ![1, 1024]⟩
abbrev S1024x1024 : Shape := ⟨2, ![1024, 1024]⟩
abbrev S4096x4096 : Shape := ⟨2, ![4096, 4096]⟩
abbrev S4096x2048 : Shape := ⟨2, ![4096, 2048]⟩
abbrev S_ : Shape := ⟨0, ![]⟩
abbrev S2x1024 : Shape := ⟨2, ![2, 1024]⟩
abbrev S4098x1024 : Shape := ⟨2, ![4098, 1024]⟩
abbrev S1024 : Shape := ⟨1, ![1024]⟩

abbrev nBuf : Space → Nat
  | .hbm => 93
  | .vmem => 0
  | .smem => 0
  | _ => 0

abbrev bufTy : (tb : Table) → Fin (tcTables nBuf tb) → BufTy
  | .hbm, ⟨0, _⟩ => ⟨S4096x6144, .f32⟩
  | .hbm, ⟨1, _⟩ => ⟨S4096x1024, .f32⟩
  | .hbm, ⟨2, _⟩ => ⟨S8x1024, .f32⟩
  | .hbm, ⟨3, _⟩ => ⟨S1x1024, .f32⟩
  | .hbm, ⟨4, _⟩ => ⟨S1024x1024, .bf16⟩
  | .hbm, ⟨5, _⟩ => ⟨S1x1024, .f32⟩
  | .hbm, ⟨6, _⟩ => ⟨S1024x1024, .f32⟩
  | .hbm, ⟨7, _⟩ => ⟨S4096x4096, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x2048, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S2x1024, .f32⟩
  | .hbm, ⟨18, _⟩ => ⟨S4098x1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S1x1024, .f32⟩
  | .hbm, ⟨35, _⟩ => ⟨S1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S4096x1024, .f32⟩
  | .hbm, ⟨76, _⟩ => ⟨S4096x1024, .f32⟩
  | .hbm, ⟨77, _⟩ => ⟨S_, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S_, .f32⟩
  | .hbm, ⟨84, _⟩ => ⟨S4096x1024, .f32⟩
  | .hbm, ⟨85, _⟩ => ⟨S4096x1024, .f32⟩
  | .hbm, ⟨86, _⟩ => ⟨S_, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S4096x2048, .f32⟩
  | .hbm, ⟨92, _⟩ => ⟨S4096x2048, .bf16⟩
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_0 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_1 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_2 : Ref sig .tc := ⟨.hbm, 62, rfl⟩
abbrev main_v45 : Ref sig .tc := ⟨.hbm, 63, rfl⟩
abbrev main_v46 : Ref sig .tc := ⟨.hbm, 64, rfl⟩
abbrev main_cst_3 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_4 : Ref sig .tc := ⟨.hbm, 74, rfl⟩
abbrev main_v55 : Ref sig .tc := ⟨.hbm, 75, rfl⟩
abbrev main_v56 : Ref sig .tc := ⟨.hbm, 76, rfl⟩
abbrev main_cst_5 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_call1_v0 : Ref sig .tc := ⟨.hbm, 81, rfl⟩
abbrev main_call1_v1 : Ref sig .tc := ⟨.hbm, 82, rfl⟩
abbrev main_call1_cst : Ref sig .tc := ⟨.hbm, 83, rfl⟩
abbrev main_call1_v2 : Ref sig .tc := ⟨.hbm, 84, rfl⟩
abbrev main_call1_v3 : Ref sig .tc := ⟨.hbm, 85, rfl⟩
abbrev main_call1_cst_0 : Ref sig .tc := ⟨.hbm, 86, rfl⟩
abbrev main_call1_v4 : Ref sig .tc := ⟨.hbm, 87, rfl⟩
abbrev main_call1_v5 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩

abbrev nD : Nat := 1
abbrev τ : Topo := Topo.v7x

variable {F : FTy → Type} [FloatOps F]
-- ==== Kernel7.lean ====
abbrev S2 : Shape := ⟨1, ![2]⟩
abbrev S4096x2048 : Shape := ⟨2, ![4096, 2048]⟩
abbrev S4x2048x1536 : Shape := ⟨3, ![4, 2048, 1536]⟩
abbrev S4096x6144 : Shape := ⟨2, ![4096, 6144]⟩
abbrev S8x128 : Shape := ⟨2, ![8, 128]⟩
abbrev S512x2048 : Shape := ⟨2, ![512, 2048]⟩
abbrev S1x2048x1536 : Shape := ⟨3, ![1, 2048, 1536]⟩
abbrev S1 : Shape := ⟨1, ![1]⟩
abbrev S512x1536 : Shape := ⟨2, ![512, 1536]⟩
abbrev S2048x1536 : Shape := ⟨2, ![2048, 1536]⟩

abbrev nBuf : Space → Nat
  | .hbm => 5
  | .vmem => 7
  | .smem => 1
  | _ => 0

abbrev bufTy : (tb : Table) → Fin (tcTables nBuf tb) → BufTy
  | .hbm, ⟨0, _⟩ => ⟨S4096x2048, .bf16⟩
  | .hbm, ⟨1, _⟩ => ⟨S4x2048x1536, .bf16⟩
  | .hbm, ⟨2, _⟩ => ⟨S4096x6144, .f32⟩
  | .hbm, ⟨3, _⟩ => ⟨S8x128, .f32⟩
  | .hbm, ⟨4, _⟩ => ⟨S4096x6144, .f32⟩
  | .local _ .vmem, ⟨0, _⟩ => ⟨S512x2048, .bf16⟩
  | .local _ .vmem, ⟨1, _⟩ => ⟨S512x2048, .bf16⟩
  | .local _ .vmem, ⟨2, _⟩ => ⟨S1x2048x1536, .bf16⟩
  | .local _ .vmem, ⟨3, _⟩ => ⟨S1x2048x1536, .bf16⟩
  | .local _ .vmem, ⟨4, _⟩ => ⟨S8x128, .f32⟩
  | .local _ .vmem, ⟨5, _⟩ => ⟨S512x1536, .f32⟩
  | .local _ .vmem, ⟨6, _⟩ => ⟨S512x1536, .f32⟩
  | .local _ .smem, ⟨0, _⟩ => ⟨S2, .i32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![3, 8], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c1 : Index := 1#32
  let v0 : BitVec 32 := pf.at 0 (Rect.unit (s := S2) ![1] S1.size inb_S2_S1_1) numel1_S1
  let c1_i32 : BitVec 32 := 1#32
  let v1 : BitVec 32 := Scalar.addi v0 c1_i32
  let v2 : BitVec 32 := Scalar.addi v1 arg0
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let c0_i32_4 : BitVec 32 := 0#32
  let c0_i32_5 : BitVec 32 := 0#32
  let c0_i32_6 : BitVec 32 := 0#32
  ![v12.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c1 : Index := 1#32
  let v0 : BitVec 32 := pf.at 0 (Rect.unit (s := S2) ![1] S1.size inb_S2_S1_1) numel1_S1
  let c1_i32 : BitVec 32 := 1#32
  let v1 : BitVec 32 := Scalar.addi v0 c1_i32
  let v2 : BitVec 32 := Scalar.addi v1 arg0
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let c0_i32_4 : BitVec 32 := 0#32
  ![arg1.toNat, v12.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S2 : Shape := ⟨1, ![2]⟩
abbrev S4096x2048 : Shape := ⟨2, ![4096, 2048]⟩
abbrev S4x2048x1536 : Shape := ⟨3, ![4, 2048, 1536]⟩
abbrev S4096x6144 : Shape := ⟨2, ![4096, 6144]⟩
abbrev S8x128 : Shape := ⟨2, ![8, 128]⟩
abbrev S2048x4x1536 : Shape := ⟨3, ![2048, 4, 1536]⟩
abbrev S2048x6144 : Shape := ⟨2, ![2048, 6144]⟩
abbrev S6144 : Shape := ⟨1, ![6144]⟩
abbrev S_ : Shape := ⟨0, ![]⟩
abbrev S1 : Shape := ⟨1, ![1]⟩

abbrev nBuf : Space → Nat
  | .hbm => 35
  | .vmem => 0
  | .smem => 0
  | _ => 0

abbrev bufTy : (tb : Table) → Fin (tcTables nBuf tb) → BufTy
  | .hbm, ⟨0, _⟩ => ⟨S2, .i32⟩
  | .hbm, ⟨1, _⟩ => ⟨S4096x2048, .bf16⟩
  | .hbm, ⟨2, _⟩ => ⟨S4x2048x1536, .bf16⟩
  | .hbm, ⟨3, _⟩ => ⟨S4096x6144, .f32⟩
  | .hbm, ⟨4, _⟩ => ⟨S8x128, .f32⟩
  | .hbm, ⟨5, _⟩ => ⟨S4x2048x1536, .f32⟩
  | .hbm, ⟨6, _⟩ => ⟨S2048x4x1536, .f32⟩
  | .hbm, ⟨7, _⟩ => ⟨S2048x6144, .f32⟩
  | .hbm, ⟨8, _⟩ => ⟨S6144, .i32⟩
  | .hbm, ⟨9, _⟩ => ⟨S_, .i32⟩
  | .hbm, ⟨10, _⟩ => ⟨S_, .i32⟩
  | .hbm, ⟨11, _⟩ => ⟨S6144, .i32⟩
  | .hbm, ⟨12, _⟩ => ⟨S6144, .i32⟩
  | .hbm, ⟨13, _⟩ => ⟨S6144, .i32⟩
  | .hbm, ⟨14, _⟩ => ⟨S_, .i32⟩
  | .hbm, ⟨15, _⟩ => ⟨S6144, .i32⟩
  | .hbm, ⟨16, _⟩ => ⟨S6144, .i1⟩
  | .hbm, ⟨17, _⟩ => ⟨S6144, .i32⟩
  | .hbm, ⟨18, _⟩ => ⟨S6144, .i32⟩
  | .hbm, ⟨19, _⟩ => ⟨S_, .i32⟩
  | .hbm, ⟨20, _⟩ => ⟨S6144, .i32⟩
  | .hbm, ⟨21, _⟩ => ⟨S6144, .i1⟩
  | .hbm, ⟨22, _⟩ => ⟨S6144, .i1⟩
  | .hbm, ⟨23, _⟩ => ⟨S_, .i32⟩
  | .hbm, ⟨24, _⟩ => ⟨S6144, .i32⟩
  | .hbm, ⟨25, _⟩ => ⟨S6144, .i32⟩
  | .hbm, ⟨26, _⟩ => ⟨S6144, .i32⟩
  | .hbm, ⟨27, _⟩ => ⟨S1, .i32⟩
  | .hbm, ⟨28, _⟩ => ⟨S_, .i32⟩
  | .hbm, ⟨29, _⟩ => ⟨S6144, .i32⟩
  | .hbm, ⟨30, _⟩ => ⟨S6144, .i1⟩
  | .hbm, ⟨31, _⟩ => ⟨S4096x2048, .f32⟩
  | .hbm, ⟨32, _⟩ => ⟨S4096x6144, .f32⟩
  | .hbm, ⟨33, _⟩ => ⟨S4096x6144, .i1⟩
  | .hbm, ⟨34, _⟩ => ⟨S4096x6144, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_call1_v0 : Ref sig .tc := ⟨.hbm, 33, rfl⟩
abbrev main_v11 : Ref sig .tc := ⟨.hbm, 34, rfl⟩

abbrev nD : Nat := 1
abbrev τ : Topo := Topo.v7x

variable {F : FTy → Type} [FloatOps F]
-- ==== Kernel8.lean ====
abbrev S2048x1536 : Shape := ⟨2, ![2048, 1536]⟩
abbrev S256x1536 : Shape := ⟨2, ![256, 1536]⟩

abbrev nBuf : Space → Nat
  | .hbm => 7
  | .vmem => 14
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference8Ideal.lean ====
abbrev S2048x1536 : Shape := ⟨2, ![2048, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S_, .f32⟩
  | .hbm, ⟨5, _⟩ => ⟨S2048x1536, .f32⟩
  | .hbm, ⟨6, _⟩ => ⟨S2048x1536, .f32⟩
  | .hbm, ⟨7, _⟩ => ⟨S_, .f32⟩
  | .hbm, ⟨8, _⟩ => ⟨S2048x1536, .f32⟩
  | .hbm, ⟨9, _⟩ => ⟨S2048x1536, .f32⟩
  | .hbm, ⟨10, _⟩ => ⟨S2048x1536, .f32⟩
  | .hbm, ⟨11, _⟩ => ⟨S_, .f32⟩
  | .hbm, ⟨12, _⟩ => ⟨S2048x1536, .f32⟩
  | .hbm, ⟨13, _⟩ => ⟨S2048x1536, .f32⟩
  | .hbm, ⟨14, _⟩ => ⟨S2048x1536, .f32⟩
  | .hbm, ⟨15, _⟩ => ⟨S_, .f32⟩
  | .hbm, ⟨16, _⟩ => ⟨S2048x1536, .f32⟩
  | .hbm, ⟨17, _⟩ => ⟨S2048x1536, .f32⟩
  | .hbm, ⟨18, _⟩ => ⟨S2048x1536, .f32⟩
  | .hbm, ⟨19, _⟩ => ⟨S_, .f32⟩
  | .hbm, ⟨20, _⟩ => ⟨S2048x1536, .f32⟩
  | .hbm, ⟨21, _⟩ => ⟨S2048x1536, .f32⟩
  | .hbm, ⟨22, _⟩ => ⟨S_, .f32⟩
  | .hbm, ⟨23, _⟩ => ⟨S2048x1536, .f32⟩
  | .hbm, ⟨24, _⟩ => ⟨S2048x1536, .f32⟩
  | .hbm, ⟨25, _⟩ => ⟨S2048x1536, .f32⟩
  | .hbm, ⟨26, _⟩ => ⟨S_, .f32⟩
  | .hbm, ⟨27, _⟩ => ⟨S2048x1536, .f32⟩
  | .hbm, ⟨28, _⟩ => ⟨S2048x1536, .f32⟩
  | .hbm, ⟨29, _⟩ => ⟨S2048x1536, .f32⟩
  | .hbm, ⟨30, _⟩ => ⟨S_, .f32⟩
  | .hbm, ⟨31, _⟩ => ⟨S2048x1536, .f32⟩
  | .hbm, ⟨32, _⟩ => ⟨S2048x1536, .f32⟩
  | .hbm, ⟨33, _⟩ => ⟨S2048x1536, .f32⟩
  | .hbm, ⟨34, _⟩ => ⟨S_, .f32⟩
  | .hbm, ⟨35, _⟩ => ⟨S2048x1536, .f32⟩
  | .hbm, ⟨36, _⟩ => ⟨S2048x1536, .f32⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel9.lean ====
abbrev S512x2048 : Shape := ⟨2, ![512, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference9Ideal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel10.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference10Ideal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel11.lean ====
abbrev S8x256 : Shape := ⟨2, ![8, 256]⟩

abbrev nBuf : Space → Nat
  | .hbm => 7
  | .vmem => 7
  | .smem => 0
  | _ => 0

abbrev bufTy : (tb : Table) → Fin (tcTables nBuf tb) → BufTy
  | .hbm, ⟨0, _⟩ => ⟨S8x256, .f32⟩
  | .hbm, ⟨1, _⟩ => ⟨S8x256, .f32⟩
  | .hbm, ⟨2, _⟩ => ⟨S8x256, .f32⟩
  | .hbm, ⟨3, _⟩ => ⟨S8x256, .f32⟩
  | .hbm, ⟨4, _⟩ => ⟨S8x256, .f32⟩
  | .hbm, ⟨5, _⟩ => ⟨S8x256, .f32⟩
  | .hbm, ⟨6, _⟩ => ⟨S8x256, .f32⟩
  | .local _ .vmem, ⟨0, _⟩ => ⟨S8x256, .f32⟩
  | .local _ .vmem, ⟨1, _⟩ => ⟨S8x256, .f32⟩
  | .local _ .vmem, ⟨2, _⟩ => ⟨S8x256, .f32⟩
  | .local _ .vmem, ⟨3, _⟩ => ⟨S8x256, .f32⟩
  | .local _ .vmem, ⟨4, _⟩ => ⟨S8x256, .f32⟩
  | .local _ .vmem, ⟨5, _⟩ => ⟨S8x256, .f32⟩
  | .local _ .vmem, ⟨6, _⟩ => ⟨S8x256, .f32⟩
  | _, _ => ⟨S8x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference11Ideal.lean ====
abbrev S8x256 : Shape := ⟨2, ![8, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x256, .f32⟩
  | .hbm, ⟨1, _⟩ => ⟨S8x256, .f32⟩
  | .hbm, ⟨2, _⟩ => ⟨S8x256, .f32⟩
  | .hbm, ⟨3, _⟩ => ⟨S8x256, .f32⟩
  | .hbm, ⟨4, _⟩ => ⟨S_, .f32⟩
  | .hbm, ⟨5, _⟩ => ⟨S8x256, .f32⟩
  | .hbm, ⟨6, _⟩ => ⟨S8x256, .f32⟩
  | .hbm, ⟨7, _⟩ => ⟨S_, .f32⟩
  | .hbm, ⟨8, _⟩ => ⟨S8x256, .f32⟩
  | .hbm, ⟨9, _⟩ => ⟨S8x256, .f32⟩
  | .hbm, ⟨10, _⟩ => ⟨S8x256, .f32⟩
  | .hbm, ⟨11, _⟩ => ⟨S_, .f32⟩
  | .hbm, ⟨12, _⟩ => ⟨S8x256, .f32⟩
  | .hbm, ⟨13, _⟩ => ⟨S8x256, .f32⟩
  | .hbm, ⟨14, _⟩ => ⟨S8x256, .f32⟩
  | .hbm, ⟨15, _⟩ => ⟨S_, .f32⟩
  | .hbm, ⟨16, _⟩ => ⟨S8x256, .f32⟩
  | .hbm, ⟨17, _⟩ => ⟨S8x256, .f32⟩
  | .hbm, ⟨18, _⟩ => ⟨S8x256, .f32⟩
  | .hbm, ⟨19, _⟩ => ⟨S_, .f32⟩
  | .hbm, ⟨20, _⟩ => ⟨S8x256, .f32⟩
  | .hbm, ⟨21, _⟩ => ⟨S8x256, .f32⟩
  | .hbm, ⟨22, _⟩ => ⟨S_, .f32⟩
  | .hbm, ⟨23, _⟩ => ⟨S8x256, .f32⟩
  | .hbm, ⟨24, _⟩ => ⟨S8x256, .f32⟩
  | .hbm, ⟨25, _⟩ => ⟨S8x256, .f32⟩
  | .hbm, ⟨26, _⟩ => ⟨S_, .f32⟩
  | .hbm, ⟨27, _⟩ => ⟨S8x256, .f32⟩
  | .hbm, ⟨28, _⟩ => ⟨S8x256, .f32⟩
  | .hbm, ⟨29, _⟩ => ⟨S8x256, .f32⟩
  | .hbm, ⟨30, _⟩ => ⟨S_, .f32⟩
  | .hbm, ⟨31, _⟩ => ⟨S8x256, .f32⟩
  | .hbm, ⟨32, _⟩ => ⟨S8x256, .f32⟩
  | .hbm, ⟨33, _⟩ => ⟨S8x256, .f32⟩
  | .hbm, ⟨34, _⟩ => ⟨S_, .f32⟩
  | .hbm, ⟨35, _⟩ => ⟨S8x256, .f32⟩
  | .hbm, ⟨36, _⟩ => ⟨S8x256, .f32⟩
  | _, _ => ⟨S8x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel12.lean ====
abbrev S2208x128 : Shape := ⟨2, ![2208, 128]⟩

abbrev nBuf : Space → Nat
  | .hbm => 7
  | .vmem => 7
  | .smem => 0
  | _ => 0

abbrev bufTy : (tb : Table) → Fin (tcTables nBuf tb) → BufTy
  | .hbm, ⟨0, _⟩ => ⟨S2208x128, .f32⟩
  | .hbm, ⟨1, _⟩ => ⟨S2208x128, .f32⟩
  | .hbm, ⟨2, _⟩ => ⟨S2208x128, .f32⟩
  | .hbm, ⟨3, _⟩ => ⟨S2208x128, .f32⟩
  | .hbm, ⟨4, _⟩ => ⟨S2208x128, .f32⟩
  | .hbm, ⟨5, _⟩ => ⟨S2208x128, .f32⟩
  | .hbm, ⟨6, _⟩ => ⟨S2208x128, .f32⟩
  | .local _ .vmem, ⟨0, _⟩ => ⟨S2208x128, .f32⟩
  | .local _ .vmem, ⟨1, _⟩ => ⟨S2208x128, .f32⟩
  | .local _ .vmem, ⟨2, _⟩ => ⟨S2208x128, .f32⟩
  | .local _ .vmem, ⟨3, _⟩ => ⟨S2208x128, .f32⟩
  | .local _ .vmem, ⟨4, _⟩ => ⟨S2208x128, .f32⟩
  | .local _ .vmem, ⟨5, _⟩ => ⟨S2208x128, .f32⟩
  | .local _ .vmem, ⟨6, _⟩ => ⟨S2208x128, .f32⟩
  | _, _ => ⟨S2208x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2208x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2208x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2208x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2208x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2208x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2208x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2208x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference12Ideal.lean ====
abbrev S2208x128 : Shape := ⟨2, ![2208, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2208x128, .f32⟩
  | .hbm, ⟨1, _⟩ => ⟨S2208x128, .f32⟩
  | .hbm, ⟨2, _⟩ => ⟨S2208x128, .f32⟩
  | .hbm, ⟨3, _⟩ => ⟨S2208x128, .f32⟩
  | .hbm, ⟨4, _⟩ => ⟨S_, .f32⟩
  | .hbm, ⟨5, _⟩ => ⟨S2208x128, .f32⟩
  | .hbm, ⟨6, _⟩ => ⟨S2208x128, .f32⟩
  | .hbm, ⟨7, _⟩ => ⟨S_, .f32⟩
  | .hbm, ⟨8, _⟩ => ⟨S2208x128, .f32⟩
  | .hbm, ⟨9, _⟩ => ⟨S2208x128, .f32⟩
  | .hbm, ⟨10, _⟩ => ⟨S2208x128, .f32⟩
  | .hbm, ⟨11, _⟩ => ⟨S_, .f32⟩
  | .hbm, ⟨12, _⟩ => ⟨S2208x128, .f32⟩
  | .hbm, ⟨13, _⟩ => ⟨S2208x128, .f32⟩
  | .hbm, ⟨14, _⟩ => ⟨S2208x128, .f32⟩
  | .hbm, ⟨15, _⟩ => ⟨S_, .f32⟩
  | .hbm, ⟨16, _⟩ => ⟨S2208x128, .f32⟩
  | .hbm, ⟨17, _⟩ => ⟨S2208x128, .f32⟩
  | .hbm, ⟨18, _⟩ => ⟨S2208x128, .f32⟩
  | .hbm, ⟨19, _⟩ => ⟨S_, .f32⟩
  | .hbm, ⟨20, _⟩ => ⟨S2208x128, .f32⟩
  | .hbm, ⟨21, _⟩ => ⟨S2208x128, .f32⟩
  | .hbm, ⟨22, _⟩ => ⟨S_, .f32⟩
  | .hbm, ⟨23, _⟩ => ⟨S2208x128, .f32⟩
  | .hbm, ⟨24, _⟩ => ⟨S2208x128, .f32⟩
  | .hbm, ⟨25, _⟩ => ⟨S2208x128, .f32⟩
  | .hbm, ⟨26, _⟩ => ⟨S_, .f32⟩
  | .hbm, ⟨27, _⟩ => ⟨S2208x128, .f32⟩
  | .hbm, ⟨28, _⟩ => ⟨S2208x128, .f32⟩
  | .hbm, ⟨29, _⟩ => ⟨S2208x128, .f32⟩
  | .hbm, ⟨30, _⟩ => ⟨S_, .f32⟩
  | .hbm, ⟨31, _⟩ => ⟨S2208x128, .f32⟩
  | .hbm, ⟨32, _⟩ => ⟨S2208x128, .f32⟩
  | .hbm, ⟨33, _⟩ => ⟨S2208x128, .f32⟩
  | .hbm, ⟨34, _⟩ => ⟨S_, .f32⟩
  | .hbm, ⟨35, _⟩ => ⟨S2208x128, .f32⟩
  | .hbm, ⟨36, _⟩ => ⟨S2208x128, .f32⟩
  | _, _ => ⟨S2208x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel13.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference13Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel14.lean ====
abbrev S64x64 : Shape := ⟨2, ![64, 64]⟩
abbrev S64 : Shape := ⟨1, ![64]⟩
abbrev S64x64x16 : Shape := ⟨3, ![64, 64, 16]⟩
abbrev S64x1 : Shape := ⟨2, ![64, 1]⟩
abbrev S64x1024 : Shape := ⟨2, ![64, 1024]⟩
abbrev S_ : Shape := ⟨0, ![]⟩
abbrev S2x64x64 : Shape := ⟨3, ![2, 64, 64]⟩
abbrev S1x64x64 : Shape := ⟨3, ![1, 64, 64]⟩

abbrev nBuf : Space → Nat
  | .hbm => 22
  | .vmem => 11
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S64x1, .f32⟩
  | .hbm, ⟨6, _⟩ => ⟨S64x1024, .f32⟩
  | .hbm, ⟨7, _⟩ => ⟨S64x1024, .f32⟩
  | .hbm, ⟨8, _⟩ => ⟨S64x64, .i32⟩
  | .hbm, ⟨9, _⟩ => ⟨S64x64, .i32⟩
  | .hbm, ⟨10, _⟩ => ⟨S_, .i32⟩
  | .hbm, ⟨11, _⟩ => ⟨S64x64, .i32⟩
  | .hbm, ⟨12, _⟩ => ⟨S64x64, .i32⟩
  | .hbm, ⟨13, _⟩ => ⟨S64x64, .i1⟩
  | .hbm, ⟨14, _⟩ => ⟨S64x64, .f32⟩
  | .hbm, ⟨15, _⟩ => ⟨S64x64x16, .f32⟩
  | .hbm, ⟨16, _⟩ => ⟨S64x1024, .f32⟩
  | .hbm, ⟨17, _⟩ => ⟨S64x64, .f32⟩
  | .hbm, ⟨18, _⟩ => ⟨S64x64, .f32⟩
  | .hbm, ⟨19, _⟩ => ⟨S64x1024, .f32⟩
  | .hbm, ⟨20, _⟩ => ⟨S64x1024, .f32⟩
  | .hbm, ⟨21, _⟩ => ⟨S2x64x64, .f32⟩
  | .local _ .vmem, ⟨0, _⟩ => ⟨S64x64, .f32⟩
  | .local _ .vmem, ⟨1, _⟩ => ⟨S64x64, .f32⟩
  | .local _ .vmem, ⟨2, _⟩ => ⟨S64x1, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x64, .f32⟩
  | .local _ .vmem, ⟨7, _⟩ => ⟨S64x64, .f32⟩
  | .local _ .vmem, ⟨8, _⟩ => ⟨S64x1024, .f32⟩
  | .local _ .vmem, ⟨9, _⟩ => ⟨S64x1024, .f32⟩
  | .local _ .vmem, ⟨10, _⟩ => ⟨S2x64x64, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev main_v11_3 : Ref sig .tc := ⟨.hbm, 20, rfl⟩
abbrev main_v11_4 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Reference14Ideal.lean ====
abbrev S64x64 : Shape := ⟨2, ![64, 64]⟩
abbrev S64 : Shape := ⟨1, ![64]⟩
abbrev S64x64x16 : Shape := ⟨3, ![64, 64, 16]⟩
abbrev S64x1 : Shape := ⟨2, ![64, 1]⟩
abbrev S_ : Shape := ⟨0, ![]⟩
abbrev S64x64x1 : Shape := ⟨3, ![64, 64, 1]⟩
abbrev S64x1024 : Shape := ⟨2, ![64, 1024]⟩
abbrev S1x64x64 : Shape := ⟨3, ![1, 64, 64]⟩
abbrev S2x64x64 : Shape := ⟨3, ![2, 64, 64]⟩

abbrev nBuf : Space → Nat
  | .hbm => 67
  | .vmem => 0
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S64, .f32⟩
  | .hbm, ⟨6, _⟩ => ⟨S64x1, .f32⟩
  | .hbm, ⟨7, _⟩ => ⟨S64x64, .f32⟩
  | .hbm, ⟨8, _⟩ => ⟨S64x64, .f32⟩
  | .hbm, ⟨9, _⟩ => ⟨S64x64, .f32⟩
  | .hbm, ⟨10, _⟩ => ⟨S64x64, .f32⟩
  | .hbm, ⟨11, _⟩ => ⟨S64x64, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S_, .f32⟩
  | .hbm, ⟨19, _⟩ => ⟨S64x64, .f32⟩
  | .hbm, ⟨20, _⟩ => ⟨S64x64, .f32⟩
  | .hbm, ⟨21, _⟩ => ⟨S64x64, .f32⟩
  | .hbm, ⟨22, _⟩ => ⟨S64x64, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S64x64, .f32⟩
  | .hbm, ⟨29, _⟩ => ⟨S64x64, .f32⟩
  | .hbm, ⟨30, _⟩ => ⟨S64x64, .f32⟩
  | .hbm, ⟨31, _⟩ => ⟨S64x64, .f32⟩
  | .hbm, ⟨32, _⟩ => ⟨S64x64x1, .f32⟩
  | .hbm, ⟨33, _⟩ => ⟨S64x64x16, .f32⟩
  | .hbm, ⟨34, _⟩ => ⟨S64x64x16, .f32⟩
  | .hbm, ⟨35, _⟩ => ⟨S64x64x1, .f32⟩
  | .hbm, ⟨36, _⟩ => ⟨S64x64x16, .f32⟩
  | .hbm, ⟨37, _⟩ => ⟨S64x64x16, .f32⟩
  | .hbm, ⟨38, _⟩ => ⟨S64x64x16, .f32⟩
  | .hbm, ⟨39, _⟩ => ⟨S64x64x1, .f32⟩
  | .hbm, ⟨40, _⟩ => ⟨S64x64x16, .f32⟩
  | .hbm, ⟨41, _⟩ => ⟨S64x64x16, .f32⟩
  | .hbm, ⟨42, _⟩ => ⟨S64x64x1, .f32⟩
  | .hbm, ⟨43, _⟩ => ⟨S64x64x16, .f32⟩
  | .hbm, ⟨44, _⟩ => ⟨S64x64x16, .f32⟩
  | .hbm, ⟨45, _⟩ => ⟨S64x64x16, .f32⟩
  | .hbm, ⟨46, _⟩ => ⟨S64, .f32⟩
  | .hbm, ⟨47, _⟩ => ⟨S64x1, .f32⟩
  | .hbm, ⟨48, _⟩ => ⟨S_, .f32⟩
  | .hbm, ⟨49, _⟩ => ⟨S64x1, .f32⟩
  | .hbm, ⟨50, _⟩ => ⟨S64x1, .f32⟩
  | .hbm, ⟨51, _⟩ => ⟨S64x64, .f32⟩
  | .hbm, ⟨52, _⟩ => ⟨S64x64, .f32⟩
  | .hbm, ⟨53, _⟩ => ⟨S64x64, .f32⟩
  | .hbm, ⟨54, _⟩ => ⟨S64x1024, .f32⟩
  | .hbm, ⟨55, _⟩ => ⟨S64x1024, .f32⟩
  | .hbm, ⟨56, _⟩ => ⟨S64x64, .f32⟩
  | .hbm, ⟨57, _⟩ => ⟨S64x64, .f32⟩
  | .hbm, ⟨58, _⟩ => ⟨S64x64, .f32⟩
  | .hbm, ⟨59, _⟩ => ⟨S64x64, .f32⟩
  | .hbm, ⟨60, _⟩ => ⟨S64x64, .f32⟩
  | .hbm, ⟨61, _⟩ => ⟨S64x64, .f32⟩
  | .hbm, ⟨62, _⟩ => ⟨S64x64, .f32⟩
  | .hbm, ⟨63, _⟩ => ⟨S64x64, .f32⟩
  | .hbm, ⟨64, _⟩ => ⟨S1x64x64, .f32⟩
  | .hbm, ⟨65, _⟩ => ⟨S1x64x64, .f32⟩
  | .hbm, ⟨66, _⟩ => ⟨S2x64x64, .f32⟩
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_cst_0 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩

abbrev nD : Nat := 1
abbrev τ : Topo := Topo.v7x

variable {F : FTy → Type} [FloatOps F]
-- ==== Kernel15.lean ====
abbrev S64x64 : Shape := ⟨2, ![64, 64]⟩
abbrev S64 : Shape := ⟨1, ![64]⟩
abbrev S64x64x16 : Shape := ⟨3, ![64, 64, 16]⟩
abbrev S64x1024 : Shape := ⟨2, ![64, 1024]⟩
abbrev S64x1 : Shape := ⟨2, ![64, 1]⟩
abbrev S_ : Shape := ⟨0, ![]⟩

abbrev nBuf : Space → Nat
  | .hbm => 26
  | .vmem => 15
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S64x64, .f32⟩
  | .hbm, ⟨6, _⟩ => ⟨S64x64, .f32⟩
  | .hbm, ⟨7, _⟩ => ⟨S64x1024, .f32⟩
  | .hbm, ⟨8, _⟩ => ⟨S64x1024, .f32⟩
  | .hbm, ⟨9, _⟩ => ⟨S64x1, .f32⟩
  | .hbm, ⟨10, _⟩ => ⟨S64x1024, .f32⟩
  | .hbm, ⟨11, _⟩ => ⟨S64x1024, .f32⟩
  | .hbm, ⟨12, _⟩ => ⟨S64x64, .i32⟩
  | .hbm, ⟨13, _⟩ => ⟨S64x64, .i32⟩
  | .hbm, ⟨14, _⟩ => ⟨S_, .i32⟩
  | .hbm, ⟨15, _⟩ => ⟨S64x64, .i32⟩
  | .hbm, ⟨16, _⟩ => ⟨S64x64, .i32⟩
  | .hbm, ⟨17, _⟩ => ⟨S64x64, .i1⟩
  | .hbm, ⟨18, _⟩ => ⟨S64x64, .f32⟩
  | .hbm, ⟨19, _⟩ => ⟨S64x64x16, .f32⟩
  | .hbm, ⟨20, _⟩ => ⟨S64x1024, .f32⟩
  | .hbm, ⟨21, _⟩ => ⟨S64x64, .f32⟩
  | .hbm, ⟨22, _⟩ => ⟨S64x64, .f32⟩
  | .hbm, ⟨23, _⟩ => ⟨S64x1, .f32⟩
  | .hbm, ⟨24, _⟩ => ⟨S64x1024, .f32⟩
  | .hbm, ⟨25, _⟩ => ⟨S64x1024, .f32⟩
  | .local _ .vmem, ⟨0, _⟩ => ⟨S64x64, .f32⟩
  | .local _ .vmem, ⟨1, _⟩ => ⟨S64x64, .f32⟩
  | .local _ .vmem, ⟨2, _⟩ => ⟨S64x1, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x64, .f32⟩
  | .local _ .vmem, ⟨7, _⟩ => ⟨S64x64, .f32⟩
  | .local _ .vmem, ⟨8, _⟩ => ⟨S64x1024, .f32⟩
  | .local _ .vmem, ⟨9, _⟩ => ⟨S64x1024, .f32⟩
  | .local _ .vmem, ⟨10, _⟩ => ⟨S64x64, .f32⟩
  | .local _ .vmem, ⟨11, _⟩ => ⟨S64x64, .f32⟩
  | .local _ .vmem, ⟨12, _⟩ => ⟨S64x1, .f32⟩
  | .local _ .vmem, ⟨13, _⟩ => ⟨S64x1024, .f32⟩
  | .local _ .vmem, ⟨14, _⟩ => ⟨S64x1024, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v11_2 : Ref sig .tc := ⟨.hbm, 23, rfl⟩
abbrev main_v11_3 : Ref sig .tc := ⟨.hbm, 24, rfl⟩
abbrev main_v11_4 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S64x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S64x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S64x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S64x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Reference15Ideal.lean ====
abbrev S64x64 : Shape := ⟨2, ![64, 64]⟩
abbrev S64 : Shape := ⟨1, ![64]⟩
abbrev S64x64x16 : Shape := ⟨3, ![64, 64, 16]⟩
abbrev S64x1024 : Shape := ⟨2, ![64, 1024]⟩
abbrev S64x1 : Shape := ⟨2, ![64, 1]⟩
abbrev S_ : Shape := ⟨0, ![]⟩
abbrev S64x64x1 : Shape := ⟨3, ![64, 64, 1]⟩

abbrev nBuf : Space → Nat
  | .hbm => 169
  | .vmem => 0
  | .smem => 0
  | _ => 0

abbrev hbmTy0_0 (i : Nat) : BufTy := match i % 128 with
  | 0 => ⟨S64x64, .f32⟩
  | 1 => ⟨S64x64, .f32⟩
  | 2 => ⟨S64, .f32⟩
  | 3 => ⟨S64x64x16, .f32⟩
  | 4 => ⟨S64x64x16, .f32⟩
  | 5 => ⟨S64x64, .f32⟩
  | 6 => ⟨S64x64, .f32⟩
  | 7 => ⟨S64x1024, .f32⟩
  | 8 => ⟨S64x1024, .f32⟩
  | 9 => ⟨S64, .f32⟩
  | 10 => ⟨S64x1, .f32⟩
  | 11 => ⟨S64x64, .f32⟩
  | 12 => ⟨S64x64, .f32⟩
  | 13 => ⟨S64x64, .f32⟩
  | 14 => ⟨S64x64, .f32⟩
  | 15 => ⟨S64x64, .f32⟩
  | 16 => ⟨S64x64, .f32⟩
  | 17 => ⟨S64x64, .f32⟩
  | 18 => ⟨S64x64, .f32⟩
  | 19 => ⟨S64x64, .f32⟩
  | 20 => ⟨S64x64, .f32⟩
  | 21 => ⟨S64x64, .f32⟩
  | 22 => ⟨S64x64, .f32⟩
  | 23 => ⟨S64x64, .f32⟩
  | 24 => ⟨S_, .f32⟩
  | 25 => ⟨S64x64, .f32⟩
  | 26 => ⟨S64x64, .f32⟩
  | 27 => ⟨S64x64, .f32⟩
  | 28 => ⟨S64x64, .f32⟩
  | 29 => ⟨S64x64, .f32⟩
  | 30 => ⟨S64x64, .f32⟩
  | 31 => ⟨S64x64, .f32⟩
  | 32 => ⟨S64x64, .f32⟩
  | 33 => ⟨S64x64, .f32⟩
  | 34 => ⟨S64x64, .f32⟩
  | 35 => ⟨S_, .f32⟩
  | 36 => ⟨S64x64, .f32⟩
  | 37 => ⟨S64x64, .f32⟩
  | 38 => ⟨S64x64, .f32⟩
  | 39 => ⟨S64x64, .f32⟩
  | 40 => ⟨S64x64, .f32⟩
  | 41 => ⟨S64x64, .f32⟩
  | 42 => ⟨S64x64, .f32⟩
  | 43 => ⟨S_, .f32⟩
  | 44 => ⟨S64x64, .f32⟩
  | 45 => ⟨S64x64, .f32⟩
  | 46 => ⟨S64x64x1, .f32⟩
  | 47 => ⟨S64x64x16, .f32⟩
  | 48 => ⟨S64x64x16, .f32⟩
  | 49 => ⟨S64x64x1, .f32⟩
  | 50 => ⟨S64x64x16, .f32⟩
  | 51 => ⟨S64x64x16, .f32⟩
  | 52 => ⟨S64x64x16, .f32⟩
  | 53 => ⟨S64x64x1, .f32⟩
  | 54 => ⟨S64x64x16, .f32⟩
  | 55 => ⟨S64x64x16, .f32⟩
  | 56 => ⟨S64x64x1, .f32⟩
  | 57 => ⟨S64x64x16, .f32⟩
  | 58 => ⟨S64x64x16, .f32⟩
  | 59 => ⟨S64x64x16, .f32⟩
  | 60 => ⟨S64x64x16, .f32⟩
  | 61 => ⟨S64x64x16, .f32⟩
  | 62 => ⟨S64x64x16, .f32⟩
  | 63 => ⟨S64x64x16, .f32⟩
  | 64 => ⟨S64x64x16, .f32⟩
  | 65 => ⟨S_, .f32⟩
  | 66 => ⟨S64x64, .f32⟩
  | 67 => ⟨S64x64x1, .f32⟩
  | 68 => ⟨S_, .f32⟩
  | 69 => ⟨S64x64, .f32⟩
  | 70 => ⟨S64x64x16, .f32⟩
  | 71 => ⟨S64x64x16, .f32⟩
  | 72 => ⟨S64x64x16, .f32⟩
  | 73 => ⟨S_, .f32⟩
  | 74 => ⟨S64x64, .f32⟩
  | 75 => ⟨S64x64x1, .f32⟩
  | 76 => ⟨S_, .f32⟩
  | 77 => ⟨S64x64, .f32⟩
  | 78 => ⟨S64x64x16, .f32⟩
  | 79 => ⟨S64x64x16, .f32⟩
  | 80 => ⟨S64x64x16, .f32⟩
  | 81 => ⟨S64x64x16, .f32⟩
  | 82 => ⟨S64x64x16, .f32⟩
  | 83 => ⟨S_, .f32⟩
  | 84 => ⟨S64x64, .f32⟩
  | 85 => ⟨S64x64x1, .f32⟩
  | 86 => ⟨S_, .f32⟩
  | 87 => ⟨S64x64, .f32⟩
  | 88 => ⟨S64x64, .f32⟩
  | 89 => ⟨S64x64x16, .f32⟩
  | 90 => ⟨S64x64x16, .f32⟩
  | 91 => ⟨S64x64x16, .f32⟩
  | 92 => ⟨S64x64x16, .f32⟩
  | 93 => ⟨S_, .f32⟩
  | 94 => ⟨S64x64, .f32⟩
  | 95 => ⟨S64x64x1, .f32⟩
  | 96 => ⟨S_, .f32⟩
  | 97 => ⟨S64x64, .f32⟩
  | 98 => ⟨S64x64, .f32⟩
  | 99 => ⟨S64x64, .f32⟩
  | 100 => ⟨S64x64, .f32⟩
  | 101 => ⟨S64x64, .f32⟩
  | 102 => ⟨S64x64, .f32⟩
  | 103 => ⟨S64x64, .f32⟩
  | 104 => ⟨S64x64, .f32⟩
  | 105 => ⟨S64x64, .f32⟩
  | 106 => ⟨S64x64, .f32⟩
  | 107 => ⟨S64x64, .f32⟩
  | 108 => ⟨S64x64, .f32⟩
  | 109 => ⟨S64x64, .f32⟩
  | 110 => ⟨S64x64, .f32⟩
  | 111 => ⟨S64x64, .f32⟩
  | 112 => ⟨S64x64, .f32⟩
  | 113 => ⟨S64x64, .f32⟩
  | 114 => ⟨S64x64, .f32⟩
  | 115 => ⟨S64x64, .f32⟩
  | 116 => ⟨S64x64, .f32⟩
  | 117 => ⟨S64x64, .f32⟩
  | 118 => ⟨S64x64, .f32⟩
  | 119 => ⟨S64x64, .f32⟩
  | 120 => ⟨S64x64, .f32⟩
  | 121 => ⟨S64x64, .f32⟩
  | 122 => ⟨S64x64, .f32⟩
  | 123 => ⟨S64x64, .f32⟩
  | 124 => ⟨S64x64, .f32⟩
  | 125 => ⟨S64x64, .f32⟩
  | 126 => ⟨S64x64, .f32⟩
  | 127 => ⟨S64x64, .f32⟩
  | _ => ⟨S64x64, .f32⟩

abbrev hbmTy0_1 (i : Nat) : BufTy := match i % 128 with
  | 0 => ⟨S64x64, .f32⟩
  | 1 => ⟨S64x64, .f32⟩
  | 2 => ⟨S64x64, .f32⟩
  | 3 => ⟨S64x64, .f32⟩
  | 4 => ⟨S64x64, .f32⟩
  | 5 => ⟨S64x64, .f32⟩
  | 6 => ⟨S64x64, .f32⟩
  | 7 => ⟨S_, .f32⟩
  | 8 => ⟨S64, .f32⟩
  | 9 => ⟨S64x1, .f32⟩
  | 10 => ⟨S64x64, .f32⟩
  | 11 => ⟨S64x64, .f32⟩
  | 12 => ⟨S64x64, .f32⟩
  | 13 => ⟨S64x64, .f32⟩
  | 14 => ⟨S64x64, .f32⟩
  | 15 => ⟨S64x64, .f32⟩
  | 16 => ⟨S64x64, .f32⟩
  | 17 => ⟨S64x64, .f32⟩
  | 18 => ⟨S64x64, .f32⟩
  | 19 => ⟨S_, .f32⟩
  | 20 => ⟨S64, .f32⟩
  | 21 => ⟨S64x1, .f32⟩
  | 22 => ⟨S64x1, .f32⟩
  | 23 => ⟨S64x64, .f32⟩
  | 24 => ⟨S64x64, .f32⟩
  | 25 => ⟨S64x64, .f32⟩
  | 26 => ⟨S64x64, .f32⟩
  | 27 => ⟨S64x64, .f32⟩
  | 28 => ⟨S_, .f32⟩
  | 29 => ⟨S64, .f32⟩
  | 30 => ⟨S64x1, .f32⟩
  | 31 => ⟨S64x1, .f32⟩
  | 32 => ⟨S64x64, .f32⟩
  | 33 => ⟨S64x64, .f32⟩
  | 34 => ⟨S64x64, .f32⟩
  | 35 => ⟨S_, .f32⟩
  | 36 => ⟨S64, .f32⟩
  | 37 => ⟨S64, .f32⟩
  | 38 => ⟨S64x1, .f32⟩
  | 39 => ⟨S64x1024, .f32⟩
  | 40 => ⟨S64x1024, .f32⟩
  | _ => ⟨S64x64, .f32⟩

abbrev hbmTy (i : Nat) : BufTy := match i / 128 with
  | 0 => hbmTy0_0 i
  | 1 => hbmTy0_1 i
  | _ => ⟨S64x64, .f32⟩

abbrev bufTy : (tb : Table) → Fin (tcTables nBuf tb) → BufTy
  | .hbm, ⟨i, _⟩ => hbmTy i
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_0 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_1 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_2 : Ref sig .tc := ⟨.hbm, 65, rfl⟩
abbrev main_v53 : Ref sig .tc := ⟨.hbm, 66, rfl⟩
abbrev main_v54 : Ref sig .tc := ⟨.hbm, 67, rfl⟩
abbrev main_cst_3 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_4 : Ref sig .tc := ⟨.hbm, 73, rfl⟩
abbrev main_v59 : Ref sig .tc := ⟨.hbm, 74, rfl⟩
abbrev main_v60 : Ref sig .tc := ⟨.hbm, 75, rfl⟩
abbrev main_cst_5 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_6 : Ref sig .tc := ⟨.hbm, 83, rfl⟩
abbrev main_v67 : Ref sig .tc := ⟨.hbm, 84, rfl⟩
abbrev main_v68 : Ref sig .tc := ⟨.hbm, 85, rfl⟩
abbrev main_cst_7 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_cst_8 : Ref sig .tc := ⟨.hbm, 93, rfl⟩
abbrev main_v75 : Ref sig .tc := ⟨.hbm, 94, rfl⟩
abbrev main_v76 : Ref sig .tc := ⟨.hbm, 95, rfl⟩
abbrev main_cst_9 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_cst_10 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_cst_11 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_cst_12 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_cst_13 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩

abbrev nD : Nat := 1
abbrev τ : Topo := Topo.v7x

variable {F : FTy → Type} [FloatOps F]
-- ==== Proof.InProj.Word.lean ====
/-
  The words of the call that multiplies the gathered shards: which shard a point works on, and what the precondition
  says of the device's place on its ring.
-/
module

public import Idealize.ShloMosaic.PureOps.Float

@[expose] public section

namespace Cert.Shared

open Idealize.ShloMosaic

/-- The shard `s + 1` places after place `w` on the ring of four, as the index maps compute it. -/
def shardW (w a : BitVec 32) : BitVec 32 :=
  let v2 := Scalar.addi (Scalar.addi w 1#32) a
  let v4 : BitVec 32 := Scalar.select (Scalar.cmpi .eq 4#32 0#32) 1#32 4#32
  let v5 := Scalar.remsi v2 v4
  Scalar.select (Scalar.andi (Scalar.xori (Scalar.cmpi .slt v5 0#32) (Scalar.cmpi .slt v4 0#32)) (Scalar.cmpi .ne v5 0#32))
    (Scalar.addi v5 v4) v5

theorem shardW_lit : ∀ w : Fin 4, ∀ s : Fin 3,
    (shardW (BitVec.ofNat 32 w.val) (BitVec.ofNat 32 s.val)).toNat = (w.val + 1 + s.val) % 4 := by
  decide +kernel

theorem shardW_val (w : BitVec 32) (hw : w.toNat < 4) (s : Nat) (hs : s < 3) :
    (shardW w (BitVec.ofNat 32 s)).toNat = (w.toNat + 1 + s) % 4 := by
  have h := shardW_lit ⟨w.toNat, hw⟩ ⟨s, hs⟩
  rwa [BitVec.ofNat_toNat, BitVec.setWidth_eq] at h

/-- A word between 0 and 3, as the precondition tests it. -/
theorem lt_four (w : BitVec 32) (h : IntOp.andi (IntOp.cmpi .sge w 0#32) (IntOp.cmpi .slt w 4#32) = 1#1) : w.toNat < 4 := by
  unfold IntOp.andi IntOp.cmpi at h
  have h1 : BitVec.sle 0#32 w = true := by
    by_contra hn
    rw [Bool.not_eq_true] at hn
    simp only [hn] at h
    revert h
    cases BitVec.slt w 4#32 <;> decide
  have h2 : BitVec.slt w 4#32 = true := by
    by_contra hn
    rw [Bool.not_eq_true] at hn
    simp only [hn, h1] at h
    exact absurd h (by decide)
  have e1 : (0 : Int) ≤ w.toInt := by simpa [BitVec.sle] using h1
  have e2 : w.toInt < 4 := by simpa [BitVec.slt] using h2
  rw [BitVec.toInt_eq_toNat_cond] at e1 e2
  split at e1 <;> omega

/-- The sign of a word. -/
def sgnW (x : BitVec 32) : BitVec 32 := if x = 0 then 0 else if x.msb then -1 else 1

/-- The column block of a column, as the reference computes it: the quotient by 1536, rounded down. -/
def colW (n : Nat) : BitVec 32 :=
  let x := BitVec.ofNat 32 n
  let q := IntOp.divsi .host x 1536#32
  Scalar.select
    (IntOp.andi (IntOp.cmpi .ne (sgnW x) (sgnW 1536#32))
      (IntOp.cmpi .ne (IntOp.remsi .host x 1536#32) 0#32))
    (IntOp.subi q 1#32) q

theorem colW_lit : ∀ n : Fin 6144, colW n.val = BitVec.ofNat 32 (n.val / 1536) := by
  decide +kernel

end Cert.Shared

end
-- ==== Proof.Shared.Sums.lean ====
/-
  Small facts shared by the value proofs of this certificate: reading an array at natural-number coordinates, sums over
  consecutive blocks of rows, and the zero offset vectors of whole-block loads and stores.
-/
module

public import Idealize.ShloMosaic.Lib.Pointwise
public import Idealize.ShloMosaic.Lib.Pipeline.Value

@[expose] public section

noncomputable section

namespace Cert.Shared

open Idealize.ShloMosaic

/-- The zero offsets of a whole-array access, rank one, two and three. -/
theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- A matrix read at natural-number coordinates: zero outside. -/
def at2 {a b : Nat} (x : (⟨2, ![a, b]⟩ : Shape).Idx → EReal) (i j : Nat) : EReal :=
  if h : i < a ∧ j < b then x (ix2 ⟨i, h.1⟩ ⟨j, h.2⟩) else 0

theorem at2_of_lt {a b : Nat} (x : (⟨2, ![a, b]⟩ : Shape).Idx → EReal) {i j : Nat} (hi : i < a) (hj : j < b) :
    at2 x i j = x (ix2 ⟨i, hi⟩ ⟨j, hj⟩) := dif_pos ⟨hi, hj⟩

/-- Reading at an index is reading at its coordinates. -/
theorem eq_at2 {a b : Nat} (x : (⟨2, ![a, b]⟩ : Shape).Idx → EReal) (j : (⟨2, ![a, b]⟩ : Shape).Idx) {p q : Nat}
    (hp : (j 0).val = p) (hq : (j 1).val = q) : x j = at2 x p q := by
  have h0 : (j 0).val < a := (j 0).isLt
  have h1 : (j 1).val < b := (j 1).isLt
  subst hp hq
  rw [at2_of_lt x h0 h1]
  congr 1
  funext a
  match a with
  | ⟨0, _⟩ => rfl
  | ⟨1, _⟩ => rfl

/-- A rank-three array read at natural-number coordinates: zero outside. -/
def at3 {a b d : Nat} (x : (⟨3, ![a, b, d]⟩ : Shape).Idx → EReal) (i j k : Nat) : EReal :=
  if h : i < a ∧ j < b ∧ k < d then x (ix3 ⟨i, h.1⟩ ⟨j, h.2.1⟩ ⟨k, h.2.2⟩) else 0

theorem at3_of_lt {a b d : Nat} (x : (⟨3, ![a, b, d]⟩ : Shape).Idx → EReal) {i j k : Nat} (hi : i < a) (hj : j < b) (hk : k < d) :
    at3 x i j k = x (ix3 ⟨i, hi⟩ ⟨j, hj⟩ ⟨k, hk⟩) := dif_pos ⟨hi, hj, hk⟩

theorem eq_at3 {a b d : Nat} (x : (⟨3, ![a, b, d]⟩ : Shape).Idx → EReal) (j : (⟨3, ![a, b, d]⟩ : Shape).Idx) {p q r : Nat}
    (hp : (j 0).val = p) (hq : (j 1).val = q) (hr : (j 2).val = r) : x j = at3 x p q r := by
  have h0 : (j 0).val < a := (j 0).isLt
  have h1 : (j 1).val < b := (j 1).isLt
  have h2 : (j 2).val < d := (j 2).isLt
  subst hp hq hr
  rw [at3_of_lt x h0 h1 h2]
  congr 1
  funext a
  match a with
  | ⟨0, _⟩ => rfl
  | ⟨1, _⟩ => rfl
  | ⟨2, _⟩ => rfl

/-- One more block at the end of a running sum. -/
theorem sum_append {M : Type} [AddCommMonoid M] (f : Nat → M) (n b : Nat) :
    ∑ i ∈ Finset.range (n + b), f i = (∑ i ∈ Finset.range n, f i) + ∑ i ∈ Finset.range b, f (n + i) :=
  Finset.sum_range_add f n b

/-- A sum over `Fin n` of a function of the value is the sum over the range. -/
theorem sum_fin {M : Type} [AddCommMonoid M] {n : Nat} (f : Nat → M) (g : Fin n → M) (h : ∀ i : Fin n, g i = f i.val) :
    ∑ i : Fin n, g i = ∑ i ∈ Finset.range n, f i := by
  rw [Finset.sum_range]; exact Finset.sum_congr rfl fun i _ => h i

end Cert.Shared

end
-- ==== Proof.InProj.OkIdeal.lean ====
/-
  Every block the call that multiplies the gathered shards works on lies inside its array, when the device's place is
  one of the four of its ring.
-/
module

public import proofs.«01_k».proof.Proof.InProj.Word
public import proofs.«01_k».proof.Proof.Shared.Sums
public import proofs.«01_k».proof.Proof.Gen.Kernel7Ideal.Frame
public import proofs.«01_k».proof.Proof.Gen.Pre_on_mesh
public import proofs.«01_k».proof.Defs

@[expose] public section

noncomputable section

namespace Cert.Kernel7Ideal.Val

open Cert.Kernel7Ideal Cert.Kernel7Ideal.Gen Cert.Shared Idealize.ShloMosaic Idealize.ShloMosaic.TcCoe Idealize.SL.Sem

variable (m : (ℓ : Loc nD τ sig) → Buf (Elt Ideal) ℓ)

/-- The table that holds the device's place on the mesh. -/
abbrev tab (c : Dev nD) : (⟨1, ![2]⟩ : Shape).Idx → BitVec 32 := m ((c : Thread nD τ).loc main_arg0)

/-- The device's place on its ring of four. -/
def place (c : Dev nD) : BitVec 32 := tab m c (ix1 (1 : Fin 2))

theorem at_eq : (tbl m).at 0 (Rect.unit (s := S2) ![1] S1.size Facts₀.inb_S2_S1_1) Facts₀.numel1_S1 = place m 0 := by
  have h : tbl m 0 = m (((0 : Dev nD).tc : Thread nD τ).loc main_arg0) := V_main_arg0 m 0
  unfold place Pipeline.Prefetch.Contents.at
  rw [h]
  exact congrArg (tab m 0) (funext fun a => Fin.ext (by
    match a with
    | ⟨0, _⟩ => rfl))

theorem idx1_eq (i : grid0.Coords) : cc0_transform_1 Facts₀.inb_S2_S1_1 Facts₀.numel1_S1 (tbl m) i
    = ![(shardW (place m 0) (BitVec.ofNat 32 (i 0).val)).toNat, 0, 0] := by
  unfold cc0_transform_1
  rw [at_eq]
  rfl

theorem idx3_eq (i : grid0.Coords) : cc0_transform_4 Facts₀.inb_S2_S1_1 Facts₀.numel1_S1 (tbl m) i
    = ![(BitVec.ofNat 32 (i 1).val).toNat, (shardW (place m 0) (BitVec.ofNat 32 (i 0).val)).toNat] := by
  unfold cc0_transform_4
  rw [at_eq]
  rfl

theorem place_lt (h : Cert.Pre_Kernel7Ideal m) : (place m 0).toNat < 4 :=
  lt_four _ (congrFun (h 0) (ix1 (1 : Fin 2)))

theorem ok_of_place (hp : (place m 0).toNat < 4) : Ok m := by
  refine ⟨fun i => ?_, fun i => ?_⟩
  · have h0 : (i 0).val < 3 := (i 0).isLt
    have hs := shardW_val (place m 0) hp (i 0).val h0
    refine ⟨fun a => ?_, Or.inr ?_⟩
    · rw [idx1_eq]
      match a with
      | ⟨0, _⟩ => show ((shardW (place m 0) (BitVec.ofNat 32 (i 0).val)).toNat + 1) * 1 ≤ 4; rw [hs]; omega
      | ⟨1, _⟩ => show (0 + 1) * 2048 ≤ 2048; omega
      | ⟨2, _⟩ => show (0 + 1) * 1536 ≤ 1536; omega
    · exact Affine.block_words_dvd (of_decide_eq_true rfl) (by decide)
  · have h0 : (i 0).val < 3 := (i 0).isLt
    have h1 : (i 1).val < 8 := (i 1).isLt
    have hs := shardW_val (place m 0) hp (i 0).val h0
    have hr : (BitVec.ofNat 32 (i 1).val).toNat = (i 1).val := by rw [BitVec.toNat_ofNat]; omega
    refine ⟨fun a => ?_, Or.inl rfl⟩
    rw [idx3_eq]
    match a with
    | ⟨0, _⟩ => show ((BitVec.ofNat 32 (i 1).val).toNat + 1) * 512 ≤ 4096; rw [hr]; omega
    | ⟨1, _⟩ => show ((shardW (place m 0) (BitVec.ofNat 32 (i 0).val)).toNat + 1) * 1536 ≤ 6144; rw [hs]; omega

theorem ok_of_pre (h : Cert.Pre_Kernel7Ideal m) : Ok m := ok_of_place m (place_lt m h)

end Cert.Kernel7Ideal.Val

end
-- ==== Proof.Shared.Norm.lean ====
/-
  The root-mean-square norm of one row of 2048 numbers, and its gradient, in the two forms that the kernels and the
  references state; over real rows the two forms agree.
-/
module

public import proofs.«01_k».proof.Proof.Shared.Sums

@[expose] public section

noncomputable section

namespace Cert.Shared

open Idealize.ShloMosaic

/-- The small number added under the root, and the row's length, as the literals state them. -/
def eps : EReal := Ideal.ofBits FTy.f32 0x358637BD#32
def len : EReal := Ideal.ofBits FTy.f32 0x45000000#32

theorem len_eq : len = ((2048 : ℝ) : EReal) := by
  unfold len; simp [Ideal.ofBits, Ideal.ieee, -EReal.coe_mul]; norm_num

/-- The small number is a positive real. -/
theorem eps_pos : ∃ e : ℝ, 0 < e ∧ eps = (e : EReal) := by
  refine ⟨8796093 / 2 ^ 43, by norm_num, ?_⟩
  unfold eps; simp [Ideal.ofBits, Ideal.ieee, -EReal.coe_mul]; norm_num

theorem half_eq : Ideal.ofBits FTy.f32 0xBF000000#32 = ((-(1 / 2) : ℝ) : EReal) := by
  simp [Ideal.ofBits, Ideal.ieee, -EReal.coe_mul]; norm_num

/-- A finite sum of reals is a real. -/
theorem coe_sum' {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The mean square of a row. -/
def msq (X : Fin 2048 → EReal) : EReal := Ideal.div (∑ k, X k * X k) len

/-- One over the root of the mean square. -/
def rinv (X : Fin 2048 → EReal) : EReal := Ideal.rsqrt (msq X + eps)

/-- The gradient of the norm at column `j`, as the kernels compute it: `D` is the cotangent, `G` the gain. -/
def nbwd (X D G : Fin 2048 → EReal) (j : Fin 2048) : EReal :=
  rinv X * (D j * G j - X j * rinv X * Ideal.div (∑ k, D k * G k * (X k * rinv X)) len)

/-- The factor of the row in the gradient, as the references compute it. -/
def nfac (X D G : Fin 2048 → EReal) : EReal :=
  Ideal.div ((∑ k, X k * (D k * G k)) * (Ideal.ofBits FTy.f32 0xBF000000#32 * Ideal.div (rinv X) (msq X + eps))) len

/-- Over a real row the reciprocal root is a real whose square is one over the mean square and the small number. -/
theorem rinv_real (x : Fin 2048 → ℝ) : ∃ v r : ℝ, 0 < v ∧ r * r * v = 1 ∧ msq (fun k => (x k : EReal)) + eps = (v : EReal)
    ∧ rinv (fun k => (x k : EReal)) = (r : EReal) := by
  obtain ⟨e, he, hee⟩ := eps_pos
  have hm : msq (fun k => (x k : EReal)) + eps = (((∑ k, x k * x k) * (1 / 2048) + e : ℝ) : EReal) := by
    unfold msq
    rw [len_eq, Ideal.div_coe (by norm_num), hee]
    simp only [← EReal.coe_mul]
    rw [coe_sum', ← EReal.coe_mul, ← EReal.coe_add]
  have hv : 0 < (∑ k, x k * x k) * (1 / 2048) + e :=
    add_pos_of_nonneg_of_pos (mul_nonneg (Finset.sum_nonneg fun k _ => mul_self_nonneg _) (by norm_num)) he
  generalize hvv : (∑ k, x k * x k) * (1 / 2048) + e = v at hm hv
  refine ⟨v, (√v)⁻¹, hv, ?_, hm, ?_⟩
  · have hs : √v * √v = v := Real.mul_self_sqrt hv.le
    have hne : √v ≠ 0 := (Real.sqrt_pos.mpr hv).ne'
    calc (√v)⁻¹ * (√v)⁻¹ * v = (√v)⁻¹ * (√v)⁻¹ * (√v * √v) := by rw [hs]
      _ = 1 := by field_simp
  · unfold rinv
    rw [hm, Ideal.rsqrt_coe, if_neg (not_lt.mpr hv.le), if_neg hv.ne']

/-- The two forms of the gradient of the norm agree over real rows; `o` is what the gradient is added to. -/
theorem nbwd_eq (x d g : Fin 2048 → ℝ) (j : Fin 2048) (o : EReal) :
    o + nbwd (fun k => x k) (fun k => d k) (fun k => g k) j
      = o + (d j * g j : EReal) * rinv (fun k => (x k : EReal))
        + x j * nfac (fun k => x k) (fun k => d k) (fun k => g k) + nfac (fun k => x k) (fun k => d k) (fun k => g k) * x j := by
  obtain ⟨v, r, hv, hr, hm, hri⟩ := rinv_real x
  unfold nbwd nfac
  rw [hri, hm, len_eq, half_eq, Ideal.div_coe (by norm_num), Ideal.div_coe (by norm_num), Ideal.div_coe hv.ne']
  simp only [← EReal.coe_mul]
  rw [coe_sum', coe_sum']
  simp only [← EReal.coe_mul, ← EReal.coe_sub]
  rw [add_assoc, add_assoc, ← EReal.coe_add, ← EReal.coe_add]
  congr 2
  have hS : ∑ k, d k * g k * (x k * r) = r * ∑ k, x k * (d k * g k) := by
    rw [Finset.mul_sum]; exact Finset.sum_congr rfl fun k _ => by ring
  rw [hS]
  generalize ∑ k, x k * (d k * g k) = S
  have h1 : 1 / v = r * r := by field_simp; linarith
  rw [h1]
  ring

end Cert.Shared

end
-- ==== Proof.Shared.Row.lean ====
/-
  A buffer of a few rows whose first row alone is stored to: what the store leaves at an index of that row, and at an
  index of another.
-/
module

public import Idealize.ShloMosaic.Lib.Pointwise
public import Idealize.ShloMosaic.Lib.WritesUnit

@[expose] public section

noncomputable section

namespace Cert.Shared

open Idealize.ShloMosaic

variable {sig : RefSig} {κ : Kind} {sp : Space} {e : EltTy} {Val : EltTy → Type} {n m : Nat}
  (v : View sig κ sp (⟨2, ![n, m]⟩ : Shape) e) (f : v.ty.Contents Val)

/-- In the first row the stored row is read. -/
theorem read_first_row (inb : ∀ a : Fin 2, (![0, 0] : Fin 2 → Nat) a + (![1, m] : Fin 2 → Nat) a ≤ (![n, m] : Fin 2 → Nat) a)
    (w : (⟨2, ![1, m]⟩ : Shape).Idx → Val e) (L : List (View.Piece Val (⟨2, ![n, m]⟩ : Shape) e))
    (j : (⟨2, ![n, m]⟩ : Shape).Idx) (h : (j 0).val = 0) :
    v.read Val (v.writes Val f ((⟨Rect.unit (s := (⟨2, ![n, m]⟩ : Shape)) ![0, 0] ![1, m] inb, w⟩ : View.Piece Val _ e) :: L)) j
      = w (ix2 (0 : Fin 1) (j 1)) :=
  View.read_writes_cons_unit_of_mem (off' := ![0, 0]) v f inb w L j (ix2 (0 : Fin 1) (j 1)) rfl
    (Fin.forall_fin_two.mpr ⟨h, (Nat.zero_add _).symm⟩)

/-- In another row the earlier contents are read. -/
theorem read_other_row (inb : ∀ a : Fin 2, (![0, 0] : Fin 2 → Nat) a + (![1, m] : Fin 2 → Nat) a ≤ (![n, m] : Fin 2 → Nat) a)
    (w : (⟨2, ![1, m]⟩ : Shape).Idx → Val e) (L : List (View.Piece Val (⟨2, ![n, m]⟩ : Shape) e))
    (j : (⟨2, ![n, m]⟩ : Shape).Idx) (h : (j 0).val ≠ 0) :
    v.read Val (v.writes Val f ((⟨Rect.unit (s := (⟨2, ![n, m]⟩ : Shape)) ![0, 0] ![1, m] inb, w⟩ : View.Piece Val _ e) :: L)) j
      = v.read Val (v.writes Val f L) j :=
  View.read_writes_cons_unit_of_not_mem (off' := ![0, 0]) v f inb w L j rfl 0
    (Or.inr (by show 0 + 1 ≤ (j 0).val; omega))

/-- After a store to the whole buffer the stored value is read. -/
theorem read_filled (inb : ∀ a : Fin 2, (![0, 0] : Fin 2 → Nat) a + (![n, m] : Fin 2 → Nat) a ≤ (![n, m] : Fin 2 → Nat) a)
    (w : (⟨2, ![n, m]⟩ : Shape).Idx → Val e) (L : List (View.Piece Val (⟨2, ![n, m]⟩ : Shape) e))
    (j : (⟨2, ![n, m]⟩ : Shape).Idx) :
    v.read Val (v.writes Val f ((⟨Rect.unit (s := (⟨2, ![n, m]⟩ : Shape)) ![0, 0] ![n, m] inb, w⟩ : View.Piece Val _ e) :: L)) j
      = w j :=
  View.read_writes_cons_unit_of_mem (off' := ![0, 0]) v f inb w L j j rfl
    (Fin.forall_fin_two.mpr ⟨(Nat.zero_add _).symm, (Nat.zero_add _).symm⟩)

end Cert.Shared

end
-- ==== Proof.PreNorm.Body.lean ====
/-
  The body of the gradient of the input projection and of the norm before it: what each grid point leaves in its two
  result buffers, in terms of the blocks it reads.
-/
module

public import proofs.«01_k».proof.Proof.Shared.Norm
public import proofs.«01_k».proof.Proof.Shared.Row
public import proofs.«01_k».proof.Proof.Gen.Kernel2Ideal.Value
public import Idealize.ShloMosaic.Lib.WritesUnit
public import Idealize.ShloMosaic.Lib.Pipeline.ReadBack

@[expose] public section

noncomputable section

namespace Cert.Kernel2Ideal.Val

open Cert.Kernel2Ideal Cert.Kernel2Ideal.Gen Cert.Shared Idealize.ShloMosaic Idealize.ShloMosaic.TcCoe Idealize.SL.Sem
open Idealize.ShloMosaic.Pipeline (Dat)

/-! ## The body's values -/

theorem pay7_at (v22 : Vec Ideal S256x2048 .f32) (j : S256x1.Idx) :
    (k0_pay7 v22) j = msq (fun k => v22 (ix2 (j 0) k)) := by
  idx_vars j
  unfold k0_pay7 msq len
  pointwise

theorem pay3_at (v21 : Vec Ideal S256x2048 .f32) (v22 : Vec Ideal S256x2048 .f32) (v33 : Vec Ideal S1x2048 .f32) (j : S1x2048.Idx) :
    (k0_pay3 v21 v22 (k0_pay7 v22) v33) j = v33 j + ∑ x : Fin 256, (v21 (ix2 x (j 1)) : EReal) * (v22 (ix2 x (j 1)) * rinv (fun k => v22 (ix2 x k))) := by
  idx_vars j
  unfold k0_pay3 k0_pay2 k0_pay1
  pointwise
  rw [Subsingleton.elim j0 0]
  congr 1
  refine Finset.sum_congr rfl fun x _ => ?_
  rw [pay7_at]
  rfl

theorem pay4_at (v21 : Vec Ideal S256x2048 .f32) (v22 : Vec Ideal S256x2048 .f32) (v41 : Vec Ideal S1x2048 .f32) (v44 : Vec Ideal S256x2048 .f32) (j : S256x2048.Idx) :
    (k0_pay4 v21 v22 (k0_pay7 v22) v41 v44) j
      = v44 j + nbwd (fun k => v22 (ix2 (j 0) k)) (fun k => v21 (ix2 (j 0) k)) (fun k => v41 (ix2 0 k)) (j 1) := by
  idx_vars j
  unfold k0_pay4 k0_pay2 k0_pay1
  pointwise
  rw [pay7_at]
  rfl

theorem pay5_at (j : S8x2048.Idx) : (k0_pay5 (F := Ideal)) j = (0 : EReal) := by
  idx_vars j
  unfold k0_pay5
  pointwise

theorem pay6_at (v3 : Vec Ideal S256x1536 .bf16) (v4 : Vec Ideal S1x2048x1536 .bf16) (v7 : Vec Ideal S256x1536 .bf16) (v8 : Vec Ideal S1x2048x1536 .bf16) (v12 : Vec Ideal S256x1536 .bf16) (v13 : Vec Ideal S1x2048x1536 .bf16) (v17 : Vec Ideal S256x1536 .bf16) (v18 : Vec Ideal S1x2048x1536 .bf16) (j : S256x2048.Idx) :
    (k0_pay6 v3 v4 v7 v8 v12 v13 v17 v18) j
      = (∑ x : Fin 1536, (v3 (ix2 (j 0) x) : EReal) * v4 (ix3 0 (j 1) x)) + (∑ x : Fin 1536, (v7 (ix2 (j 0) x) : EReal) * v8 (ix3 0 (j 1) x))
        + (∑ x : Fin 1536, (v12 (ix2 (j 0) x) : EReal) * v13 (ix3 0 (j 1) x)) + (∑ x : Fin 1536, (v17 (ix2 (j 0) x) : EReal) * v18 (ix3 0 (j 1) x)) := by
  idx_vars j
  unfold k0_pay6
  pointwise

/-- A sum over 6144 indices, four quarters one after the other. -/
theorem sum_four (f : ℕ → EReal) : ∑ k ∈ Finset.range 6144, f k
    = (∑ k ∈ Finset.range 1536, f (1536 * 0 + k)) + (∑ k ∈ Finset.range 1536, f (1536 * 1 + k))
      + (∑ k ∈ Finset.range 1536, f (1536 * 2 + k)) + (∑ k ∈ Finset.range 1536, f (1536 * 3 + k)) := by
  rw [show 6144 = 0 + 1536 + 1536 + 1536 + 1536 by norm_num, sum_append f (0 + 1536 + 1536 + 1536), sum_append f (0 + 1536 + 1536), sum_append f (0 + 1536), sum_append f 0, Finset.sum_range_zero, zero_add]

/-- The cotangent of the normed row: the product of the cotangent of the projection with the transposed weights. -/
def dhB (x0 : Vec Ideal S256x6144 .bf16) (x1 : Vec Ideal S4x2048x1536 .bf16) : Vec Ideal S256x2048 .f32 :=
  fun j => ∑ k ∈ Finset.range 6144, at2 (a := 256) (b := 6144) x0 (j 0).val k * at3 (a := 4) (b := 2048) (d := 1536) x1 (k / 1536) (j 1).val (k % 1536)

/-- One of the four partial products. -/
theorem quarter (x0 : Vec Ideal S256x6144 .bf16) (x1 : Vec Ideal S4x2048x1536 .bf16) (q o : Nat) (ho : o = 1536 * q)
    (i0 : ∀ a, (![0, o] : Fin 2 → Nat) a + (![256, 1536] : Fin 2 → Nat) a ≤ S256x6144.size a)
    (i1 : ∀ a, (![q, 0, 0] : Fin 3 → Nat) a + (![1, 2048, 1536] : Fin 3 → Nat) a ≤ S4x2048x1536.size a) (r : Fin 256) (c : Fin 2048) :
    ∑ x : Fin 1536, (View.ld x0 (Rect.unit (s := S256x6144) ![0, o] ![256, 1536] i0) (ix2 r x) : EReal)
        * View.ld x1 (Rect.unit (s := S4x2048x1536) ![q, 0, 0] ![1, 2048, 1536] i1) (ix3 0 c x)
      = ∑ k ∈ Finset.range 1536, at2 (a := 256) (b := 6144) x0 r.val (1536 * q + k) * at3 (a := 4) (b := 2048) (d := 1536) x1 ((1536 * q + k) / 1536) c.val ((1536 * q + k) % 1536) := by
  refine sum_fin (fun k => at2 (a := 256) (b := 6144) x0 r.val (1536 * q + k) * at3 (a := 4) (b := 2048) (d := 1536) x1 ((1536 * q + k) / 1536) c.val ((1536 * q + k) % 1536)) _ fun x => ?_
  have hx := x.isLt
  congr 1
  · exact eq_at2 (a := 256) (b := 6144) x0 _ (by show 0 + 1 * r.val = _; omega) (by show o + 1 * x.val = _; omega)
  · exact eq_at3 (a := 4) (b := 2048) (d := 1536) x1 _ (by show q + 1 * 0 = _; omega) (by show 0 + 1 * c.val = _; omega) (by show 0 + 1 * x.val = _; omega)

/-! ## What each case leaves -/

section
variable (c : Dev nD) (i : grid0.Coords) (a1 : Memref sig .tc .vmem S256x6144 .bf16) (h1 : a1.IsWhole)
  (a2 : Memref sig .tc .vmem S4x2048x1536 .bf16) (h2 : a2.IsWhole) (a3 : Memref sig .tc .vmem S256x2048 .f32) (h3 : a3.IsWhole)
  (a4 : Memref sig .tc .vmem S256x2048 .f32) (h4 : a4.IsWhole) (a5 : Memref sig .tc .vmem S1x2048 .f32) (h5 : a5.IsWhole)
  (a6 : Memref sig .tc .vmem S256x2048 .f32) (h6 : a6.IsWhole) (a7 : Memref sig .tc .vmem S8x2048 .f32) (h7 : a7.IsWhole)
  (x0 : Vec Ideal S256x6144 .bf16) (x1 : Vec Ideal S4x2048x1536 .bf16) (x2 x3 : Vec Ideal S256x2048 .f32) (x4 : Vec Ideal S1x2048 .f32)
  (xo : Vec Ideal S8x2048 .f32)

/-- The first result's block after a point: the cotangent that passes by the norm, and the gradient of the norm. -/
def dxB (j : S256x2048.Idx) : EReal :=
  x3 j + nbwd (fun k => x2 (ix2 (j 0) k)) (fun k => dhB x0 x1 (ix2 (j 0) k)) (fun k => x4 (ix2 0 k)) (j 1)

/-- One point's 256 rows of the gain's gradient. -/
def gB (n : Fin 2048) : EReal := ∑ x : Fin 256, (dhB x0 x1 (ix2 x n) : EReal) * (x2 (ix2 x n) * rinv (fun k => x2 (ix2 x k)))

/-- The four partial products, from the blocks' quarters, are the whole product. -/
theorem dh_eq (k0 k1 k2 k3 k4 k5 k6 k7) : k0_pay6 (View.ld x0 (Rect.unit ![0, 0] ![256, 1536] k0)) (View.ld x1 (Rect.unit ![0, 0, 0] ![1, 2048, 1536] k1))
    (View.ld x0 (Rect.unit ![0, 1536] ![256, 1536] k2)) (View.ld x1 (Rect.unit ![1, 0, 0] ![1, 2048, 1536] k3))
    (View.ld x0 (Rect.unit ![0, 3072] ![256, 1536] k4)) (View.ld x1 (Rect.unit ![2, 0, 0] ![1, 2048, 1536] k5))
    (View.ld x0 (Rect.unit ![0, 4608] ![256, 1536] k6)) (View.ld x1 (Rect.unit ![3, 0, 0] ![1, 2048, 1536] k7)) = dhB x0 x1 := by
  funext j
  idx_vars j
  rw [pay6_at]
  have e : dhB x0 x1 (ix2 j0 j1) = ∑ k ∈ Finset.range 6144, at2 (a := 256) (b := 6144) x0 j0.val k * at3 (a := 4) (b := 2048) (d := 1536) x1 (k / 1536) j1.val (k % 1536) := rfl
  rw [e, sum_four]
  have q0 := quarter x0 x1 0 0 rfl k0 k1 j0 j1
  have q1 := quarter x0 x1 1 1536 rfl k2 k3 j0 j1
  have q2 := quarter x0 x1 2 3072 rfl k4 k5 j0 j1
  have q3 := quarter x0 x1 3 4608 rfl k6 k7 j0 j1
  rw [← q0, ← q1, ← q2, ← q3]
  rfl

theorem out_A5 (hc0 : cond0_0 i) (j : S256x2048.Idx) :
    out0_A_5 c i a1 h1 a2 h2 a3 h3 a4 h4 a5 h5 a6 h6 a7 h7 hc0 x0 x1 x2 x3 x4 j = dxB x0 x1 x2 x3 x4 j := by
  unfold out0_A_5
  rw [View.read_writes_eq_canon _ _ _ (cover0_A_5 c i a1 h1 a2 h2 a3 h3 a4 h4 a5 h5 a6 h6 a7 h7 hc0 x0 x1 x2 x3 x4)]
  unfold kernelRun0_A
  dsimp only
  sl_unfold_words
  rw [View.canon_unit_zero hz2]
  simp only [View.readAt_eq_ld, h1.read_unread, h2.read_unread, h3.read_unread, h4.read_unread, h5.read_unread, View.ld_unit_zero (S := S256x2048) hz2, View.ld_unit_zero (S := S1x2048) hz2]
  rw [dh_eq, pay4_at]
  rfl

theorem out_B5 (hc0 : ¬cond0_0 i) (j : S256x2048.Idx) :
    out0_B_5 c i a1 h1 a2 h2 a3 h3 a4 h4 a5 h5 a6 h6 a7 h7 hc0 x0 x1 x2 x3 x4 xo j = dxB x0 x1 x2 x3 x4 j := by
  unfold out0_B_5
  rw [View.read_writes_eq_canon _ _ _ (cover0_B_5 c i a1 h1 a2 h2 a3 h3 a4 h4 a5 h5 a6 h6 a7 h7 hc0 x0 x1 x2 x3 x4 xo)]
  unfold kernelRun0_B
  dsimp only
  sl_unfold_words
  rw [View.canon_unit_zero hz2]
  simp only [View.readAt_eq_ld, h1.read_unread, h2.read_unread, h3.read_unread, h4.read_unread, h5.read_unread, View.ld_unit_zero (S := S256x2048) hz2, View.ld_unit_zero (S := S1x2048) hz2]
  rw [dh_eq, pay4_at]
  rfl

/-- The second result's block: row 0 has the rows' sum added to it, the other rows stay. -/
def ggB (xp : Fin 8 → Fin 2048 → EReal) (j : S8x2048.Idx) : EReal :=
  if (j 0).val = 0 then xp 0 (j 1) + gB x0 x1 x2 (j 1) else xp (j 0) (j 1)

theorem out_A6 (hc0 : cond0_0 i) (j : S8x2048.Idx) :
    out0_A_6 c i a1 h1 a2 h2 a3 h3 a4 h4 a5 h5 a6 h6 a7 h7 hc0 x0 x1 x2 x3 x4 j = ggB x0 x1 x2 (fun _ _ => 0) j := by
  unfold out0_A_6
  unfold kernelRun0_A
  dsimp only
  sl_unfold_words
  simp only [View.readAt_eq_ld, h1.read_unread, h2.read_unread, h3.read_unread, h4.read_unread, h5.read_unread, View.ld_unit_zero (S := S256x2048) hz2, View.ld_unit_zero (S := S1x2048) hz2]
  rw [dh_eq]
  unfold ggB
  by_cases h : (j 0).val = 0
  · rw [if_pos h]
    refine (read_first_row _ _ _ _ _ j h).trans ?_
    rw [pay3_at]
    refine congrArg₂ (· + ·) ?_ rfl
    rw [View.readCov_fill _ _ _ _ _ (fun a => by match a with | ⟨0, _⟩ => rfl | ⟨1, _⟩ => rfl)]
    exact pay5_at _
  · rw [if_neg h]
    refine (read_other_row _ _ _ _ _ j h).trans ((read_filled _ _ _ _ _ j).trans ?_)
    exact pay5_at _

theorem out_B6 (hc0 : ¬cond0_0 i) (j : S8x2048.Idx) :
    out0_B_6 c i a1 h1 a2 h2 a3 h3 a4 h4 a5 h5 a6 h6 a7 h7 hc0 x0 x1 x2 x3 x4 xo j = ggB x0 x1 x2 (fun p q => xo (ix2 p q)) j := by
  unfold out0_B_6
  unfold kernelRun0_B
  dsimp only
  sl_unfold_words
  simp only [View.readAt_eq_ld, h1.read_unread, h2.read_unread, h3.read_unread, h4.read_unread, h5.read_unread, h7.read_unread, View.ld_unit_zero (S := S256x2048) hz2, View.ld_unit_zero (S := S1x2048) hz2]
  rw [dh_eq]
  unfold ggB
  by_cases h : (j 0).val = 0
  · rw [if_pos h]
    refine (read_first_row _ _ _ _ _ j h).trans ?_
    rw [pay3_at]
    refine congrArg₂ (· + ·) ?_ rfl
    exact congrArg xo (funext fun a => Fin.ext (by match a with | ⟨0, _⟩ => rfl | ⟨1, _⟩ => show 0 + 1 * (j 1).val = (j 1).val; omega))
  · rw [if_neg h]
    refine (read_other_row _ _ _ _ _ j h).trans ?_
    rw [View.writes_nil, h7.read_unread]
    exact congrArg xo (funext fun a => by match a with | ⟨0, _⟩ => rfl | ⟨1, _⟩ => rfl)
end

end Cert.Kernel2Ideal.Val

end
-- ==== Proof.PreNorm.Value.lean ====
/-
  The gradient through the input projection and the norm before it: sixteen blocks of 256 rows, each written to its
  rows of the first result, and the gain's gradient added up over the blocks in the first row of the second.
-/
module

public import proofs.«01_k».proof.Proof.PreNorm.Body

@[expose] public section

noncomputable section

namespace Cert.Kernel2Ideal.Val

open Cert.Kernel2Ideal Cert.Kernel2Ideal.Gen Cert.Shared Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## The input blocks -/

theorem idx0 : ∀ t : Fin cfg0.N, win0_0.index t 0 = t.val ∧ win0_0.index t 1 = 0 :=
  (by decide +kernel : ∀ t : Fin grid0.N, _)
theorem idx1 : ∀ t : Fin cfg0.N, win0_1.index t 0 = 0 ∧ win0_1.index t 1 = 0 ∧ win0_1.index t 2 = 0 :=
  (by decide +kernel : ∀ t : Fin grid0.N, _)
theorem idx2 : ∀ t : Fin cfg0.N, win0_2.index t 0 = t.val ∧ win0_2.index t 1 = 0 :=
  (by decide +kernel : ∀ t : Fin grid0.N, _)
theorem idx3 : ∀ t : Fin cfg0.N, win0_3.index t 0 = t.val ∧ win0_3.index t 1 = 0 :=
  (by decide +kernel : ∀ t : Fin grid0.N, _)
theorem idx4 : ∀ t : Fin cfg0.N, win0_4.index t 0 = 0 ∧ win0_4.index t 1 = 0 :=
  (by decide +kernel : ∀ t : Fin grid0.N, _)
theorem idx5 : ∀ t : Fin cfg0.N, win0_5.index t 0 = t.val ∧ win0_5.index t 1 = 0 :=
  (by decide +kernel : ∀ t : Fin grid0.N, _)
theorem idx6 : ∀ t : Fin cfg0.N, win0_6.index t 0 = 0 ∧ win0_6.index t 1 = 0 :=
  (by decide +kernel : ∀ t : Fin grid0.N, _)

/-- The operands, as the program finds them. -/
abbrev A0 (c : Dev nD) : (⟨2, ![4096, 6144]⟩ : Shape).Idx → EReal := m ((c : Thread nD τ).loc main_arg0)
abbrev A1 (c : Dev nD) : (⟨3, ![4, 2048, 1536]⟩ : Shape).Idx → EReal := m ((c : Thread nD τ).loc main_arg1)
abbrev A2 (c : Dev nD) : (⟨2, ![4096, 2048]⟩ : Shape).Idx → EReal := m ((c : Thread nD τ).loc main_arg2)
abbrev A3 (c : Dev nD) : (⟨2, ![4096, 2048]⟩ : Shape).Idx → EReal := m ((c : Thread nD τ).loc main_arg3)
abbrev A4 (c : Dev nD) : (⟨2, ![1, 2048]⟩ : Shape).Idx → EReal := m ((c : Thread nD τ).loc main_arg4)

theorem blk0_at (c : Dev nD) (t : Fin cfg0.N) (j : S256x6144.Idx) :
    (iblk m c 0 t : Vec Ideal S256x6144 .bf16) j = at2 (A0 m c) (256 * t.val + (j 0).val) (j 1).val := by
  unfold iblk
  rw [View.read_apply]
  refine eq_at2 (A0 m c) _ ?_ ?_
  · show win0_0.index t 0 * 256 + 1 * (j 0).val = _; rw [(idx0 t).1]; omega
  · show win0_0.index t 1 * 6144 + 1 * (j 1).val = _; rw [(idx0 t).2]; omega

theorem blk1_at (c : Dev nD) (t : Fin cfg0.N) (j : S4x2048x1536.Idx) :
    (iblk m c 1 t : Vec Ideal S4x2048x1536 .bf16) j = at3 (A1 m c) (j 0).val (j 1).val (j 2).val := by
  unfold iblk
  rw [View.read_apply]
  refine eq_at3 (A1 m c) _ ?_ ?_ ?_
  · show win0_1.index t 0 * 4 + 1 * (j 0).val = _; rw [(idx1 t).1]; omega
  · show win0_1.index t 1 * 2048 + 1 * (j 1).val = _; rw [(idx1 t).2.1]; omega
  · show win0_1.index t 2 * 1536 + 1 * (j 2).val = _; rw [(idx1 t).2.2]; omega

theorem blk2_at (c : Dev nD) (t : Fin cfg0.N) (j : S256x2048.Idx) :
    (iblk m c 2 t : Vec Ideal S256x2048 .f32) j = at2 (A2 m c) (256 * t.val + (j 0).val) (j 1).val := by
  unfold iblk
  rw [View.read_apply]
  refine eq_at2 (A2 m c) _ ?_ ?_
  · show win0_2.index t 0 * 256 + 1 * (j 0).val = _; rw [(idx2 t).1]; omega
  · show win0_2.index t 1 * 2048 + 1 * (j 1).val = _; rw [(idx2 t).2]; omega

theorem blk3_at (c : Dev nD) (t : Fin cfg0.N) (j : S256x2048.Idx) :
    (iblk m c 3 t : Vec Ideal S256x2048 .f32) j = at2 (A3 m c) (256 * t.val + (j 0).val) (j 1).val := by
  unfold iblk
  rw [View.read_apply]
  refine eq_at2 (A3 m c) _ ?_ ?_
  · show win0_3.index t 0 * 256 + 1 * (j 0).val = _; rw [(idx3 t).1]; omega
  · show win0_3.index t 1 * 2048 + 1 * (j 1).val = _; rw [(idx3 t).2]; omega

theorem blk4_at (c : Dev nD) (t : Fin cfg0.N) (j : S1x2048.Idx) :
    (iblk m c 4 t : Vec Ideal S1x2048 .f32) j = at2 (A4 m c) (j 0).val (j 1).val := by
  unfold iblk
  rw [View.read_apply]
  refine eq_at2 (A4 m c) _ ?_ ?_
  · show win0_4.index t 0 * 1 + 1 * (j 0).val = _; rw [(idx4 t).1]; omega
  · show win0_4.index t 1 * 2048 + 1 * (j 1).val = _; rw [(idx4 t).2]; omega

/-! ## Rows of the operands, and what the blocks hold of them -/

/-- A row of the norm's input, the gain, and a row of the cotangent of the norm's result. -/
def xr (c : Dev nD) (r : Nat) (k : Fin 2048) : EReal := at2 (A2 m c) r k.val
def gr (c : Dev nD) (k : Fin 2048) : EReal := at2 (A4 m c) 0 k.val
def dhr (c : Dev nD) (r : Nat) (n : Fin 2048) : EReal :=
  ∑ k ∈ Finset.range 6144, at2 (A0 m c) r k * at3 (A1 m c) (k / 1536) n.val (k % 1536)

theorem xrow (c : Dev nD) (t : Fin cfg0.N) (p : Fin 256) :
    (fun k => (iblk m c 2 t : Vec Ideal S256x2048 .f32) (ix2 p k)) = xr m c (256 * t.val + p.val) := by
  funext k
  rw [blk2_at]
  rfl

theorem grow (c : Dev nD) (t : Fin cfg0.N) :
    (fun k => (iblk m c 4 t : Vec Ideal S1x2048 .f32) (ix2 0 k)) = gr m c := by
  funext k
  rw [blk4_at]
  rfl

theorem dhrow (c : Dev nD) (t : Fin cfg0.N) (p : Fin 256) (n : Fin 2048) :
    dhB (iblk m c 0 t) (iblk m c 1 t) (ix2 p n) = dhr m c (256 * t.val + p.val) n := by
  unfold dhB dhr
  refine Finset.sum_congr rfl fun k hk => ?_
  have hk' : k < 6144 := Finset.mem_range.mp hk
  have hq : k / 1536 < 4 := by omega
  have hr : k % 1536 < 1536 := by omega
  refine congrArg₂ (· * ·) ?_ ?_
  · refine (at2_of_lt (a := 256) (b := 6144) _ p.isLt hk').trans ?_
    rw [blk0_at]
    rfl
  · refine (at3_of_lt (a := 4) (b := 2048) (d := 1536) _ hq n.isLt hr).trans ?_
    rw [blk1_at]
    rfl

/-- One block's share of the gain's gradient. -/
theorem gB_eq (c : Dev nD) (t : Fin cfg0.N) (n : Fin 2048) :
    gB (iblk m c 0 t) (iblk m c 1 t) (iblk m c 2 t) n
      = ∑ x : Fin 256, dhr m c (256 * t.val + x.val) n * (xr m c (256 * t.val + x.val) n * rinv (xr m c (256 * t.val + x.val))) := by
  unfold gB
  refine Finset.sum_congr rfl fun x _ => ?_
  rw [dhrow, xrow]
  rw [show (iblk m c 2 t : Vec Ideal S256x2048 .f32) (ix2 x n) = xr m c (256 * t.val + x.val) n from congrFun (xrow m c t x) n]

/-! ## The two results -/

/-- The first result: the cotangent that passes by the norm, and the gradient of the norm. -/
def DX (c : Dev nD) : (⟨2, ![4096, 2048]⟩ : Shape).Idx → EReal := fun i =>
  at2 (A3 m c) (i 0).val (i 1).val + nbwd (xr m c (i 0).val) (dhr m c (i 0).val) (gr m c) (i 1)

/-- The first `n` rows' share of the gain's gradient at column `q`. -/
def part (c : Dev nD) (n : Nat) (q : Fin 2048) : EReal := ∑ r ∈ Finset.range n, dhr m c r q * (xr m c r q * rinv (xr m c r))

/-- The second result: the gain's gradient in the first row, zero in the others. -/
def GG (c : Dev nD) (n : Nat) : (⟨2, ![8, 2048]⟩ : Shape).Idx → EReal := fun i =>
  if (i 0).val = 0 then part m c n (i 1) else 0

theorem dxB_eq (c : Dev nD) (t : Fin cfg0.N) (j : S256x2048.Idx) :
    dxB (iblk m c 0 t) (iblk m c 1 t) (iblk m c 2 t) (iblk m c 3 t) (iblk m c 4 t) j
      = at2 (A3 m c) (256 * t.val + (j 0).val) (j 1).val
        + nbwd (xr m c (256 * t.val + (j 0).val)) (dhr m c (256 * t.val + (j 0).val)) (gr m c) (j 1) := by
  unfold dxB
  rw [blk3_at]
  refine congrArg₂ (· + ·) rfl ?_
  rw [show (fun k => (iblk m c 2 t : Vec Ideal S256x2048 .f32) (ix2 (j 0) k)) = _ from xrow m c t (j 0),
    show (fun k => (iblk m c 4 t : Vec Ideal S1x2048 .f32) (ix2 0 k)) = _ from grow m c t]
  rw [show (fun k => dhB (iblk m c 0 t) (iblk m c 1 t) (ix2 (j 0) k)) = dhr m c (256 * t.val + (j 0).val) from
    funext fun k => dhrow m c t (j 0) k]

theorem outs1 (c : Dev nD) (t : Fin cfg0.N) (j : S256x2048.Idx) : (outsAt0 m c t.val t.isLt).1 j
    = at2 (A3 m c) (256 * t.val + (j 0).val) (j 1).val
        + nbwd (xr m c (256 * t.val + (j 0).val)) (dhr m c (256 * t.val + (j 0).val)) (gr m c) (j 1) := by
  by_cases h0 : t.val % 16 = 0
  · rw [outsAt0_A m c t h0]
    dsimp only
    rw [out_A5]
    exact dxB_eq m c t j
  · rw [outsAt0_B m c t h0]
    dsimp only
    rw [out_B5]
    exact dxB_eq m c t j

/-- One body: what the first row held, and this point's 256 rows. -/
theorem step (c : Dev nD) (t : Fin cfg0.N) (xp : Fin 8 → Fin 2048 → EReal) (j : S8x2048.Idx)
    (h : ∀ p q, xp p q = GG m c (256 * t.val) (ix2 p q)) :
    ggB (iblk m c 0 t) (iblk m c 1 t) (iblk m c 2 t) xp j = GG m c (256 * (t.val + 1)) j := by
  unfold ggB
  by_cases h0 : (j 0).val = 0
  · rw [if_pos h0]
    refine (congrArg₂ (· + ·) (h 0 (j 1)) (gB_eq m c t (j 1))).trans ?_
    unfold GG
    rw [if_pos h0, if_pos (by rfl)]
    unfold part
    rw [show 256 * (t.val + 1) = 256 * t.val + 256 by omega, sum_append]
    refine congrArg₂ (· + ·) rfl ?_
    exact sum_fin _ _ fun k => rfl
  · rw [if_neg h0]
    refine (h (j 0) (j 1)).trans ?_
    unfold GG
    rw [if_neg h0]
    exact if_neg h0

theorem acc_eq (c : Dev nD) : ∀ (n : ℕ) (hn : n < cfg0.N) (j : S8x2048.Idx), (outsAt0 m c n hn).2 j = GG m c (256 * (n + 1)) j := by
  intro n
  induction n with
  | zero =>
    intro hn j
    have := outsAt0_A m c ⟨0, hn⟩ (by rfl)
    rw [show outsAt0 m c 0 hn = _ from this]
    dsimp only
    rw [out_A6]
    refine step m c ⟨0, hn⟩ _ j fun p q => ?_
    show (0 : EReal) = if p.val = 0 then ∑ r ∈ Finset.range (256 * 0), _ else (0 : EReal)
    split <;> rfl
  | succ n ih =>
    intro hn j
    have hN : cfg0.N = 16 := N_0
    have h0 : ¬(n + 1) % 16 = 0 := by omega
    rw [show outsAt0 m c (n + 1) hn = _ from outsAt0_B m c ⟨n + 1, hn⟩ h0]
    dsimp only
    rw [out_B6]
    exact step m c ⟨n + 1, hn⟩ _ j fun p q => ih (Nat.lt_of_succ_lt hn) (ix2 p q)

/-! ## The arrays after the run -/

theorem flushed5_eq (c : Dev nD) (t : Fin cfg0.N) (hf : (cfg0.win 5).flush t = true) :
    (dats m 0 c).flushed 5 t = ((cfg0.win 5).blk t).view.read (Elt Ideal) (DX m c) := by
  rw [Value.flushed5]
  funext j
  rw [View.read_apply]
  show (outsAt0 m c t.val t.isLt).1 _ = DX m c _
  rw [outs1]
  have e0 : (((cfg0.win 5).blk t).view.emb j 0).val = 256 * t.val + (j 0).val := by
    show win0_5.index t 0 * 256 + 1 * (j 0).val = _; rw [(idx5 t).1]; omega
  have e1 : ((cfg0.win 5).blk t).view.emb j 1 = (j 1 : Fin 2048) := Fin.ext (by
    show win0_5.index t 1 * 2048 + 1 * (j 1).val = (j 1).val; rw [(idx5 t).2]; omega)
  unfold DX
  rw [e0, e1]

theorem flushed6_eq (c : Dev nD) (t : Fin cfg0.N) (hf : (cfg0.win 6).flush t = true) :
    (dats m 0 c).flushed 6 t = ((cfg0.win 6).blk t).view.read (Elt Ideal) (GG m c 4096) := by
  have h15 : t.val % 16 = 15 := (flush0_6 t).mp hf
  have hN : cfg0.N = 16 := N_0
  have ht : t.val < cfg0.N := t.isLt
  rw [Value.flushed6]
  funext j
  rw [View.read_apply]
  show (outsAt0 m c t.val t.isLt).2 _ = GG m c 4096 _
  rw [acc_eq, show 256 * (t.val + 1) = 4096 by omega]
  refine congrArg (GG m c 4096) (funext fun a => Fin.ext ?_)
  match a with
  | ⟨0, _⟩ => show (j 0).val = win0_6.index t 0 * 8 + 1 * (j 0).val; rw [(idx6 t).1]; omega
  | ⟨1, _⟩ => show (j 1).val = win0_6.index t 1 * 2048 + 1 * (j 1).val; rw [(idx6 t).2]; omega

/-- The point that writes back the rows an index lies in, and the last point. -/
def pt (i : S4096x2048.Idx) : Fin cfg0.N := ⟨(i 0).val / 256, by
  have h0 : (i 0).val < 4096 := (i 0).isLt
  have hN : cfg0.N = 16 := N_0
  rw [hN]; omega⟩
def lastPt : Fin cfg0.N := ⟨15, by have hN : cfg0.N = 16 := N_0; omega⟩

theorem final5 (c : Dev nD) : (dats m 0 c).arrAt 5 cfg0.N = DX m c :=
  (dats m 0 c).arrAt_eq_of_cover 5 (DX m c) (flushed5_eq m c) fun i =>
    ⟨pt i, flush0_5 _, by
      have h0 : (i 0).val < 4096 := (i 0).isLt
      have h1 : (i 1).val < 2048 := (i 1).isLt
      have hv : (pt i).val = (i 0).val / 256 := rfl
      show i ∈ ((View.whole main_v0_0).slice (win0_5.rect (pt i))).set
      rw [View.set_slice_whole, Rect.mem_set_unit]
      intro a
      match a with
      | ⟨0, _⟩ => show win0_5.index (pt i) 0 * 256 ≤ (i 0 : Nat) ∧ (i 0 : Nat) < win0_5.index (pt i) 0 * 256 + 256
                  rw [(idx5 _).1]; omega
      | ⟨1, _⟩ => show win0_5.index (pt i) 1 * 2048 ≤ (i 1 : Nat) ∧ (i 1 : Nat) < win0_5.index (pt i) 1 * 2048 + 2048
                  rw [(idx5 _).2]; omega⟩

theorem final6 (c : Dev nD) : (dats m 0 c).arrAt 6 cfg0.N = GG m c 4096 :=
  (dats m 0 c).arrAt_eq_of_cover 6 (GG m c 4096) (flushed6_eq m c) fun i =>
    ⟨lastPt, (flush0_6 _).mpr rfl, by
      have h0 : (i 0).val < 8 := (i 0).isLt
      have h1 : (i 1).val < 2048 := (i 1).isLt
      show i ∈ ((View.whole main_v0_1).slice (win0_6.rect lastPt)).set
      rw [View.set_slice_whole, Rect.mem_set_unit]
      intro a
      match a with
      | ⟨0, _⟩ => show win0_6.index lastPt 0 * 8 ≤ (i 0 : Nat) ∧ (i 0 : Nat) < win0_6.index lastPt 0 * 8 + 8
                  rw [(idx6 _).1]; omega
      | ⟨1, _⟩ => show win0_6.index lastPt 1 * 2048 ≤ (i 1 : Nat) ∧ (i 1 : Nat) < win0_6.index lastPt 1 * 2048 + 2048
                  rw [(idx6 _).2]; omega⟩

/-- Every run ends with the two results at these values and the operands as they were. -/
theorem run : θ_run defs (onTc (τ := τ) (main (F := Ideal))) ⟨m, fun _ => 0, ρ⟩ fun r => ∀ c : Dev nD,
      r.2.mem ((c : Thread nD τ).loc main_v0_0) = DX m c
      ∧ r.2.mem ((c : Thread nD τ).loc main_v0_1) = GG m c 4096
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2.1.trans (final6 m c), (h c).2.2⟩)
    (Value.run_blocks m ρ)

end Cert.Kernel2Ideal.Val

end
-- ==== Proof.PreNorm.Ref.lean ====
/-
  The gradient through the input projection and the norm before it: what the reference's stages are at an index.
-/
module

public import proofs.«01_k».proof.Proof.Shared.Norm
public import proofs.«01_k».proof.Proof.Gen.Reference2Ideal.Read

@[expose] public section

noncomputable section

namespace Cert.Reference2Ideal.Val

open Cert.Reference2Ideal Cert.Reference2Ideal.Gen Cert.Reference2Ideal.Read Cert.Shared Idealize.ShloMosaic Idealize.ShloMosaic.TcCoe Idealize.SL.Sem

variable (x0 : Vec Ideal S4096x6144 .bf16) (x1 : Vec Ideal S4x2048x1536 .bf16) (x2 x3 : Vec Ideal S4096x2048 .f32) (x4 : Vec Ideal S1x2048 .f32)

/-- A row of the norm's input, the gain, and a row of the cotangent of the norm's result. -/
def xr (r : Nat) (k : Fin 2048) : EReal := at2 (a := 4096) (b := 2048) x2 r k.val
def gr (k : Fin 2048) : EReal := at2 (a := 1) (b := 2048) x4 0 k.val
def dhr (r : Nat) (n : Fin 2048) : EReal :=
  ∑ k ∈ Finset.range 6144, at2 (a := 4096) (b := 6144) x0 r k * at3 (a := 4) (b := 2048) (d := 1536) x1 (k / 1536) n.val (k % 1536)

theorem v4_at (i : S4096.Idx) : val_main_v4 (F := Ideal) x2 i = ∑ k, xr x2 (i 0).val k * xr x2 (i 0).val k := by
  rw [val_main_v4_apply, val_main_cst_apply]
  simp only [Ideal.ofBits_def, Ideal.ofBits_zero_f32, zero_add]
  refine Finset.sum_congr rfl fun k _ => ?_
  rw [val_main_v3_apply]
  have e : x2 (idx_main_v4 i k) = xr x2 (i 0).val k := eq_at2 (a := 4096) (b := 2048) x2 _ rfl rfl
  rw [Ideal.mulf_def, e]

theorem v9_at (i : S4096x1.Idx) : val_main_v9 (F := Ideal) x2 i = msq (xr x2 (i 0).val) + eps := by
  rw [val_main_v9_apply, val_main_v8_apply, val_main_cst_1_apply, val_main_v7_apply, val_main_v6_apply, val_main_cst_0_apply,
    val_main_v5_apply, v4_at]
  rfl

theorem v10_at (i : S4096x1.Idx) : val_main_v10 (F := Ideal) x2 i = rinv (xr x2 (i 0).val) := by
  rw [val_main_v10_apply, v9_at]
  rfl

theorem v13_at (i : S4096x1.Idx) : val_main_v13 (F := Ideal) x2 i
    = Ideal.ofBits FTy.f32 0xBF000000#32 * Ideal.div (rinv (xr x2 (i 0).val)) (msq (xr x2 (i 0).val) + eps) := by
  rw [val_main_v13_apply, val_main_v12_apply, val_main_cst_2_apply, val_main_v11_apply, v10_at, v9_at]
  rfl

theorem v15_at (i : S4096x2048.Idx) : val_main_v15 (F := Ideal) x2 i = xr x2 (i 0).val (i 1) * rinv (xr x2 (i 0).val) := by
  rw [val_main_v15_apply, val_main_v14_apply, v10_at]
  have e : x2 i = xr x2 (i 0).val (i 1) := eq_at2 (a := 4096) (b := 2048) x2 _ rfl rfl
  rw [Ideal.mulf_def, e]

theorem v20_at (i : S4096x2048.Idx) : val_main_v20 (F := Ideal) x0 x1 i = dhr x0 x1 (i 0).val (i 1) := by
  rw [val_main_v20_apply]
  refine sum_fin _ _ fun k => ?_
  rw [val_main_v19_apply, val_main_v2_apply, val_main_v1_apply, val_main_v0_apply, Ideal.extf_def, Ideal.extf_def]
  have hk : k.val < 6144 := k.isLt
  have h1 : (i 1).val < 2048 := (i 1).isLt
  refine congrArg₂ (· * ·) ?_ ?_
  · exact eq_at2 (a := 4096) (b := 6144) x0 _ rfl rfl
  · refine eq_at3 (a := 4) (b := 2048) (d := 1536) x1 _ ?_ ?_ ?_
    · show ((i 1).val * 6144 + k.val) / 1536 % 4 = k.val / 1536; omega
    · show ((i 1).val * 6144 + k.val) / 6144 = (i 1).val; omega
    · show ((i 1).val * 6144 + k.val) % 1536 = k.val % 1536; omega

theorem v23_at (i : S1x2048.Idx) : val_main_v23 (F := Ideal) x0 x1 x2 i
    = ∑ r ∈ Finset.range 4096, dhr x0 x1 r (i 1) * (xr x2 r (i 1) * rinv (xr x2 r)) := by
  rw [val_main_v23_apply, val_main_v22_apply, val_main_cst_3_apply]
  simp only [Ideal.ofBits_def, Ideal.ofBits_zero_f32, zero_add]
  refine sum_fin _ _ fun k => ?_
  rw [val_main_v21_apply, v15_at, v20_at, Ideal.mulf_def, mul_comm]
  have h0 : (i 0).val < 1 := (i 0).isLt
  have h0' : (idx_main_v22 (idx_main_v23 i) k 0).val = k.val := rfl
  have h1' : idx_main_v22 (idx_main_v23 i) k 1 = (i 1 : Fin 2048) := Fin.ext (by
    show (i 0).val * 2048 + (i 1).val = (i 1).val; omega)
  rw [h0', h1']

theorem v25_at (i : S4096x2048.Idx) : val_main_v25 (F := Ideal) x0 x1 x4 i = dhr x0 x1 (i 0).val (i 1) * gr x4 (i 1) := by
  rw [val_main_v25_apply, val_main_v24_apply, v20_at, Ideal.mulf_def]
  refine congrArg₂ (· * ·) rfl ?_
  exact eq_at2 (a := 1) (b := 2048) x4 _ rfl rfl

theorem v36_at (i : S4096x2048.Idx) : val_main_v36 (F := Ideal) x0 x1 x2 x4 i = nfac (xr x2 (i 0).val) (dhr x0 x1 (i 0).val) (gr x4) := by
  rw [val_main_v36_apply, val_main_v35_apply, val_main_cst_6_apply]
  simp only [Ideal.ofBits_def, Ideal.ofBits_zero_f32, zero_add, Fin.sum_univ_one]
  rw [val_main_v34_apply, val_main_v33_apply, val_main_cst_5_apply, val_main_v32_apply, v13_at, val_main_v28_apply, val_main_v27_apply,
    val_main_cst_4_apply]
  simp only [Ideal.ofBits_def, Ideal.ofBits_zero_f32, zero_add, Ideal.hostDivf_def, Ideal.mulf_def]
  unfold nfac len
  refine congrArg₂ Ideal.div (congrArg₂ (· * ·) (Finset.sum_congr rfl fun k _ => ?_) rfl) rfl
  have h0 : (idx_main_v27 (idx_main_v28 (idx_main_v35 (idx_main_v36 i) 0)) k 0).val = (i 0).val := by
    show (i 0).val * 1 + 0 = (i 0).val; omega
  have h1 : idx_main_v27 (idx_main_v28 (idx_main_v35 (idx_main_v36 i) 0)) k 1 = k := rfl
  rw [val_main_v26_apply, v25_at, Ideal.mulf_def, h0, h1]
  exact congrArg₂ (· * ·) (eq_at2 (a := 4096) (b := 2048) x2 _ h0 rfl) rfl

theorem v40_at (i : S4096x2048.Idx) : val_main_v40 (F := Ideal) x0 x1 x2 x3 x4 i
    = at2 (a := 4096) (b := 2048) x3 (i 0).val (i 1).val + dhr x0 x1 (i 0).val (i 1) * gr x4 (i 1) * rinv (xr x2 (i 0).val)
      + xr x2 (i 0).val (i 1) * nfac (xr x2 (i 0).val) (dhr x0 x1 (i 0).val) (gr x4)
      + nfac (xr x2 (i 0).val) (dhr x0 x1 (i 0).val) (gr x4) * xr x2 (i 0).val (i 1) := by
  rw [val_main_v40_apply, val_main_v39_apply, val_main_v38_apply, val_main_v37_apply, val_main_v31_apply, val_main_v30_apply,
    val_main_v29_apply, v25_at, v10_at, v36_at]
  have e2 : x2 i = xr x2 (i 0).val (i 1) := eq_at2 (a := 4096) (b := 2048) x2 _ rfl rfl
  have e3 : x3 i = at2 (a := 4096) (b := 2048) x3 (i 0).val (i 1).val := eq_at2 (a := 4096) (b := 2048) x3 _ rfl rfl
  simp only [Ideal.addf_def, Ideal.mulf_def]
  rw [e2, e3]

theorem v42_at (i : S8x2048.Idx) : val_main_v42 (F := Ideal) x0 x1 x2 i
    = if (i 0).val = 0 then ∑ r ∈ Finset.range 4096, dhr x0 x1 r (i 1) * (xr x2 r (i 1) * rinv (xr x2 r)) else 0 := by
  idx_vars i
  unfold val_main_v42
  pointwise
  by_cases h : i0.val = 0
  · exact (dif_pos (show i0.val < 1 by omega)).trans ((v23_at x0 x1 x2 _).trans (if_pos h).symm)
  · refine (dif_neg (show ¬i0.val < 1 by omega)).trans (Eq.trans ?_ (if_neg h).symm)
    rw [val_main_v41_apply, val_main_cst_7_apply, Ideal.ofBits_def, Ideal.ofBits_zero_f32]

end Cert.Reference2Ideal.Val

end
-- ==== Proof.Shared.Finite.lean ====
/-
  What a precondition's comparison says of an entry: its magnitude is below infinity, so the entry is a real number.
-/
module

public import proofs.«01_k».proof.Proof.Shared.Norm
public import Idealize.ShloMosaic.Lib.Pointwise

@[expose] public section

noncomputable section

namespace Cert.Shared

open Idealize.ShloMosaic

theorem inf_eq : Ideal.ofBits FTy.f32 0x7F800000#32 = (⊤ : EReal) := by
  simp [Ideal.ofBits, Ideal.ieee]

/-- An entry whose magnitude compares below infinity is a real number. -/
theorem real_of_lt (a : EReal) (h : Ideal.cmp .olt (max a (-a)) (Ideal.ofBits FTy.f32 0x7F800000#32) = 1#1) : ∃ r : ℝ, a = (r : EReal) := by
  rw [inf_eq] at h
  have h' : max a (-a) < ⊤ := by
    by_contra hn
    simp [Ideal.cmp, hn] at h
  induction a using EReal.rec with
  | bot => simp at h'
  | coe r => exact ⟨r, rfl⟩
  | top => simp at h'

theorem real_at2 {a b : Nat} (x : (⟨2, ![a, b]⟩ : Shape).Idx → EReal) (h : ∀ j, ∃ r : ℝ, x j = (r : EReal)) (p q : Nat) :
    ∃ r : ℝ, at2 x p q = (r : EReal) := by
  unfold at2
  split
  · exact h _
  · exact ⟨0, rfl⟩

theorem real_at3 {a b d : Nat} (x : (⟨3, ![a, b, d]⟩ : Shape).Idx → EReal) (h : ∀ j, ∃ r : ℝ, x j = (r : EReal)) (p q o : Nat) :
    ∃ r : ℝ, at3 x p q o = (r : EReal) := by
  unfold at3
  split
  · exact h _
  · exact ⟨0, rfl⟩

theorem real_sum {ι : Type} (s : Finset ι) (f : ι → EReal) (h : ∀ i, ∃ r : ℝ, f i = (r : EReal)) : ∃ r : ℝ, ∑ i ∈ s, f i = (r : EReal) := by
  choose g hg using h
  exact ⟨∑ i ∈ s, g i, by rw [← coe_sum']; exact Finset.sum_congr rfl fun i _ => hg i⟩

end Cert.Shared

end
-- ==== Proof.PreNorm.Claim.lean ====
/-
  The gradient through the input projection and the norm before it: over arrays of real numbers the kernel's form of the
  norm's gradient is the reference's, so the two programs end with equal results.
-/
module

public import proofs.«01_k».proof.Proof.PreNorm.Value
public import proofs.«01_k».proof.Proof.PreNorm.Ref
public import proofs.«01_k».proof.Proof.Shared.Finite
public import proofs.«01_k».proof.Defs

@[expose] public section

noncomputable section

namespace Cert.Kernel2Ideal.Val

open Cert.Kernel2Ideal Cert.Kernel2Ideal.Gen Cert.Shared Idealize.ShloMosaic Idealize.ShloMosaic.TcCoe Idealize.SL.Sem

variable (m : (ℓ : Loc nD τ sig) → Buf (Elt Ideal) ℓ)

/-- What the precondition says of the entries. -/
theorem finite [hP : Cert.Pre_pre_finite.Facts] (h : Cert.Pre_Kernel2Ideal_pre_finite m) (c : Dev nD) :
    (∀ j, ∃ r : ℝ, A0 m c j = (r : EReal)) ∧ (∀ j, ∃ r : ℝ, A1 m c j = (r : EReal)) ∧ (∀ j, ∃ r : ℝ, A2 m c j = (r : EReal))
      ∧ ∀ j, ∃ r : ℝ, A4 m c j = (r : EReal) :=
  ⟨fun j => real_of_lt _ (congrFun (h c).1 j), fun j => real_of_lt _ (congrFun (h c).2.1 j),
    fun j => real_of_lt _ (congrFun (h c).2.2.1 j), fun j => real_of_lt _ (congrFun (h c).2.2.2 j)⟩

/-- Over real entries the first result is the reference's sum. -/
theorem DX_eq [hP : Cert.Pre_pre_finite.Facts] (h : Cert.Pre_Kernel2Ideal_pre_finite m) (c : Dev nD) (i : (⟨2, ![4096, 2048]⟩ : Shape).Idx) :
    DX m c i = at2 (A3 m c) (i 0).val (i 1).val + dhr m c (i 0).val (i 1) * gr m c (i 1) * rinv (xr m c (i 0).val)
      + xr m c (i 0).val (i 1) * nfac (xr m c (i 0).val) (dhr m c (i 0).val) (gr m c)
      + nfac (xr m c (i 0).val) (dhr m c (i 0).val) (gr m c) * xr m c (i 0).val (i 1) := by
  obtain ⟨f0, f1, f2, f4⟩ := finite m h c
  have hx : ∀ k, ∃ r : ℝ, xr m c (i 0).val k = (r : EReal) := fun k => real_at2 _ f2 _ _
  have hg : ∀ k, ∃ r : ℝ, gr m c k = (r : EReal) := fun k => real_at2 _ f4 _ _
  have hd : ∀ k, ∃ r : ℝ, dhr m c (i 0).val k = (r : EReal) := fun k => real_sum _ _ fun q => by
    obtain ⟨a, ha⟩ := real_at2 _ f0 (i 0).val q
    obtain ⟨b, hb⟩ := real_at3 _ f1 (q / 1536) k.val (q % 1536)
    exact ⟨a * b, by rw [ha, hb, EReal.coe_mul]⟩
  choose x hx using hx
  choose g hg using hg
  choose d hd using hd
  unfold DX
  rw [show xr m c (i 0).val = fun k => (x k : EReal) from funext hx, show gr m c = fun k => (g k : EReal) from funext hg,
    show dhr m c (i 0).val = fun k => (d k : EReal) from funext hd]
  exact nbwd_eq x d g (i 1) _

end Cert.Kernel2Ideal.Val

namespace Cert.Proof

open Idealize.ShloMosaic Idealize.ShloMosaic.TcCoe Idealize.SL.Sem

theorem algebraic_pre_norm [hK : Cert.Kernel2Ideal.Facts] [hR : Cert.Reference2Ideal.Facts] [hP : Cert.Pre_pre_finite.Facts] :
    Cert.algebraic_Kernel2Ideal_Reference2Ideal_pre_pre_finite (hKernel2Ideal := hK) (hReference2Ideal := hR) (hPre_pre_finite := hP) := by
  intro m g m' g' hpre hagree
  refine ⟨fun c => Cert.Kernel2Ideal.Val.DX m c, fun c => Cert.Kernel2Ideal.Val.GG m c 4096, Cert.Kernel2Ideal.Val.run m g,
    (θ_run Cert.Reference2Ideal.defs _ _).mono (fun r h c => ?_) (Cert.Reference2Ideal.Value.run m' g')⟩
  obtain ⟨a0, a1, a2, a3, a4⟩ := hagree c
  refine ⟨((h c).1.trans (Cert.Reference2Ideal.Read.val_main_v40_eq _ _)).trans (funext fun i => ?_),
    ((h c).2.1.trans (Cert.Reference2Ideal.Read.val_main_v42_eq _ _ _)).trans (funext fun i => ?_), (h c).2.2⟩
  · rw [Cert.Reference2Ideal.Val.v40_at, a0, a1, a2, a3, a4]
    exact (Cert.Kernel2Ideal.Val.DX_eq m hpre c i).symm
  · rw [Cert.Reference2Ideal.Val.v42_at, a0, a1, a2]
    rfl

end Cert.Proof

end
-- ==== Proof.GradWIn.Value.lean ====
/-
  The gradient of the input projection's weight: the product of the transposed activations with the cotangent, added
  up over eight blocks of 512 rows for every block of the result, written as float32 and as bfloat16.
-/
module

public import proofs.«01_k».proof.Proof.Shared.Sums
public import proofs.«01_k».proof.Proof.Gen.Kernel3Ideal.Value

@[expose] public section

noncomputable section

namespace Cert.Kernel3Ideal.Val

open Cert.Kernel3Ideal Cert.Kernel3Ideal.Gen Cert.Shared Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## The body's values -/

theorem pay1_at (j : S1x1024x1536.Idx) : (k0_pay1 (F := Ideal)) j = (0 : EReal) := by
  idx_vars j
  unfold k0_pay1
  pointwise

theorem pay2_at (v3 : Vec Ideal S1x1024x1536 .f32) (v5 : Vec Ideal S512x1024 .bf16) (v6 : Vec Ideal S512x1536 .bf16) (j : S1x1024x1536.Idx) :
    (k0_pay2 v3 v5 v6) j = v3 j + ∑ k : Fin 512, (v5 (ix2 k (j 1)) : EReal) * v6 (ix2 k (j 2)) := by
  idx_vars j
  unfold k0_pay2
  pointwise
  rw [Subsingleton.elim j0 0]

theorem pay3_at (v15 : Vec Ideal S1x1024x1536 .f32) (j : S1x1024x1536.Idx) : (k0_pay3 v15) j = v15 j := by
  idx_vars j
  unfold k0_pay3
  pointwise
  rw [Subsingleton.elim j0 0]

/-! ## What each case leaves -/

section
variable (c : Dev nD) (i : grid0.Coords) (a3 : Memref sig .tc .vmem S512x1024 .bf16) (h3 : a3.IsWhole)
  (a4 : Memref sig .tc .vmem S512x1536 .bf16) (h4 : a4.IsWhole) (a5 : Memref sig .tc .vmem S1x1024x1536 .f32) (h5 : a5.IsWhole)
  (a6 : Memref sig .tc .vmem S1x1024x1536 .bf16) (h6 : a6.IsWhole)
  (x0 : Vec Ideal S512x1024 .bf16) (x1 : Vec Ideal S512x1536 .bf16) (xo : Vec Ideal S1x1024x1536 .f32)

theorem out_A (hc0 : cond0_0 i) (hc1 : ¬cond0_1 i) :
    out0_A_2 c i a3 h3 a4 h4 a5 h5 a6 h6 hc0 hc1 x0 x1 = k0_pay2 k0_pay1 x0 x1 := by
  unfold out0_A_2
  rw [View.read_writes_eq_canon _ _ _ (cover0_A_2 c i a3 h3 a4 h4 a5 h5 a6 h6 hc0 hc1 x0 x1)]
  unfold kernelRun0_A
  dsimp only
  sl_unfold_words
  rw [View.canon_cons_unit_zero (S := S1x1024x1536) hz3, View.readCov_unit_zero (S := S1x1024x1536) _ hz3]
  simp only [View.readAt_eq_ld, h3.read_unread, h4.read_unread, View.ld_unit_zero (S := S512x1024) hz2, View.ld_unit_zero (S := S512x1536) hz2]

theorem out_B (hc0 : ¬cond0_0 i) (hc1 : ¬cond0_1 i) :
    out0_B_2 c i a3 h3 a4 h4 a5 h5 a6 h6 hc0 hc1 x0 x1 xo = k0_pay2 xo x0 x1 := by
  unfold out0_B_2
  rw [View.read_writes_eq_canon _ _ _ (cover0_B_2 c i a3 h3 a4 h4 a5 h5 a6 h6 hc0 hc1 x0 x1 xo)]
  unfold kernelRun0_B
  dsimp only
  rw [View.canon_unit_zero hz3]
  simp only [View.readAt_eq_ld, h3.read_unread, h4.read_unread, h5.read_unread, View.ld_unit_zero (S := S1x1024x1536) hz3, View.ld_unit_zero (S := S512x1024) hz2, View.ld_unit_zero (S := S512x1536) hz2]

theorem out_C2 (hc0 : ¬cond0_0 i) (hc1 : cond0_1 i) :
    out0_C_2 c i a3 h3 a4 h4 a5 h5 a6 h6 hc0 hc1 x0 x1 xo = k0_pay2 xo x0 x1 := by
  unfold out0_C_2
  rw [View.read_writes_eq_canon _ _ _ (cover0_C_2 c i a3 h3 a4 h4 a5 h5 a6 h6 hc0 hc1 x0 x1 xo)]
  unfold kernelRun0_C
  dsimp only
  sl_unfold_words
  rw [View.canon_unit_zero hz3]
  simp only [View.readAt_eq_ld, h3.read_unread, h4.read_unread, h5.read_unread, View.ld_unit_zero (S := S1x1024x1536) hz3, View.ld_unit_zero (S := S512x1024) hz2, View.ld_unit_zero (S := S512x1536) hz2]

theorem out_C3 (hc0 : ¬cond0_0 i) (hc1 : cond0_1 i) :
    out0_C_3 c i a3 h3 a4 h4 a5 h5 a6 h6 hc0 hc1 x0 x1 xo = k0_pay3 (k0_pay2 xo x0 x1) := by
  unfold out0_C_3
  rw [View.read_writes_eq_canon _ _ _ (cover0_C_3 c i a3 h3 a4 h4 a5 h5 a6 h6 hc0 hc1 x0 x1 xo)]
  unfold kernelRun0_C
  dsimp only
  sl_unfold_words
  rw [View.canon_unit_zero hz3, View.readCov_unit_zero (S := S1x1024x1536) _ hz3]
  simp only [View.readAt_eq_ld, h3.read_unread, h4.read_unread, h5.read_unread, View.ld_unit_zero (S := S1x1024x1536) hz3, View.ld_unit_zero (S := S512x1024) hz2, View.ld_unit_zero (S := S512x1536) hz2]
end

/-! ## The input blocks -/

theorem idx0 : ∀ t : Fin cfg0.N, win0_0.index t 0 = t.val % 8 ∧ win0_0.index t 1 = t.val / 8 % 2 :=
  (by decide +kernel : ∀ t : Fin grid0.N, _)
theorem idx1 : ∀ t : Fin cfg0.N, win0_1.index t 0 = t.val % 8 ∧ win0_1.index t 1 = t.val / 16 :=
  (by decide +kernel : ∀ t : Fin grid0.N, _)
theorem idx2 : ∀ t : Fin cfg0.N, win0_2.index t 0 = t.val / 16 ∧ win0_2.index t 1 = t.val / 8 % 2 ∧ win0_2.index t 2 = 0 :=
  (by decide +kernel : ∀ t : Fin grid0.N, _)
theorem idx3 : ∀ t : Fin cfg0.N, win0_3.index t 0 = t.val / 16 ∧ win0_3.index t 1 = t.val / 8 % 2 ∧ win0_3.index t 2 = 0 :=
  (by decide +kernel : ∀ t : Fin grid0.N, _)

/-- The two operands, as the program finds them. -/
abbrev A (c : Dev nD) : (⟨2, ![4096, 2048]⟩ : Shape).Idx → EReal := m ((c : Thread nD τ).loc main_arg0)
abbrev B (c : Dev nD) : (⟨2, ![4096, 6144]⟩ : Shape).Idx → EReal := m ((c : Thread nD τ).loc main_arg1)

theorem blk0_at (c : Dev nD) (t : Fin cfg0.N) (j : S512x1024.Idx) :
    (iblk m c 0 t : Vec Ideal S512x1024 .bf16) j = at2 (A m c) (512 * (t.val % 8) + (j 0).val) (1024 * (t.val / 8 % 2) + (j 1).val) := by
  unfold iblk
  rw [View.read_apply]
  refine eq_at2 (A m c) _ ?_ ?_
  · show win0_0.index t 0 * 512 + 1 * (j 0).val = _; rw [(idx0 t).1]; omega
  · show win0_0.index t 1 * 1024 + 1 * (j 1).val = _; rw [(idx0 t).2]; omega

theorem blk1_at (c : Dev nD) (t : Fin cfg0.N) (j : S512x1536.Idx) :
    (iblk m c 1 t : Vec Ideal S512x1536 .bf16) j = at2 (B m c) (512 * (t.val % 8) + (j 0).val) (1536 * (t.val / 16) + (j 1).val) := by
  unfold iblk
  rw [View.read_apply]
  refine eq_at2 (B m c) _ ?_ ?_
  · show win0_1.index t 0 * 512 + 1 * (j 0).val = _; rw [(idx1 t).1]; omega
  · show win0_1.index t 1 * 1536 + 1 * (j 1).val = _; rw [(idx1 t).2]; omega

/-! ## The running sum -/

/-- The first `n` rows' share of the product at row `p`, column `q` of the result. -/
def part (c : Dev nD) (n p q : Nat) : EReal := ∑ i ∈ Finset.range n, at2 (A m c) i p * at2 (B m c) i q

/-- One body: what the accumulator held, and this point's 512 rows. -/
theorem step (c : Dev nD) (t : Fin cfg0.N) (xo : Vec Ideal S1x1024x1536 .f32) (j : S1x1024x1536.Idx)
    (h : xo j = part m c (512 * (t.val % 8)) (1024 * (t.val / 8 % 2) + (j 1).val) (1536 * (t.val / 16) + (j 2).val)) :
    k0_pay2 xo (iblk m c 0 t) (iblk m c 1 t) j
      = part m c (512 * (t.val % 8 + 1)) (1024 * (t.val / 8 % 2) + (j 1).val) (1536 * (t.val / 16) + (j 2).val) := by
  rw [pay2_at, h, show 512 * (t.val % 8 + 1) = 512 * (t.val % 8) + 512 by omega]
  unfold part
  rw [sum_append]
  congr 1
  refine sum_fin _ _ fun k => ?_
  rw [blk0_at, blk1_at]
  rfl

theorem acc_eq (c : Dev nD) : ∀ (n : ℕ) (hn : n < cfg0.N) (j : S1x1024x1536.Idx), (outsAt0 m c n hn).1 j
    = part m c (512 * (n % 8 + 1)) (1024 * (n / 8 % 2) + (j 1).val) (1536 * (n / 16) + (j 2).val) := by
  intro n
  induction n with
  | zero =>
    intro hn j
    have := outsAt0_A m c ⟨0, hn⟩ (by rfl) (fun h => absurd h (by decide : ¬0 % 8 = 7))
    rw [show outsAt0 m c 0 hn = _ from this, out_A]
    exact step m c ⟨0, hn⟩ _ j (by rw [pay1_at]; rfl)
  | succ n ih =>
    intro hn j
    have hN : cfg0.N = 64 := N_0
    have ih' := ih (Nat.lt_of_succ_lt hn) j
    have hprev (h0 : ¬(n + 1) % 8 = 0) : (outsAt0 m c n (Nat.lt_of_succ_lt hn)).1 j
        = part m c (512 * ((n + 1) % 8)) (1024 * ((n + 1) / 8 % 2) + (j 1).val) (1536 * ((n + 1) / 16) + (j 2).val) := by
      rw [ih', show n % 8 + 1 = (n + 1) % 8 by omega, show n / 8 % 2 = (n + 1) / 8 % 2 by omega, show n / 16 = (n + 1) / 16 by omega]
    by_cases h0 : (n + 1) % 8 = 0
    · have h1 : ¬(n + 1) % 8 = 7 := by omega
      rw [show outsAt0 m c (n + 1) hn = _ from outsAt0_A m c ⟨n + 1, hn⟩ h0 h1, out_A]
      exact step m c ⟨n + 1, hn⟩ _ j (by rw [pay1_at]; show _ = part m c (512 * ((n + 1) % 8)) _ _; rw [h0]; rfl)
    · by_cases h1 : (n + 1) % 8 = 7
      · rw [show outsAt0 m c (n + 1) hn = _ from outsAt0_C m c ⟨n + 1, hn⟩ h0 h1, out_C2]
        exact step m c ⟨n + 1, hn⟩ _ j (hprev h0)
      · rw [show outsAt0 m c (n + 1) hn = _ from outsAt0_B m c ⟨n + 1, hn⟩ h0 h1, out_B]
        exact step m c ⟨n + 1, hn⟩ _ j (hprev h0)

theorem acc16_eq (c : Dev nD) (t : Fin cfg0.N) (h1 : t.val % 8 = 7) (j : S1x1024x1536.Idx) :
    (outsAt0 m c t.val t.isLt).2 j = (outsAt0 m c t.val t.isLt).1 j := by
  have h0 : ¬t.val % 8 = 0 := by omega
  rw [outsAt0_C m c t h0 h1]
  dsimp only
  rw [out_C3, out_C2]
  exact pay3_at _ j

/-! ## The arrays after the run -/

/-- The whole product, laid out as four blocks of columns. -/
def prod (c : Dev nD) : (⟨3, ![4, 2048, 1536]⟩ : Shape).Idx → EReal :=
  fun j => part m c 4096 (j 1).val (1536 * (j 0).val + (j 2).val)

theorem flushed2_eq (c : Dev nD) (t : Fin cfg0.N) (hf : (cfg0.win 2).flush t = true) :
    (dats m 0 c).flushed 2 t = ((cfg0.win 2).blk t).view.read (Elt Ideal) (prod m c) := by
  have h7 : t.val % 8 = 7 := (flush0_2 t).mp hf
  rw [Value.flushed2]
  funext j
  rw [View.read_apply]
  show (outsAt0 m c t.val t.isLt).1 _ = prod m c _
  rw [acc_eq, h7]
  unfold prod
  have hj : (j 0).val < 1 := (j 0).isLt
  have e0 : (((cfg0.win 2).blk t).view.emb j 0).val = t.val / 16 := by
    show win0_2.index t 0 * 1 + 1 * (j 0).val = _; rw [(idx2 t).1]; omega
  have e1 : (((cfg0.win 2).blk t).view.emb j 1).val = 1024 * (t.val / 8 % 2) + (j 1).val := by
    show win0_2.index t 1 * 1024 + 1 * (j 1).val = _; rw [(idx2 t).2.1]; omega
  have e2 : (((cfg0.win 2).blk t).view.emb j 2).val = (j 2).val := by
    show win0_2.index t 2 * 1536 + 1 * (j 2).val = _; rw [(idx2 t).2.2]; omega
  rw [e0, e1, e2]

theorem flushed3_eq (c : Dev nD) (t : Fin cfg0.N) (hf : (cfg0.win 3).flush t = true) :
    (dats m 0 c).flushed 3 t = ((cfg0.win 3).blk t).view.read (Elt Ideal) (prod m c) := by
  have h7 : t.val % 8 = 7 := (flush0_3 t).mp hf
  rw [Value.flushed3]
  funext j
  rw [View.read_apply]
  show (outsAt0 m c t.val t.isLt).2 _ = prod m c _
  rw [acc16_eq m c t h7, acc_eq, h7]
  unfold prod
  have hj : (j 0).val < 1 := (j 0).isLt
  have e0 : (((cfg0.win 3).blk t).view.emb j 0).val = t.val / 16 := by
    show win0_3.index t 0 * 1 + 1 * (j 0).val = _; rw [(idx3 t).1]; omega
  have e1 : (((cfg0.win 3).blk t).view.emb j 1).val = 1024 * (t.val / 8 % 2) + (j 1).val := by
    show win0_3.index t 1 * 1024 + 1 * (j 1).val = _; rw [(idx3 t).2.1]; omega
  have e2 : (((cfg0.win 3).blk t).view.emb j 2).val = (j 2).val := by
    show win0_3.index t 2 * 1536 + 1 * (j 2).val = _; rw [(idx3 t).2.2]; omega
  rw [e0, e1, e2]

/-- The point that writes back the block an index lies in. -/
def pt (i : S4x2048x1536.Idx) : Fin cfg0.N := ⟨16 * (i 0).val + 8 * ((i 1).val / 1024) + 7, by
  have h0 : (i 0).val < 4 := (i 0).isLt
  have h1 : (i 1).val < 2048 := (i 1).isLt
  have hN : cfg0.N = 64 := N_0
  rw [hN]; omega⟩

theorem final2 (c : Dev nD) : (dats m 0 c).arrAt 2 cfg0.N = prod m c :=
  (dats m 0 c).arrAt_eq_of_cover 2 (prod m c) (flushed2_eq m c) fun i =>
    ⟨pt i, (flush0_2 _).mpr (by show (_ + 7) % 8 = 7; omega), by
      have h0 : (i 0).val < 4 := (i 0).isLt
      have h1 : (i 1).val < 2048 := (i 1).isLt
      have h2 : (i 2).val < 1536 := (i 2).isLt
      have hv : (pt i).val = 16 * (i 0).val + 8 * ((i 1).val / 1024) + 7 := rfl
      show i ∈ ((View.whole main_v0_0).slice (win0_2.rect (pt i))).set
      rw [View.set_slice_whole, Rect.mem_set_unit]
      intro a
      match a with
      | ⟨0, _⟩ => show win0_2.index (pt i) 0 * 1 ≤ (i 0 : Nat) ∧ (i 0 : Nat) < win0_2.index (pt i) 0 * 1 + 1
                  rw [(idx2 _).1]; omega
      | ⟨1, _⟩ => show win0_2.index (pt i) 1 * 1024 ≤ (i 1 : Nat) ∧ (i 1 : Nat) < win0_2.index (pt i) 1 * 1024 + 1024
                  rw [(idx2 _).2.1]; omega
      | ⟨2, _⟩ => show win0_2.index (pt i) 2 * 1536 ≤ (i 2 : Nat) ∧ (i 2 : Nat) < win0_2.index (pt i) 2 * 1536 + 1536
                  rw [(idx2 _).2.2]; omega⟩

theorem final3 (c : Dev nD) : (dats m 0 c).arrAt 3 cfg0.N = prod m c :=
  (dats m 0 c).arrAt_eq_of_cover 3 (prod m c) (flushed3_eq m c) fun i =>
    ⟨pt i, (flush0_3 _).mpr (by show (_ + 7) % 8 = 7; omega), by
      have h0 : (i 0).val < 4 := (i 0).isLt
      have h1 : (i 1).val < 2048 := (i 1).isLt
      have h2 : (i 2).val < 1536 := (i 2).isLt
      have hv : (pt i).val = 16 * (i 0).val + 8 * ((i 1).val / 1024) + 7 := rfl
      show i ∈ ((View.whole main_v0_1).slice (win0_3.rect (pt i))).set
      rw [View.set_slice_whole, Rect.mem_set_unit]
      intro a
      match a with
      | ⟨0, _⟩ => show win0_3.index (pt i) 0 * 1 ≤ (i 0 : Nat) ∧ (i 0 : Nat) < win0_3.index (pt i) 0 * 1 + 1
                  rw [(idx3 _).1]; omega
      | ⟨1, _⟩ => show win0_3.index (pt i) 1 * 1024 ≤ (i 1 : Nat) ∧ (i 1 : Nat) < win0_3.index (pt i) 1 * 1024 + 1024
                  rw [(idx3 _).2.1]; omega
      | ⟨2, _⟩ => show win0_3.index (pt i) 2 * 1536 ≤ (i 2 : Nat) ∧ (i 2 : Nat) < win0_3.index (pt i) 2 * 1536 + 1536
                  rw [(idx3 _).2.2]; omega⟩

/-- Every run ends with both results at the product and the operands as they were. -/
theorem run : θ_run defs (onTc (τ := τ) (main (F := Ideal))) ⟨m, fun _ => 0, ρ⟩ fun r => ∀ c : Dev nD,
      r.2.mem ((c : Thread nD τ).loc main_v0_0) = prod m c
      ∧ r.2.mem ((c : Thread nD τ).loc main_v0_1) = prod m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2 m c), (h c).2.1.trans (final3 m c), (h c).2.2.1, (h c).2.2.2⟩)
    (Value.run_blocks m ρ)

end Cert.Kernel3Ideal.Val

end
-- ==== Proof.GradWIn.Claim.lean ====
/-
  The gradient of the input projection's weight: the reference's product read at an index is the kernel's, so the two
  programs end with equal results.
-/
module

public import proofs.«01_k».proof.Proof.GradWIn.Value
public import proofs.«01_k».proof.Proof.Gen.Reference3Ideal.Read
public import proofs.«01_k».proof.Defs

@[expose] public section

noncomputable section

namespace Cert.Reference3Ideal.Val

open Cert.Reference3Ideal Cert.Reference3Ideal.Gen Cert.Shared Idealize.ShloMosaic Idealize.ShloMosaic.TcCoe Idealize.SL.Sem

/-- The reference's first result at an index: the sum over all rows. -/
theorem res_at (x0 : Vec Ideal S4096x2048 .bf16) (x1 : Vec Ideal S4096x6144 .bf16) (i : S4x2048x1536.Idx) :
    Read.val_main_v7 (F := Ideal) x0 x1 i
      = ∑ k ∈ Finset.range 4096, at2 x0 k (i 1).val * at2 x1 k (1536 * (i 0).val + (i 2).val) := by
  rw [Read.val_main_v7_apply, Read.val_main_v6_apply, Read.val_main_v5_apply, Read.val_main_v4_apply]
  refine sum_fin _ _ fun k => ?_
  have h0 : (i 0).val < 4 := (i 0).isLt
  have h1 : (i 1).val < 2048 := (i 1).isLt
  have h2 : (i 2).val < 1536 := (i 2).isLt
  rw [mul_comm]
  congr 1
  · exact eq_at2 x0 _ rfl (by show (((i 1).val * 4 + (i 0).val) * 1536 + (i 2).val) / 6144 = _; omega)
  · exact eq_at2 x1 _ rfl (by show (((i 1).val * 4 + (i 0).val) * 1536 + (i 2).val) % 6144 = _; omega)

end Cert.Reference3Ideal.Val

namespace Cert.Proof

open Idealize.ShloMosaic Idealize.ShloMosaic.TcCoe Idealize.SL.Sem

theorem algebraic_grad_w_in [hK : Cert.Kernel3Ideal.Facts] [hR : Cert.Reference3Ideal.Facts] :
    Cert.algebraic_Kernel3Ideal_Reference3Ideal (hKernel3Ideal := hK) (hReference3Ideal := hR) := by
  intro m g m' g' _ hagree
  refine ⟨fun c => Cert.Kernel3Ideal.Val.prod m c, fun c => Cert.Kernel3Ideal.Val.prod m c, Cert.Kernel3Ideal.Val.run m g,
    (θ_run Cert.Reference3Ideal.defs _ _).mono (fun r h c => ?_) (Cert.Reference3Ideal.Value.run m' g')⟩
  have key : Cert.Reference3Ideal.Read.val_main_v7 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) = Cert.Kernel3Ideal.Val.prod m c := by
    funext i
    rw [Cert.Reference3Ideal.Val.res_at, (hagree c).1, (hagree c).2]
    rfl
  exact ⟨((h c).1.trans (Cert.Reference3Ideal.Read.val_main_v7_eq _ _)).trans key,
    ((h c).2.1.trans (Cert.Reference3Ideal.Read.val_main_v8_eq _ _)).trans key, (h c).2.2.1, (h c).2.2.2⟩

end Cert.Proof

end
-- ==== Proof.GradWOut.Value.lean ====
/-
  The gradient of the output projection's weight: the product of the transposed activations with the cotangent, added
  up over eight blocks of 512 rows for every block of the result, written as float32 and as bfloat16.
-/
module

public import proofs.«01_k».proof.Proof.Shared.Sums
public import proofs.«01_k».proof.Proof.Gen.Kernel4Ideal.Value

@[expose] public section

noncomputable section

namespace Cert.Kernel4Ideal.Val

open Cert.Kernel4Ideal Cert.Kernel4Ideal.Gen Cert.Shared Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## The body's values -/

theorem pay1_at (j : S1x1024x2048.Idx) : (k0_pay1 (F := Ideal)) j = (0 : EReal) := by
  idx_vars j
  unfold k0_pay1
  pointwise

theorem pay2_at (v3 : Vec Ideal S1x1024x2048 .f32) (v5 : Vec Ideal S512x1024 .bf16) (v6 : Vec Ideal S512x2048 .bf16) (j : S1x1024x2048.Idx) :
    (k0_pay2 v3 v5 v6) j = v3 j + ∑ k : Fin 512, (v5 (ix2 k (j 1)) : EReal) * v6 (ix2 k (j 2)) := by
  idx_vars j
  unfold k0_pay2
  pointwise
  rw [Subsingleton.elim j0 0]

theorem pay3_at (v15 : Vec Ideal S1x1024x2048 .f32) (j : S1x1024x2048.Idx) : (k0_pay3 v15) j = v15 j := by
  idx_vars j
  unfold k0_pay3
  pointwise
  rw [Subsingleton.elim j0 0]

/-! ## What each case leaves -/

section
variable (c : Dev nD) (i : grid0.Coords) (a3 : Memref sig .tc .vmem S512x1024 .bf16) (h3 : a3.IsWhole)
  (a4 : Memref sig .tc .vmem S512x2048 .bf16) (h4 : a4.IsWhole) (a5 : Memref sig .tc .vmem S1x1024x2048 .f32) (h5 : a5.IsWhole)
  (a6 : Memref sig .tc .vmem S1x1024x2048 .bf16) (h6 : a6.IsWhole)
  (x0 : Vec Ideal S512x1024 .bf16) (x1 : Vec Ideal S512x2048 .bf16) (xo : Vec Ideal S1x1024x2048 .f32)

theorem out_A (hc0 : cond0_0 i) (hc1 : ¬cond0_1 i) :
    out0_A_2 c i a3 h3 a4 h4 a5 h5 a6 h6 hc0 hc1 x0 x1 = k0_pay2 k0_pay1 x0 x1 := by
  unfold out0_A_2
  rw [View.read_writes_eq_canon _ _ _ (cover0_A_2 c i a3 h3 a4 h4 a5 h5 a6 h6 hc0 hc1 x0 x1)]
  unfold kernelRun0_A
  dsimp only
  sl_unfold_words
  rw [View.canon_cons_unit_zero (S := S1x1024x2048) hz3, View.readCov_unit_zero (S := S1x1024x2048) _ hz3]
  simp only [View.readAt_eq_ld, h3.read_unread, h4.read_unread, View.ld_unit_zero (S := S512x1024) hz2, View.ld_unit_zero (S := S512x2048) hz2]

theorem out_B (hc0 : ¬cond0_0 i) (hc1 : ¬cond0_1 i) :
    out0_B_2 c i a3 h3 a4 h4 a5 h5 a6 h6 hc0 hc1 x0 x1 xo = k0_pay2 xo x0 x1 := by
  unfold out0_B_2
  rw [View.read_writes_eq_canon _ _ _ (cover0_B_2 c i a3 h3 a4 h4 a5 h5 a6 h6 hc0 hc1 x0 x1 xo)]
  unfold kernelRun0_B
  dsimp only
  rw [View.canon_unit_zero hz3]
  simp only [View.readAt_eq_ld, h3.read_unread, h4.read_unread, h5.read_unread, View.ld_unit_zero (S := S1x1024x2048) hz3, View.ld_unit_zero (S := S512x1024) hz2, View.ld_unit_zero (S := S512x2048) hz2]

theorem out_C2 (hc0 : ¬cond0_0 i) (hc1 : cond0_1 i) :
    out0_C_2 c i a3 h3 a4 h4 a5 h5 a6 h6 hc0 hc1 x0 x1 xo = k0_pay2 xo x0 x1 := by
  unfold out0_C_2
  rw [View.read_writes_eq_canon _ _ _ (cover0_C_2 c i a3 h3 a4 h4 a5 h5 a6 h6 hc0 hc1 x0 x1 xo)]
  unfold kernelRun0_C
  dsimp only
  sl_unfold_words
  rw [View.canon_unit_zero hz3]
  simp only [View.readAt_eq_ld, h3.read_unread, h4.read_unread, h5.read_unread, View.ld_unit_zero (S := S1x1024x2048) hz3, View.ld_unit_zero (S := S512x1024) hz2, View.ld_unit_zero (S := S512x2048) hz2]

theorem out_C3 (hc0 : ¬cond0_0 i) (hc1 : cond0_1 i) :
    out0_C_3 c i a3 h3 a4 h4 a5 h5 a6 h6 hc0 hc1 x0 x1 xo = k0_pay3 (k0_pay2 xo x0 x1) := by
  unfold out0_C_3
  rw [View.read_writes_eq_canon _ _ _ (cover0_C_3 c i a3 h3 a4 h4 a5 h5 a6 h6 hc0 hc1 x0 x1 xo)]
  unfold kernelRun0_C
  dsimp only
  sl_unfold_words
  rw [View.canon_unit_zero hz3, View.readCov_unit_zero (S := S1x1024x2048) _ hz3]
  simp only [View.readAt_eq_ld, h3.read_unread, h4.read_unread, h5.read_unread, View.ld_unit_zero (S := S1x1024x2048) hz3, View.ld_unit_zero (S := S512x1024) hz2, View.ld_unit_zero (S := S512x2048) hz2]
end

/-! ## The input blocks -/

theorem idx0 : ∀ t : Fin cfg0.N, win0_0.index t 0 = t.val % 8 ∧ win0_0.index t 1 = t.val / 8 % 2 :=
  (by decide +kernel : ∀ t : Fin grid0.N, _)
theorem idx1 : ∀ t : Fin cfg0.N, win0_1.index t 0 = t.val % 8 ∧ win0_1.index t 1 = t.val / 16 :=
  (by decide +kernel : ∀ t : Fin grid0.N, _)
theorem idx2 : ∀ t : Fin cfg0.N, win0_2.index t 0 = t.val / 16 ∧ win0_2.index t 1 = t.val / 8 % 2 ∧ win0_2.index t 2 = 0 :=
  (by decide +kernel : ∀ t : Fin grid0.N, _)
theorem idx3 : ∀ t : Fin cfg0.N, win0_3.index t 0 = t.val / 16 ∧ win0_3.index t 1 = t.val / 8 % 2 ∧ win0_3.index t 2 = 0 :=
  (by decide +kernel : ∀ t : Fin grid0.N, _)

/-- The two operands, as the program finds them. -/
abbrev A (c : Dev nD) : (⟨2, ![4096, 2048]⟩ : Shape).Idx → EReal := m ((c : Thread nD τ).loc main_arg0)
abbrev B (c : Dev nD) : (⟨2, ![4096, 2048]⟩ : Shape).Idx → EReal := m ((c : Thread nD τ).loc main_arg1)

theorem blk0_at (c : Dev nD) (t : Fin cfg0.N) (j : S512x1024.Idx) :
    (iblk m c 0 t : Vec Ideal S512x1024 .bf16) j = at2 (A m c) (512 * (t.val % 8) + (j 0).val) (1024 * (t.val / 8 % 2) + (j 1).val) := by
  unfold iblk
  rw [View.read_apply]
  refine eq_at2 (A m c) _ ?_ ?_
  · show win0_0.index t 0 * 512 + 1 * (j 0).val = _; rw [(idx0 t).1]; omega
  · show win0_0.index t 1 * 1024 + 1 * (j 1).val = _; rw [(idx0 t).2]; omega

theorem blk1_at (c : Dev nD) (t : Fin cfg0.N) (j : S512x2048.Idx) :
    (iblk m c 1 t : Vec Ideal S512x2048 .bf16) j = at2 (B m c) (512 * (t.val % 8) + (j 0).val) (2048 * (t.val / 16) + (j 1).val) := by
  unfold iblk
  rw [View.read_apply]
  refine eq_at2 (B m c) _ ?_ ?_
  · show win0_1.index t 0 * 512 + 1 * (j 0).val = _; rw [(idx1 t).1]; omega
  · show win0_1.index t 1 * 2048 + 1 * (j 1).val = _; rw [(idx1 t).2]; omega

/-! ## The running sum -/

/-- The first `n` rows' share of the product at row `p`, column `q` of the result. -/
def part (c : Dev nD) (n p q : Nat) : EReal := ∑ i ∈ Finset.range n, at2 (A m c) i p * at2 (B m c) i q

/-- One body: what the accumulator held, and this point's 512 rows. -/
theorem step (c : Dev nD) (t : Fin cfg0.N) (xo : Vec Ideal S1x1024x2048 .f32) (j : S1x1024x2048.Idx)
    (h : xo j = part m c (512 * (t.val % 8)) (1024 * (t.val / 8 % 2) + (j 1).val) (2048 * (t.val / 16) + (j 2).val)) :
    k0_pay2 xo (iblk m c 0 t) (iblk m c 1 t) j
      = part m c (512 * (t.val % 8 + 1)) (1024 * (t.val / 8 % 2) + (j 1).val) (2048 * (t.val / 16) + (j 2).val) := by
  rw [pay2_at, h, show 512 * (t.val % 8 + 1) = 512 * (t.val % 8) + 512 by omega]
  unfold part
  rw [sum_append]
  congr 1
  refine sum_fin _ _ fun k => ?_
  rw [blk0_at, blk1_at]
  rfl

theorem acc_eq (c : Dev nD) : ∀ (n : ℕ) (hn : n < cfg0.N) (j : S1x1024x2048.Idx), (outsAt0 m c n hn).1 j
    = part m c (512 * (n % 8 + 1)) (1024 * (n / 8 % 2) + (j 1).val) (2048 * (n / 16) + (j 2).val) := by
  intro n
  induction n with
  | zero =>
    intro hn j
    have := outsAt0_A m c ⟨0, hn⟩ (by rfl) (fun h => absurd h (by decide : ¬0 % 8 = 7))
    rw [show outsAt0 m c 0 hn = _ from this, out_A]
    exact step m c ⟨0, hn⟩ _ j (by rw [pay1_at]; rfl)
  | succ n ih =>
    intro hn j
    have hN : cfg0.N = 16 := N_0
    have ih' := ih (Nat.lt_of_succ_lt hn) j
    have hprev (h0 : ¬(n + 1) % 8 = 0) : (outsAt0 m c n (Nat.lt_of_succ_lt hn)).1 j
        = part m c (512 * ((n + 1) % 8)) (1024 * ((n + 1) / 8 % 2) + (j 1).val) (2048 * ((n + 1) / 16) + (j 2).val) := by
      rw [ih', show n % 8 + 1 = (n + 1) % 8 by omega, show n / 8 % 2 = (n + 1) / 8 % 2 by omega, show n / 16 = (n + 1) / 16 by omega]
    by_cases h0 : (n + 1) % 8 = 0
    · have h1 : ¬(n + 1) % 8 = 7 := by omega
      rw [show outsAt0 m c (n + 1) hn = _ from outsAt0_A m c ⟨n + 1, hn⟩ h0 h1, out_A]
      exact step m c ⟨n + 1, hn⟩ _ j (by rw [pay1_at]; show _ = part m c (512 * ((n + 1) % 8)) _ _; rw [h0]; rfl)
    · by_cases h1 : (n + 1) % 8 = 7
      · rw [show outsAt0 m c (n + 1) hn = _ from outsAt0_C m c ⟨n + 1, hn⟩ h0 h1, out_C2]
        exact step m c ⟨n + 1, hn⟩ _ j (hprev h0)
      · rw [show outsAt0 m c (n + 1) hn = _ from outsAt0_B m c ⟨n + 1, hn⟩ h0 h1, out_B]
        exact step m c ⟨n + 1, hn⟩ _ j (hprev h0)

theorem acc16_eq (c : Dev nD) (t : Fin cfg0.N) (h1 : t.val % 8 = 7) (j : S1x1024x2048.Idx) :
    (outsAt0 m c t.val t.isLt).2 j = (outsAt0 m c t.val t.isLt).1 j := by
  have h0 : ¬t.val % 8 = 0 := by omega
  rw [outsAt0_C m c t h0 h1]
  dsimp only
  rw [out_C3, out_C2]
  exact pay3_at _ j

/-! ## The arrays after the run -/

/-- The whole product under a leading unit axis. -/
def prod (c : Dev nD) : (⟨3, ![1, 2048, 2048]⟩ : Shape).Idx → EReal :=
  fun j => part m c 4096 (j 1).val (2048 * (j 0).val + (j 2).val)

theorem flushed2_eq (c : Dev nD) (t : Fin cfg0.N) (hf : (cfg0.win 2).flush t = true) :
    (dats m 0 c).flushed 2 t = ((cfg0.win 2).blk t).view.read (Elt Ideal) (prod m c) := by
  have h7 : t.val % 8 = 7 := (flush0_2 t).mp hf
  rw [Value.flushed2]
  funext j
  rw [View.read_apply]
  show (outsAt0 m c t.val t.isLt).1 _ = prod m c _
  rw [acc_eq, h7]
  unfold prod
  have hj : (j 0).val < 1 := (j 0).isLt
  have e0 : (((cfg0.win 2).blk t).view.emb j 0).val = t.val / 16 := by
    show win0_2.index t 0 * 1 + 1 * (j 0).val = _; rw [(idx2 t).1]; omega
  have e1 : (((cfg0.win 2).blk t).view.emb j 1).val = 1024 * (t.val / 8 % 2) + (j 1).val := by
    show win0_2.index t 1 * 1024 + 1 * (j 1).val = _; rw [(idx2 t).2.1]; omega
  have e2 : (((cfg0.win 2).blk t).view.emb j 2).val = (j 2).val := by
    show win0_2.index t 2 * 2048 + 1 * (j 2).val = _; rw [(idx2 t).2.2]; omega
  rw [e0, e1, e2]

theorem flushed3_eq (c : Dev nD) (t : Fin cfg0.N) (hf : (cfg0.win 3).flush t = true) :
    (dats m 0 c).flushed 3 t = ((cfg0.win 3).blk t).view.read (Elt Ideal) (prod m c) := by
  have h7 : t.val % 8 = 7 := (flush0_3 t).mp hf
  rw [Value.flushed3]
  funext j
  rw [View.read_apply]
  show (outsAt0 m c t.val t.isLt).2 _ = prod m c _
  rw [acc16_eq m c t h7, acc_eq, h7]
  unfold prod
  have hj : (j 0).val < 1 := (j 0).isLt
  have e0 : (((cfg0.win 3).blk t).view.emb j 0).val = t.val / 16 := by
    show win0_3.index t 0 * 1 + 1 * (j 0).val = _; rw [(idx3 t).1]; omega
  have e1 : (((cfg0.win 3).blk t).view.emb j 1).val = 1024 * (t.val / 8 % 2) + (j 1).val := by
    show win0_3.index t 1 * 1024 + 1 * (j 1).val = _; rw [(idx3 t).2.1]; omega
  have e2 : (((cfg0.win 3).blk t).view.emb j 2).val = (j 2).val := by
    show win0_3.index t 2 * 2048 + 1 * (j 2).val = _; rw [(idx3 t).2.2]; omega
  rw [e0, e1, e2]

/-- The point that writes back the block an index lies in. -/
def pt (i : S1x2048x2048.Idx) : Fin cfg0.N := ⟨16 * (i 0).val + 8 * ((i 1).val / 1024) + 7, by
  have h0 : (i 0).val < 1 := (i 0).isLt
  have h1 : (i 1).val < 2048 := (i 1).isLt
  have hN : cfg0.N = 16 := N_0
  rw [hN]; omega⟩

theorem final2 (c : Dev nD) : (dats m 0 c).arrAt 2 cfg0.N = prod m c :=
  (dats m 0 c).arrAt_eq_of_cover 2 (prod m c) (flushed2_eq m c) fun i =>
    ⟨pt i, (flush0_2 _).mpr (by show (_ + 7) % 8 = 7; omega), by
      have h0 : (i 0).val < 1 := (i 0).isLt
      have h1 : (i 1).val < 2048 := (i 1).isLt
      have h2 : (i 2).val < 2048 := (i 2).isLt
      have hv : (pt i).val = 16 * (i 0).val + 8 * ((i 1).val / 1024) + 7 := rfl
      show i ∈ ((View.whole main_v0_0).slice (win0_2.rect (pt i))).set
      rw [View.set_slice_whole, Rect.mem_set_unit]
      intro a
      match a with
      | ⟨0, _⟩ => show win0_2.index (pt i) 0 * 1 ≤ (i 0 : Nat) ∧ (i 0 : Nat) < win0_2.index (pt i) 0 * 1 + 1
                  rw [(idx2 _).1]; omega
      | ⟨1, _⟩ => show win0_2.index (pt i) 1 * 1024 ≤ (i 1 : Nat) ∧ (i 1 : Nat) < win0_2.index (pt i) 1 * 1024 + 1024
                  rw [(idx2 _).2.1]; omega
      | ⟨2, _⟩ => show win0_2.index (pt i) 2 * 2048 ≤ (i 2 : Nat) ∧ (i 2 : Nat) < win0_2.index (pt i) 2 * 2048 + 2048
                  rw [(idx2 _).2.2]; omega⟩

theorem final3 (c : Dev nD) : (dats m 0 c).arrAt 3 cfg0.N = prod m c :=
  (dats m 0 c).arrAt_eq_of_cover 3 (prod m c) (flushed3_eq m c) fun i =>
    ⟨pt i, (flush0_3 _).mpr (by show (_ + 7) % 8 = 7; omega), by
      have h0 : (i 0).val < 1 := (i 0).isLt
      have h1 : (i 1).val < 2048 := (i 1).isLt
      have h2 : (i 2).val < 2048 := (i 2).isLt
      have hv : (pt i).val = 16 * (i 0).val + 8 * ((i 1).val / 1024) + 7 := rfl
      show i ∈ ((View.whole main_v0_1).slice (win0_3.rect (pt i))).set
      rw [View.set_slice_whole, Rect.mem_set_unit]
      intro a
      match a with
      | ⟨0, _⟩ => show win0_3.index (pt i) 0 * 1 ≤ (i 0 : Nat) ∧ (i 0 : Nat) < win0_3.index (pt i) 0 * 1 + 1
                  rw [(idx3 _).1]; omega
      | ⟨1, _⟩ => show win0_3.index (pt i) 1 * 1024 ≤ (i 1 : Nat) ∧ (i 1 : Nat) < win0_3.index (pt i) 1 * 1024 + 1024
                  rw [(idx3 _).2.1]; omega
      | ⟨2, _⟩ => show win0_3.index (pt i) 2 * 2048 ≤ (i 2 : Nat) ∧ (i 2 : Nat) < win0_3.index (pt i) 2 * 2048 + 2048
                  rw [(idx3 _).2.2]; omega⟩

/-- Every run ends with both results at the product and the operands as they were. -/
theorem run : θ_run defs (onTc (τ := τ) (main (F := Ideal))) ⟨m, fun _ => 0, ρ⟩ fun r => ∀ c : Dev nD,
      r.2.mem ((c : Thread nD τ).loc main_v0_0) = prod m c
      ∧ r.2.mem ((c : Thread nD τ).loc main_v0_1) = prod m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2 m c), (h c).2.1.trans (final3 m c), (h c).2.2.1, (h c).2.2.2⟩)
    (Value.run_blocks m ρ)

end Cert.Kernel4Ideal.Val

end
-- ==== Proof.GradWOut.Claim.lean ====
/-
  The gradient of the output projection's weight: the reference's product read at an index is the kernel's, so the two
  programs end with equal results.
-/
module

public import proofs.«01_k».proof.Proof.GradWOut.Value
public import proofs.«01_k».proof.Proof.Gen.Reference4Ideal.Read
public import proofs.«01_k».proof.Defs

@[expose] public section

noncomputable section

namespace Cert.Reference4Ideal.Val

open Cert.Reference4Ideal Cert.Reference4Ideal.Gen Cert.Shared Idealize.ShloMosaic Idealize.ShloMosaic.TcCoe Idealize.SL.Sem

/-- The reference's first result at an index: the sum over all rows. -/
theorem res_at (x0 : Vec Ideal S4096x2048 .bf16) (x1 : Vec Ideal S4096x2048 .bf16) (i : S1x2048x2048.Idx) :
    Read.val_main_v7 (F := Ideal) x0 x1 i
      = ∑ k ∈ Finset.range 4096, at2 x0 k (i 1).val * at2 x1 k (2048 * (i 0).val + (i 2).val) := by
  rw [Read.val_main_v7_apply, Read.val_main_v5_apply, Read.val_main_v4_apply]
  refine sum_fin _ _ fun k => ?_
  have h0 : (i 0).val < 1 := (i 0).isLt
  rw [mul_comm]
  congr 1
  · exact eq_at2 x0 _ rfl rfl
  · exact eq_at2 x1 _ rfl (by show (i 2).val = _; omega)

end Cert.Reference4Ideal.Val

namespace Cert.Proof

open Idealize.ShloMosaic Idealize.ShloMosaic.TcCoe Idealize.SL.Sem

theorem algebraic_grad_w_out [hK : Cert.Kernel4Ideal.Facts] [hR : Cert.Reference4Ideal.Facts] :
    Cert.algebraic_Kernel4Ideal_Reference4Ideal (hKernel4Ideal := hK) (hReference4Ideal := hR) := by
  intro m g m' g' _ hagree
  refine ⟨fun c => Cert.Kernel4Ideal.Val.prod m c, fun c => Cert.Kernel4Ideal.Val.prod m c, Cert.Kernel4Ideal.Val.run m g,
    (θ_run Cert.Reference4Ideal.defs _ _).mono (fun r h c => ?_) (Cert.Reference4Ideal.Value.run m' g')⟩
  have key : Cert.Reference4Ideal.Read.val_main_v7 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) = Cert.Kernel4Ideal.Val.prod m c := by
    funext i
    rw [Cert.Reference4Ideal.Val.res_at, (hagree c).1, (hagree c).2]
    rfl
  exact ⟨((h c).1.trans (Cert.Reference4Ideal.Read.val_main_v6_eq _ _)).trans key,
    ((h c).2.1.trans (Cert.Reference4Ideal.Read.val_main_v8_eq _ _)).trans key, (h c).2.2.1, (h c).2.2.2⟩

end Cert.Proof

end
-- ==== Proof.OutProj.Rows.lean ====
/-
  The output projection with the loss head, row by row: the projected row, its norm, the error, the cotangents.
-/
module

public import proofs.«01_k».proof.Proof.Shared.Norm

@[expose] public section

noncomputable section

namespace Cert.OutProj

open Cert.Shared Idealize.ShloMosaic

/-- The scale of the cotangent and the scale of the loss. -/
def sc : EReal := Ideal.ofBits FTy.f32 0x3A000000#32
def lc : EReal := Ideal.ofBits FTy.f32 0x39800000#32

theorem sc_eq : sc = ((1 / 2048 : ℝ) : EReal) := by
  unfold sc; simp [Ideal.ofBits, Ideal.ieee, -EReal.coe_mul]; norm_num

theorem lc_eq : lc = ((1 / 4096 : ℝ) : EReal) := by
  unfold lc; simp [Ideal.ofBits, Ideal.ieee, -EReal.coe_mul]; norm_num

theorem posHalf_eq : Ideal.ofBits FTy.f32 0x3F000000#32 = ((1 / 2 : ℝ) : EReal) := by
  simp [Ideal.ofBits, Ideal.ieee, -EReal.coe_mul]; norm_num

theorem two_eq : Ideal.ofBits FTy.f32 0x40000000#32 = ((2 : ℝ) : EReal) := by
  simp [Ideal.ofBits, Ideal.ieee, -EReal.coe_mul]; norm_num

theorem sq_nonneg' (a : EReal) : 0 ≤ a * a := by
  rcases le_total 0 a with h | h
  · exact EReal.mul_nonneg h h
  · exact EReal.mul_nonneg_iff.mpr (Or.inr ⟨h, h⟩)

/-- A factor goes into a sum of terms that are not negative. -/
theorem sum_mul_nonneg {ι : Type} (s : Finset ι) (f : ι → EReal) (h : ∀ i, 0 ≤ f i) (a : EReal) : (∑ i ∈ s, f i) * a = ∑ i ∈ s, f i * a := by
  classical
  induction s using Finset.induction_on with
  | empty => simp
  | insert b s hb ih => rw [Finset.sum_insert hb, Finset.sum_insert hb, EReal.right_distrib_of_nonneg (h b) (Finset.sum_nonneg fun i _ => h i), ih]

/-- The reference's scale of the cotangent is the kernel's. -/
theorem scale_eq (e : EReal) : Ideal.div (Ideal.ofBits FTy.f32 0x3F000000#32 * Ideal.ofBits FTy.f32 0x3F800000#32) (Ideal.ofBits FTy.f32 0x45000000#32)
    * (Ideal.ofBits FTy.f32 0x40000000#32 * e) = e * sc := by
  rw [posHalf_eq, Ideal.ofBits_one_f32, mul_one, show Ideal.ofBits FTy.f32 0x45000000#32 = ((2048 : ℝ) : EReal) from len_eq, two_eq, sc_eq,
    Ideal.div_coe (by norm_num), ← mul_assoc, ← EReal.coe_mul, ← EReal.coe_mul, mul_comm]
  norm_num

/-- The reference's scale of the loss is the kernel's. -/
theorem loss_scale (f : Nat → EReal) (h : ∀ r, 0 ≤ f r) (n : Nat) :
    Ideal.ofBits FTy.f32 0x3F000000#32 * ∑ r ∈ Finset.range n, Ideal.div (f r) (Ideal.ofBits FTy.f32 0x45000000#32) = ∑ r ∈ Finset.range n, f r * lc := by
  rw [posHalf_eq, show Ideal.ofBits FTy.f32 0x45000000#32 = ((2048 : ℝ) : EReal) from len_eq, lc_eq]
  have e : ∀ r, Ideal.div (f r) ((2048 : ℝ) : EReal) = f r * ((1 / 2048 : ℝ) : EReal) := fun r => Ideal.div_coe (by norm_num) _
  simp only [e]
  rw [mul_comm, sum_mul_nonneg _ _ (fun r => EReal.mul_nonneg (h r) (EReal.coe_nonneg.mpr (by norm_num)))]
  refine Finset.sum_congr rfl fun r _ => ?_
  rw [mul_assoc, ← EReal.coe_mul]
  norm_num

variable (A0 : (⟨2, ![4096, 2048]⟩ : Shape).Idx → EReal) (A1 : (⟨2, ![2048, 2048]⟩ : Shape).Idx → EReal)
  (A2 A3 : (⟨2, ![4096, 2048]⟩ : Shape).Idx → EReal) (A4 : (⟨2, ![1, 2048]⟩ : Shape).Idx → EReal)

def orow (r : Nat) (n : Fin 2048) : EReal := ∑ k ∈ Finset.range 2048, at2 A0 r k * at2 A1 k n.val
def grow (n : Fin 2048) : EReal := at2 A4 0 n.val
def yrow (r : Nat) (n : Fin 2048) : EReal := orow A0 A1 r n * rinv (orow A0 A1 r)
def erow (r : Nat) (n : Fin 2048) : EReal := at2 A2 r n.val + yrow A0 A1 r n * grow A4 n - at2 A3 r n.val
def drow (r : Nat) (n : Fin 2048) : EReal := erow A0 A1 A2 A3 A4 r n * sc
def dorow (r : Nat) (n : Fin 2048) : EReal := nbwd (orow A0 A1 r) (drow A0 A1 A2 A3 A4 r) (grow A4) n
/-- A row's squared error. -/
def srow (r : Nat) : EReal := ∑ k, erow A0 A1 A2 A3 A4 r k * erow A0 A1 A2 A3 A4 r k

theorem srow_nonneg (r : Nat) : 0 ≤ srow A0 A1 A2 A3 A4 r := Finset.sum_nonneg fun _ _ => sq_nonneg' _

/-! ## The five results, the sums over the first `n` rows -/

def LOSS (n : Nat) : EReal := ∑ r ∈ Finset.range n, srow A0 A1 A2 A3 A4 r * lc
def LARR : (⟨2, ![8, 128]⟩ : Shape).Idx → EReal := fun _ => LOSS A0 A1 A2 A3 A4 4096
def gsum (n : Nat) (q : Fin 2048) : EReal := ∑ r ∈ Finset.range n, drow A0 A1 A2 A3 A4 r q * yrow A0 A1 r q
def GG (n : Nat) : (⟨2, ![8, 2048]⟩ : Shape).Idx → EReal := fun i => if (i 0).val = 0 then gsum A0 A1 A2 A3 A4 n (i 1) else 0
def DOUT : (⟨2, ![4096, 2048]⟩ : Shape).Idx → EReal := fun i => drow A0 A1 A2 A3 A4 (i 0).val (i 1)
def DO : (⟨2, ![4096, 2048]⟩ : Shape).Idx → EReal := fun i => dorow A0 A1 A2 A3 A4 (i 0).val (i 1)
def mrow (r : Nat) (n : Fin 2048) : EReal := ∑ k : Fin 2048, dorow A0 A1 A2 A3 A4 r k * at2 A1 n.val k.val
def DMIX : (⟨2, ![4096, 2048]⟩ : Shape).Idx → EReal := fun i => mrow A0 A1 A2 A3 A4 (i 0).val (i 1)

end Cert.OutProj

end
-- ==== Proof.OutProj.Body.lean ====
/-
  The body of the output projection with the loss head: what each grid point computes from the blocks it reads.
-/
module

public import proofs.«01_k».proof.Proof.OutProj.Rows
public import proofs.«01_k».proof.Proof.Shared.Row
public import proofs.«01_k».proof.Proof.Gen.Kernel5Ideal.Value
public import Idealize.ShloMosaic.Lib.WritesUnit
public import Idealize.ShloMosaic.Lib.Pipeline.ReadBack

@[expose] public section

noncomputable section

namespace Cert.Kernel5Ideal.Val

open Cert.Kernel5Ideal Cert.Kernel5Ideal.Gen Cert.Shared Cert.OutProj Idealize.ShloMosaic Idealize.ShloMosaic.TcCoe Idealize.SL.Sem
open Idealize.ShloMosaic.Pipeline (Dat)

/-! ## The body's values -/

section
variable (x0 : Vec Ideal S256x2048 .bf16) (x1 : Vec Ideal S2048x2048 .bf16) (x2 x3 : Vec Ideal S256x2048 .f32) (x4 : Vec Ideal S1x2048 .f32)

/-- The projected rows, the normed rows, the error. -/
def oB : Vec Ideal S256x2048 .f32 := fun j => ∑ k : Fin 2048, (x0 (ix2 (j 0) k) : EReal) * x1 (ix2 k (j 1))
def yB : Vec Ideal S256x2048 .f32 := fun j => (oB x0 x1 j * rinv (fun k => oB x0 x1 (ix2 (j 0) k)) : EReal)
def eB : Vec Ideal S256x2048 .f32 := fun j => ((x2 j : EReal) + (yB x0 x1 j : EReal) * x4 (ix2 0 (j 1)) - x3 j : EReal)
/-- The cotangent of the block's output, and through the norm. -/
def dB : Vec Ideal S256x2048 .f32 := fun j => (eB x0 x1 x2 x3 x4 j * sc : EReal)
def doB : Vec Ideal S256x2048 .bf16 := fun j =>
  nbwd (fun k => oB x0 x1 (ix2 (j 0) k)) (fun k => dB x0 x1 x2 x3 x4 (ix2 (j 0) k)) (fun k => x4 (ix2 0 k)) (j 1)

theorem pay9_eq : k0_pay9 (F := Ideal) x1 x0 = oB x0 x1 := by
  funext j
  idx_vars j
  unfold k0_pay9
  pointwise
  rfl

theorem pay10_at (j : S256x1.Idx) : (k0_pay10 (F := Ideal) x1 x0) j = rinv (fun k => oB x0 x1 (ix2 (j 0) k)) := by
  idx_vars j
  unfold k0_pay10
  rw [pay9_eq]
  unfold rinv msq len eps
  pointwise

theorem pay11_eq : k0_pay11 (F := Ideal) x1 x0 = yB x0 x1 := by
  funext j
  idx_vars j
  unfold k0_pay11
  rw [pay9_eq]
  pointwise
  rw [pay10_at]
  rfl

theorem pay12_eq : k0_pay12 (F := Ideal) x1 x0 x4 x2 x3 = eB x0 x1 x2 x3 x4 := by
  funext j
  idx_vars j
  unfold k0_pay12
  rw [pay11_eq]
  pointwise
  rfl

theorem pay1_eq : k0_pay1 (F := Ideal) (eB x0 x1 x2 x3 x4) = dB x0 x1 x2 x3 x4 := by
  funext j
  idx_vars j
  unfold k0_pay1
  pointwise
  rfl

theorem pay2_eq : k0_pay2 (F := Ideal) (eB x0 x1 x2 x3 x4) = dB x0 x1 x2 x3 x4 := by
  funext j
  idx_vars j
  unfold k0_pay2
  rw [pay1_eq]
  pointwise

theorem pay3_at (v40 : Vec Ideal S1x2048 .f32) (j : S1x2048.Idx) :
    (k0_pay3 (F := Ideal) (yB x0 x1) (eB x0 x1 x2 x3 x4) v40) j
      = v40 j + ∑ x : Fin 256, (dB x0 x1 x2 x3 x4 (ix2 x (j 1)) : EReal) * yB x0 x1 (ix2 x (j 1)) := by
  idx_vars j
  unfold k0_pay3
  rw [pay1_eq]
  pointwise

theorem pay4_eq : k0_pay4 (F := Ideal) (k0_pay10 x1 x0) (yB x0 x1) x4 (eB x0 x1 x2 x3 x4) = doB x0 x1 x2 x3 x4 := by
  funext j
  idx_vars j
  unfold k0_pay4
  rw [pay1_eq]
  pointwise
  rw [pay10_at]
  rfl

theorem pay5_eq : k0_pay5 (F := Ideal) (k0_pay10 x1 x0) (yB x0 x1) x4 (eB x0 x1 x2 x3 x4) = doB x0 x1 x2 x3 x4 := by
  funext j
  idx_vars j
  unfold k0_pay5
  rw [pay4_eq]
  pointwise

theorem pay6_at (j : S256x2048.Idx) : (k0_pay6 (F := Ideal) x1 (k0_pay10 x1 x0) (yB x0 x1) x4 (eB x0 x1 x2 x3 x4)) j
      = ∑ k : Fin 2048, (doB x0 x1 x2 x3 x4 (ix2 (j 0) k) : EReal) * x1 (ix2 (j 1) k) := by
  idx_vars j
  unfold k0_pay6
  rw [pay4_eq]
  pointwise

theorem pay7_at (j : S8x128.Idx) : (k0_pay7 (F := Ideal)) j = (0 : EReal) := by
  idx_vars j
  unfold k0_pay7
  pointwise

theorem pay8_at (j : S8x2048.Idx) : (k0_pay8 (F := Ideal)) j = (0 : EReal) := by
  idx_vars j
  unfold k0_pay8
  pointwise

theorem pay13_at (v23 : Vec Ideal S8x128 .f32) (j : S8x128.Idx) : (k0_pay13 (F := Ideal) x1 x0 x4 x2 x3 v23) j
      = v23 j + (∑ p : Fin 256, ∑ k : Fin 2048, (eB x0 x1 x2 x3 x4 (ix2 p k) : EReal) * eB x0 x1 x2 x3 x4 (ix2 p k)) * lc := by
  idx_vars j
  unfold k0_pay13
  rw [pay12_eq]
  pointwise
  rfl

end

/-! ## What each case leaves -/

section
variable (c : Dev nD) (i : grid0.Coords) (a1 : Memref sig .tc .vmem S256x2048 .bf16) (h1 : a1.IsWhole)
  (a2 : Memref sig .tc .vmem S2048x2048 .bf16) (h2 : a2.IsWhole) (a3 : Memref sig .tc .vmem S256x2048 .f32) (h3 : a3.IsWhole)
  (a4 : Memref sig .tc .vmem S256x2048 .f32) (h4 : a4.IsWhole) (a5 : Memref sig .tc .vmem S1x2048 .f32) (h5 : a5.IsWhole)
  (a6 : Memref sig .tc .vmem S8x128 .f32) (h6 : a6.IsWhole) (a7 : Memref sig .tc .vmem S256x2048 .f32) (h7 : a7.IsWhole)
  (a8 : Memref sig .tc .vmem S256x2048 .bf16) (h8 : a8.IsWhole) (a9 : Memref sig .tc .vmem S256x2048 .f32) (h9 : a9.IsWhole)
  (a10 : Memref sig .tc .vmem S8x2048 .f32) (h10 : a10.IsWhole)
  (x0 : Vec Ideal S256x2048 .bf16) (x1 : Vec Ideal S2048x2048 .bf16) (x2 x3 : Vec Ideal S256x2048 .f32) (x4 : Vec Ideal S1x2048 .f32)
  (xl : Vec Ideal S8x128 .f32) (xg : Vec Ideal S8x2048 .f32)

/-- One point's share of the loss, its rows' product with the transposed weights, its share of the gain's gradient. -/
def lB : EReal := (∑ p : Fin 256, ∑ k : Fin 2048, (eB x0 x1 x2 x3 x4 (ix2 p k) : EReal) * eB x0 x1 x2 x3 x4 (ix2 p k)) * lc
def mB (j : S256x2048.Idx) : EReal := ∑ k : Fin 2048, (doB x0 x1 x2 x3 x4 (ix2 (j 0) k) : EReal) * x1 (ix2 (j 1) k)
def gB (n : Fin 2048) : EReal := ∑ x : Fin 256, (dB x0 x1 x2 x3 x4 (ix2 x n) : EReal) * yB x0 x1 (ix2 x n)

/-- The gain's gradient: row 0 has the rows' sum added to it, the other rows stay. -/
def ggB (xp : Fin 8 → Fin 2048 → EReal) (j : S8x2048.Idx) : EReal :=
  if (j 0).val = 0 then xp 0 (j 1) + gB x0 x1 x2 x3 x4 (j 1) else xp (j 0) (j 1)

theorem out_A5 (hc0 : cond0_0 i) (j : S8x128.Idx) :
    out0_A_5 c i a1 h1 a2 h2 a3 h3 a4 h4 a5 h5 a6 h6 a7 h7 a8 h8 a9 h9 a10 h10 hc0 x0 x1 x2 x3 x4 j = 0 + lB x0 x1 x2 x3 x4 := by
  unfold out0_A_5
  unfold kernelRun0_A
  dsimp only
  sl_unfold_words
  simp only [View.readAt_eq_ld, h1.read_unread, h2.read_unread, h3.read_unread, h4.read_unread, h5.read_unread, View.ld_unit_zero (S := S256x2048) hz2, View.ld_unit_zero (S := S1x2048) hz2, View.ld_unit_zero (S := S2048x2048) hz2, View.ld_unit_zero (S := S8x128) hz2]
  refine (read_filled _ _ _ _ _ j).trans ?_
  rw [pay13_at]
  refine congrArg₂ (· + ·) ?_ rfl
  rw [View.readCov_fill _ _ _ _ _ (fun a => by match a with | ⟨0, _⟩ => rfl | ⟨1, _⟩ => rfl)]
  exact pay7_at _

theorem out_A6 (hc0 : cond0_0 i) (j : S256x2048.Idx) :
    out0_A_6 c i a1 h1 a2 h2 a3 h3 a4 h4 a5 h5 a6 h6 a7 h7 a8 h8 a9 h9 a10 h10 hc0 x0 x1 x2 x3 x4 j = dB x0 x1 x2 x3 x4 j := by
  unfold out0_A_6
  rw [View.read_writes_eq_canon _ _ _ (cover0_A_6 c i a1 h1 a2 h2 a3 h3 a4 h4 a5 h5 a6 h6 a7 h7 a8 h8 a9 h9 a10 h10 hc0 x0 x1 x2 x3 x4)]
  unfold kernelRun0_A
  dsimp only
  sl_unfold_words
  rw [View.canon_unit_zero hz2]
  simp only [View.readAt_eq_ld, h1.read_unread, h2.read_unread, h3.read_unread, h4.read_unread, h5.read_unread, View.ld_unit_zero (S := S256x2048) hz2, View.ld_unit_zero (S := S1x2048) hz2, View.ld_unit_zero (S := S2048x2048) hz2, View.ld_unit_zero (S := S8x128) hz2]
  rw [pay12_eq, pay2_eq]

theorem out_A7 (hc0 : cond0_0 i) (j : S256x2048.Idx) :
    out0_A_7 c i a1 h1 a2 h2 a3 h3 a4 h4 a5 h5 a6 h6 a7 h7 a8 h8 a9 h9 a10 h10 hc0 x0 x1 x2 x3 x4 j = doB x0 x1 x2 x3 x4 j := by
  unfold out0_A_7
  rw [View.read_writes_eq_canon _ _ _ (cover0_A_7 c i a1 h1 a2 h2 a3 h3 a4 h4 a5 h5 a6 h6 a7 h7 a8 h8 a9 h9 a10 h10 hc0 x0 x1 x2 x3 x4)]
  unfold kernelRun0_A
  dsimp only
  sl_unfold_words
  rw [View.canon_unit_zero hz2]
  simp only [View.readAt_eq_ld, h1.read_unread, h2.read_unread, h3.read_unread, h4.read_unread, h5.read_unread, View.ld_unit_zero (S := S256x2048) hz2, View.ld_unit_zero (S := S1x2048) hz2, View.ld_unit_zero (S := S2048x2048) hz2, View.ld_unit_zero (S := S8x128) hz2]
  rw [pay12_eq, pay11_eq, pay5_eq]

theorem out_A8 (hc0 : cond0_0 i) (j : S256x2048.Idx) :
    out0_A_8 c i a1 h1 a2 h2 a3 h3 a4 h4 a5 h5 a6 h6 a7 h7 a8 h8 a9 h9 a10 h10 hc0 x0 x1 x2 x3 x4 j = mB x0 x1 x2 x3 x4 j := by
  unfold out0_A_8
  rw [View.read_writes_eq_canon _ _ _ (cover0_A_8 c i a1 h1 a2 h2 a3 h3 a4 h4 a5 h5 a6 h6 a7 h7 a8 h8 a9 h9 a10 h10 hc0 x0 x1 x2 x3 x4)]
  unfold kernelRun0_A
  dsimp only
  sl_unfold_words
  rw [View.canon_unit_zero hz2]
  simp only [View.readAt_eq_ld, h1.read_unread, h2.read_unread, h3.read_unread, h4.read_unread, h5.read_unread, View.ld_unit_zero (S := S256x2048) hz2, View.ld_unit_zero (S := S1x2048) hz2, View.ld_unit_zero (S := S2048x2048) hz2, View.ld_unit_zero (S := S8x128) hz2]
  rw [pay12_eq, pay11_eq, pay6_at]
  rfl

theorem out_A9 (hc0 : cond0_0 i) (j : S8x2048.Idx) :
    out0_A_9 c i a1 h1 a2 h2 a3 h3 a4 h4 a5 h5 a6 h6 a7 h7 a8 h8 a9 h9 a10 h10 hc0 x0 x1 x2 x3 x4 j = ggB x0 x1 x2 x3 x4 (fun _ _ => 0) j := by
  unfold out0_A_9
  unfold kernelRun0_A
  dsimp only
  sl_unfold_words
  simp only [View.readAt_eq_ld, h1.read_unread, h2.read_unread, h3.read_unread, h4.read_unread, h5.read_unread, View.ld_unit_zero (S := S256x2048) hz2, View.ld_unit_zero (S := S1x2048) hz2, View.ld_unit_zero (S := S2048x2048) hz2, View.ld_unit_zero (S := S8x128) hz2]
  rw [pay12_eq, pay11_eq]
  unfold ggB
  by_cases h : (j 0).val = 0
  · rw [if_pos h]
    refine (read_first_row _ _ _ _ _ j h).trans ?_
    rw [pay3_at]
    refine congrArg₂ (· + ·) ?_ rfl
    rw [View.readCov_fill _ _ _ _ _ (fun a => by match a with | ⟨0, _⟩ => rfl | ⟨1, _⟩ => rfl)]
    exact pay8_at _
  · rw [if_neg h]
    refine (read_other_row _ _ _ _ _ j h).trans ((read_filled _ _ _ _ _ j).trans ?_)
    exact pay8_at _

theorem out_B5 (hc0 : ¬cond0_0 i) (j : S8x128.Idx) :
    out0_B_5 c i a1 h1 a2 h2 a3 h3 a4 h4 a5 h5 a6 h6 a7 h7 a8 h8 a9 h9 a10 h10 hc0 x0 x1 x2 x3 x4 xl xg j = xl j + lB x0 x1 x2 x3 x4 := by
  unfold out0_B_5
  unfold kernelRun0_B
  dsimp only
  sl_unfold_words
  simp only [View.readAt_eq_ld, h1.read_unread, h2.read_unread, h3.read_unread, h4.read_unread, h5.read_unread, h6.read_unread, h10.read_unread, View.ld_unit_zero (S := S256x2048) hz2, View.ld_unit_zero (S := S1x2048) hz2, View.ld_unit_zero (S := S2048x2048) hz2, View.ld_unit_zero (S := S8x128) hz2]
  refine (read_filled _ _ _ _ _ j).trans ?_
  rw [pay13_at]
  refine congrArg₂ (· + ·) ?_ rfl
  rfl

theorem out_B6 (hc0 : ¬cond0_0 i) (j : S256x2048.Idx) :
    out0_B_6 c i a1 h1 a2 h2 a3 h3 a4 h4 a5 h5 a6 h6 a7 h7 a8 h8 a9 h9 a10 h10 hc0 x0 x1 x2 x3 x4 xl xg j = dB x0 x1 x2 x3 x4 j := by
  unfold out0_B_6
  rw [View.read_writes_eq_canon _ _ _ (cover0_B_6 c i a1 h1 a2 h2 a3 h3 a4 h4 a5 h5 a6 h6 a7 h7 a8 h8 a9 h9 a10 h10 hc0 x0 x1 x2 x3 x4 xl xg)]
  unfold kernelRun0_B
  dsimp only
  sl_unfold_words
  rw [View.canon_unit_zero hz2]
  simp only [View.readAt_eq_ld, h1.read_unread, h2.read_unread, h3.read_unread, h4.read_unread, h5.read_unread, h6.read_unread, h10.read_unread, View.ld_unit_zero (S := S256x2048) hz2, View.ld_unit_zero (S := S1x2048) hz2, View.ld_unit_zero (S := S2048x2048) hz2, View.ld_unit_zero (S := S8x128) hz2]
  rw [pay12_eq, pay2_eq]

theorem out_B7 (hc0 : ¬cond0_0 i) (j : S256x2048.Idx) :
    out0_B_7 c i a1 h1 a2 h2 a3 h3 a4 h4 a5 h5 a6 h6 a7 h7 a8 h8 a9 h9 a10 h10 hc0 x0 x1 x2 x3 x4 xl xg j = doB x0 x1 x2 x3 x4 j := by
  unfold out0_B_7
  rw [View.read_writes_eq_canon _ _ _ (cover0_B_7 c i a1 h1 a2 h2 a3 h3 a4 h4 a5 h5 a6 h6 a7 h7 a8 h8 a9 h9 a10 h10 hc0 x0 x1 x2 x3 x4 xl xg)]
  unfold kernelRun0_B
  dsimp only
  sl_unfold_words
  rw [View.canon_unit_zero hz2]
  simp only [View.readAt_eq_ld, h1.read_unread, h2.read_unread, h3.read_unread, h4.read_unread, h5.read_unread, h6.read_unread, h10.read_unread, View.ld_unit_zero (S := S256x2048) hz2, View.ld_unit_zero (S := S1x2048) hz2, View.ld_unit_zero (S := S2048x2048) hz2, View.ld_unit_zero (S := S8x128) hz2]
  rw [pay12_eq, pay11_eq, pay5_eq]

theorem out_B8 (hc0 : ¬cond0_0 i) (j : S256x2048.Idx) :
    out0_B_8 c i a1 h1 a2 h2 a3 h3 a4 h4 a5 h5 a6 h6 a7 h7 a8 h8 a9 h9 a10 h10 hc0 x0 x1 x2 x3 x4 xl xg j = mB x0 x1 x2 x3 x4 j := by
  unfold out0_B_8
  rw [View.read_writes_eq_canon _ _ _ (cover0_B_8 c i a1 h1 a2 h2 a3 h3 a4 h4 a5 h5 a6 h6 a7 h7 a8 h8 a9 h9 a10 h10 hc0 x0 x1 x2 x3 x4 xl xg)]
  unfold kernelRun0_B
  dsimp only
  sl_unfold_words
  rw [View.canon_unit_zero hz2]
  simp only [View.readAt_eq_ld, h1.read_unread, h2.read_unread, h3.read_unread, h4.read_unread, h5.read_unread, h6.read_unread, h10.read_unread, View.ld_unit_zero (S := S256x2048) hz2, View.ld_unit_zero (S := S1x2048) hz2, View.ld_unit_zero (S := S2048x2048) hz2, View.ld_unit_zero (S := S8x128) hz2]
  rw [pay12_eq, pay11_eq, pay6_at]
  rfl

theorem out_B9 (hc0 : ¬cond0_0 i) (j : S8x2048.Idx) :
    out0_B_9 c i a1 h1 a2 h2 a3 h3 a4 h4 a5 h5 a6 h6 a7 h7 a8 h8 a9 h9 a10 h10 hc0 x0 x1 x2 x3 x4 xl xg j = ggB x0 x1 x2 x3 x4 (fun p q => xg (ix2 p q)) j := by
  unfold out0_B_9
  unfold kernelRun0_B
  dsimp only
  sl_unfold_words
  simp only [View.readAt_eq_ld, h1.read_unread, h2.read_unread, h3.read_unread, h4.read_unread, h5.read_unread, h6.read_unread, h10.read_unread, View.ld_unit_zero (S := S256x2048) hz2, View.ld_unit_zero (S := S1x2048) hz2, View.ld_unit_zero (S := S2048x2048) hz2, View.ld_unit_zero (S := S8x128) hz2]
  rw [pay12_eq, pay11_eq]
  unfold ggB
  by_cases h : (j 0).val = 0
  · rw [if_pos h]
    refine (read_first_row _ _ _ _ _ j h).trans ?_
    rw [pay3_at]
    refine congrArg₂ (· + ·) ?_ rfl
    exact congrArg xg (funext fun a => Fin.ext (by match a with | ⟨0, _⟩ => rfl | ⟨1, _⟩ => show 0 + 1 * (j 1).val = (j 1).val; omega))
  · rw [if_neg h]
    refine (read_other_row _ _ _ _ _ j h).trans ?_
    rw [View.writes_nil, h10.read_unread]
    exact congrArg xg (funext fun a => by match a with | ⟨0, _⟩ => rfl | ⟨1, _⟩ => rfl)
end

end Cert.Kernel5Ideal.Val

end
-- ==== Proof.OutProj.Value.lean ====
/-
  The output projection with the loss head: sixteen blocks of 256 rows; the cotangents go to their rows, the loss and
  the gain's gradient add up over the blocks.
-/
module

public import proofs.«01_k».proof.Proof.OutProj.Body

@[expose] public section

noncomputable section

namespace Cert.Kernel5Ideal.Val

open Cert.Kernel5Ideal Cert.Kernel5Ideal.Gen Cert.Shared Cert.OutProj Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## The input blocks -/

theorem idx0 : ∀ t : Fin cfg0.N, win0_0.index t 0 = t.val ∧ win0_0.index t 1 = 0 :=
  (by decide +kernel : ∀ t : Fin grid0.N, _)
theorem idx1 : ∀ t : Fin cfg0.N, win0_1.index t 0 = 0 ∧ win0_1.index t 1 = 0 :=
  (by decide +kernel : ∀ t : Fin grid0.N, _)
theorem idx2 : ∀ t : Fin cfg0.N, win0_2.index t 0 = t.val ∧ win0_2.index t 1 = 0 :=
  (by decide +kernel : ∀ t : Fin grid0.N, _)
theorem idx3 : ∀ t : Fin cfg0.N, win0_3.index t 0 = t.val ∧ win0_3.index t 1 = 0 :=
  (by decide +kernel : ∀ t : Fin grid0.N, _)
theorem idx4 : ∀ t : Fin cfg0.N, win0_4.index t 0 = 0 ∧ win0_4.index t 1 = 0 :=
  (by decide +kernel : ∀ t : Fin grid0.N, _)
theorem idx5 : ∀ t : Fin cfg0.N, win0_5.index t 0 = 0 ∧ win0_5.index t 1 = 0 :=
  (by decide +kernel : ∀ t : Fin grid0.N, _)
theorem idx6 : ∀ t : Fin cfg0.N, win0_6.index t 0 = t.val ∧ win0_6.index t 1 = 0 :=
  (by decide +kernel : ∀ t : Fin grid0.N, _)
theorem idx7 : ∀ t : Fin cfg0.N, win0_7.index t 0 = t.val ∧ win0_7.index t 1 = 0 :=
  (by decide +kernel : ∀ t : Fin grid0.N, _)
theorem idx8 : ∀ t : Fin cfg0.N, win0_8.index t 0 = t.val ∧ win0_8.index t 1 = 0 :=
  (by decide +kernel : ∀ t : Fin grid0.N, _)
theorem idx9 : ∀ t : Fin cfg0.N, win0_9.index t 0 = 0 ∧ win0_9.index t 1 = 0 :=
  (by decide +kernel : ∀ t : Fin grid0.N, _)

/-- The operands, as the program finds them. -/
abbrev A0 (c : Dev nD) : (⟨2, ![4096, 2048]⟩ : Shape).Idx → EReal := m ((c : Thread nD τ).loc main_arg0)
abbrev A1 (c : Dev nD) : (⟨2, ![2048, 2048]⟩ : Shape).Idx → EReal := m ((c : Thread nD τ).loc main_arg1)
abbrev A2 (c : Dev nD) : (⟨2, ![4096, 2048]⟩ : Shape).Idx → EReal := m ((c : Thread nD τ).loc main_arg2)
abbrev A3 (c : Dev nD) : (⟨2, ![4096, 2048]⟩ : Shape).Idx → EReal := m ((c : Thread nD τ).loc main_arg3)
abbrev A4 (c : Dev nD) : (⟨2, ![1, 2048]⟩ : Shape).Idx → EReal := m ((c : Thread nD τ).loc main_arg4)

theorem blk0_at (c : Dev nD) (t : Fin cfg0.N) (j : S256x2048.Idx) :
    (iblk m c 0 t : Vec Ideal S256x2048 .bf16) j = at2 (A0 m c) (256 * t.val + (j 0).val) (j 1).val := by
  unfold iblk
  rw [View.read_apply]
  refine eq_at2 (A0 m c) _ ?_ ?_
  · show win0_0.index t 0 * 256 + 1 * (j 0).val = _; rw [(idx0 t).1]; omega
  · show win0_0.index t 1 * 2048 + 1 * (j 1).val = _; rw [(idx0 t).2]; omega

theorem blk1_at (c : Dev nD) (t : Fin cfg0.N) (j : S2048x2048.Idx) :
    (iblk m c 1 t : Vec Ideal S2048x2048 .bf16) j = at2 (A1 m c) (j 0).val (j 1).val := by
  unfold iblk
  rw [View.read_apply]
  refine eq_at2 (A1 m c) _ ?_ ?_
  · show win0_1.index t 0 * 2048 + 1 * (j 0).val = _; rw [(idx1 t).1]; omega
  · show win0_1.index t 1 * 2048 + 1 * (j 1).val = _; rw [(idx1 t).2]; omega

theorem blk2_at (c : Dev nD) (t : Fin cfg0.N) (j : S256x2048.Idx) :
    (iblk m c 2 t : Vec Ideal S256x2048 .f32) j = at2 (A2 m c) (256 * t.val + (j 0).val) (j 1).val := by
  unfold iblk
  rw [View.read_apply]
  refine eq_at2 (A2 m c) _ ?_ ?_
  · show win0_2.index t 0 * 256 + 1 * (j 0).val = _; rw [(idx2 t).1]; omega
  · show win0_2.index t 1 * 2048 + 1 * (j 1).val = _; rw [(idx2 t).2]; omega

theorem blk3_at (c : Dev nD) (t : Fin cfg0.N) (j : S256x2048.Idx) :
    (iblk m c 3 t : Vec Ideal S256x2048 .f32) j = at2 (A3 m c) (256 * t.val + (j 0).val) (j 1).val := by
  unfold iblk
  rw [View.read_apply]
  refine eq_at2 (A3 m c) _ ?_ ?_
  · show win0_3.index t 0 * 256 + 1 * (j 0).val = _; rw [(idx3 t).1]; omega
  · show win0_3.index t 1 * 2048 + 1 * (j 1).val = _; rw [(idx3 t).2]; omega

theorem blk4_at (c : Dev nD) (t : Fin cfg0.N) (j : S1x2048.Idx) :
    (iblk m c 4 t : Vec Ideal S1x2048 .f32) j = at2 (A4 m c) (j 0).val (j 1).val := by
  unfold iblk
  rw [View.read_apply]
  refine eq_at2 (A4 m c) _ ?_ ?_
  · show win0_4.index t 0 * 1 + 1 * (j 0).val = _; rw [(idx4 t).1]; omega
  · show win0_4.index t 1 * 2048 + 1 * (j 1).val = _; rw [(idx4 t).2]; omega

/-! ## What the blocks hold of the rows -/

theorem grow_eq (c : Dev nD) (t : Fin cfg0.N) : (fun k => (iblk m c 4 t : Vec Ideal S1x2048 .f32) (ix2 0 k)) = grow (A4 m c) := by
  funext k
  rw [blk4_at]
  rfl

theorem oB_eq (c : Dev nD) (t : Fin cfg0.N) (p : Fin 256) (n : Fin 2048) :
    oB (iblk m c 0 t) (iblk m c 1 t) (ix2 p n) = orow (A0 m c) (A1 m c) (256 * t.val + p.val) n := by
  unfold oB orow
  refine sum_fin _ _ fun k => ?_
  rw [blk0_at, blk1_at]
  rfl

theorem orow_eq (c : Dev nD) (t : Fin cfg0.N) (p : Fin 256) :
    (fun k => oB (iblk m c 0 t) (iblk m c 1 t) (ix2 p k)) = orow (A0 m c) (A1 m c) (256 * t.val + p.val) :=
  funext fun k => oB_eq m c t p k

theorem yB_eq (c : Dev nD) (t : Fin cfg0.N) (p : Fin 256) (n : Fin 2048) :
    yB (iblk m c 0 t) (iblk m c 1 t) (ix2 p n) = yrow (A0 m c) (A1 m c) (256 * t.val + p.val) n := by
  show oB (iblk m c 0 t) (iblk m c 1 t) (ix2 p n) * rinv (fun k => oB (iblk m c 0 t) (iblk m c 1 t) (ix2 p k)) = _
  rw [orow_eq, oB_eq]
  rfl

theorem eB_eq (c : Dev nD) (t : Fin cfg0.N) (p : Fin 256) (n : Fin 2048) :
    eB (iblk m c 0 t) (iblk m c 1 t) (iblk m c 2 t) (iblk m c 3 t) (iblk m c 4 t) (ix2 p n) = erow (A0 m c) (A1 m c) (A2 m c) (A3 m c) (A4 m c) (256 * t.val + p.val) n := by
  exact congrArg₂ (· - ·) (congrArg₂ (· + ·) (blk2_at m c t _) (congrArg₂ (· * ·) (yB_eq m c t p n) (blk4_at m c t _))) (blk3_at m c t _)

theorem dB_eq (c : Dev nD) (t : Fin cfg0.N) (p : Fin 256) (n : Fin 2048) :
    dB (iblk m c 0 t) (iblk m c 1 t) (iblk m c 2 t) (iblk m c 3 t) (iblk m c 4 t) (ix2 p n) = drow (A0 m c) (A1 m c) (A2 m c) (A3 m c) (A4 m c) (256 * t.val + p.val) n := by
  show eB (iblk m c 0 t) (iblk m c 1 t) (iblk m c 2 t) (iblk m c 3 t) (iblk m c 4 t) (ix2 p n) * sc = _
  rw [eB_eq]
  rfl

theorem doB_eq (c : Dev nD) (t : Fin cfg0.N) (p : Fin 256) (n : Fin 2048) :
    doB (iblk m c 0 t) (iblk m c 1 t) (iblk m c 2 t) (iblk m c 3 t) (iblk m c 4 t) (ix2 p n) = dorow (A0 m c) (A1 m c) (A2 m c) (A3 m c) (A4 m c) (256 * t.val + p.val) n := by
  show nbwd (fun k => oB (iblk m c 0 t) (iblk m c 1 t) (ix2 p k)) (fun k => dB (iblk m c 0 t) (iblk m c 1 t) (iblk m c 2 t) (iblk m c 3 t) (iblk m c 4 t) (ix2 p k))
    (fun k => (iblk m c 4 t : Vec Ideal S1x2048 .f32) (ix2 0 k)) n = _
  rw [orow_eq, grow_eq, show (fun k => dB (iblk m c 0 t) (iblk m c 1 t) (iblk m c 2 t) (iblk m c 3 t) (iblk m c 4 t) (ix2 p k)) = _ from funext fun k => dB_eq m c t p k]
  rfl

theorem mB_eq (c : Dev nD) (t : Fin cfg0.N) (j : S256x2048.Idx) :
    mB (iblk m c 0 t) (iblk m c 1 t) (iblk m c 2 t) (iblk m c 3 t) (iblk m c 4 t) j = mrow (A0 m c) (A1 m c) (A2 m c) (A3 m c) (A4 m c) (256 * t.val + (j 0).val) (j 1) := by
  unfold mB mrow
  refine Finset.sum_congr rfl fun k _ => congrArg₂ (· * ·) (doB_eq m c t (j 0) k) ?_
  rw [blk1_at]
  rfl

/-! ## What each point leaves -/

theorem eta2 {a b : Nat} (j : (⟨2, ![a, b]⟩ : Shape).Idx) : j = ix2 (j 0) (j 1) :=
  funext fun a => by match a with | ⟨0, _⟩ => rfl | ⟨1, _⟩ => rfl

theorem outs6 (c : Dev nD) (t : Fin cfg0.N) (j : S256x2048.Idx) : (outsAt0 m c t.val t.isLt).2.1 j
    = drow (A0 m c) (A1 m c) (A2 m c) (A3 m c) (A4 m c) (256 * t.val + (j 0).val) (j 1) := by
  by_cases h0 : t.val % 16 = 0
  · rw [outsAt0_A m c t h0]
    dsimp only
    rw [out_A6]
    exact (congrArg _ (eta2 j)).trans (dB_eq m c t (j 0) (j 1))
  · rw [outsAt0_B m c t h0]
    dsimp only
    rw [out_B6]
    exact (congrArg _ (eta2 j)).trans (dB_eq m c t (j 0) (j 1))

theorem outs7 (c : Dev nD) (t : Fin cfg0.N) (j : S256x2048.Idx) : (outsAt0 m c t.val t.isLt).2.2.1 j
    = dorow (A0 m c) (A1 m c) (A2 m c) (A3 m c) (A4 m c) (256 * t.val + (j 0).val) (j 1) := by
  by_cases h0 : t.val % 16 = 0
  · rw [outsAt0_A m c t h0]
    dsimp only
    rw [out_A7]
    exact (congrArg _ (eta2 j)).trans (doB_eq m c t (j 0) (j 1))
  · rw [outsAt0_B m c t h0]
    dsimp only
    rw [out_B7]
    exact (congrArg _ (eta2 j)).trans (doB_eq m c t (j 0) (j 1))

theorem outs8 (c : Dev nD) (t : Fin cfg0.N) (j : S256x2048.Idx) : (outsAt0 m c t.val t.isLt).2.2.2.1 j
    = mrow (A0 m c) (A1 m c) (A2 m c) (A3 m c) (A4 m c) (256 * t.val + (j 0).val) (j 1) := by
  by_cases h0 : t.val % 16 = 0
  · rw [outsAt0_A m c t h0]
    dsimp only
    rw [out_A8]
    exact mB_eq m c t j
  · rw [outsAt0_B m c t h0]
    dsimp only
    rw [out_B8]
    exact mB_eq m c t j

theorem lB_eq (c : Dev nD) (t : Fin cfg0.N) :
    LOSS (A0 m c) (A1 m c) (A2 m c) (A3 m c) (A4 m c) (256 * t.val) + lB (iblk m c 0 t) (iblk m c 1 t) (iblk m c 2 t) (iblk m c 3 t) (iblk m c 4 t) = LOSS (A0 m c) (A1 m c) (A2 m c) (A3 m c) (A4 m c) (256 * (t.val + 1)) := by
  unfold LOSS lB
  rw [show 256 * (t.val + 1) = 256 * t.val + 256 by omega, sum_append]
  refine congrArg₂ (· + ·) rfl ?_
  rw [sum_mul_nonneg _ _ (fun p => Finset.sum_nonneg fun _ _ => sq_nonneg' _)]
  refine sum_fin _ _ fun p => ?_
  unfold srow
  refine congrArg₂ (· * ·) (Finset.sum_congr rfl fun k _ => ?_) rfl
  rw [eB_eq]

theorem gB_eq (c : Dev nD) (t : Fin cfg0.N) (n : Fin 2048) :
    gsum (A0 m c) (A1 m c) (A2 m c) (A3 m c) (A4 m c) (256 * t.val) n + gB (iblk m c 0 t) (iblk m c 1 t) (iblk m c 2 t) (iblk m c 3 t) (iblk m c 4 t) n = gsum (A0 m c) (A1 m c) (A2 m c) (A3 m c) (A4 m c) (256 * (t.val + 1)) n := by
  unfold gsum gB
  rw [show 256 * (t.val + 1) = 256 * t.val + 256 by omega, sum_append]
  refine congrArg₂ (· + ·) rfl ?_
  refine sum_fin _ _ fun p => ?_
  rw [dB_eq, yB_eq]

/-- One body: what the first row held, and this point's 256 rows. -/
theorem step (c : Dev nD) (t : Fin cfg0.N) (xp : Fin 8 → Fin 2048 → EReal) (j : S8x2048.Idx)
    (h : ∀ p q, xp p q = GG (A0 m c) (A1 m c) (A2 m c) (A3 m c) (A4 m c) (256 * t.val) (ix2 p q)) :
    ggB (iblk m c 0 t) (iblk m c 1 t) (iblk m c 2 t) (iblk m c 3 t) (iblk m c 4 t) xp j = GG (A0 m c) (A1 m c) (A2 m c) (A3 m c) (A4 m c) (256 * (t.val + 1)) j := by
  unfold ggB
  by_cases h0 : (j 0).val = 0
  · rw [if_pos h0]
    refine (congrArg (· + gB (iblk m c 0 t) (iblk m c 1 t) (iblk m c 2 t) (iblk m c 3 t) (iblk m c 4 t) (j 1)) (h 0 (j 1))).trans ?_
    unfold GG
    rw [if_pos h0, if_pos (by rfl)]
    exact gB_eq m c t (j 1)
  · rw [if_neg h0]
    refine (h (j 0) (j 1)).trans ?_
    unfold GG
    rw [if_neg h0]
    exact if_neg h0

theorem acc_eq (c : Dev nD) : ∀ (n : ℕ) (hn : n < cfg0.N),
    (∀ j : S8x128.Idx, (outsAt0 m c n hn).1 j = LOSS (A0 m c) (A1 m c) (A2 m c) (A3 m c) (A4 m c) (256 * (n + 1)))
      ∧ ∀ j : S8x2048.Idx, (outsAt0 m c n hn).2.2.2.2 j = GG (A0 m c) (A1 m c) (A2 m c) (A3 m c) (A4 m c) (256 * (n + 1)) j := by
  intro n
  induction n with
  | zero =>
    intro hn
    have := outsAt0_A m c ⟨0, hn⟩ (by rfl)
    rw [show outsAt0 m c 0 hn = _ from this]
    dsimp only
    refine ⟨fun j => ?_, fun j => ?_⟩
    · rw [out_A5]
      exact lB_eq m c ⟨0, hn⟩
    · rw [out_A9]
      refine step m c ⟨0, hn⟩ _ j fun p q => ?_
      show (0 : EReal) = if p.val = 0 then ∑ r ∈ Finset.range (256 * 0), _ else (0 : EReal)
      split <;> rfl
  | succ n ih =>
    intro hn
    have hN : cfg0.N = 16 := N_0
    have h0 : ¬(n + 1) % 16 = 0 := by omega
    rw [show outsAt0 m c (n + 1) hn = _ from outsAt0_B m c ⟨n + 1, hn⟩ h0]
    dsimp only
    refine ⟨fun j => ?_, fun j => ?_⟩
    · rw [out_B5]
      refine (congrArg (· + lB (iblk m c 0 ⟨n + 1, hn⟩) (iblk m c 1 ⟨n + 1, hn⟩) (iblk m c 2 ⟨n + 1, hn⟩) (iblk m c 3 ⟨n + 1, hn⟩) (iblk m c 4 ⟨n + 1, hn⟩))
        ((ih (Nat.lt_of_succ_lt hn)).1 j)).trans ?_
      exact lB_eq m c ⟨n + 1, hn⟩
    · rw [out_B9]
      exact step m c ⟨n + 1, hn⟩ _ j fun p q => (ih (Nat.lt_of_succ_lt hn)).2 (ix2 p q)

/-! ## The arrays after the run -/

theorem flushed6_eq (c : Dev nD) (t : Fin cfg0.N) (hf : (cfg0.win 6).flush t = true) :
    (dats m 0 c).flushed 6 t = ((cfg0.win 6).blk t).view.read (Elt Ideal) (DOUT (A0 m c) (A1 m c) (A2 m c) (A3 m c) (A4 m c)) := by
  rw [Value.flushed6]
  funext j
  rw [View.read_apply]
  show (outsAt0 m c t.val t.isLt).2.1 _ = DOUT (A0 m c) (A1 m c) (A2 m c) (A3 m c) (A4 m c) _
  rw [outs6]
  have e0 : (((cfg0.win 6).blk t).view.emb j 0).val = 256 * t.val + (j 0).val := by
    show win0_6.index t 0 * 256 + 1 * (j 0).val = _; rw [(idx6 t).1]; omega
  have e1 : ((cfg0.win 6).blk t).view.emb j 1 = (j 1 : Fin 2048) := Fin.ext (by
    show win0_6.index t 1 * 2048 + 1 * (j 1).val = (j 1).val; rw [(idx6 t).2]; omega)
  unfold DOUT
  rw [e0, e1]

theorem flushed7_eq (c : Dev nD) (t : Fin cfg0.N) (hf : (cfg0.win 7).flush t = true) :
    (dats m 0 c).flushed 7 t = ((cfg0.win 7).blk t).view.read (Elt Ideal) (DO (A0 m c) (A1 m c) (A2 m c) (A3 m c) (A4 m c)) := by
  rw [Value.flushed7]
  funext j
  rw [View.read_apply]
  show (outsAt0 m c t.val t.isLt).2.2.1 _ = DO (A0 m c) (A1 m c) (A2 m c) (A3 m c) (A4 m c) _
  rw [outs7]
  have e0 : (((cfg0.win 7).blk t).view.emb j 0).val = 256 * t.val + (j 0).val := by
    show win0_7.index t 0 * 256 + 1 * (j 0).val = _; rw [(idx7 t).1]; omega
  have e1 : ((cfg0.win 7).blk t).view.emb j 1 = (j 1 : Fin 2048) := Fin.ext (by
    show win0_7.index t 1 * 2048 + 1 * (j 1).val = (j 1).val; rw [(idx7 t).2]; omega)
  unfold DO
  rw [e0, e1]

theorem flushed8_eq (c : Dev nD) (t : Fin cfg0.N) (hf : (cfg0.win 8).flush t = true) :
    (dats m 0 c).flushed 8 t = ((cfg0.win 8).blk t).view.read (Elt Ideal) (DMIX (A0 m c) (A1 m c) (A2 m c) (A3 m c) (A4 m c)) := by
  rw [Value.flushed8]
  funext j
  rw [View.read_apply]
  show (outsAt0 m c t.val t.isLt).2.2.2.1 _ = DMIX (A0 m c) (A1 m c) (A2 m c) (A3 m c) (A4 m c) _
  rw [outs8]
  have e0 : (((cfg0.win 8).blk t).view.emb j 0).val = 256 * t.val + (j 0).val := by
    show win0_8.index t 0 * 256 + 1 * (j 0).val = _; rw [(idx8 t).1]; omega
  have e1 : ((cfg0.win 8).blk t).view.emb j 1 = (j 1 : Fin 2048) := Fin.ext (by
    show win0_8.index t 1 * 2048 + 1 * (j 1).val = (j 1).val; rw [(idx8 t).2]; omega)
  unfold DMIX
  rw [e0, e1]

theorem flushed5_eq (c : Dev nD) (t : Fin cfg0.N) (hf : (cfg0.win 5).flush t = true) :
    (dats m 0 c).flushed 5 t = ((cfg0.win 5).blk t).view.read (Elt Ideal) (LARR (A0 m c) (A1 m c) (A2 m c) (A3 m c) (A4 m c)) := by
  have h15 : t.val % 16 = 15 := (flush0_5 t).mp hf
  have hN : cfg0.N = 16 := N_0
  have ht : t.val < cfg0.N := t.isLt
  rw [Value.flushed5]
  funext j
  rw [View.read_apply]
  refine Eq.trans (b := LOSS (A0 m c) (A1 m c) (A2 m c) (A3 m c) (A4 m c) 4096) ?_ rfl
  refine ((acc_eq m c t.val t.isLt).1 _).trans ?_
  rw [show 256 * (t.val + 1) = 4096 by omega]

theorem flushed9_eq (c : Dev nD) (t : Fin cfg0.N) (hf : (cfg0.win 9).flush t = true) :
    (dats m 0 c).flushed 9 t = ((cfg0.win 9).blk t).view.read (Elt Ideal) (GG (A0 m c) (A1 m c) (A2 m c) (A3 m c) (A4 m c) 4096) := by
  have h15 : t.val % 16 = 15 := (flush0_9 t).mp hf
  have hN : cfg0.N = 16 := N_0
  have ht : t.val < cfg0.N := t.isLt
  rw [Value.flushed9]
  funext j
  rw [View.read_apply]
  show (outsAt0 m c t.val t.isLt).2.2.2.2 _ = GG (A0 m c) (A1 m c) (A2 m c) (A3 m c) (A4 m c) 4096 _
  rw [(acc_eq m c t.val t.isLt).2, show 256 * (t.val + 1) = 4096 by omega]
  refine congrArg (GG (A0 m c) (A1 m c) (A2 m c) (A3 m c) (A4 m c) 4096) (funext fun a => Fin.ext ?_)
  match a with
  | ⟨0, _⟩ => show (j 0).val = win0_9.index t 0 * 8 + 1 * (j 0).val; rw [(idx9 t).1]; omega
  | ⟨1, _⟩ => show (j 1).val = win0_9.index t 1 * 2048 + 1 * (j 1).val; rw [(idx9 t).2]; omega

/-- The point that writes back the rows an index lies in, and the last point. -/
def pt (i : S4096x2048.Idx) : Fin cfg0.N := ⟨(i 0).val / 256, by
  have h0 : (i 0).val < 4096 := (i 0).isLt
  have hN : cfg0.N = 16 := N_0
  rw [hN]; omega⟩
def lastPt : Fin cfg0.N := ⟨15, by have hN : cfg0.N = 16 := N_0; omega⟩

theorem final5 (c : Dev nD) : (dats m 0 c).arrAt 5 cfg0.N = LARR (A0 m c) (A1 m c) (A2 m c) (A3 m c) (A4 m c) :=
  (dats m 0 c).arrAt_eq_of_cover 5 (LARR (A0 m c) (A1 m c) (A2 m c) (A3 m c) (A4 m c)) (flushed5_eq m c) fun i =>
    ⟨lastPt, (flush0_5 _).mpr rfl, by
      have h0 : (i 0).val < 8 := (i 0).isLt
      have h1 : (i 1).val < 128 := (i 1).isLt
      show i ∈ ((View.whole main_v0_0).slice (win0_5.rect lastPt)).set
      rw [View.set_slice_whole, Rect.mem_set_unit]
      intro a
      match a with
      | ⟨0, _⟩ => show win0_5.index lastPt 0 * 8 ≤ (i 0 : Nat) ∧ (i 0 : Nat) < win0_5.index lastPt 0 * 8 + 8
                  rw [(idx5 _).1]; omega
      | ⟨1, _⟩ => show win0_5.index lastPt 1 * 128 ≤ (i 1 : Nat) ∧ (i 1 : Nat) < win0_5.index lastPt 1 * 128 + 128
                  rw [(idx5 _).2]; omega⟩

theorem final6 (c : Dev nD) : (dats m 0 c).arrAt 6 cfg0.N = DOUT (A0 m c) (A1 m c) (A2 m c) (A3 m c) (A4 m c) :=
  (dats m 0 c).arrAt_eq_of_cover 6 (DOUT (A0 m c) (A1 m c) (A2 m c) (A3 m c) (A4 m c)) (flushed6_eq m c) fun i =>
    ⟨pt i, flush0_6 _, by
      have h0 : (i 0).val < 4096 := (i 0).isLt
      have h1 : (i 1).val < 2048 := (i 1).isLt
      have hv : (pt i).val = (i 0).val / 256 := rfl
      show i ∈ ((View.whole main_v0_1).slice (win0_6.rect (pt i))).set
      rw [View.set_slice_whole, Rect.mem_set_unit]
      intro a
      match a with
      | ⟨0, _⟩ => show win0_6.index (pt i) 0 * 256 ≤ (i 0 : Nat) ∧ (i 0 : Nat) < win0_6.index (pt i) 0 * 256 + 256
                  rw [(idx6 _).1]; omega
      | ⟨1, _⟩ => show win0_6.index (pt i) 1 * 2048 ≤ (i 1 : Nat) ∧ (i 1 : Nat) < win0_6.index (pt i) 1 * 2048 + 2048
                  rw [(idx6 _).2]; omega⟩

theorem final7 (c : Dev nD) : (dats m 0 c).arrAt 7 cfg0.N = DO (A0 m c) (A1 m c) (A2 m c) (A3 m c) (A4 m c) :=
  (dats m 0 c).arrAt_eq_of_cover 7 (DO (A0 m c) (A1 m c) (A2 m c) (A3 m c) (A4 m c)) (flushed7_eq m c) fun i =>
    ⟨pt i, flush0_7 _, by
      have h0 : (i 0).val < 4096 := (i 0).isLt
      have h1 : (i 1).val < 2048 := (i 1).isLt
      have hv : (pt i).val = (i 0).val / 256 := rfl
      show i ∈ ((View.whole main_v0_2).slice (win0_7.rect (pt i))).set
      rw [View.set_slice_whole, Rect.mem_set_unit]
      intro a
      match a with
      | ⟨0, _⟩ => show win0_7.index (pt i) 0 * 256 ≤ (i 0 : Nat) ∧ (i 0 : Nat) < win0_7.index (pt i) 0 * 256 + 256
                  rw [(idx7 _).1]; omega
      | ⟨1, _⟩ => show win0_7.index (pt i) 1 * 2048 ≤ (i 1 : Nat) ∧ (i 1 : Nat) < win0_7.index (pt i) 1 * 2048 + 2048
                  rw [(idx7 _).2]; omega⟩

theorem final8 (c : Dev nD) : (dats m 0 c).arrAt 8 cfg0.N = DMIX (A0 m c) (A1 m c) (A2 m c) (A3 m c) (A4 m c) :=
  (dats m 0 c).arrAt_eq_of_cover 8 (DMIX (A0 m c) (A1 m c) (A2 m c) (A3 m c) (A4 m c)) (flushed8_eq m c) fun i =>
    ⟨pt i, flush0_8 _, by
      have h0 : (i 0).val < 4096 := (i 0).isLt
      have h1 : (i 1).val < 2048 := (i 1).isLt
      have hv : (pt i).val = (i 0).val / 256 := rfl
      show i ∈ ((View.whole main_v0_3).slice (win0_8.rect (pt i))).set
      rw [View.set_slice_whole, Rect.mem_set_unit]
      intro a
      match a with
      | ⟨0, _⟩ => show win0_8.index (pt i) 0 * 256 ≤ (i 0 : Nat) ∧ (i 0 : Nat) < win0_8.index (pt i) 0 * 256 + 256
                  rw [(idx8 _).1]; omega
      | ⟨1, _⟩ => show win0_8.index (pt i) 1 * 2048 ≤ (i 1 : Nat) ∧ (i 1 : Nat) < win0_8.index (pt i) 1 * 2048 + 2048
                  rw [(idx8 _).2]; omega⟩

theorem final9 (c : Dev nD) : (dats m 0 c).arrAt 9 cfg0.N = GG (A0 m c) (A1 m c) (A2 m c) (A3 m c) (A4 m c) 4096 :=
  (dats m 0 c).arrAt_eq_of_cover 9 (GG (A0 m c) (A1 m c) (A2 m c) (A3 m c) (A4 m c) 4096) (flushed9_eq m c) fun i =>
    ⟨lastPt, (flush0_9 _).mpr rfl, by
      have h0 : (i 0).val < 8 := (i 0).isLt
      have h1 : (i 1).val < 2048 := (i 1).isLt
      show i ∈ ((View.whole main_v0_4).slice (win0_9.rect lastPt)).set
      rw [View.set_slice_whole, Rect.mem_set_unit]
      intro a
      match a with
      | ⟨0, _⟩ => show win0_9.index lastPt 0 * 8 ≤ (i 0 : Nat) ∧ (i 0 : Nat) < win0_9.index lastPt 0 * 8 + 8
                  rw [(idx9 _).1]; omega
      | ⟨1, _⟩ => show win0_9.index lastPt 1 * 2048 ≤ (i 1 : Nat) ∧ (i 1 : Nat) < win0_9.index lastPt 1 * 2048 + 2048
                  rw [(idx9 _).2]; omega⟩

/-- Every run ends with the five results at these values and the operands as they were. -/
theorem run : θ_run defs (onTc (τ := τ) (main (F := Ideal))) ⟨m, fun _ => 0, ρ⟩ fun r => ∀ c : Dev nD,
      r.2.mem ((c : Thread nD τ).loc main_v0_0) = LARR (A0 m c) (A1 m c) (A2 m c) (A3 m c) (A4 m c)
      ∧ r.2.mem ((c : Thread nD τ).loc main_v0_1) = DOUT (A0 m c) (A1 m c) (A2 m c) (A3 m c) (A4 m c)
      ∧ r.2.mem ((c : Thread nD τ).loc main_v0_2) = DO (A0 m c) (A1 m c) (A2 m c) (A3 m c) (A4 m c)
      ∧ r.2.mem ((c : Thread nD τ).loc main_v0_3) = DMIX (A0 m c) (A1 m c) (A2 m c) (A3 m c) (A4 m c)
      ∧ r.2.mem ((c : Thread nD τ).loc main_v0_4) = GG (A0 m c) (A1 m c) (A2 m c) (A3 m c) (A4 m c) 4096
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2.1.trans (final6 m c), (h c).2.2.1.trans (final7 m c),
      (h c).2.2.2.1.trans (final8 m c), (h c).2.2.2.2.1.trans (final9 m c), (h c).2.2.2.2.2⟩)
    (Value.run_blocks m ρ)

end Cert.Kernel5Ideal.Val

end
-- ==== Proof.OutProj.Ref.lean ====
/-
  The output projection with the loss head: what the reference's stages are at an index.
-/
module

public import proofs.«01_k».proof.Proof.OutProj.Rows
public import proofs.«01_k».proof.Proof.Shared.Finite
public import proofs.«01_k».proof.Proof.Gen.Reference5Ideal.Read
public import Idealize.ShloMosaic.Lib.Pointwise

@[expose] public section

noncomputable section

namespace Cert.Reference5Ideal.Val

open Cert.Reference5Ideal Cert.Reference5Ideal.Gen Cert.Reference5Ideal.Read Cert.Shared Cert.OutProj Idealize.ShloMosaic Idealize.ShloMosaic.TcCoe Idealize.SL.Sem

variable (x0 : Vec Ideal S4096x2048 .bf16) (x1 : Vec Ideal S2048x2048 .bf16) (x2 x3 : Vec Ideal S4096x2048 .f32) (x4 : Vec Ideal S1x2048 .f32)

theorem v2_at (i : S4096x2048.Idx) : val_main_v2 (F := Ideal) x0 x1 i = orow x0 x1 (i 0).val (i 1) := by
  rw [val_main_v2_apply]
  refine sum_fin _ _ fun k => ?_
  rw [val_main_v1_apply, val_main_v0_apply, Ideal.extf_def, Ideal.extf_def]
  exact congrArg₂ (· * ·) (eq_at2 (a := 4096) (b := 2048) x0 _ rfl rfl) (eq_at2 (a := 2048) (b := 2048) x1 _ rfl rfl)

theorem v4_at (i : S4096.Idx) : val_main_v4 (F := Ideal) x0 x1 i = ∑ k, orow x0 x1 (i 0).val k * orow x0 x1 (i 0).val k := by
  rw [val_main_v4_apply, val_main_cst_apply]
  simp only [Ideal.ofBits_def, Ideal.ofBits_zero_f32, zero_add]
  refine Finset.sum_congr rfl fun k _ => ?_
  rw [val_main_v3_apply, v2_at, Ideal.mulf_def]
  rfl

theorem v9_at (i : S4096x1.Idx) : val_main_v9 (F := Ideal) x0 x1 i = msq (orow x0 x1 (i 0).val) + eps := by
  rw [val_main_v9_apply, val_main_v8_apply, val_main_cst_1_apply, val_main_v7_apply, val_main_v6_apply, val_main_cst_0_apply,
    val_main_v5_apply, v4_at]
  rfl

theorem v10_at (i : S4096x1.Idx) : val_main_v10 (F := Ideal) x0 x1 i = rinv (orow x0 x1 (i 0).val) := by
  rw [val_main_v10_apply, v9_at]
  rfl

theorem v13_at (i : S4096x1.Idx) : val_main_v13 (F := Ideal) x0 x1 i
    = Ideal.ofBits FTy.f32 0xBF000000#32 * Ideal.div (rinv (orow x0 x1 (i 0).val)) (msq (orow x0 x1 (i 0).val) + eps) := by
  rw [val_main_v13_apply, val_main_v12_apply, val_main_cst_2_apply, val_main_v11_apply, v10_at, v9_at]
  rfl

theorem v15_at (i : S4096x2048.Idx) : val_main_v15 (F := Ideal) x0 x1 i = yrow x0 x1 (i 0).val (i 1) := by
  rw [val_main_v15_apply, val_main_v14_apply, v10_at, v2_at]
  rfl

theorem v19_at (i : S4096x2048.Idx) : val_main_v19 (F := Ideal) x0 x1 x2 x3 x4 i = erow x0 x1 x2 x3 x4 (i 0).val (i 1) := by
  rw [val_main_v19_apply, val_main_v18_apply, val_main_v17_apply, val_main_v16_apply, v15_at]
  have e2 : x2 i = at2 (a := 4096) (b := 2048) x2 (i 0).val (i 1).val := eq_at2 (a := 4096) (b := 2048) x2 _ rfl rfl
  have e3 : x3 i = at2 (a := 4096) (b := 2048) x3 (i 0).val (i 1).val := eq_at2 (a := 4096) (b := 2048) x3 _ rfl rfl
  have e4 : x4 (idx_main_v16 i) = grow x4 (i 1) := eq_at2 (a := 1) (b := 2048) x4 _ rfl rfl
  rw [e2, e3, e4]
  rfl

theorem v23_at (i : S4096.Idx) : val_main_v23 (F := Ideal) x0 x1 x2 x3 x4 i = srow x0 x1 x2 x3 x4 (i 0).val := by
  rw [val_main_v23_apply, val_main_cst_4_apply]
  simp only [Ideal.ofBits_def, Ideal.ofBits_zero_f32, zero_add]
  refine Finset.sum_congr rfl fun k _ => ?_
  rw [val_main_v20_apply, v19_at, Ideal.mulf_def]
  rfl

theorem v25_at (i : S4096.Idx) : val_main_v25 (F := Ideal) x0 x1 x2 x3 x4 i
    = Ideal.div (srow x0 x1 x2 x3 x4 (i 0).val) (Ideal.ofBits FTy.f32 0x45000000#32) := by
  rw [val_main_v25_apply, v23_at, val_main_v24_apply, val_main_cst_5_apply]
  rfl

/-- A sum over the indices of a list is the sum over its positions. -/
theorem sum_list (f : S4096.Idx → EReal) : ∑ j, f j = ∑ r : Fin 4096, f (ix1 r) :=
  Fintype.sum_equiv (⟨fun j => j 0, fun r => ix1 r, fun j => ix1_eta j, fun _ => rfl⟩ : S4096.Idx ≃ Fin 4096) _ _ fun j => congrArg f (eq_ix1 j)

theorem v56_at (i : S8x128.Idx) : val_main_v56 (F := Ideal) x0 x1 x2 x3 x4 i = LARR x0 x1 x2 x3 x4 i := by
  rw [val_main_v56_apply, val_main_v27_apply, val_main_cst_7_apply, val_main_v26_apply, val_main_cst_6_apply]
  simp only [Ideal.ofBits_def, Ideal.ofBits_zero_f32, zero_add, Ideal.mulf_def]
  rw [sum_list]
  refine Eq.trans (congrArg (Ideal.ofBits FTy.f32 0x3F000000#32 * ·) ?_) (loss_scale (srow x0 x1 x2 x3 x4) (srow_nonneg x0 x1 x2 x3 x4) 4096)
  refine sum_fin _ _ fun r => ?_
  rw [v25_at]
  rfl

theorem v33_at (i : S4096x2048.Idx) : val_main_v33 (F := Ideal) x0 x1 x2 x3 x4 i = drow x0 x1 x2 x3 x4 (i 0).val (i 1) := by
  rw [val_main_v33_apply, val_main_v32_apply, val_main_v31_apply, val_main_v30_apply, val_main_cst_10_apply, val_main_v29_apply, val_main_v28_apply,
    val_main_cst_8_apply, val_main_cst_9_apply, val_main_v22_apply, val_main_v21_apply, val_main_cst_3_apply, v19_at]
  exact scale_eq _

theorem v36_at (i : S1x2048.Idx) : val_main_v36 (F := Ideal) x0 x1 x2 x3 x4 i = gsum x0 x1 x2 x3 x4 4096 (i 1) := by
  rw [val_main_v36_apply, val_main_v35_apply, val_main_cst_11_apply]
  simp only [Ideal.ofBits_def, Ideal.ofBits_zero_f32, zero_add]
  refine sum_fin _ _ fun k => ?_
  rw [val_main_v34_apply, v15_at, v33_at, Ideal.mulf_def, mul_comm]
  have h0 : (i 0).val < 1 := (i 0).isLt
  have h0' : (idx_main_v35 (idx_main_v36 i) k 0).val = k.val := rfl
  have h1' : idx_main_v35 (idx_main_v36 i) k 1 = (i 1 : Fin 2048) := Fin.ext (by
    show (i 0).val * 2048 + (i 1).val = (i 1).val; omega)
  rw [h0', h1']

theorem v58_at (i : S8x2048.Idx) : val_main_v58 (F := Ideal) x0 x1 x2 x3 x4 i = GG x0 x1 x2 x3 x4 4096 i := by
  idx_vars i
  unfold val_main_v58
  pointwise
  by_cases h : i0.val = 0
  · exact (dif_pos (show i0.val < 1 by omega)).trans ((v36_at x0 x1 x2 x3 x4 _).trans (if_pos h).symm)
  · refine (dif_neg (show ¬i0.val < 1 by omega)).trans (Eq.trans ?_ (if_neg h).symm)
    rw [val_main_v57_apply, val_main_cst_15_apply, Ideal.ofBits_def, Ideal.ofBits_zero_f32]

theorem v38_at (i : S4096x2048.Idx) : val_main_v38 (F := Ideal) x0 x1 x2 x3 x4 i = drow x0 x1 x2 x3 x4 (i 0).val (i 1) * grow x4 (i 1) := by
  rw [val_main_v38_apply, val_main_v37_apply, v33_at, Ideal.mulf_def]
  exact congrArg₂ (· * ·) rfl (eq_at2 (a := 1) (b := 2048) x4 _ rfl rfl)

theorem v48_at (i : S4096x2048.Idx) : val_main_v48 (F := Ideal) x0 x1 x2 x3 x4 i
    = nfac (orow x0 x1 (i 0).val) (drow x0 x1 x2 x3 x4 (i 0).val) (grow x4) := by
  rw [val_main_v48_apply, val_main_v47_apply, val_main_cst_14_apply]
  simp only [Ideal.ofBits_def, Ideal.ofBits_zero_f32, zero_add, Fin.sum_univ_one]
  rw [val_main_v46_apply, val_main_v45_apply, val_main_cst_13_apply, val_main_v44_apply, v13_at, val_main_v41_apply, val_main_v40_apply,
    val_main_cst_12_apply]
  simp only [Ideal.ofBits_def, Ideal.ofBits_zero_f32, zero_add, Ideal.hostDivf_def, Ideal.mulf_def]
  unfold nfac len
  refine congrArg₂ Ideal.div (congrArg₂ (· * ·) (Finset.sum_congr rfl fun k _ => ?_) rfl) rfl
  have h0 : (idx_main_v40 (idx_main_v41 (idx_main_v47 (idx_main_v48 i) 0)) k 0).val = (i 0).val := by
    show (i 0).val * 1 + 0 = (i 0).val; omega
  have h1 : idx_main_v40 (idx_main_v41 (idx_main_v47 (idx_main_v48 i) 0)) k 1 = k := rfl
  rw [val_main_v39_apply, v38_at, v2_at, Ideal.mulf_def, h0, h1]

/-- The reference's gradient through the norm. -/
def dref (r : Nat) (n : Fin 2048) : EReal :=
  drow x0 x1 x2 x3 x4 r n * grow x4 n * rinv (orow x0 x1 r)
    + orow x0 x1 r n * nfac (orow x0 x1 r) (drow x0 x1 x2 x3 x4 r) (grow x4)
    + nfac (orow x0 x1 r) (drow x0 x1 x2 x3 x4 r) (grow x4) * orow x0 x1 r n

theorem v52_at (i : S4096x2048.Idx) : val_main_v52 (F := Ideal) x0 x1 x2 x3 x4 i = dref x0 x1 x2 x3 x4 (i 0).val (i 1) := by
  rw [val_main_v52_apply, val_main_v51_apply, val_main_v50_apply, val_main_v49_apply, val_main_v43_apply, val_main_v42_apply, v38_at, v10_at, v48_at, v2_at]
  rfl

theorem v53_at (i : S4096x2048.Idx) : val_main_v53 (F := Ideal) x0 x1 x2 x3 x4 i = dref x0 x1 x2 x3 x4 (i 0).val (i 1) := by
  rw [val_main_v53_apply, v52_at]
  rfl

theorem v55_at (i : S4096x2048.Idx) : val_main_v55 (F := Ideal) x0 x1 x2 x3 x4 i
    = ∑ k : Fin 2048, dref x0 x1 x2 x3 x4 (i 0).val k * at2 (a := 2048) (b := 2048) x1 (i 1).val k.val := by
  rw [val_main_v55_apply]
  refine Finset.sum_congr rfl fun k _ => ?_
  rw [val_main_v54_apply, v53_at, val_main_v0_apply, Ideal.extf_def, Ideal.extf_def]
  exact congrArg₂ (· * ·) rfl (eq_at2 (a := 2048) (b := 2048) x1 _ rfl rfl)

/-- Over real entries the reference's gradient through the norm is the kernel's. -/
theorem dref_eq (f0 : ∀ j, ∃ r : ℝ, x0 j = (r : EReal)) (f1 : ∀ j, ∃ r : ℝ, x1 j = (r : EReal)) (f2 : ∀ j, ∃ r : ℝ, x2 j = (r : EReal))
    (f3 : ∀ j, ∃ r : ℝ, x3 j = (r : EReal)) (f4 : ∀ j, ∃ r : ℝ, x4 j = (r : EReal)) (r : Nat) (n : Fin 2048) :
    dref x0 x1 x2 x3 x4 r n = dorow x0 x1 x2 x3 x4 r n := by
  have ho : ∀ k, ∃ v : ℝ, orow x0 x1 r k = (v : EReal) := fun k => real_sum _ _ fun q => by
    obtain ⟨a, ha⟩ := real_at2 (a := 4096) (b := 2048) x0 f0 r q
    obtain ⟨b, hb⟩ := real_at2 (a := 2048) (b := 2048) x1 f1 q k.val
    exact ⟨a * b, by rw [ha, hb, EReal.coe_mul]⟩
  have hg : ∀ k, ∃ v : ℝ, grow x4 k = (v : EReal) := fun k => real_at2 (a := 1) (b := 2048) x4 f4 _ _
  choose o ho using ho
  choose g hg using hg
  have ho' : orow x0 x1 r = fun k => (o k : EReal) := funext ho
  have hd : ∀ k, ∃ v : ℝ, drow x0 x1 x2 x3 x4 r k = (v : EReal) := fun k => by
    obtain ⟨_, w, _, _, _, hw⟩ := rinv_real o
    obtain ⟨a, ha⟩ := real_at2 (a := 4096) (b := 2048) x2 f2 r k.val
    obtain ⟨b, hb⟩ := real_at2 (a := 4096) (b := 2048) x3 f3 r k.val
    refine ⟨(a + o k * w * g k - b) * (1 / 2048), ?_⟩
    unfold drow erow yrow
    rw [sc_eq, ha, hb, hg, ho', hw]
    simp only [EReal.coe_mul, EReal.coe_add, EReal.coe_sub]
  choose d hd using hd
  have h := nbwd_eq o d g n 0
  rw [zero_add, zero_add] at h
  unfold dref dorow
  rw [ho', show grow x4 = fun k => (g k : EReal) from funext hg, show drow x0 x1 x2 x3 x4 r = fun k => (d k : EReal) from funext hd]
  exact h.symm

end Cert.Reference5Ideal.Val

end
-- ==== Proof.OutProj.Claim.lean ====
/-
  The output projection with the loss head: over arrays of real numbers the two programs end with equal results.
-/
module

public import proofs.«01_k».proof.Proof.OutProj.Value
public import proofs.«01_k».proof.Proof.OutProj.Ref
public import proofs.«01_k».proof.Defs

@[expose] public section

noncomputable section

namespace Cert.Kernel5Ideal.Val

open Cert.Kernel5Ideal Cert.Kernel5Ideal.Gen Cert.Shared Cert.OutProj Idealize.ShloMosaic Idealize.ShloMosaic.TcCoe Idealize.SL.Sem

variable (m : (ℓ : Loc nD τ sig) → Buf (Elt Ideal) ℓ)

/-- What the precondition says of the entries. -/
theorem finite [hP : Cert.Pre_out_finite.Facts] (h : Cert.Pre_Kernel5Ideal_out_finite m) (c : Dev nD) :
    (∀ j, ∃ r : ℝ, A0 m c j = (r : EReal)) ∧ (∀ j, ∃ r : ℝ, A1 m c j = (r : EReal)) ∧ (∀ j, ∃ r : ℝ, A2 m c j = (r : EReal))
      ∧ (∀ j, ∃ r : ℝ, A3 m c j = (r : EReal)) ∧ ∀ j, ∃ r : ℝ, A4 m c j = (r : EReal) :=
  ⟨fun j => real_of_lt _ (congrFun (h c).1 j), fun j => real_of_lt _ (congrFun (h c).2.1 j),
    fun j => real_of_lt _ (congrFun (h c).2.2.1 j), fun j => real_of_lt _ (congrFun (h c).2.2.2.1 j), fun j => real_of_lt _ (congrFun (h c).2.2.2.2 j)⟩

end Cert.Kernel5Ideal.Val

namespace Cert.Proof

open Cert.OutProj Idealize.ShloMosaic Idealize.ShloMosaic.TcCoe Idealize.SL.Sem

theorem algebraic_out_proj [hK : Cert.Kernel5Ideal.Facts] [hR : Cert.Reference5Ideal.Facts] [hP : Cert.Pre_out_finite.Facts] :
    Cert.algebraic_Kernel5Ideal_Reference5Ideal_pre_out_finite (hKernel5Ideal := hK) (hReference5Ideal := hR) (hPre_out_finite := hP) := by
  intro m g m' g' hpre hagree
  refine ⟨fun c => LARR (Cert.Kernel5Ideal.Val.A0 m c) (Cert.Kernel5Ideal.Val.A1 m c) (Cert.Kernel5Ideal.Val.A2 m c) (Cert.Kernel5Ideal.Val.A3 m c) (Cert.Kernel5Ideal.Val.A4 m c),
    fun c => DOUT (Cert.Kernel5Ideal.Val.A0 m c) (Cert.Kernel5Ideal.Val.A1 m c) (Cert.Kernel5Ideal.Val.A2 m c) (Cert.Kernel5Ideal.Val.A3 m c) (Cert.Kernel5Ideal.Val.A4 m c),
    fun c => DO (Cert.Kernel5Ideal.Val.A0 m c) (Cert.Kernel5Ideal.Val.A1 m c) (Cert.Kernel5Ideal.Val.A2 m c) (Cert.Kernel5Ideal.Val.A3 m c) (Cert.Kernel5Ideal.Val.A4 m c),
    fun c => DMIX (Cert.Kernel5Ideal.Val.A0 m c) (Cert.Kernel5Ideal.Val.A1 m c) (Cert.Kernel5Ideal.Val.A2 m c) (Cert.Kernel5Ideal.Val.A3 m c) (Cert.Kernel5Ideal.Val.A4 m c),
    fun c => GG (Cert.Kernel5Ideal.Val.A0 m c) (Cert.Kernel5Ideal.Val.A1 m c) (Cert.Kernel5Ideal.Val.A2 m c) (Cert.Kernel5Ideal.Val.A3 m c) (Cert.Kernel5Ideal.Val.A4 m c) 4096,
    Cert.Kernel5Ideal.Val.run m g,
    (θ_run Cert.Reference5Ideal.defs _ _).mono (fun r h c => ?_) (Cert.Reference5Ideal.Value.run m' g')⟩
  obtain ⟨a0, a1, a2, a3, a4⟩ := hagree c
  obtain ⟨f0, f1, f2, f3, f4⟩ := Cert.Kernel5Ideal.Val.finite m hpre c
  refine ⟨((h c).1.trans (Cert.Reference5Ideal.Read.val_main_v56_eq _ _ _ _ _)).trans (funext fun i => ?_),
    ((h c).2.1.trans (Cert.Reference5Ideal.Read.val_main_v33_eq _ _ _ _ _)).trans (funext fun i => ?_),
    ((h c).2.2.1.trans (Cert.Reference5Ideal.Read.val_main_v53_eq _ _)).trans (funext fun i => ?_),
    ((h c).2.2.2.1.trans (Cert.Reference5Ideal.Read.val_main_v55_eq _ _)).trans (funext fun i => ?_),
    ((h c).2.2.2.2.1.trans (Cert.Reference5Ideal.Read.val_main_v58_eq _ _ _ _ _)).trans (funext fun i => ?_), (h c).2.2.2.2.2⟩
  · rw [Cert.Reference5Ideal.Val.v56_at, a0, a1, a2, a3, a4]
  · rw [Cert.Reference5Ideal.Val.v33_at, a0, a1, a2, a3, a4]
    rfl
  · rw [Cert.Reference5Ideal.Val.v53_at, a0, a1, a2, a3, a4]
    exact Cert.Reference5Ideal.Val.dref_eq _ _ _ _ _ f0 f1 f2 f3 f4 _ _
  · rw [Cert.Reference5Ideal.Val.v55_at, a0, a1, a2, a3, a4]
    exact Eq.trans (Finset.sum_congr rfl fun k _ => congrArg (· * _) (Cert.Reference5Ideal.Val.dref_eq _ _ _ _ _ f0 f1 f2 f3 f4 _ _)) rfl
  · rw [Cert.Reference5Ideal.Val.v58_at, a0, a1, a2, a3, a4]

end Cert.Proof

end
-- ==== Proof.GateFwd.Body.lean ====
/-
  The body of the gates' forward call: what each grid point computes from the blocks it reads and from the rows the point
  before left in the buffer the short convolution looks back into.
-/
module

public import proofs.«01_k».proof.Proof.Shared.Sums
public import proofs.«01_k».proof.Proof.Shared.Row
public import proofs.«01_k».proof.Proof.Gen.Kernel6Ideal.Value
public import Idealize.ShloMosaic.Lib.WritesUnit
public import Idealize.ShloMosaic.Lib.Pipeline.ReadBack

@[expose] public section

noncomputable section

namespace Cert.Kernel6Ideal.Val

open Cert.Kernel6Ideal Cert.Kernel6Ideal.Gen Cert.Shared Idealize.ShloMosaic Idealize.ShloMosaic.TcCoe Idealize.SL.Sem
open Idealize.ShloMosaic.Pipeline (Dat)

/-! ## The body's values -/

/-- The smooth rectifier, with the constants the program has. -/
def gelu (y : EReal) : EReal :=
  (Ideal.ofBits .f32 0x3F000000#32 * y) * (Ideal.ofBits .f32 0x3F800000#32
    + Ideal.tanh (Ideal.ofBits .f32 0x3F4C422A#32 * (y + ((Ideal.ofBits .f32 0x3D372713#32 * y) * y) * y)))

def silu (z : EReal) : EReal := z * Ideal.logistic z

section
variable (h : S264x1024.Idx → EReal) (x0 x1 x2 x3 x4 x5 : Vec Ideal S256x1024 .f32) (x6 : Vec Ideal S8x1024 .f32) (x7 : Vec Ideal S1x1024 .f32)
  (x8 : Vec Ideal S1024x1024 .bf16) (x9 : Vec Ideal S1x1024 .f32)

/-- The buffer the convolution looks back into: eight rows carried, then the block's own. -/
def bufB : S264x1024.Idx → EReal := fun p =>
  if hp : (p 0).val < 8 then h p
  else (x1 (ix2 ⟨(p 0).val - 8, by have := (p 0).isLt; change (p 0).val < 264 at this; omega⟩ (p 1)) : EReal)
    * x2 (ix2 ⟨(p 0).val - 8, by have := (p 0).isLt; change (p 0).val < 264 at this; omega⟩ (p 1))

/-- The left half of the block: the gated short convolution. -/
def leftB : S256x1024.Idx → EReal := fun j =>
  (x0 j * (((x7 (ix2 (0 : Fin 1) (j 1)) + x6 (ix2 (2 : Fin 8) (j 1)) * (x1 j * x2 j))
      + x6 (ix2 (1 : Fin 8) (j 1)) * bufB h x1 x2 (ix2 ⟨(j 0).val + 7, by have := (j 0).isLt; change (j 0).val < 256 at this; omega⟩ (j 1)))
      + x6 (ix2 (0 : Fin 8) (j 1)) * bufB h x1 x2 (ix2 ⟨(j 0).val + 6, by have := (j 0).isLt; change (j 0).val < 256 at this; omega⟩ (j 1)))) * silu (x3 j)

/-- The right half: the gated linear unit over the scan's output. -/
def rightB : S256x1024.Idx → EReal := fun j =>
  (gelu (x5 j) * Ideal.logistic ((∑ k : Fin 1024, gelu (x5 (ix2 (j 0) k)) * (x8 (ix2 k (j 1)) : EReal)) + x9 (ix2 (0 : Fin 1) (j 1)))) * silu (x4 j)
end

theorem pay1_at (j : S8x1024.Idx) : (k0_pay1 (F := Ideal)) j = (0 : EReal) := by
  idx_vars j
  unfold k0_pay1
  pointwise

theorem pay3_at (v3 v4 : Vec Ideal S256x1024 .f32) (j : S256x1024.Idx) : (k0_pay3 v3 v4) j = (v3 j * v4 j : EReal) := by
  idx_vars j
  unfold k0_pay3 k0_pay2
  pointwise

theorem pay5_eq (v : FVec Ideal S256x1024 .bf16) : k0_pay5 v = v := by
  funext j
  idx_vars j
  unfold k0_pay5
  pointwise

theorem pay6_eq (v : Vec Ideal S8x1024 .f32) : k0_pay6 v = v := by
  funext j
  idx_vars j
  unfold k0_pay6
  pointwise

theorem pay4_at (v3 v4 : Vec Ideal S256x1024 .f32) (v9 v10 v15 : Vec Ideal S1x1024 .f32) (v16 : Vec Ideal S256x1024 .f32) (v20 : Vec Ideal S1x1024 .f32)
    (v21 v25 v28 : Vec Ideal S256x1024 .f32) (j : S256x1024.Idx) : (k0_pay4 v3 v4 v9 v10 v15 v16 v20 v21 v25 v28) j
      = (v28 j * (((v9 (ix2 (0 : Fin 1) (j 1)) + v10 (ix2 (0 : Fin 1) (j 1)) * (v3 j * v4 j)) + v15 (ix2 (0 : Fin 1) (j 1)) * v16 j)
          + v20 (ix2 (0 : Fin 1) (j 1)) * v21 j) * silu (v25 j) : EReal) := by
  idx_vars j
  unfold k0_pay4 k0_pay2 silu
  pointwise

theorem pay7_eq (v39 : Vec Ideal S256x1024 .f32) (v54 : Vec Ideal S1024x1024 .bf16) (v56 : Vec Ideal S1x1024 .f32) (v59 : Vec Ideal S256x1024 .f32) :
    k0_pay7 v39 v54 v56 v59 = rightB v59 v39 v54 v56 := by
  funext j
  idx_vars j
  unfold k0_pay7 rightB silu gelu
  pointwise

/-! ## The buffer the convolution looks back into -/

theorem bufB_congr {h h' : S264x1024.Idx → EReal} (x1 x2 : Vec Ideal S256x1024 .f32) (e : ∀ p, (p 0).val < 8 → h p = h' p) (p : S264x1024.Idx) :
    bufB h x1 x2 p = bufB h' x1 x2 p := by
  unfold bufB
  by_cases hp : (p 0).val < 8
  · rw [dif_pos hp, dif_pos hp, e p hp]
  · rw [dif_neg hp, dif_neg hp]

section
variable {sg : RefSig} {kd : Kind} {sp : Space} (v : View sg kd sp S264x1024 .f32) (f : v.ty.Contents (Elt Ideal)) (x1 x2 : Vec Ideal S256x1024 .f32)
  (inb : ∀ a : Fin 2, (![8, 0] : Fin 2 → Nat) a + (![256, 1024] : Fin 2 → Nat) a ≤ (![264, 1024] : Fin 2 → Nat) a)

/-- The block's rows stored, over whatever the buffer held. -/
theorem read_block (L : List (View.Piece (Elt Ideal) S264x1024 .f32)) (p : S264x1024.Idx) :
    v.read (Elt Ideal) (v.writes (Elt Ideal) f ((⟨Rect.unit (s := S264x1024) ![8, 0] ![256, 1024] inb, k0_pay3 x1 x2⟩ : View.Piece (Elt Ideal) S264x1024 .f32) :: L)) p
      = bufB (v.read (Elt Ideal) (v.writes (Elt Ideal) f L)) x1 x2 p := by
  have hb : (p 0).val < 264 := (p 0).isLt
  unfold bufB
  by_cases hp : (p 0).val < 8
  · rw [dif_pos hp]
    exact View.read_writes_cons_unit_of_not_mem (off' := ![8, 0]) v f inb _ L p rfl 0 (Or.inl hp)
  · rw [dif_neg hp]
    refine (View.read_writes_cons_unit_of_mem (off' := ![8, 0]) v f inb _ L p (ix2 ⟨(p 0).val - 8, by omega⟩ (p 1)) rfl
      (Fin.forall_fin_two.mpr ⟨?_, (Nat.zero_add _).symm⟩)).trans (pay3_at x1 x2 _)
    show (p 0).val = 8 + ((p 0).val - 8)
    omega

/-- The rows carried, stored over whatever the buffer held. -/
theorem read_carried (inb' : ∀ a : Fin 2, (![0, 0] : Fin 2 → Nat) a + (![8, 1024] : Fin 2 → Nat) a ≤ (![264, 1024] : Fin 2 → Nat) a)
    (w : Vec Ideal S8x1024 .f32) (L : List (View.Piece (Elt Ideal) S264x1024 .f32)) (p : S264x1024.Idx) (hp : (p 0).val < 8) :
    v.read (Elt Ideal) (v.writes (Elt Ideal) f ((⟨Rect.unit (s := S264x1024) ![0, 0] ![8, 1024] inb', w⟩ : View.Piece (Elt Ideal) S264x1024 .f32) :: L)) p
      = w (ix2 ⟨(p 0).val, hp⟩ (p 1)) :=
  View.read_writes_cons_unit_of_mem (off' := ![0, 0]) v f inb' w L p (ix2 ⟨(p 0).val, hp⟩ (p 1)) rfl
    (Fin.forall_fin_two.mpr ⟨(Nat.zero_add _).symm, (Nat.zero_add _).symm⟩)
end

/-- A row of the filter. -/
theorem ld_row (x6 : Vec Ideal S8x1024 .f32) (o : Nat) (ho : o < 8)
    (inb : ∀ a : Fin 2, (![o, 0] : Fin 2 → Nat) a + (![1, 1024] : Fin 2 → Nat) a ≤ (![8, 1024] : Fin 2 → Nat) a) (q : Fin 1024) :
    View.ld x6 (Rect.unit (s := S8x1024) ![o, 0] ![1, 1024] inb) (ix2 (0 : Fin 1) q) = x6 (ix2 ⟨o, ho⟩ q) :=
  congrArg x6 (funext fun a => Fin.ext (by
    match a with
    | ⟨0, _⟩ => show o + 1 * 0 = o; omega
    | ⟨1, _⟩ => show 0 + 1 * q.val = q.val; omega))

/-- A block stored in two halves, side by side. -/
theorem read_halves {sg : RefSig} {kd : Kind} {sp : Space} (v : View sg kd sp S256x2048 .bf16) (f : v.ty.Contents (Elt Ideal))
    (inb : ∀ a : Fin 2, (![0, 1024] : Fin 2 → Nat) a + (![256, 1024] : Fin 2 → Nat) a ≤ (![256, 2048] : Fin 2 → Nat) a)
    (inb' : ∀ a : Fin 2, (![0, 0] : Fin 2 → Nat) a + (![256, 1024] : Fin 2 → Nat) a ≤ (![256, 2048] : Fin 2 → Nat) a)
    (r l : S256x1024.Idx → EReal) (L : List (View.Piece (Elt Ideal) S256x2048 .bf16)) (j : S256x2048.Idx) :
    v.read (Elt Ideal) (v.writes (Elt Ideal) f ((⟨Rect.unit (s := S256x2048) ![0, 1024] ![256, 1024] inb, r⟩ : View.Piece (Elt Ideal) S256x2048 .bf16)
        :: (⟨Rect.unit (s := S256x2048) ![0, 0] ![256, 1024] inb', l⟩ : View.Piece (Elt Ideal) S256x2048 .bf16) :: L)) j
      = if hj : (j 1).val < 1024 then l (ix2 (j 0) ⟨(j 1).val, hj⟩)
        else r (ix2 (j 0) ⟨(j 1).val - 1024, by have := (j 1).isLt; change (j 1).val < 2048 at this; omega⟩) := by
  have hb : (j 1).val < 2048 := (j 1).isLt
  by_cases hj : (j 1).val < 1024
  · rw [dif_pos hj]
    exact (View.read_writes_cons_unit_of_not_mem (off' := ![0, 1024]) v f inb r _ j rfl (1 : Fin 2) (Or.inl hj)).trans
      (View.read_writes_cons_unit_of_mem (off' := ![0, 0]) v f inb' l L j (ix2 (j 0) ⟨(j 1).val, hj⟩) rfl
        (Fin.forall_fin_two.mpr ⟨(Nat.zero_add _).symm, (Nat.zero_add _).symm⟩))
  · rw [dif_neg hj]
    refine View.read_writes_cons_unit_of_mem (off' := ![0, 1024]) v f inb r _ j (ix2 (j 0) ⟨(j 1).val - 1024, by omega⟩) rfl
      (Fin.forall_fin_two.mpr ⟨(Nat.zero_add _).symm, ?_⟩)
    show (j 1).val = 1024 + ((j 1).val - 1024)
    omega

/-- The block of the result: the convolution's half, then the gated unit's. -/
def outB (h : S264x1024.Idx → EReal) (x0 x1 x2 x3 x4 x5 : Vec Ideal S256x1024 .f32) (x6 : Vec Ideal S8x1024 .f32) (x7 : Vec Ideal S1x1024 .f32)
    (x8 : Vec Ideal S1024x1024 .bf16) (x9 : Vec Ideal S1x1024 .f32) : S256x2048.Idx → EReal := fun j =>
  if hj : (j 1).val < 1024 then leftB h x0 x1 x2 x3 x6 x7 (ix2 (j 0) ⟨(j 1).val, hj⟩)
  else rightB x4 x5 x8 x9 (ix2 (j 0) ⟨(j 1).val - 1024, by have := (j 1).isLt; change (j 1).val < 2048 at this; omega⟩)

theorem left_at (h : S264x1024.Idx → EReal) (x0 x1 x2 x3 : Vec Ideal S256x1024 .f32) (x6 : Vec Ideal S8x1024 .f32) (x7 : Vec Ideal S1x1024 .f32)
    (w2 w1 : Vec Ideal S1x1024 .f32) (s1 : Vec Ideal S256x1024 .f32) (w0 : Vec Ideal S1x1024 .f32) (s0 : Vec Ideal S256x1024 .f32)
    (e2 : ∀ q : Fin 1024, w2 (ix2 (0 : Fin 1) q) = x6 (ix2 (2 : Fin 8) q)) (e1 : ∀ q : Fin 1024, w1 (ix2 (0 : Fin 1) q) = x6 (ix2 (1 : Fin 8) q))
    (e0 : ∀ q : Fin 1024, w0 (ix2 (0 : Fin 1) q) = x6 (ix2 (0 : Fin 8) q))
    (f1 : ∀ (p : Fin 256) (q : Fin 1024), s1 (ix2 p q) = bufB h x1 x2 (ix2 ⟨p.val + 7, by omega⟩ q))
    (f0 : ∀ (p : Fin 256) (q : Fin 1024), s0 (ix2 p q) = bufB h x1 x2 (ix2 ⟨p.val + 6, by omega⟩ q)) (p : Fin 256) (q : Fin 1024) :
    k0_pay4 x1 x2 x7 w2 w1 s1 w0 s0 x3 x0 (ix2 p q) = leftB h x0 x1 x2 x3 x6 x7 (ix2 p q) := by
  refine (pay4_at _ _ _ _ _ _ _ _ _ _ _).trans ?_
  refine Eq.trans (b := (x0 (ix2 p q) * (((x7 (ix2 (0 : Fin 1) q) + w2 (ix2 (0 : Fin 1) q) * (x1 (ix2 p q) * x2 (ix2 p q))) + w1 (ix2 (0 : Fin 1) q) * s1 (ix2 p q))
          + w0 (ix2 (0 : Fin 1) q) * s0 (ix2 p q)) * silu (x3 (ix2 p q)) : EReal)) rfl ?_
  rw [e2, e1, e0, f1, f0]
  rfl

/-- The last eight rows of the block, read back from the buffer. -/
theorem tail_at {sg : RefSig} {kd : Kind} {sp : Space} (v : View sg kd sp S264x1024 .f32) (x1 x2 : Vec Ideal S256x1024 .f32)
    (inb : ∀ a : Fin 2, (![8, 0] : Fin 2 → Nat) a + (![256, 1024] : Fin 2 → Nat) a ≤ (![264, 1024] : Fin 2 → Nat) a)
    (L : List (View.Piece (Elt Ideal) S264x1024 .f32))
    (inb' : ∀ a : Fin 2, (![256, 0] : Fin 2 → Nat) a + (![8, 1024] : Fin 2 → Nat) a ≤ (![264, 1024] : Fin 2 → Nat) a)
    (p : Fin 8) (q : Fin 1024) :
    v.readCov ((⟨Rect.unit (s := S264x1024) ![8, 0] ![256, 1024] inb, k0_pay3 x1 x2⟩ : View.Piece (Elt Ideal) S264x1024 .f32) :: L)
        (Rect.unit (s := S264x1024) ![256, 0] ![8, 1024] inb').toLoadRect (ix2 p q)
      = (x1 (ix2 (⟨p.val + 248, by omega⟩ : Fin 256) q) * x2 (ix2 (⟨p.val + 248, by omega⟩ : Fin 256) q) : EReal) := by
  have e : (Rect.unit (s := S264x1024) ![256, 0] ![8, 1024] inb').toLoadRect.idx (ix2 p q) = ix2 (⟨p.val + 256, by omega⟩ : Fin 264) q :=
    funext fun a => Fin.ext (by
      match a with
      | ⟨0, _⟩ => show 256 + 1 * p.val = p.val + 256; omega
      | ⟨1, _⟩ => show 0 + 1 * q.val = q.val; omega)
  refine (congrArg (v.read (Elt Ideal) (v.writes (Elt Ideal) v.junk _)) e).trans ?_
  refine (read_block v _ x1 x2 inb L _).trans ?_
  unfold bufB
  exact dif_neg (show ¬ p.val + 256 < 8 by omega)

theorem shift_at (o : Nat) (ho : o + 256 ≤ 264) (inb : ∀ a : Fin 2, (![o, 0] : Fin 2 → Nat) a + (![256, 1024] : Fin 2 → Nat) a ≤ (![264, 1024] : Fin 2 → Nat) a)
    (p : Fin 256) (q : Fin 1024) :
    (Rect.unit (s := S264x1024) ![o, 0] ![256, 1024] inb).toLoadRect.idx (ix2 p q) = ix2 (⟨p.val + o, by omega⟩ : Fin 264) q :=
  funext fun a => Fin.ext (by
    match a with
    | ⟨0, _⟩ => show o + 1 * p.val = p.val + o; omega
    | ⟨1, _⟩ => show 0 + 1 * q.val = q.val; omega)

/-! ## What each case leaves -/

section
variable (c : Dev nD) (i : grid0.Coords) (a1 : Memref sig .tc .vmem S256x1024 .f32) (h1 : a1.IsWhole)
  (a2 : Memref sig .tc .vmem S256x1024 .f32) (h2 : a2.IsWhole) (a3 : Memref sig .tc .vmem S256x1024 .f32) (h3 : a3.IsWhole)
  (a4 : Memref sig .tc .vmem S256x1024 .f32) (h4 : a4.IsWhole) (a5 : Memref sig .tc .vmem S256x1024 .f32) (h5 : a5.IsWhole)
  (a6 : Memref sig .tc .vmem S256x1024 .f32) (h6 : a6.IsWhole) (a7 : Memref sig .tc .vmem S8x1024 .f32) (h7 : a7.IsWhole)
  (a8 : Memref sig .tc .vmem S1x1024 .f32) (h8 : a8.IsWhole) (a9 : Memref sig .tc .vmem S1024x1024 .bf16) (h9 : a9.IsWhole)
  (a10 : Memref sig .tc .vmem S1x1024 .f32) (h10 : a10.IsWhole) (a11 : Memref sig .tc .vmem S256x2048 .bf16) (h11 : a11.IsWhole)
  (a12 : Memref sig .tc .vmem S264x1024 .f32) (h12 : a12.IsWhole)
  (x0 x1 x2 x3 x4 x5 : Vec Ideal S256x1024 .f32) (x6 : Vec Ideal S8x1024 .f32) (x7 : Vec Ideal S1x1024 .f32)
  (x8 : Vec Ideal S1024x1024 .bf16) (x9 : Vec Ideal S1x1024 .f32) (xs : Vec Ideal S264x1024 .f32)

theorem out_A (hc0 : cond0_0 i) (j : S256x2048.Idx) :
    out0_A_10 c i a1 h1 a2 h2 a3 h3 a4 h4 a5 h5 a6 h6 a7 h7 a8 h8 a9 h9 a10 h10 a11 h11 a12 h12 hc0 x0 x1 x2 x3 x4 x5 x6 x7 x8 x9 j
      = outB (fun _ => 0) x0 x1 x2 x3 x4 x5 x6 x7 x8 x9 j := by
  have hb : (j 1).val < 2048 := (j 1).isLt
  unfold out0_A_10
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread,
    View.ld_unit_zero (S := S256x1024) hz2, View.ld_unit_zero (S := S1x1024) hz2, View.ld_unit_zero (S := S1024x1024) hz2, pay5_eq, pay6_eq, pay7_eq]
  refine (read_halves _ _ _ _ _ _ _ j).trans ?_
  unfold outB
  by_cases hj : (j 1).val < 1024
  · rw [dif_pos hj, dif_pos hj]
    exact left_at (fun _ => 0) x0 x1 x2 x3 x6 x7 _ _ _ _ _ (ld_row x6 2 (by decide) _) (ld_row x6 1 (by decide) _) (ld_row x6 0 (by decide) _)
      (fun p q => (congrArg (a12.view.read (Elt Ideal) (a12.view.writes (Elt Ideal) a12.view.junk _)) (shift_at 7 (by decide) _ p q)).trans
        ((read_block _ _ _ _ _ _ _).trans (bufB_congr _ _ (fun r hr => (read_carried _ _ _ _ _ r hr).trans (pay1_at _)) _))) (fun p q => (congrArg (a12.view.read (Elt Ideal) (a12.view.writes (Elt Ideal) a12.view.junk _)) (shift_at 6 (by decide) _ p q)).trans
        ((read_block _ _ _ _ _ _ _).trans (bufB_congr _ _ (fun r hr => (read_carried _ _ _ _ _ r hr).trans (pay1_at _)) _))) (j 0) ⟨(j 1).val, hj⟩
  · rw [dif_neg hj, dif_neg hj]

theorem out_B (hc0 : ¬cond0_0 i) (j : S256x2048.Idx) :
    out0_B_10 c i a1 h1 a2 h2 a3 h3 a4 h4 a5 h5 a6 h6 a7 h7 a8 h8 a9 h9 a10 h10 a11 h11 a12 h12 hc0 x0 x1 x2 x3 x4 x5 x6 x7 x8 x9 xs j
      = outB xs x0 x1 x2 x3 x4 x5 x6 x7 x8 x9 j := by
  have hb : (j 1).val < 2048 := (j 1).isLt
  unfold out0_B_10
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread,
    View.ld_unit_zero (S := S256x1024) hz2, View.ld_unit_zero (S := S1x1024) hz2, View.ld_unit_zero (S := S1024x1024) hz2, pay5_eq, pay6_eq, pay7_eq]
  refine (read_halves _ _ _ _ _ _ _ j).trans ?_
  unfold outB
  by_cases hj : (j 1).val < 1024
  · rw [dif_pos hj, dif_pos hj]
    exact left_at xs x0 x1 x2 x3 x6 x7 _ _ _ _ _ (ld_row x6 2 (by decide) _) (ld_row x6 1 (by decide) _) (ld_row x6 0 (by decide) _)
      (fun p q => (congrArg (a12.view.read (Elt Ideal) (a12.view.writes (Elt Ideal) (h12.unread xs) _)) (shift_at 7 (by decide) _ p q)).trans
        ((read_block _ _ _ _ _ [] _).trans (bufB_congr _ _ (fun r _ => (congrFun (congrArg (a12.view.read (Elt Ideal)) (View.writes_nil _ _)) r).trans (congrFun (h12.read_unread xs) r)) _))) (fun p q => (congrArg (a12.view.read (Elt Ideal) (a12.view.writes (Elt Ideal) (h12.unread xs) _)) (shift_at 6 (by decide) _ p q)).trans
        ((read_block _ _ _ _ _ [] _).trans (bufB_congr _ _ (fun r _ => (congrFun (congrArg (a12.view.read (Elt Ideal)) (View.writes_nil _ _)) r).trans (congrFun (h12.read_unread xs) r)) _))) (j 0) ⟨(j 1).val, hj⟩
  · rw [dif_neg hj, dif_neg hj]

theorem sout_A (hc0 : cond0_0 i) (p : Fin 8) (q : Fin 1024) :
    sout0_A_0 c i a1 h1 a2 h2 a3 h3 a4 h4 a5 h5 a6 h6 a7 h7 a8 h8 a9 h9 a10 h10 a11 h11 a12 h12 hc0 x0 x1 x2 x3 x4 x5 x6 x7 x8 x9 (ix2 (⟨p.val, by omega⟩ : Fin 264) q)
      = (x1 (ix2 (⟨p.val + 248, by omega⟩ : Fin 256) q) * x2 (ix2 (⟨p.val + 248, by omega⟩ : Fin 256) q) : EReal) := by
  unfold sout0_A_0
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread,
    View.ld_unit_zero (S := S256x1024) hz2, View.ld_unit_zero (S := S1x1024) hz2, View.ld_unit_zero (S := S1024x1024) hz2, pay5_eq, pay6_eq, pay7_eq]
  refine (read_carried _ _ _ _ _ (ix2 (⟨p.val, by omega⟩ : Fin 264) q) p.isLt).trans ?_
  exact tail_at _ _ _ _ _ _ p q

theorem sout_B (hc0 : ¬cond0_0 i) (p : Fin 8) (q : Fin 1024) :
    sout0_B_0 c i a1 h1 a2 h2 a3 h3 a4 h4 a5 h5 a6 h6 a7 h7 a8 h8 a9 h9 a10 h10 a11 h11 a12 h12 hc0 x0 x1 x2 x3 x4 x5 x6 x7 x8 x9 xs (ix2 (⟨p.val, by omega⟩ : Fin 264) q)
      = (x1 (ix2 (⟨p.val + 248, by omega⟩ : Fin 256) q) * x2 (ix2 (⟨p.val + 248, by omega⟩ : Fin 256) q) : EReal) := by
  unfold sout0_B_0
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread,
    View.ld_unit_zero (S := S256x1024) hz2, View.ld_unit_zero (S := S1x1024) hz2, View.ld_unit_zero (S := S1024x1024) hz2, pay5_eq, pay6_eq, pay7_eq]
  refine (read_carried _ _ _ _ _ (ix2 (⟨p.val, by omega⟩ : Fin 264) q) p.isLt).trans ?_
  exact tail_at _ _ _ _ _ _ p q
end

end Cert.Kernel6Ideal.Val

end
-- ==== Proof.GateFwd.Value.lean ====
/-
  The gates forward: sixteen blocks of 256 rows, each handing its last rows of the convolution's input to the next.
-/
module

public import proofs.«01_k».proof.Proof.GateFwd.Body

@[expose] public section

noncomputable section

namespace Cert.GateFwd

open Cert.Shared Cert.Kernel6Ideal.Val Idealize.ShloMosaic

section
variable (P : (⟨2, ![4096, 6144]⟩ : Shape).Idx → EReal) (Y : (⟨2, ![4096, 1024]⟩ : Shape).Idx → EReal) (W : (⟨2, ![8, 1024]⟩ : Shape).Idx → EReal)
  (B : (⟨2, ![1, 1024]⟩ : Shape).Idx → EReal) (U : (⟨2, ![1024, 1024]⟩ : Shape).Idx → EReal) (C : (⟨2, ![1, 1024]⟩ : Shape).Idx → EReal)

/-- What the short convolution runs over. -/
def cv (r q : Nat) : EReal := at2 P r (1024 + q) * at2 P r (2048 + q)

/-- The same, eight rows later, with zeros before the first row. -/
def cvo (n q : Nat) : EReal := if n < 8 then 0 else cv P (n - 8) q

/-- The gated short convolution and the gated linear unit, row by row. -/
def left (r q : Nat) : EReal :=
  (at2 P r q * (((at2 B 0 q + at2 W 2 q * cv P r q) + at2 W 1 q * cvo P (r + 7) q) + at2 W 0 q * cvo P (r + 6) q)) * silu (at2 P r (3072 + q))

def right (r q : Nat) : EReal :=
  (gelu (at2 Y r q) * Ideal.logistic ((∑ k ∈ Finset.range 1024, gelu (at2 Y r k) * at2 U k q) + at2 C 0 q)) * silu (at2 P r (5120 + q))

/-- The whole result. -/
def out : (⟨2, ![4096, 2048]⟩ : Shape).Idx → EReal := fun i =>
  if (i 1).val < 1024 then left P W B (i 0).val (i 1).val else right P Y U C (i 0).val ((i 1).val - 1024)
end

end Cert.GateFwd

namespace Cert.Kernel6Ideal.Val

open Cert.Kernel6Ideal Cert.Kernel6Ideal.Gen Cert.Shared Cert.GateFwd Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## The input blocks -/

theorem idx0 : ∀ t : Fin cfg0.N, win0_0.index t 0 = t.val ∧ win0_0.index t 1 = 0 :=
  (by decide +kernel : ∀ t : Fin grid0.N, _)
theorem idx1 : ∀ t : Fin cfg0.N, win0_1.index t 0 = t.val ∧ win0_1.index t 1 = 1 :=
  (by decide +kernel : ∀ t : Fin grid0.N, _)
theorem idx2 : ∀ t : Fin cfg0.N, win0_2.index t 0 = t.val ∧ win0_2.index t 1 = 2 :=
  (by decide +kernel : ∀ t : Fin grid0.N, _)
theorem idx3 : ∀ t : Fin cfg0.N, win0_3.index t 0 = t.val ∧ win0_3.index t 1 = 3 :=
  (by decide +kernel : ∀ t : Fin grid0.N, _)
theorem idx4 : ∀ t : Fin cfg0.N, win0_4.index t 0 = t.val ∧ win0_4.index t 1 = 5 :=
  (by decide +kernel : ∀ t : Fin grid0.N, _)
theorem idx5 : ∀ t : Fin cfg0.N, win0_5.index t 0 = t.val ∧ win0_5.index t 1 = 0 :=
  (by decide +kernel : ∀ t : Fin grid0.N, _)
theorem idx6 : ∀ t : Fin cfg0.N, win0_6.index t 0 = 0 ∧ win0_6.index t 1 = 0 :=
  (by decide +kernel : ∀ t : Fin grid0.N, _)
theorem idx7 : ∀ t : Fin cfg0.N, win0_7.index t 0 = 0 ∧ win0_7.index t 1 = 0 :=
  (by decide +kernel : ∀ t : Fin grid0.N, _)
theorem idx8 : ∀ t : Fin cfg0.N, win0_8.index t 0 = 0 ∧ win0_8.index t 1 = 0 :=
  (by decide +kernel : ∀ t : Fin grid0.N, _)
theorem idx9 : ∀ t : Fin cfg0.N, win0_9.index t 0 = 0 ∧ win0_9.index t 1 = 0 :=
  (by decide +kernel : ∀ t : Fin grid0.N, _)
theorem idx10 : ∀ t : Fin cfg0.N, win0_10.index t 0 = t.val ∧ win0_10.index t 1 = 0 :=
  (by decide +kernel : ∀ t : Fin grid0.N, _)

/-- The operands, as the program finds them. -/
abbrev A0 (c : Dev nD) : (⟨2, ![4096, 6144]⟩ : Shape).Idx → EReal := m ((c : Thread nD τ).loc main_arg0)
abbrev A1 (c : Dev nD) : (⟨2, ![4096, 1024]⟩ : Shape).Idx → EReal := m ((c : Thread nD τ).loc main_arg1)
abbrev A2 (c : Dev nD) : (⟨2, ![8, 1024]⟩ : Shape).Idx → EReal := m ((c : Thread nD τ).loc main_arg2)
abbrev A3 (c : Dev nD) : (⟨2, ![1, 1024]⟩ : Shape).Idx → EReal := m ((c : Thread nD τ).loc main_arg3)
abbrev A4 (c : Dev nD) : (⟨2, ![1024, 1024]⟩ : Shape).Idx → EReal := m ((c : Thread nD τ).loc main_arg4)
abbrev A5 (c : Dev nD) : (⟨2, ![1, 1024]⟩ : Shape).Idx → EReal := m ((c : Thread nD τ).loc main_arg5)

theorem blk0_at (c : Dev nD) (t : Fin cfg0.N) (j : S256x1024.Idx) :
    (iblk m c 0 t : Vec Ideal S256x1024 .f32) j = at2 (A0 m c) (256 * t.val + (j 0).val) ((j 1).val) := by
  unfold iblk
  rw [View.read_apply]
  refine eq_at2 (A0 m c) _ ?_ ?_
  · show win0_0.index t 0 * 256 + 1 * (j 0).val = _; rw [(idx0 t).1]; omega
  · show win0_0.index t 1 * 1024 + 1 * (j 1).val = _; rw [(idx0 t).2]; omega

theorem blk1_at (c : Dev nD) (t : Fin cfg0.N) (j : S256x1024.Idx) :
    (iblk m c 1 t : Vec Ideal S256x1024 .f32) j = at2 (A0 m c) (256 * t.val + (j 0).val) (1024 + (j 1).val) := by
  unfold iblk
  rw [View.read_apply]
  refine eq_at2 (A0 m c) _ ?_ ?_
  · show win0_1.index t 0 * 256 + 1 * (j 0).val = _; rw [(idx1 t).1]; omega
  · show win0_1.index t 1 * 1024 + 1 * (j 1).val = _; rw [(idx1 t).2]; omega

theorem blk2_at (c : Dev nD) (t : Fin cfg0.N) (j : S256x1024.Idx) :
    (iblk m c 2 t : Vec Ideal S256x1024 .f32) j = at2 (A0 m c) (256 * t.val + (j 0).val) (2048 + (j 1).val) := by
  unfold iblk
  rw [View.read_apply]
  refine eq_at2 (A0 m c) _ ?_ ?_
  · show win0_2.index t 0 * 256 + 1 * (j 0).val = _; rw [(idx2 t).1]; omega
  · show win0_2.index t 1 * 1024 + 1 * (j 1).val = _; rw [(idx2 t).2]; omega

theorem blk3_at (c : Dev nD) (t : Fin cfg0.N) (j : S256x1024.Idx) :
    (iblk m c 3 t : Vec Ideal S256x1024 .f32) j = at2 (A0 m c) (256 * t.val + (j 0).val) (3072 + (j 1).val) := by
  unfold iblk
  rw [View.read_apply]
  refine eq_at2 (A0 m c) _ ?_ ?_
  · show win0_3.index t 0 * 256 + 1 * (j 0).val = _; rw [(idx3 t).1]; omega
  · show win0_3.index t 1 * 1024 + 1 * (j 1).val = _; rw [(idx3 t).2]; omega

theorem blk4_at (c : Dev nD) (t : Fin cfg0.N) (j : S256x1024.Idx) :
    (iblk m c 4 t : Vec Ideal S256x1024 .f32) j = at2 (A0 m c) (256 * t.val + (j 0).val) (5120 + (j 1).val) := by
  unfold iblk
  rw [View.read_apply]
  refine eq_at2 (A0 m c) _ ?_ ?_
  · show win0_4.index t 0 * 256 + 1 * (j 0).val = _; rw [(idx4 t).1]; omega
  · show win0_4.index t 1 * 1024 + 1 * (j 1).val = _; rw [(idx4 t).2]; omega

theorem blk5_at (c : Dev nD) (t : Fin cfg0.N) (j : S256x1024.Idx) :
    (iblk m c 5 t : Vec Ideal S256x1024 .f32) j = at2 (A1 m c) (256 * t.val + (j 0).val) ((j 1).val) := by
  unfold iblk
  rw [View.read_apply]
  refine eq_at2 (A1 m c) _ ?_ ?_
  · show win0_5.index t 0 * 256 + 1 * (j 0).val = _; rw [(idx5 t).1]; omega
  · show win0_5.index t 1 * 1024 + 1 * (j 1).val = _; rw [(idx5 t).2]; omega

theorem blk6_at (c : Dev nD) (t : Fin cfg0.N) (j : S8x1024.Idx) :
    (iblk m c 6 t : Vec Ideal S8x1024 .f32) j = at2 (A2 m c) ((j 0).val) ((j 1).val) := by
  unfold iblk
  rw [View.read_apply]
  refine eq_at2 (A2 m c) _ ?_ ?_
  · show win0_6.index t 0 * 3 + 1 * (j 0).val = _; rw [(idx6 t).1]; omega
  · show win0_6.index t 1 * 1024 + 1 * (j 1).val = _; rw [(idx6 t).2]; omega

theorem blk7_at (c : Dev nD) (t : Fin cfg0.N) (j : S1x1024.Idx) :
    (iblk m c 7 t : Vec Ideal S1x1024 .f32) j = at2 (A3 m c) ((j 0).val) ((j 1).val) := by
  unfold iblk
  rw [View.read_apply]
  refine eq_at2 (A3 m c) _ ?_ ?_
  · show win0_7.index t 0 * 1 + 1 * (j 0).val = _; rw [(idx7 t).1]; omega
  · show win0_7.index t 1 * 1024 + 1 * (j 1).val = _; rw [(idx7 t).2]; omega

theorem blk8_at (c : Dev nD) (t : Fin cfg0.N) (j : S1024x1024.Idx) :
    (iblk m c 8 t : Vec Ideal S1024x1024 .bf16) j = at2 (A4 m c) ((j 0).val) ((j 1).val) := by
  unfold iblk
  rw [View.read_apply]
  refine eq_at2 (A4 m c) _ ?_ ?_
  · show win0_8.index t 0 * 1024 + 1 * (j 0).val = _; rw [(idx8 t).1]; omega
  · show win0_8.index t 1 * 1024 + 1 * (j 1).val = _; rw [(idx8 t).2]; omega

theorem blk9_at (c : Dev nD) (t : Fin cfg0.N) (j : S1x1024.Idx) :
    (iblk m c 9 t : Vec Ideal S1x1024 .f32) j = at2 (A5 m c) ((j 0).val) ((j 1).val) := by
  unfold iblk
  rw [View.read_apply]
  refine eq_at2 (A5 m c) _ ?_ ?_
  · show win0_9.index t 0 * 1 + 1 * (j 0).val = _; rw [(idx9 t).1]; omega
  · show win0_9.index t 1 * 1024 + 1 * (j 1).val = _; rw [(idx9 t).2]; omega

/-! ## What each point leaves -/

/-- The rows the next point looks back into. -/
theorem carried (c : Dev nD) (t : Fin cfg0.N) (p : Fin 8) (q : Fin 1024) :
    (outsAt0 m c t.val t.isLt).2 (ix2 (⟨p.val, by omega⟩ : Fin 264) q) = cv (A0 m c) (256 * t.val + (p.val + 248)) q.val := by
  have e : (fun x y : EReal => x * y) ((iblk m c 1 t : Vec Ideal S256x1024 .f32) (ix2 (⟨p.val + 248, by omega⟩ : Fin 256) q))
      ((iblk m c 2 t : Vec Ideal S256x1024 .f32) (ix2 (⟨p.val + 248, by omega⟩ : Fin 256) q))
      = cv (A0 m c) (256 * t.val + (p.val + 248)) q.val :=
    congrArg₂ (fun x y : EReal => x * y) (blk1_at m c t _) (blk2_at m c t _)
  by_cases h0 : t.val % 16 = 0
  · rw [outsAt0_A m c t h0]
    dsimp only
    exact (sout_A _ _ _ _ _ _ _ _ _ _ _ _ _ _ _ _ _ _ _ _ _ _ _ _ _ _ _ _ _ _ _ _ _ _ _ _ _ p q).trans e
  · rw [outsAt0_B m c t h0]
    dsimp only
    exact (sout_B _ _ _ _ _ _ _ _ _ _ _ _ _ _ _ _ _ _ _ _ _ _ _ _ _ _ _ _ _ _ _ _ _ _ _ _ _ _ p q).trans e

/-- The buffer a point looks back into, in rows of the whole array. -/
theorem buf_eq (c : Dev nD) (t : Fin cfg0.N) (h : S264x1024.Idx → EReal)
    (hh : ∀ (p : Fin 8) (q : Fin 1024), h (ix2 (⟨p.val, by omega⟩ : Fin 264) q) = cvo (A0 m c) (256 * t.val + p.val) q.val)
    (p : Fin 264) (q : Fin 1024) :
    bufB h (iblk m c 1 t) (iblk m c 2 t) (ix2 p q) = cvo (A0 m c) (256 * t.val + p.val) q.val := by
  unfold bufB
  by_cases hp : p.val < 8
  · exact (dif_pos hp).trans (hh ⟨p.val, hp⟩ q)
  · refine (dif_neg hp).trans ?_
    refine (congrArg₂ (fun x y : EReal => x * y) (blk1_at m c t _) (blk2_at m c t _)).trans ?_
    unfold cvo
    rw [if_neg (show ¬ 256 * t.val + p.val < 8 by omega)]
    unfold cv
    rw [show 256 * t.val + p.val - 8 = 256 * t.val + (p.val - 8) by omega]
    rfl

theorem left_eq (c : Dev nD) (t : Fin cfg0.N) (h : S264x1024.Idx → EReal)
    (hh : ∀ (p : Fin 8) (q : Fin 1024), h (ix2 (⟨p.val, by omega⟩ : Fin 264) q) = cvo (A0 m c) (256 * t.val + p.val) q.val)
    (p : Fin 256) (q : Fin 1024) :
    leftB h (iblk m c 0 t) (iblk m c 1 t) (iblk m c 2 t) (iblk m c 3 t) (iblk m c 6 t) (iblk m c 7 t) (ix2 p q)
      = left (A0 m c) (A2 m c) (A3 m c) (256 * t.val + p.val) q.val := by
  have mul2 : ∀ {a b a' b' : EReal}, a = a' → b = b' → a * b = a' * b' := fun h h' => congrArg₂ (· * ·) h h'
  have add2 : ∀ {a b a' b' : EReal}, a = a' → b = b' → a + b = a' + b' := fun h h' => congrArg₂ (· + ·) h h'
  exact mul2 (mul2 (blk0_at m c t _) (add2 (add2 (add2 (blk7_at m c t _) (mul2 (blk6_at m c t _) (mul2 (blk1_at m c t _) (blk2_at m c t _))))
    (mul2 (blk6_at m c t _) (buf_eq m c t h hh _ q))) (mul2 (blk6_at m c t _) (buf_eq m c t h hh _ q)))) (congrArg silu (blk3_at m c t _))

theorem right_eq (c : Dev nD) (t : Fin cfg0.N) (p : Fin 256) (q : Fin 1024) :
    rightB (iblk m c 4 t) (iblk m c 5 t) (iblk m c 8 t) (iblk m c 9 t) (ix2 p q)
      = right (A0 m c) (A1 m c) (A4 m c) (A5 m c) (256 * t.val + p.val) q.val := by
  have mul2 : ∀ {a b a' b' : EReal}, a = a' → b = b' → a * b = a' * b' := fun h h' => congrArg₂ (· * ·) h h'
  have add2 : ∀ {a b a' b' : EReal}, a = a' → b = b' → a + b = a' + b' := fun h h' => congrArg₂ (· + ·) h h'
  refine mul2 (mul2 (congrArg gelu (blk5_at m c t _)) (congrArg Ideal.logistic (add2 ?_ (blk9_at m c t _)))) (congrArg silu (blk4_at m c t _))
  exact sum_fin _ _ fun k => mul2 (congrArg gelu (blk5_at m c t _)) (blk8_at m c t _)

theorem outB_eq (c : Dev nD) (t : Fin cfg0.N) (h : S264x1024.Idx → EReal)
    (hh : ∀ (p : Fin 8) (q : Fin 1024), h (ix2 (⟨p.val, by omega⟩ : Fin 264) q) = cvo (A0 m c) (256 * t.val + p.val) q.val)
    (j : S256x2048.Idx) (i : (⟨2, ![4096, 2048]⟩ : Shape).Idx) (h0 : (i 0).val = 256 * t.val + (j 0).val) (h1 : (i 1).val = (j 1).val) :
    outB h (iblk m c 0 t) (iblk m c 1 t) (iblk m c 2 t) (iblk m c 3 t) (iblk m c 4 t) (iblk m c 5 t) (iblk m c 6 t) (iblk m c 7 t) (iblk m c 8 t) (iblk m c 9 t) j
      = GateFwd.out (A0 m c) (A1 m c) (A2 m c) (A3 m c) (A4 m c) (A5 m c) i := by
  unfold outB GateFwd.out
  rw [h0, h1]
  by_cases hj : (j 1).val < 1024
  · rw [dif_pos hj, if_pos hj]
    exact left_eq m c t h hh (j 0) ⟨(j 1).val, hj⟩
  · rw [dif_neg hj, if_neg hj]
    exact right_eq m c t (j 0) _

theorem outs (c : Dev nD) (t : Fin cfg0.N) (j : S256x2048.Idx) (i : (⟨2, ![4096, 2048]⟩ : Shape).Idx)
    (h0 : (i 0).val = 256 * t.val + (j 0).val) (h1 : (i 1).val = (j 1).val) :
    (outsAt0 m c t.val t.isLt).1 j = GateFwd.out (A0 m c) (A1 m c) (A2 m c) (A3 m c) (A4 m c) (A5 m c) i := by
  have hN : cfg0.N = 16 := N_0
  have ht : t.val < cfg0.N := t.isLt
  by_cases hc : t.val % 16 = 0
  · rw [outsAt0_A m c t hc]
    dsimp only
    rw [out_A]
    refine outB_eq m c t _ (fun p q => ?_) j i h0 h1
    unfold cvo
    exact (if_pos (show 256 * t.val + p.val < 8 by omega)).symm
  · rw [outsAt0_B m c t hc]
    dsimp only
    rw [out_B]
    refine outB_eq m c t _ (fun p q => ?_) j i h0 h1
    refine (carried m c ⟨t.val - 1, by omega⟩ p q).trans ?_
    unfold cvo
    rw [if_neg (show ¬ 256 * t.val + p.val < 8 by omega)]
    exact congrArg (fun n => cv (A0 m c) n q.val) (show 256 * (t.val - 1) + (p.val + 248) = 256 * t.val + p.val - 8 by omega)

/-! ## The array after the run -/

theorem flushed10_out (c : Dev nD) (t : Fin cfg0.N) (hf : (cfg0.win 10).flush t = true) :
    (dats m 0 c).flushed 10 t
      = ((cfg0.win 10).blk t).view.read (Elt Ideal) (GateFwd.out (A0 m c) (A1 m c) (A2 m c) (A3 m c) (A4 m c) (A5 m c)) := by
  rw [Value.flushed10]
  funext j
  rw [View.read_apply]
  refine outs m c t _ _ ?_ ?_
  · show win0_10.index t 0 * 256 + 1 * (j 0).val = 256 * t.val + (j 0).val; rw [(idx10 t).1]; omega
  · show win0_10.index t 1 * 2048 + 1 * (j 1).val = (j 1).val; rw [(idx10 t).2]; omega

/-- The point that writes back the rows an index lies in. -/
def pt (i : S4096x2048.Idx) : Fin cfg0.N := ⟨(i 0).val / 256, by
  have h0 : (i 0).val < 4096 := (i 0).isLt
  have hN : cfg0.N = 16 := N_0
  rw [hN]; omega⟩

theorem final10 (c : Dev nD) : (dats m 0 c).arrAt 10 cfg0.N = GateFwd.out (A0 m c) (A1 m c) (A2 m c) (A3 m c) (A4 m c) (A5 m c) :=
  (dats m 0 c).arrAt_eq_of_cover 10 (GateFwd.out (A0 m c) (A1 m c) (A2 m c) (A3 m c) (A4 m c) (A5 m c)) (flushed10_out m c) fun i =>
    ⟨pt i, flush0_10 _, by
      have h0 : (i 0).val < 4096 := (i 0).isLt
      have h1 : (i 1).val < 2048 := (i 1).isLt
      have hv : (pt i).val = (i 0).val / 256 := rfl
      show i ∈ ((View.whole main_v0).slice (win0_10.rect (pt i))).set
      rw [View.set_slice_whole, Rect.mem_set_unit]
      intro a
      match a with
      | ⟨0, _⟩ => show win0_10.index (pt i) 0 * 256 ≤ (i 0 : Nat) ∧ (i 0 : Nat) < win0_10.index (pt i) 0 * 256 + 256
                  rw [(idx10 _).1]; omega
      | ⟨1, _⟩ => show win0_10.index (pt i) 1 * 2048 ≤ (i 1 : Nat) ∧ (i 1 : Nat) < win0_10.index (pt i) 1 * 2048 + 2048
                  rw [(idx10 _).2]; omega⟩

/-- Every run ends with the result at this value and the operands as they were. -/
theorem run : θ_run defs (onTc (τ := τ) (main (F := Ideal))) ⟨m, fun _ => 0, ρ⟩ fun r => ∀ c : Dev nD,
      r.2.mem ((c : Thread nD τ).loc main_v0) = GateFwd.out (A0 m c) (A1 m c) (A2 m c) (A3 m c) (A4 m c) (A5 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(Value.post10 m r h c).trans (final10 m c), Value.kept_main_arg0 m r h c, Value.kept_main_arg1 m r h c, Value.kept_main_arg2 m r h c, Value.kept_main_arg3 m r h c, Value.kept_main_arg4 m r h c, Value.kept_main_arg5 m r h c⟩)
    (run_main m ρ)

end Cert.Kernel6Ideal.Val

end
-- ==== Proof.GateFwd.Ref.lean ====
/-
  The gates forward: what the reference's stages are at an index.
-/
module

public import proofs.«01_k».proof.Proof.GateFwd.Value
public import proofs.«01_k».proof.Proof.Gen.Reference6Ideal.Read

@[expose] public section

noncomputable section

namespace Cert.Reference6Ideal.Val

open Cert.Reference6Ideal Cert.Reference6Ideal.Gen Cert.Reference6Ideal.Read Cert.Shared Cert.GateFwd Idealize.ShloMosaic Idealize.ShloMosaic.TcCoe Idealize.SL.Sem
open Cert.Kernel6Ideal.Val (gelu silu)

variable (x0 : Vec Ideal S4096x6144 .f32) (x1 : Vec Ideal S4096x1024 .f32) (x2 : Vec Ideal S8x1024 .f32) (x3 : Vec Ideal S1x1024 .f32)
  (x4 : Vec Ideal S1024x1024 .bf16) (x5 : Vec Ideal S1x1024 .f32)

/-- One over one plus the exponential is the logistic function. -/
theorem logistic_eq (z : EReal) : Ideal.div (Ideal.ofBits .f32 0x3F800000#32) (Ideal.ofBits .f32 0x3F800000#32 + Ideal.exp (-z)) = Ideal.logistic z := by
  rw [Ideal.ofBits_one_f32]
  rfl

theorem v2_at (i : S4096x1024.Idx) : val_main_v2 (F := Ideal) x0 i = at2 (a := 4096) (b := 6144) x0 (i 0).val (i 1).val := by
  rw [val_main_v2_apply, val_main_v1_apply]
  exact eq_at2 (a := 4096) (b := 6144) x0 _ rfl rfl

theorem v5_at (i : S4096x1024.Idx) : val_main_v5 (F := Ideal) x0 i = at2 (a := 4096) (b := 6144) x0 (i 0).val (3072 + (i 1).val) := by
  rw [val_main_v5_apply, val_main_v1_apply]
  exact eq_at2 (a := 4096) (b := 6144) x0 _ rfl rfl

theorem v8_at (i : S4096x1024.Idx) : val_main_v8 (F := Ideal) x0 i = at2 (a := 4096) (b := 6144) x0 (i 0).val (5120 + (i 1).val) := by
  rw [val_main_v8_apply, val_main_v6_apply]
  refine eq_at2 (a := 4096) (b := 6144) x0 _ rfl ?_
  show 4096 + (1024 + (i 1).val) = 5120 + (i 1).val
  omega

theorem v9_at (i : S4096x1024.Idx) : val_main_v9 (F := Ideal) x0 i = cv x0 (i 0).val (i 1).val := by
  rw [val_main_v9_apply, val_main_v3_apply, val_main_v4_apply, val_main_v1_apply, val_main_v1_apply, Ideal.mulf_def]
  exact congrArg₂ (fun x y : EReal => x * y) (eq_at2 (a := 4096) (b := 6144) x0 _ rfl rfl) (eq_at2 (a := 4096) (b := 6144) x0 _ rfl rfl)

/-- Two rows of zeros, then what the convolution runs over. -/
theorem v11_at (i : S4098x1024.Idx) : val_main_v11 (F := Ideal) x0 i = cvo x0 ((i 0).val + 6) (i 1).val := by
  idx_vars i
  unfold val_main_v11
  pointwise
  unfold cvo
  by_cases h : i0.val < 2
  · refine (dif_pos h).trans (Eq.trans ?_ (if_pos (show i0.val + 6 < 8 by omega)).symm)
    rw [val_main_v10_apply, val_main_cst_apply, Ideal.ofBits_def, Ideal.ofBits_zero_f32]
  · refine (dif_neg h).trans (Eq.trans ?_ (if_neg (show ¬ i0.val + 6 < 8 by omega)).symm)
    refine (v9_at x0 _).trans ?_
    exact congrArg (fun n => cv x0 n i1.val) (show i0.val - 2 = i0.val + 6 - 8 by omega)

theorem row_at (o : Nat) (j : S8x1024.Idx) (q : Fin 1024) (h0 : (j 0).val = o) (h1 : (j 1).val = q.val % 1024) :
    x2 j = at2 (a := 8) (b := 1024) x2 o q.val :=
  eq_at2 (a := 8) (b := 1024) x2 j h0 (h1.trans (Nat.mod_eq_of_lt q.isLt))

theorem v33_at (i : S4096x1024.Idx) : val_main_v33 (F := Ideal) x0 x2 x3 i
    = ((at2 (a := 1) (b := 1024) x3 0 (i 1).val + at2 (a := 8) (b := 1024) x2 2 (i 1).val * cv x0 (i 0).val (i 1).val)
        + at2 (a := 8) (b := 1024) x2 1 (i 1).val * cvo x0 ((i 0).val + 7) (i 1).val)
        + at2 (a := 8) (b := 1024) x2 0 (i 1).val * cvo x0 ((i 0).val + 6) (i 1).val := by
  rw [val_main_v33_apply, val_main_v32_apply, val_main_v31_apply, val_main_v30_apply, val_main_v29_apply, val_main_v28_apply, val_main_v27_apply,
    val_main_v26_apply, val_main_v25_apply, val_main_v24_apply, val_main_v23_apply, val_main_v22_apply, val_main_v21_apply, val_main_v20_apply,
    val_main_v19_apply, val_main_v18_apply, val_main_v17_apply, val_main_v16_apply, val_main_v15_apply, val_main_v14_apply, val_main_v13_apply,
    val_main_v12_apply, v11_at, v11_at, v11_at]
  simp only [Ideal.addf_def, Ideal.mulf_def]
  have e3 : x3 (idx_main_v18 i) = at2 (a := 1) (b := 1024) x3 0 (i 1).val := eq_at2 (a := 1) (b := 1024) x3 _ rfl rfl
  have w0 : x2 (idx_main_v12 (idx_main_v13 (idx_main_v14 (idx_main_v16 i)))) = at2 (a := 8) (b := 1024) x2 0 (i 1).val := row_at x2 0 _ (i 1) rfl rfl
  have w1 : x2 (idx_main_v20 (idx_main_v21 (idx_main_v22 (idx_main_v24 i)))) = at2 (a := 8) (b := 1024) x2 1 (i 1).val := row_at x2 1 _ (i 1) rfl rfl
  have w2 : x2 (idx_main_v27 (idx_main_v28 (idx_main_v29 (idx_main_v31 i)))) = at2 (a := 8) (b := 1024) x2 2 (i 1).val := row_at x2 2 _ (i 1) rfl rfl
  have s0 : cvo x0 ((idx_main_v15 i 0).val + 6) (idx_main_v15 i 1).val = cvo x0 ((i 0).val + 6) (i 1).val := rfl
  have s1 : cvo x0 ((idx_main_v23 i 0).val + 6) (idx_main_v23 i 1).val = cvo x0 ((i 0).val + 7) (i 1).val :=
    congrArg (fun n => cvo x0 n (i 1).val) (show 1 + (i 0).val + 6 = (i 0).val + 7 by omega)
  have s2 : cvo x0 ((idx_main_v30 i 0).val + 6) (idx_main_v30 i 1).val = cv x0 (i 0).val (i 1).val := by
    refine (if_neg (show ¬ 2 + (i 0).val + 6 < 8 by omega)).trans ?_
    exact congrArg (fun n => cv x0 n (i 1).val) (show 2 + (i 0).val + 6 - 8 = (i 0).val by omega)
  rw [e3, w0, w1, w2, s0, s1, s2]
  generalize at2 (a := 1) (b := 1024) x3 0 (i 1).val = a
  generalize at2 (a := 8) (b := 1024) x2 2 (i 1).val * cv x0 (i 0).val (i 1).val = b
  generalize at2 (a := 8) (b := 1024) x2 1 (i 1).val * cvo x0 ((i 0).val + 7) (i 1).val = d
  generalize at2 (a := 8) (b := 1024) x2 0 (i 1).val * cvo x0 ((i 0).val + 6) (i 1).val = e
  rw [add_assoc (a + e), add_assoc (a + b), add_assoc a, add_assoc a]
  exact congrArg (a + ·) (by rw [add_comm b, add_comm d e, add_assoc])

theorem v35_at (i : S4096x1024.Idx) : val_main_v35 (F := Ideal) x0 i = silu (at2 (a := 4096) (b := 6144) x0 (i 0).val (3072 + (i 1).val)) := by
  rw [val_main_v35_apply, val_main_call0_v5_apply, val_main_call0_v4_apply, val_main_call0_cst_0_apply, val_main_call0_v3_apply,
    val_main_call0_v2_apply, val_main_call0_cst_apply, val_main_call0_v1_apply, val_main_call0_v0_apply, v5_at]
  exact congrArg (_ * ·) (logistic_eq _)

theorem v60_at (i : S4096x1024.Idx) : val_main_v60 (F := Ideal) x0 i = silu (at2 (a := 4096) (b := 6144) x0 (i 0).val (5120 + (i 1).val)) := by
  rw [val_main_v60_apply, val_main_call1_v5_apply, val_main_call1_v4_apply, val_main_call1_cst_0_apply, val_main_call1_v3_apply,
    val_main_call1_v2_apply, val_main_call1_cst_apply, val_main_call1_v1_apply, val_main_call1_v0_apply, v8_at]
  exact congrArg (_ * ·) (logistic_eq _)

theorem v36_at (i : S4096x1024.Idx) : val_main_v36 (F := Ideal) x0 x2 x3 i = left x0 x2 x3 (i 0).val (i 1).val := by
  rw [val_main_v36_apply, val_main_v34_apply, v2_at, v33_at, v35_at]
  rfl

theorem v49_at (i : S4096x1024.Idx) : val_main_v49 (F := Ideal) x1 i = gelu (at2 (a := 4096) (b := 1024) x1 (i 0).val (i 1).val) := by
  rw [val_main_v49_apply, val_main_v48_apply, val_main_v47_apply, val_main_cst_3_apply, val_main_v46_apply, val_main_v45_apply, val_main_cst_2_apply,
    val_main_v44_apply, val_main_v43_apply, val_main_v42_apply, val_main_cst_1_apply, val_main_v41_apply, val_main_v40_apply, val_main_v39_apply,
    val_main_cst_0_apply, val_main_v38_apply, val_main_v37_apply]
  have e : x1 i = at2 (a := 4096) (b := 1024) x1 (i 0).val (i 1).val := eq_at2 (a := 4096) (b := 1024) x1 _ rfl rfl
  rw [e]
  generalize at2 (a := 4096) (b := 1024) x1 (i 0).val (i 1).val = y
  simp only [Ideal.addf_def, Ideal.mulf_def, Ideal.hostUnary_tanh_def, Ideal.ofBits_def]
  unfold gelu
  rw [mul_assoc (Ideal.ofBits .f32 0x3D372713#32 * y) y y, mul_assoc (Ideal.ofBits .f32 0x3D372713#32) y, mul_assoc y y y, ← mul_assoc y, mul_comm y (Ideal.ofBits .f32 0x3F000000#32)]

theorem v58_at (i : S4096x1024.Idx) : val_main_v58 (F := Ideal) x1 x4 x5 i
    = Ideal.logistic ((∑ k ∈ Finset.range 1024, gelu (at2 (a := 4096) (b := 1024) x1 (i 0).val k) * at2 (a := 1024) (b := 1024) x4 k (i 1).val)
        + at2 (a := 1) (b := 1024) x5 0 (i 1).val) := by
  rw [val_main_v58_apply, val_main_v57_apply, val_main_cst_5_apply, val_main_v56_apply, val_main_v55_apply, val_main_cst_4_apply, val_main_v54_apply,
    val_main_v53_apply]
  refine (logistic_eq _).trans (congrArg Ideal.logistic ?_)
  rw [val_main_v52_apply, val_main_v51_apply, val_main_v50_apply, Ideal.addf_def]
  refine congrArg₂ (fun x y : EReal => x + y) ?_ (eq_at2 (a := 1) (b := 1024) x5 _ rfl rfl)
  refine sum_fin _ _ fun k => ?_
  rw [v49_at, val_main_v0_apply, Ideal.extf_def]
  exact congrArg₂ (fun x y : EReal => x * y) rfl (eq_at2 (a := 1024) (b := 1024) x4 _ rfl rfl)

theorem v61_at (i : S4096x1024.Idx) : val_main_v61 (F := Ideal) x0 x1 x4 x5 i = right x0 x1 x4 x5 (i 0).val (i 1).val := by
  rw [val_main_v61_apply, val_main_v59_apply, v49_at, v58_at, v60_at]
  rfl

theorem v63_at (i : S4096x2048.Idx) : val_main_v63 (F := Ideal) x0 x1 x2 x3 x4 x5 i = GateFwd.out x0 x1 x2 x3 x4 x5 i := by
  rw [val_main_v63_apply, Ideal.truncf_def]
  idx_vars i
  unfold val_main_v62
  pointwise
  unfold GateFwd.out
  by_cases h : i1.val < 1024
  · exact (dif_pos h).trans ((v36_at x0 x2 x3 _).trans (if_pos h).symm)
  · exact (dif_neg h).trans ((v61_at x0 x1 x4 x5 _).trans (if_neg h).symm)

end Cert.Reference6Ideal.Val

end
-- ==== Proof.GateFwd.Claim.lean ====
/-
  The gates forward: the kernel and the reference leave the same array.
-/
module

public import proofs.«01_k».proof.Proof.GateFwd.Ref
public import proofs.«01_k».proof.Proof.Gen.Reference6Ideal.Run
public import proofs.«01_k».proof.Defs

@[expose] public section

noncomputable section

namespace Cert.Proof

open Cert.GateFwd Idealize.ShloMosaic Idealize.ShloMosaic.TcCoe Idealize.SL.Sem

theorem algebraic_gate_fwd [hK : Cert.Kernel6Ideal.Facts] [hR : Cert.Reference6Ideal.Facts] :
    Cert.algebraic_Kernel6Ideal_Reference6Ideal (hKernel6Ideal := hK) (hReference6Ideal := hR) := by
  intro m g m' g' hpre hagree
  refine ⟨fun c => GateFwd.out (Cert.Kernel6Ideal.Val.A0 m c) (Cert.Kernel6Ideal.Val.A1 m c) (Cert.Kernel6Ideal.Val.A2 m c) (Cert.Kernel6Ideal.Val.A3 m c)
      (Cert.Kernel6Ideal.Val.A4 m c) (Cert.Kernel6Ideal.Val.A5 m c),
    Cert.Kernel6Ideal.Val.run m g,
    (θ_run Cert.Reference6Ideal.defs _ _).mono (fun r h c => ?_) (Cert.Reference6Ideal.Value.run m' g')⟩
  obtain ⟨a0, a1, a2, a3, a4, a5⟩ := hagree c
  refine ⟨((h c).1.trans (Cert.Reference6Ideal.Read.val_main_v63_eq _ _)).trans (funext fun i => ?_), (h c).2⟩
  rw [Cert.Reference6Ideal.Val.v63_at, a0, a1, a2, a3, a4, a5]

end Cert.Proof

end
-- ==== Proof.InProj.Value.lean ====
/-
  The call that multiplies the activations with the three gathered shards of the weight: every block of 512 rows and of
  one shard's columns is written with the product; the device's own columns keep what they held.
-/
module

public import proofs.«01_k».proof.Proof.InProj.OkIdeal

@[expose] public section

noncomputable section

namespace Cert.Kernel7Ideal.Val

open Cert.Kernel7Ideal Cert.Kernel7Ideal.Gen Cert.Shared Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## The body's value -/

theorem pay1_at (v0 : Vec Ideal S512x2048 .bf16) (v1 : Vec Ideal S1x2048x1536 .bf16) (j : S512x1536.Idx) :
    (k0_pay1 v0 v1) j = ∑ k : Fin 2048, (v0 (ix2 (j 0) k) : EReal) * v1 (ix3 (0 : Fin 1) k (j 1)) := by
  idx_vars j
  unfold k0_pay1
  pointwise

section
variable (c : Dev nD) (i : grid0.Coords) (a3 : Memref sig .tc .vmem S512x2048 .bf16) (h3 : a3.IsWhole)
  (a4 : Memref sig .tc .vmem S1x2048x1536 .bf16) (h4 : a4.IsWhole) (a5 : Memref sig .tc .vmem S8x128 .f32) (h5 : a5.IsWhole)
  (a7 : Memref sig .tc .vmem S512x1536 .f32) (h7 : a7.IsWhole)
  (x0 : Vec Ideal S512x2048 .bf16) (x1 : Vec Ideal S1x2048x1536 .bf16) (x2 : Vec Ideal S8x128 .f32) (xt : TbBuf0 (F := Ideal) c tbM0_0)

theorem out_A : out0_A_3 c i a3 h3 a4 h4 a5 h5 a7 h7 x0 x1 x2 xt = k0_pay1 x0 x1 := by
  unfold out0_A_3
  rw [View.read_writes_eq_canon _ _ _ (cover0_A_3 c i a3 h3 a4 h4 a5 h5 a7 h7 x0 x1 x2 xt)]
  unfold kernelRun0_A
  dsimp only
  rw [View.canon_unit_zero (S := S512x1536) hz2]
  simp only [View.readAt_eq_ld, h3.read_unread, h4.read_unread, View.ld_unit_zero (S := S512x2048) hz2, View.ld_unit_zero (S := S1x2048x1536) hz3]
end

/-! ## The blocks -/

theorem crd : ∀ t : Fin grid0.N, (grid0.coords t 0).val = t.val / 8 ∧ (grid0.coords t 1).val = t.val % 8 := by
  decide +kernel

/-- The shard a point works on. -/
def shard (t : Nat) : Nat := ((place m 0).toNat + 1 + t / 8) % 4

theorem shard_eq (hp : (place m 0).toNat < 4) (t : Fin grid0.N) :
    (shardW (place m 0) (BitVec.ofNat 32 (grid0.coords t 0).val)).toNat = shard m t.val := by
  have h0 : (grid0.coords t 0).val < 3 := (grid0.coords t 0).isLt
  rw [shardW_val _ hp _ h0, (crd t).1]
  rfl

theorem row_eq (t : Fin grid0.N) : (BitVec.ofNat 32 (grid0.coords t 1).val).toNat = t.val % 8 := by
  rw [(crd t).2, BitVec.toNat_ofNat]; omega

/-- The block each window is at, by point. -/
abbrev bix0 (t : Fin grid0.N) : Fin 2 → Nat := cc0_transform_0 (grid0.coords t)
abbrev bix1 (t : Fin grid0.N) : Fin 3 → Nat := cc0_transform_1 Facts₀.inb_S2_S1_1 Facts₀.numel1_S1 (tbl m) (grid0.coords t)
abbrev bix3 (t : Fin grid0.N) : Fin 2 → Nat := cc0_transform_4 Facts₀.inb_S2_S1_1 Facts₀.numel1_S1 (tbl m) (grid0.coords t)

section
variable (hO : Ok m)

theorem idx0 (t : Fin grid0.N) : bix0 t 0 = t.val % 8 ∧ bix0 t 1 = 0 :=
  ⟨row_eq t, rfl⟩

theorem idx1 (hp : (place m 0).toNat < 4) (t : Fin grid0.N) : bix1 m t 0 = shard m t.val ∧ bix1 m t 1 = 0 ∧ bix1 m t 2 = 0 :=
  ⟨(congrFun (idx1_eq m (grid0.coords t)) 0).trans (shard_eq m hp t), congrFun (idx1_eq m (grid0.coords t)) 1,
    congrFun (idx1_eq m (grid0.coords t)) 2⟩

theorem idx3 (hp : (place m 0).toNat < 4) (t : Fin grid0.N) : bix3 m t 0 = t.val % 8 ∧ bix3 m t 1 = shard m t.val :=
  ⟨(congrFun (idx3_eq m (grid0.coords t)) 0).trans (row_eq t), (congrFun (idx3_eq m (grid0.coords t)) 1).trans (shard_eq m hp t)⟩

/-- The activations, the gathered weight and the columns multiplied before, as the program finds them. -/
abbrev A (c : Dev nD) : (⟨2, ![4096, 2048]⟩ : Shape).Idx → EReal := m ((c : Thread nD τ).loc main_arg1)
abbrev B (c : Dev nD) : (⟨3, ![4, 2048, 1536]⟩ : Shape).Idx → EReal := m ((c : Thread nD τ).loc main_arg2)
abbrev D (c : Dev nD) : (⟨2, ![4096, 6144]⟩ : Shape).Idx → EReal := m ((c : Thread nD τ).loc main_arg3)

theorem blk0_at (c : Dev nD) (t : Fin (cfgM m hO).N) (j : S512x2048.Idx) :
    (iblk m hO c 0 t : Vec Ideal S512x2048 .bf16) j = at2 (A m c) (512 * (t.val % 8) + (j 0).val) (j 1).val := by
  have hV : V m c (Pipeline.arrRef spec0 0) = A m c := V_main_arg1 m c
  unfold iblk
  refine (congrFun hV ((((cfgM m hO).win 0).blk t).view.emb j)).trans (eq_at2 (A m c) _ ?_ ?_)
  · show bix0 t 0 * 512 + 1 * (j 0).val = _; rw [(idx0 t).1]; omega
  · show bix0 t 1 * 2048 + 1 * (j 1).val = _; rw [(idx0 t).2]; omega

theorem blk1_at (hp : (place m 0).toNat < 4) (c : Dev nD) (t : Fin (cfgM m hO).N) (j : S1x2048x1536.Idx) :
    (iblk m hO c 1 t : Vec Ideal S1x2048x1536 .bf16) j = at3 (B m c) (shard m t.val) (j 1).val (j 2).val := by
  have hj : (j 0).val < 1 := (j 0).isLt
  have hV : V m c (Pipeline.arrRef spec0 1) = B m c := V_main_arg2 m c
  unfold iblk
  refine (congrFun hV ((((cfgM m hO).win 1).blk t).view.emb j)).trans (eq_at3 (B m c) _ ?_ ?_ ?_)
  · show bix1 m t 0 * 1 + 1 * (j 0).val = _; rw [(idx1 m hp t).1]; omega
  · show bix1 m t 1 * 2048 + 1 * (j 1).val = _; rw [(idx1 m hp t).2.1]; omega
  · show bix1 m t 2 * 1536 + 1 * (j 2).val = _; rw [(idx1 m hp t).2.2]; omega

/-! ## The array after the run -/

/-- The product at a row and a column of the whole weight. -/
def dotAt (c : Dev nD) (p q : Nat) : EReal := ∑ k ∈ Finset.range 2048, at2 (A m c) p k * at3 (B m c) (q / 1536) k (q % 1536)

/-- The whole product. -/
def prod (c : Dev nD) : (⟨2, ![4096, 6144]⟩ : Shape).Idx → EReal := fun i => dotAt m c (i 0).val (i 1).val

theorem flush3 (t : Fin (cfgM m hO).N) : ((cfgM m hO).win 3).flush t = true :=
  (Pipeline.Window.flushOf_reads (G := grid0) (cc0_transform_4 Facts₀.inb_S2_S1_1 Facts₀.numel1_S1 (tbl m)) reads0_3 (Facts₀.hreads0_3 (tbl m)) 1 (by decide) (by decide)
    (Pipeline.Window.sep_of_coord _ 1 0 (fun _ => rfl) (by decide)) (P := 1) (m := 0) (by decide) rfl t).mpr (Nat.mod_one _)

theorem flushed3_eq (hp : (place m 0).toNat < 4) (c : Dev nD) (t : Fin (cfgM m hO).N) :
    (dats m hO 0 c).flushed 3 t = (((cfgM m hO).win 3).blk t).view.read (Elt Ideal) (prod m c) := by
  have hs : shard m t.val < 4 := Nat.mod_lt _ (by decide)
  show (dats m hO 0 c).after 3 t = _
  rw [after0_3]
  refine funext fun (j : S512x1536.Idx) => ?_
  have hj : (j 1).val < 1536 := (j 1).isLt
  have hE : outsAt0 m hO c t = k0_pay1 (iblk m hO c 0 t : Vec Ideal S512x2048 .bf16) (iblk m hO c 1 t : Vec Ideal S1x2048x1536 .bf16) :=
    out_A c (grid0.coords t) _ _ _ _ _ _ _ _ _ _ _ _
  have hL : outsAt0 m hO c t j = dotAt m c (512 * (t.val % 8) + (j 0).val) (1536 * shard m t.val + (j 1).val) := by
    refine (congrFun hE j).trans ((pay1_at _ _ j).trans ?_)
    unfold dotAt
    rw [show (1536 * shard m t.val + (j 1).val) / 1536 = shard m t.val by omega,
      show (1536 * shard m t.val + (j 1).val) % 1536 = (j 1).val by omega]
    exact sum_fin _ _ fun k => congrArg₂ (fun x y : EReal => x * y) (blk0_at m hO c t (ix2 (j 0) k)) (blk1_at m hO hp c t (ix3 (0 : Fin 1) k (j 1)))
  refine hL.trans (congrArg₂ (dotAt m c) ?_ ?_)
  · show _ = bix3 m t 0 * 512 + 1 * (j 0).val; rw [(idx3 m hp t).1]; omega
  · show _ = bix3 m t 1 * 1536 + 1 * (j 1).val; rw [(idx3 m hp t).2]; omega

theorem mem3 (hp : (place m 0).toNat < 4) (t : Fin (cfgM m hO).N) (i : S4096x6144.Idx) :
    i ∈ (((cfgM m hO).win 3).blk t).view.set ↔ (i 0).val / 512 = t.val % 8 ∧ (i 1).val / 1536 = shard m t.val := by
  have h0 : (i 0).val < 4096 := (i 0).isLt
  have h1 : (i 1).val < 6144 := (i 1).isLt
  refine Iff.trans (b := i ∈ (((cfgM m hO).win 3).rect t).set) (iff_of_eq (congrArg (i ∈ ·) (View.set_slice_whole main_v0 (((cfgM m hO).win 3).rect t)))) ?_
  refine Rect.mem_set_unit.trans ?_
  constructor
  · intro h
    have a0 : bix3 m t 0 * 512 ≤ (i 0 : Nat) ∧ (i 0 : Nat) < bix3 m t 0 * 512 + 512 := h (0 : Fin 2)
    have a1 : bix3 m t 1 * 1536 ≤ (i 1 : Nat) ∧ (i 1 : Nat) < bix3 m t 1 * 1536 + 1536 := h (1 : Fin 2)
    rw [(idx3 m hp t).1] at a0
    rw [(idx3 m hp t).2] at a1
    omega
  · rintro ⟨e0, e1⟩ a
    match a with
    | ⟨0, _⟩ => show bix3 m t 0 * 512 ≤ (i 0 : Nat) ∧ (i 0 : Nat) < bix3 m t 0 * 512 + 512
                rw [(idx3 m hp t).1]; omega
    | ⟨1, _⟩ => show bix3 m t 1 * 1536 ≤ (i 1 : Nat) ∧ (i 1 : Nat) < bix3 m t 1 * 1536 + 1536
                rw [(idx3 m hp t).2]; omega

/-- The result: the device's own columns as they were, the product everywhere else. -/
def res (c : Dev nD) : (⟨2, ![4096, 6144]⟩ : Shape).Idx → EReal :=
  fun i => if (i 1).val / 1536 = (place m 0).toNat then D m c i else prod m c i

theorem V_main_v0 (c : Dev nD) : V m c main_v0 = m ((c : Thread nD τ).loc main_arg3) := by
  unfold V
  simp only [hostOps0]
  after_results
  rfl

theorem final3 (hp : (place m 0).toNat < 4) (c : Dev nD) : (dats m hO 0 c).arrAt 3 (cfgM m hO).N = res m c := by
  have hN : (cfgM m hO).N = 24 := N_0
  refine funext fun (i : S4096x6144.Idx) => ?_
  have h0 : (i 0).val < 4096 := (i 0).isLt
  have h1 : (i 1).val < 6144 := (i 1).isLt
  refine ((dats m hO 0 c).arrAt_eq_piecewise 3 (prod m c) (fun t _ => flushed3_eq m hO hp c t) i).trans ?_
  unfold res
  by_cases h : (i 1).val / 1536 = (place m 0).toNat
  · rw [if_pos h]
    refine (if_neg ?_).trans ?_
    swap
    · rw [A_eq]
      exact congrFun (V_main_v0 m c) i
    · rintro ⟨t, _, ht⟩
      have e := ((mem3 m hO hp t i).mp ht).2
      have ht' : t.val < 24 := hN ▸ t.isLt
      unfold shard at e
      omega
  · rw [if_neg h]
    refine if_pos ?_
    refine ⟨⟨8 * (((i 1).val / 1536 + 3 - (place m 0).toNat) % 4) + (i 0).val / 512, ?_⟩, flush3 m hO _, (mem3 m hO hp _ i).mpr ⟨?_, ?_⟩⟩
    · rw [hN]; omega
    · show _ = (8 * (((i 1).val / 1536 + 3 - (place m 0).toNat) % 4) + (i 0).val / 512) % 8; omega
    · show _ = ((place m 0).toNat + 1 + (8 * (((i 1).val / 1536 + 3 - (place m 0).toNat) % 4) + (i 0).val / 512) / 8) % 4; omega

/-- Every run ends with the result as stated and the operands as they were. -/
theorem run (hp : (place m 0).toNat < 4) (hO : Ok m) : θ_run defs (onTc (τ := τ) (main (F := Ideal))) ⟨m, fun _ => 0, ρ⟩ fun r => ∀ c : Dev nD,
      r.2.mem ((c : Thread nD τ).loc main_v0) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h.1 c).1 3).trans (final3 m hO hp c), h.2 c⟩)
    (θ_run_and (run_main m ρ hO) (unchanged m ρ hO))
end

end Cert.Kernel7Ideal.Val

end
-- ==== Proof.InProj.Claim.lean ====
/-
  The input projection over the gathered weight: the reference, which multiplies by all four shards and then keeps the
  device's own columns as they were, read at an index is the kernel's result, so the two programs end with equal results.
-/
module

public import proofs.«01_k».proof.Proof.InProj.Value
public import proofs.«01_k».proof.Proof.Gen.Reference7Ideal.Read
public import proofs.«01_k».proof.Defs

@[expose] public section

noncomputable section

namespace Cert.Reference7Ideal.Val

open Cert.Reference7Ideal Cert.Reference7Ideal.Gen Cert.Shared Idealize.ShloMosaic Idealize.ShloMosaic.TcCoe Idealize.SL.Sem

/-- The shard a column belongs to, as the reference computes it. -/
theorem col_at (i : S6144.Idx) : Read.val_main_v4 (F := Ideal) i = BitVec.ofNat 32 ((i 0).val / 1536) := by
  refine Eq.trans (b := colW (i 0).val) ?_ (colW_lit ⟨(i 0).val, (i 0).isLt⟩)
  rfl

/-- The device's own place, as the reference reads it. -/
theorem own_at (x0 : Vec Ideal S2 .i32) (i : S6144.Idx) : Read.val_main_v7 (F := Ideal) x0 i = x0 (ix1 (1 : Fin 2)) := by
  rw [Read.val_main_v7_apply]
  refine Eq.trans (b := Read.val_main_v5 (F := Ideal) x0 (ix1 (0 : Fin 1))) ?_ ?_
  · unfold Read.val_main_v6
    generalize Read.val_main_v5 (F := Ideal) x0 = y
    refine shapeCast_apply y _ _ (ix1 (0 : Fin 1)) ?_
    have ha : (S1.rowMajor (ix1 (0 : Fin 1))).val < 1 := (S1.rowMajor (ix1 (0 : Fin 1))).isLt
    have hb : (S_.rowMajor (Read.idx_main_v7 i)).val < 1 := (S_.rowMajor (Read.idx_main_v7 i)).isLt
    exact (Nat.lt_one_iff.mp ha).trans (Nat.lt_one_iff.mp hb).symm
  · rw [Read.val_main_v5_apply]
    refine congrArg x0 (funext fun a => ?_)
    match a with
    | ⟨0, _⟩ => rfl

/-- The whole product at an index. -/
theorem prod_at (x1 : Vec Ideal S4096x2048 .bf16) (x2 : Vec Ideal S4x2048x1536 .bf16) (i : S4096x6144.Idx) :
    Read.val_main_v10 (F := Ideal) x1 x2 i
      = ∑ k ∈ Finset.range 2048, at2 x1 (i 0).val k * at3 x2 ((i 1).val / 1536) k ((i 1).val % 1536) := by
  rw [Read.val_main_v10_apply]
  refine sum_fin _ _ fun k => ?_
  have h1 : (i 1).val < 6144 := (i 1).isLt
  rw [Read.val_main_v9_apply, Read.val_main_v2_apply, Read.val_main_v1_apply, Read.val_main_v0_apply]
  refine congrArg₂ (fun x y : EReal => x * y) (eq_at2 x1 _ rfl rfl) (eq_at3 x2 _ ?_ ?_ ?_)
  · show (k.val * 6144 + (i 1).val) / 1536 % 4 = _; omega
  · show (k.val * 6144 + (i 1).val) / 6144 = _; omega
  · show (k.val * 6144 + (i 1).val) % 1536 = _; omega

/-- A choice by comparing a small number with a word. -/
theorem pick (q : Nat) (hq : q < 4) (w : BitVec 32) (a b : EReal) :
    Scalar.select (IntOp.cmpi .eq (BitVec.ofNat 32 q) w) a b = if q = w.toNat then a else b := by
  have e : (BitVec.ofNat 32 q = w) ↔ q = w.toNat := by
    constructor
    · intro h; rw [← h, BitVec.toNat_ofNat]; omega
    · intro h; rw [h, BitVec.ofNat_toNat, BitVec.setWidth_eq]
  unfold Scalar.select IntOp.cmpi
  by_cases h : q = w.toNat
  · rw [if_pos h, e.mpr h]; simp
  · have hb : (BitVec.ofNat 32 q == w) = false := beq_eq_false_iff_ne.mpr (mt e.mp h)
    rw [if_neg h]; simp [hb]

/-- The reference's result at an index. -/
theorem res_at (x0 : Vec Ideal S2 .i32) (x1 : Vec Ideal S4096x2048 .bf16) (x2 : Vec Ideal S4x2048x1536 .bf16) (x3 : Vec Ideal S4096x6144 .f32)
    (i : S4096x6144.Idx) : Read.val_main_v11 (F := Ideal) x0 x1 x2 x3 i
      = if (i 1).val / 1536 = (x0 (ix1 (1 : Fin 2))).toNat then x3 i
        else ∑ k ∈ Finset.range 2048, at2 x1 (i 0).val k * at3 x2 ((i 1).val / 1536) k ((i 1).val % 1536) := by
  have h1 : (i 1).val < 6144 := (i 1).isLt
  rw [Read.val_main_v11_apply, Read.val_main_call1_v0_apply, Read.val_main_v8_apply, col_at, own_at, prod_at]
  exact pick ((i 1).val / 1536) (by omega) _ _ _

end Cert.Reference7Ideal.Val

namespace Cert.Proof

open Idealize.ShloMosaic Idealize.ShloMosaic.TcCoe Idealize.SL.Sem

theorem algebraic_in_proj [hK : Cert.Kernel7Ideal.Facts] [hR : Cert.Reference7Ideal.Facts] [hP : Cert.Pre_on_mesh.Facts] :
    Cert.algebraic_Kernel7Ideal_Reference7Ideal (hKernel7Ideal := hK) (hReference7Ideal := hR) (hPre_on_mesh := hP) := by
  intro m g m' g' hpre hagree
  have hp := Cert.Kernel7Ideal.Val.place_lt m hpre
  have hO := Cert.Kernel7Ideal.Val.ok_of_pre m hpre
  refine ⟨fun c => Cert.Kernel7Ideal.Val.res m c, Cert.Kernel7Ideal.Val.run m g hp hO,
    (θ_run Cert.Reference7Ideal.defs _ _).mono (fun r h c => ?_) (Cert.Reference7Ideal.Value.run m' g')⟩
  refine ⟨((h c).1.trans (Cert.Reference7Ideal.Read.val_main_v11_eq _ _ _ _)).trans ?_, (h c).2⟩
  funext i
  obtain ⟨e0, e1, e2, e3, _⟩ := hagree c
  rw [Cert.Reference7Ideal.Val.res_at, e0, e1, e2, e3]
  obtain rfl : c = 0 := Subsingleton.elim c 0
  rfl

end Cert.Proof

end
-- ==== Proof.AdamW.Step.lean ====
/-
  The optimiser's step of one weight: the two running moments and the change of the weight.
-/
module

public import Idealize.ShloMosaic.Lib.Pointwise

@[expose] public section

noncomputable section

namespace Cert.AdamW

open Idealize.ShloMosaic

/-- The new first moment, of a gradient and the old first moment. -/
def mom (g m : EReal) : EReal :=
  Ideal.ofBits FTy.f32 0x3F666666#32 * m + Ideal.ofBits FTy.f32 0x3DCCCCCD#32 * g

/-- The new second moment, of a gradient and the old second moment. -/
def vel (g v : EReal) : EReal :=
  Ideal.ofBits FTy.f32 0x3F7FBE77#32 * v + Ideal.ofBits FTy.f32 0x3A83126F#32 * (g * g)

/-- The change of a weight: the corrected first moment over the root of the corrected second, and the weight's decay. -/
def dlt (w g m v : EReal) : EReal :=
  Ideal.ofBits FTy.f32 0xBA83126F#32
    * (Ideal.div (Ideal.div (mom g m) (Ideal.ofBits FTy.f32 0x3F26BD02#32))
        (Ideal.sqrt (Ideal.div (vel g v) (Ideal.ofBits FTy.f32 0x3C231ACC#32)) + Ideal.ofBits FTy.f32 0x322BCC77#32)
      + Ideal.ofBits FTy.f32 0x3C23D70A#32 * w)

/-- The step on whole arrays, entry by entry. -/
def MOM {s : Shape} (g m : s.Idx → EReal) : s.Idx → EReal := fun i => mom (g i) (m i)
def VEL {s : Shape} (g v : s.Idx → EReal) : s.Idx → EReal := fun i => vel (g i) (v i)
def DLT {s : Shape} (w g m v : s.Idx → EReal) : s.Idx → EReal := fun i => dlt (w i) (g i) (m i) (v i)

end Cert.AdamW

end
-- ==== Proof.AdamW.RunWIn.lean ====
/-
  The optimiser's step on the input projection's weights: what the kernel leaves.
-/
module

public import proofs.«01_k».proof.Proof.AdamW.Step
public import proofs.«01_k».proof.Proof.Gen.Kernel8Ideal.Value

@[expose] public section

noncomputable section

namespace Cert.Kernel8Ideal.Val

open Cert.Kernel8Ideal Cert.Kernel8Ideal.Gen Cert.AdamW Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The operands, as the program finds them. -/
abbrev A0 (c : Dev nD) : S2048x1536.Idx → EReal := m ((c : Thread nD τ).loc main_arg0)
abbrev A1 (c : Dev nD) : S2048x1536.Idx → EReal := m ((c : Thread nD τ).loc main_arg1)
abbrev A2 (c : Dev nD) : S2048x1536.Idx → EReal := m ((c : Thread nD τ).loc main_arg2)
abbrev A3 (c : Dev nD) : S2048x1536.Idx → EReal := m ((c : Thread nD τ).loc main_arg3)

/-! ## The body on its blocks -/

theorem hz : (![0, 0] : Fin 2 → Nat) = fun _ => 0 := funext fun a => by fin_cases a <;> rfl

variable (x0 x1 x2 x3 : Vec Ideal S256x1536 .f32)

theorem out4_at (j : S256x1536.Idx) : out0_4 (F := Ideal) x0 x1 x2 x3 j = dlt (x0 j) (x1 j) (x2 j) (x3 j) := by
  unfold out0_4
  rw [View.canon_unit_zero hz, View.ld_unit_zero (S := S256x1536) hz _ x1, View.ld_unit_zero (S := S256x1536) hz _ x2, View.ld_unit_zero (S := S256x1536) hz _ x3, View.ld_unit_zero (S := S256x1536) hz _ x0]
  unfold k0_pay4 k0_pay2 k0_pay3
  pointwise
  rfl

theorem out5_at (j : S256x1536.Idx) : out0_5 (F := Ideal) x0 x1 x2 x3 j = mom (x1 j) (x2 j) := by
  unfold out0_5
  rw [View.canon_unit_zero hz, View.ld_unit_zero (S := S256x1536) hz _ x1, View.ld_unit_zero (S := S256x1536) hz _ x2]
  unfold k0_pay5 k0_pay2
  pointwise
  rfl

theorem out6_at (j : S256x1536.Idx) : out0_6 (F := Ideal) x0 x1 x2 x3 j = vel (x1 j) (x3 j) := by
  unfold out0_6
  rw [View.canon_unit_zero hz, View.ld_unit_zero (S := S256x1536) hz _ x1, View.ld_unit_zero (S := S256x1536) hz _ x3]
  unfold k0_pay1 k0_pay3
  pointwise
  rfl

/-! ## The blocks are the rows of the arrays -/

theorem idx0 : ∀ t : Fin cfg0.N, win0_0.index t 0 = t.val ∧ win0_0.index t 1 = 0 :=
  (by decide +kernel : ∀ t : Fin grid0.N, _)
theorem idx1 : ∀ t : Fin cfg0.N, win0_1.index t 0 = t.val ∧ win0_1.index t 1 = 0 :=
  (by decide +kernel : ∀ t : Fin grid0.N, _)
theorem idx2 : ∀ t : Fin cfg0.N, win0_2.index t 0 = t.val ∧ win0_2.index t 1 = 0 :=
  (by decide +kernel : ∀ t : Fin grid0.N, _)
theorem idx3 : ∀ t : Fin cfg0.N, win0_3.index t 0 = t.val ∧ win0_3.index t 1 = 0 :=
  (by decide +kernel : ∀ t : Fin grid0.N, _)
theorem idx4 : ∀ t : Fin cfg0.N, win0_4.index t 0 = t.val ∧ win0_4.index t 1 = 0 :=
  (by decide +kernel : ∀ t : Fin grid0.N, _)
theorem idx5 : ∀ t : Fin cfg0.N, win0_5.index t 0 = t.val ∧ win0_5.index t 1 = 0 :=
  (by decide +kernel : ∀ t : Fin grid0.N, _)
theorem idx6 : ∀ t : Fin cfg0.N, win0_6.index t 0 = t.val ∧ win0_6.index t 1 = 0 :=
  (by decide +kernel : ∀ t : Fin grid0.N, _)

/-- Where a block's index lies in the array. -/
def up (t : Fin cfg0.N) (j : S256x1536.Idx) : S2048x1536.Idx := fun a => match a with
  | ⟨0, _⟩ => ⟨256 * t.val + (j 0).val, by
      have hN : cfg0.N = 8 := N_0
      have ht : t.val < cfg0.N := t.isLt
      have hj : (j 0).val < 256 := (j 0).isLt
      show _ < 2048; omega⟩
  | ⟨1, _⟩ => ⟨(j 1).val, (j 1).isLt⟩

theorem blk0_at (c : Dev nD) (t : Fin cfg0.N) (j : S256x1536.Idx) : (iblk m c 0 t : Vec Ideal S256x1536 .f32) j = A0 m c (up t j) := by
  unfold iblk
  rw [View.read_apply]
  refine congrArg (A0 m c) (funext fun a => Fin.ext ?_)
  match a with
  | ⟨0, _⟩ => show win0_0.index t 0 * 256 + 1 * (j 0).val = 256 * t.val + (j 0).val; rw [(idx0 t).1]; omega
  | ⟨1, _⟩ => show win0_0.index t 1 * 1536 + 1 * (j 1).val = (j 1).val; rw [(idx0 t).2]; omega

theorem blk1_at (c : Dev nD) (t : Fin cfg0.N) (j : S256x1536.Idx) : (iblk m c 1 t : Vec Ideal S256x1536 .f32) j = A1 m c (up t j) := by
  unfold iblk
  rw [View.read_apply]
  refine congrArg (A1 m c) (funext fun a => Fin.ext ?_)
  match a with
  | ⟨0, _⟩ => show win0_1.index t 0 * 256 + 1 * (j 0).val = 256 * t.val + (j 0).val; rw [(idx1 t).1]; omega
  | ⟨1, _⟩ => show win0_1.index t 1 * 1536 + 1 * (j 1).val = (j 1).val; rw [(idx1 t).2]; omega

theorem blk2_at (c : Dev nD) (t : Fin cfg0.N) (j : S256x1536.Idx) : (iblk m c 2 t : Vec Ideal S256x1536 .f32) j = A2 m c (up t j) := by
  unfold iblk
  rw [View.read_apply]
  refine congrArg (A2 m c) (funext fun a => Fin.ext ?_)
  match a with
  | ⟨0, _⟩ => show win0_2.index t 0 * 256 + 1 * (j 0).val = 256 * t.val + (j 0).val; rw [(idx2 t).1]; omega
  | ⟨1, _⟩ => show win0_2.index t 1 * 1536 + 1 * (j 1).val = (j 1).val; rw [(idx2 t).2]; omega

theorem blk3_at (c : Dev nD) (t : Fin cfg0.N) (j : S256x1536.Idx) : (iblk m c 3 t : Vec Ideal S256x1536 .f32) j = A3 m c (up t j) := by
  unfold iblk
  rw [View.read_apply]
  refine congrArg (A3 m c) (funext fun a => Fin.ext ?_)
  match a with
  | ⟨0, _⟩ => show win0_3.index t 0 * 256 + 1 * (j 0).val = 256 * t.val + (j 0).val; rw [(idx3 t).1]; omega
  | ⟨1, _⟩ => show win0_3.index t 1 * 1536 + 1 * (j 1).val = (j 1).val; rw [(idx3 t).2]; omega

/-! ## The arrays after the run -/

/-- The point that writes back the rows an index lies in. -/
def pt (i : S2048x1536.Idx) : Fin cfg0.N := ⟨(i 0).val / 256, by
  have h0 : (i 0).val < 2048 := (i 0).isLt
  have hN : cfg0.N = 8 := N_0
  rw [hN]; omega⟩

theorem flushed4_eq (c : Dev nD) (t : Fin cfg0.N) (hf : (cfg0.win 4).flush t = true) :
    (dats m 0 c).flushed 4 t = ((cfg0.win 4).blk t).view.read (Elt Ideal) (DLT (A0 m c) (A1 m c) (A2 m c) (A3 m c)) := by
  rw [Value.flushed4]
  funext j
  rw [View.read_apply]
  have e : ((cfg0.win 4).blk t).view.emb j = up t j := funext fun a => Fin.ext (by
    match a with
    | ⟨0, _⟩ => show win0_4.index t 0 * 256 + 1 * (j 0).val = 256 * t.val + (j 0).val; rw [(idx4 t).1]; omega
    | ⟨1, _⟩ => show win0_4.index t 1 * 1536 + 1 * (j 1).val = (j 1).val; rw [(idx4 t).2]; omega)
  refine Eq.trans ?_ (congrArg (DLT (A0 m c) (A1 m c) (A2 m c) (A3 m c)) e.symm)
  refine (out4_at (iblk m c 0 t) (iblk m c 1 t) (iblk m c 2 t) (iblk m c 3 t) j).trans ?_
  rw [blk0_at, blk1_at, blk2_at, blk3_at]
  rfl

theorem final4 (c : Dev nD) : (dats m 0 c).arrAt 4 cfg0.N = DLT (A0 m c) (A1 m c) (A2 m c) (A3 m c) :=
  (dats m 0 c).arrAt_eq_of_cover 4 (DLT (A0 m c) (A1 m c) (A2 m c) (A3 m c)) (flushed4_eq m c) fun i =>
    ⟨pt i, flush0_4 _, by
      have h0 : (i 0).val < 2048 := (i 0).isLt
      have h1 : (i 1).val < 1536 := (i 1).isLt
      have hv : (pt i).val = (i 0).val / 256 := rfl
      show i ∈ ((View.whole main_v0_0).slice (win0_4.rect (pt i))).set
      rw [View.set_slice_whole, Rect.mem_set_unit]
      intro a
      match a with
      | ⟨0, _⟩ => show win0_4.index (pt i) 0 * 256 ≤ (i 0 : Nat) ∧ (i 0 : Nat) < win0_4.index (pt i) 0 * 256 + 256
                  rw [(idx4 _).1]; omega
      | ⟨1, _⟩ => show win0_4.index (pt i) 1 * 1536 ≤ (i 1 : Nat) ∧ (i 1 : Nat) < win0_4.index (pt i) 1 * 1536 + 1536
                  rw [(idx4 _).2]; omega⟩

theorem flushed5_eq (c : Dev nD) (t : Fin cfg0.N) (hf : (cfg0.win 5).flush t = true) :
    (dats m 0 c).flushed 5 t = ((cfg0.win 5).blk t).view.read (Elt Ideal) (MOM (A1 m c) (A2 m c)) := by
  rw [Value.flushed5]
  funext j
  rw [View.read_apply]
  have e : ((cfg0.win 5).blk t).view.emb j = up t j := funext fun a => Fin.ext (by
    match a with
    | ⟨0, _⟩ => show win0_5.index t 0 * 256 + 1 * (j 0).val = 256 * t.val + (j 0).val; rw [(idx5 t).1]; omega
    | ⟨1, _⟩ => show win0_5.index t 1 * 1536 + 1 * (j 1).val = (j 1).val; rw [(idx5 t).2]; omega)
  refine Eq.trans ?_ (congrArg (MOM (A1 m c) (A2 m c)) e.symm)
  refine (out5_at (iblk m c 0 t) (iblk m c 1 t) (iblk m c 2 t) (iblk m c 3 t) j).trans ?_
  rw [blk1_at, blk2_at]
  rfl

theorem final5 (c : Dev nD) : (dats m 0 c).arrAt 5 cfg0.N = MOM (A1 m c) (A2 m c) :=
  (dats m 0 c).arrAt_eq_of_cover 5 (MOM (A1 m c) (A2 m c)) (flushed5_eq m c) fun i =>
    ⟨pt i, flush0_5 _, by
      have h0 : (i 0).val < 2048 := (i 0).isLt
      have h1 : (i 1).val < 1536 := (i 1).isLt
      have hv : (pt i).val = (i 0).val / 256 := rfl
      show i ∈ ((View.whole main_v0_1).slice (win0_5.rect (pt i))).set
      rw [View.set_slice_whole, Rect.mem_set_unit]
      intro a
      match a with
      | ⟨0, _⟩ => show win0_5.index (pt i) 0 * 256 ≤ (i 0 : Nat) ∧ (i 0 : Nat) < win0_5.index (pt i) 0 * 256 + 256
                  rw [(idx5 _).1]; omega
      | ⟨1, _⟩ => show win0_5.index (pt i) 1 * 1536 ≤ (i 1 : Nat) ∧ (i 1 : Nat) < win0_5.index (pt i) 1 * 1536 + 1536
                  rw [(idx5 _).2]; omega⟩

theorem flushed6_eq (c : Dev nD) (t : Fin cfg0.N) (hf : (cfg0.win 6).flush t = true) :
    (dats m 0 c).flushed 6 t = ((cfg0.win 6).blk t).view.read (Elt Ideal) (VEL (A1 m c) (A3 m c)) := by
  rw [Value.flushed6]
  funext j
  rw [View.read_apply]
  have e : ((cfg0.win 6).blk t).view.emb j = up t j := funext fun a => Fin.ext (by
    match a with
    | ⟨0, _⟩ => show win0_6.index t 0 * 256 + 1 * (j 0).val = 256 * t.val + (j 0).val; rw [(idx6 t).1]; omega
    | ⟨1, _⟩ => show win0_6.index t 1 * 1536 + 1 * (j 1).val = (j 1).val; rw [(idx6 t).2]; omega)
  refine Eq.trans ?_ (congrArg (VEL (A1 m c) (A3 m c)) e.symm)
  refine (out6_at (iblk m c 0 t) (iblk m c 1 t) (iblk m c 2 t) (iblk m c 3 t) j).trans ?_
  rw [blk1_at, blk3_at]
  rfl

theorem final6 (c : Dev nD) : (dats m 0 c).arrAt 6 cfg0.N = VEL (A1 m c) (A3 m c) :=
  (dats m 0 c).arrAt_eq_of_cover 6 (VEL (A1 m c) (A3 m c)) (flushed6_eq m c) fun i =>
    ⟨pt i, flush0_6 _, by
      have h0 : (i 0).val < 2048 := (i 0).isLt
      have h1 : (i 1).val < 1536 := (i 1).isLt
      have hv : (pt i).val = (i 0).val / 256 := rfl
      show i ∈ ((View.whole main_v0_2).slice (win0_6.rect (pt i))).set
      rw [View.set_slice_whole, Rect.mem_set_unit]
      intro a
      match a with
      | ⟨0, _⟩ => show win0_6.index (pt i) 0 * 256 ≤ (i 0 : Nat) ∧ (i 0 : Nat) < win0_6.index (pt i) 0 * 256 + 256
                  rw [(idx6 _).1]; omega
      | ⟨1, _⟩ => show win0_6.index (pt i) 1 * 1536 ≤ (i 1 : Nat) ∧ (i 1 : Nat) < win0_6.index (pt i) 1 * 1536 + 1536
                  rw [(idx6 _).2]; omega⟩

/-- Every run ends with the three results at these values and the operands as they were. -/
theorem run : θ_run defs (onTc (τ := τ) (main (F := Ideal))) ⟨m, fun _ => 0, ρ⟩ fun r => ∀ c : Dev nD,
      r.2.mem ((c : Thread nD τ).loc main_v0_0) = DLT (A0 m c) (A1 m c) (A2 m c) (A3 m c)
      ∧ r.2.mem ((c : Thread nD τ).loc main_v0_1) = MOM (A1 m c) (A2 m c)
      ∧ r.2.mem ((c : Thread nD τ).loc main_v0_2) = VEL (A1 m c) (A3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2.1.trans (final6 m c), (h c).2.2.2⟩)
    (Value.run_blocks m ρ)

end Cert.Kernel8Ideal.Val

end
-- ==== Proof.AdamW.RefWIn.lean ====
/-
  The optimiser's step on the input projection's weights: what the reference's stages are at an index.
-/
module

public import proofs.«01_k».proof.Proof.AdamW.Step
public import proofs.«01_k».proof.Proof.Gen.Reference8Ideal.Read

@[expose] public section

noncomputable section

namespace Cert.Reference8Ideal.Val

open Cert.Reference8Ideal Cert.Reference8Ideal.Gen Cert.Reference8Ideal.Read Cert.AdamW Idealize.ShloMosaic Idealize.ShloMosaic.TcCoe

variable (x0 x1 x2 x3 : Vec Ideal S2048x1536 .f32) (i : S2048x1536.Idx)

theorem v4_at : val_main_v4 (F := Ideal) x1 x2 i = mom (x1 i) (x2 i) := by
  rw [val_main_v4_apply, val_main_v1_apply, val_main_v3_apply, val_main_v0_apply, val_main_v2_apply]
  rfl

theorem v10_at : val_main_v10 (F := Ideal) x1 x3 i = vel (x1 i) (x3 i) := by
  rw [val_main_v10_apply, val_main_v6_apply, val_main_v9_apply, val_main_v7_apply, val_main_v5_apply, val_main_v8_apply]
  rfl

theorem v23_at : val_main_v23 (F := Ideal) x0 x1 x2 x3 i = dlt (x0 i) (x1 i) (x2 i) (x3 i) := by
  rw [val_main_v23_apply, val_main_v22_apply, val_main_v21_apply, val_main_v18_apply, val_main_v20_apply, val_main_v19_apply,
    val_main_v17_apply, val_main_v16_apply, val_main_v15_apply, val_main_v14_apply, val_main_v13_apply, val_main_v12_apply,
    val_main_v11_apply, v10_at, v4_at]
  rfl

end Cert.Reference8Ideal.Val

end
-- ==== Proof.AdamW.RunWOut.lean ====
/-
  The optimiser's step on the output projection's weights: what the kernel leaves.
-/
module

public import proofs.«01_k».proof.Proof.AdamW.Step
public import proofs.«01_k».proof.Proof.Gen.Kernel9Ideal.Value

@[expose] public section

noncomputable section

namespace Cert.Kernel9Ideal.Val

open Cert.Kernel9Ideal Cert.Kernel9Ideal.Gen Cert.AdamW Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The operands, as the program finds them. -/
abbrev A0 (c : Dev nD) : S512x2048.Idx → EReal := m ((c : Thread nD τ).loc main_arg0)
abbrev A1 (c : Dev nD) : S512x2048.Idx → EReal := m ((c : Thread nD τ).loc main_arg1)
abbrev A2 (c : Dev nD) : S512x2048.Idx → EReal := m ((c : Thread nD τ).loc main_arg2)
abbrev A3 (c : Dev nD) : S512x2048.Idx → EReal := m ((c : Thread nD τ).loc main_arg3)

/-! ## The body on its blocks -/

theorem hz : (![0, 0] : Fin 2 → Nat) = fun _ => 0 := funext fun a => by fin_cases a <;> rfl

variable (x0 x1 x2 x3 : Vec Ideal S256x2048 .f32)

theorem out4_at (j : S256x2048.Idx) : out0_4 (F := Ideal) x0 x1 x2 x3 j = dlt (x0 j) (x1 j) (x2 j) (x3 j) := by
  unfold out0_4
  rw [View.canon_unit_zero hz, View.ld_unit_zero (S := S256x2048) hz _ x1, View.ld_unit_zero (S := S256x2048) hz _ x2, View.ld_unit_zero (S := S256x2048) hz _ x3, View.ld_unit_zero (S := S256x2048) hz _ x0]
  unfold k0_pay4 k0_pay2 k0_pay3
  pointwise
  rfl

theorem out5_at (j : S256x2048.Idx) : out0_5 (F := Ideal) x0 x1 x2 x3 j = mom (x1 j) (x2 j) := by
  unfold out0_5
  rw [View.canon_unit_zero hz, View.ld_unit_zero (S := S256x2048) hz _ x1, View.ld_unit_zero (S := S256x2048) hz _ x2]
  unfold k0_pay5 k0_pay2
  pointwise
  rfl

theorem out6_at (j : S256x2048.Idx) : out0_6 (F := Ideal) x0 x1 x2 x3 j = vel (x1 j) (x3 j) := by
  unfold out0_6
  rw [View.canon_unit_zero hz, View.ld_unit_zero (S := S256x2048) hz _ x1, View.ld_unit_zero (S := S256x2048) hz _ x3]
  unfold k0_pay1 k0_pay3
  pointwise
  rfl

/-! ## The blocks are the rows of the arrays -/

theorem idx0 : ∀ t : Fin cfg0.N, win0_0.index t 0 = t.val ∧ win0_0.index t 1 = 0 :=
  (by decide +kernel : ∀ t : Fin grid0.N, _)
theorem idx1 : ∀ t : Fin cfg0.N, win0_1.index t 0 = t.val ∧ win0_1.index t 1 = 0 :=
  (by decide +kernel : ∀ t : Fin grid0.N, _)
theorem idx2 : ∀ t : Fin cfg0.N, win0_2.index t 0 = t.val ∧ win0_2.index t 1 = 0 :=
  (by decide +kernel : ∀ t : Fin grid0.N, _)
theorem idx3 : ∀ t : Fin cfg0.N, win0_3.index t 0 = t.val ∧ win0_3.index t 1 = 0 :=
  (by decide +kernel : ∀ t : Fin grid0.N, _)
theorem idx4 : ∀ t : Fin cfg0.N, win0_4.index t 0 = t.val ∧ win0_4.index t 1 = 0 :=
  (by decide +kernel : ∀ t : Fin grid0.N, _)
theorem idx5 : ∀ t : Fin cfg0.N, win0_5.index t 0 = t.val ∧ win0_5.index t 1 = 0 :=
  (by decide +kernel : ∀ t : Fin grid0.N, _)
theorem idx6 : ∀ t : Fin cfg0.N, win0_6.index t 0 = t.val ∧ win0_6.index t 1 = 0 :=
  (by decide +kernel : ∀ t : Fin grid0.N, _)

/-- Where a block's index lies in the array. -/
def up (t : Fin cfg0.N) (j : S256x2048.Idx) : S512x2048.Idx := fun a => match a with
  | ⟨0, _⟩ => ⟨256 * t.val + (j 0).val, by
      have hN : cfg0.N = 2 := N_0
      have ht : t.val < cfg0.N := t.isLt
      have hj : (j 0).val < 256 := (j 0).isLt
      show _ < 512; omega⟩
  | ⟨1, _⟩ => ⟨(j 1).val, (j 1).isLt⟩

theorem blk0_at (c : Dev nD) (t : Fin cfg0.N) (j : S256x2048.Idx) : (iblk m c 0 t : Vec Ideal S256x2048 .f32) j = A0 m c (up t j) := by
  unfold iblk
  rw [View.read_apply]
  refine congrArg (A0 m c) (funext fun a => Fin.ext ?_)
  match a with
  | ⟨0, _⟩ => show win0_0.index t 0 * 256 + 1 * (j 0).val = 256 * t.val + (j 0).val; rw [(idx0 t).1]; omega
  | ⟨1, _⟩ => show win0_0.index t 1 * 2048 + 1 * (j 1).val = (j 1).val; rw [(idx0 t).2]; omega

theorem blk1_at (c : Dev nD) (t : Fin cfg0.N) (j : S256x2048.Idx) : (iblk m c 1 t : Vec Ideal S256x2048 .f32) j = A1 m c (up t j) := by
  unfold iblk
  rw [View.read_apply]
  refine congrArg (A1 m c) (funext fun a => Fin.ext ?_)
  match a with
  | ⟨0, _⟩ => show win0_1.index t 0 * 256 + 1 * (j 0).val = 256 * t.val + (j 0).val; rw [(idx1 t).1]; omega
  | ⟨1, _⟩ => show win0_1.index t 1 * 2048 + 1 * (j 1).val = (j 1).val; rw [(idx1 t).2]; omega

theorem blk2_at (c : Dev nD) (t : Fin cfg0.N) (j : S256x2048.Idx) : (iblk m c 2 t : Vec Ideal S256x2048 .f32) j = A2 m c (up t j) := by
  unfold iblk
  rw [View.read_apply]
  refine congrArg (A2 m c) (funext fun a => Fin.ext ?_)
  match a with
  | ⟨0, _⟩ => show win0_2.index t 0 * 256 + 1 * (j 0).val = 256 * t.val + (j 0).val; rw [(idx2 t).1]; omega
  | ⟨1, _⟩ => show win0_2.index t 1 * 2048 + 1 * (j 1).val = (j 1).val; rw [(idx2 t).2]; omega

theorem blk3_at (c : Dev nD) (t : Fin cfg0.N) (j : S256x2048.Idx) : (iblk m c 3 t : Vec Ideal S256x2048 .f32) j = A3 m c (up t j) := by
  unfold iblk
  rw [View.read_apply]
  refine congrArg (A3 m c) (funext fun a => Fin.ext ?_)
  match a with
  | ⟨0, _⟩ => show win0_3.index t 0 * 256 + 1 * (j 0).val = 256 * t.val + (j 0).val; rw [(idx3 t).1]; omega
  | ⟨1, _⟩ => show win0_3.index t 1 * 2048 + 1 * (j 1).val = (j 1).val; rw [(idx3 t).2]; omega

/-! ## The arrays after the run -/

/-- The point that writes back the rows an index lies in. -/
def pt (i : S512x2048.Idx) : Fin cfg0.N := ⟨(i 0).val / 256, by
  have h0 : (i 0).val < 512 := (i 0).isLt
  have hN : cfg0.N = 2 := N_0
  rw [hN]; omega⟩

theorem flushed4_eq (c : Dev nD) (t : Fin cfg0.N) (hf : (cfg0.win 4).flush t = true) :
    (dats m 0 c).flushed 4 t = ((cfg0.win 4).blk t).view.read (Elt Ideal) (DLT (A0 m c) (A1 m c) (A2 m c) (A3 m c)) := by
  rw [Value.flushed4]
  funext j
  rw [View.read_apply]
  have e : ((cfg0.win 4).blk t).view.emb j = up t j := funext fun a => Fin.ext (by
    match a with
    | ⟨0, _⟩ => show win0_4.index t 0 * 256 + 1 * (j 0).val = 256 * t.val + (j 0).val; rw [(idx4 t).1]; omega
    | ⟨1, _⟩ => show win0_4.index t 1 * 2048 + 1 * (j 1).val = (j 1).val; rw [(idx4 t).2]; omega)
  refine Eq.trans ?_ (congrArg (DLT (A0 m c) (A1 m c) (A2 m c) (A3 m c)) e.symm)
  refine (out4_at (iblk m c 0 t) (iblk m c 1 t) (iblk m c 2 t) (iblk m c 3 t) j).trans ?_
  rw [blk0_at, blk1_at, blk2_at, blk3_at]
  rfl

theorem final4 (c : Dev nD) : (dats m 0 c).arrAt 4 cfg0.N = DLT (A0 m c) (A1 m c) (A2 m c) (A3 m c) :=
  (dats m 0 c).arrAt_eq_of_cover 4 (DLT (A0 m c) (A1 m c) (A2 m c) (A3 m c)) (flushed4_eq m c) fun i =>
    ⟨pt i, flush0_4 _, by
      have h0 : (i 0).val < 512 := (i 0).isLt
      have h1 : (i 1).val < 2048 := (i 1).isLt
      have hv : (pt i).val = (i 0).val / 256 := rfl
      show i ∈ ((View.whole main_v0_0).slice (win0_4.rect (pt i))).set
      rw [View.set_slice_whole, Rect.mem_set_unit]
      intro a
      match a with
      | ⟨0, _⟩ => show win0_4.index (pt i) 0 * 256 ≤ (i 0 : Nat) ∧ (i 0 : Nat) < win0_4.index (pt i) 0 * 256 + 256
                  rw [(idx4 _).1]; omega
      | ⟨1, _⟩ => show win0_4.index (pt i) 1 * 2048 ≤ (i 1 : Nat) ∧ (i 1 : Nat) < win0_4.index (pt i) 1 * 2048 + 2048
                  rw [(idx4 _).2]; omega⟩

theorem flushed5_eq (c : Dev nD) (t : Fin cfg0.N) (hf : (cfg0.win 5).flush t = true) :
    (dats m 0 c).flushed 5 t = ((cfg0.win 5).blk t).view.read (Elt Ideal) (MOM (A1 m c) (A2 m c)) := by
  rw [Value.flushed5]
  funext j
  rw [View.read_apply]
  have e : ((cfg0.win 5).blk t).view.emb j = up t j := funext fun a => Fin.ext (by
    match a with
    | ⟨0, _⟩ => show win0_5.index t 0 * 256 + 1 * (j 0).val = 256 * t.val + (j 0).val; rw [(idx5 t).1]; omega
    | ⟨1, _⟩ => show win0_5.index t 1 * 2048 + 1 * (j 1).val = (j 1).val; rw [(idx5 t).2]; omega)
  refine Eq.trans ?_ (congrArg (MOM (A1 m c) (A2 m c)) e.symm)
  refine (out5_at (iblk m c 0 t) (iblk m c 1 t) (iblk m c 2 t) (iblk m c 3 t) j).trans ?_
  rw [blk1_at, blk2_at]
  rfl

theorem final5 (c : Dev nD) : (dats m 0 c).arrAt 5 cfg0.N = MOM (A1 m c) (A2 m c) :=
  (dats m 0 c).arrAt_eq_of_cover 5 (MOM (A1 m c) (A2 m c)) (flushed5_eq m c) fun i =>
    ⟨pt i, flush0_5 _, by
      have h0 : (i 0).val < 512 := (i 0).isLt
      have h1 : (i 1).val < 2048 := (i 1).isLt
      have hv : (pt i).val = (i 0).val / 256 := rfl
      show i ∈ ((View.whole main_v0_1).slice (win0_5.rect (pt i))).set
      rw [View.set_slice_whole, Rect.mem_set_unit]
      intro a
      match a with
      | ⟨0, _⟩ => show win0_5.index (pt i) 0 * 256 ≤ (i 0 : Nat) ∧ (i 0 : Nat) < win0_5.index (pt i) 0 * 256 + 256
                  rw [(idx5 _).1]; omega
      | ⟨1, _⟩ => show win0_5.index (pt i) 1 * 2048 ≤ (i 1 : Nat) ∧ (i 1 : Nat) < win0_5.index (pt i) 1 * 2048 + 2048
                  rw [(idx5 _).2]; omega⟩

theorem flushed6_eq (c : Dev nD) (t : Fin cfg0.N) (hf : (cfg0.win 6).flush t = true) :
    (dats m 0 c).flushed 6 t = ((cfg0.win 6).blk t).view.read (Elt Ideal) (VEL (A1 m c) (A3 m c)) := by
  rw [Value.flushed6]
  funext j
  rw [View.read_apply]
  have e : ((cfg0.win 6).blk t).view.emb j = up t j := funext fun a => Fin.ext (by
    match a with
    | ⟨0, _⟩ => show win0_6.index t 0 * 256 + 1 * (j 0).val = 256 * t.val + (j 0).val; rw [(idx6 t).1]; omega
    | ⟨1, _⟩ => show win0_6.index t 1 * 2048 + 1 * (j 1).val = (j 1).val; rw [(idx6 t).2]; omega)
  refine Eq.trans ?_ (congrArg (VEL (A1 m c) (A3 m c)) e.symm)
  refine (out6_at (iblk m c 0 t) (iblk m c 1 t) (iblk m c 2 t) (iblk m c 3 t) j).trans ?_
  rw [blk1_at, blk3_at]
  rfl

theorem final6 (c : Dev nD) : (dats m 0 c).arrAt 6 cfg0.N = VEL (A1 m c) (A3 m c) :=
  (dats m 0 c).arrAt_eq_of_cover 6 (VEL (A1 m c) (A3 m c)) (flushed6_eq m c) fun i =>
    ⟨pt i, flush0_6 _, by
      have h0 : (i 0).val < 512 := (i 0).isLt
      have h1 : (i 1).val < 2048 := (i 1).isLt
      have hv : (pt i).val = (i 0).val / 256 := rfl
      show i ∈ ((View.whole main_v0_2).slice (win0_6.rect (pt i))).set
      rw [View.set_slice_whole, Rect.mem_set_unit]
      intro a
      match a with
      | ⟨0, _⟩ => show win0_6.index (pt i) 0 * 256 ≤ (i 0 : Nat) ∧ (i 0 : Nat) < win0_6.index (pt i) 0 * 256 + 256
                  rw [(idx6 _).1]; omega
      | ⟨1, _⟩ => show win0_6.index (pt i) 1 * 2048 ≤ (i 1 : Nat) ∧ (i 1 : Nat) < win0_6.index (pt i) 1 * 2048 + 2048
                  rw [(idx6 _).2]; omega⟩

/-- Every run ends with the three results at these values and the operands as they were. -/
theorem run : θ_run defs (onTc (τ := τ) (main (F := Ideal))) ⟨m, fun _ => 0, ρ⟩ fun r => ∀ c : Dev nD,
      r.2.mem ((c : Thread nD τ).loc main_v0_0) = DLT (A0 m c) (A1 m c) (A2 m c) (A3 m c)
      ∧ r.2.mem ((c : Thread nD τ).loc main_v0_1) = MOM (A1 m c) (A2 m c)
      ∧ r.2.mem ((c : Thread nD τ).loc main_v0_2) = VEL (A1 m c) (A3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2.1.trans (final6 m c), (h c).2.2.2⟩)
    (Value.run_blocks m ρ)

end Cert.Kernel9Ideal.Val

end
-- ==== Proof.AdamW.RefWOut.lean ====
/-
  The optimiser's step on the output projection's weights: what the reference's stages are at an index.
-/
module

public import proofs.«01_k».proof.Proof.AdamW.Step
public import proofs.«01_k».proof.Proof.Gen.Reference9Ideal.Read

@[expose] public section

noncomputable section

namespace Cert.Reference9Ideal.Val

open Cert.Reference9Ideal Cert.Reference9Ideal.Gen Cert.Reference9Ideal.Read Cert.AdamW Idealize.ShloMosaic Idealize.ShloMosaic.TcCoe

variable (x0 x1 x2 x3 : Vec Ideal S512x2048 .f32) (i : S512x2048.Idx)

theorem v4_at : val_main_v4 (F := Ideal) x1 x2 i = mom (x1 i) (x2 i) := by
  rw [val_main_v4_apply, val_main_v1_apply, val_main_v3_apply, val_main_v0_apply, val_main_v2_apply]
  rfl

theorem v10_at : val_main_v10 (F := Ideal) x1 x3 i = vel (x1 i) (x3 i) := by
  rw [val_main_v10_apply, val_main_v6_apply, val_main_v9_apply, val_main_v7_apply, val_main_v5_apply, val_main_v8_apply]
  rfl

theorem v23_at : val_main_v23 (F := Ideal) x0 x1 x2 x3 i = dlt (x0 i) (x1 i) (x2 i) (x3 i) := by
  rw [val_main_v23_apply, val_main_v22_apply, val_main_v21_apply, val_main_v18_apply, val_main_v20_apply, val_main_v19_apply,
    val_main_v17_apply, val_main_v16_apply, val_main_v15_apply, val_main_v14_apply, val_main_v13_apply, val_main_v12_apply,
    val_main_v11_apply, v10_at, v4_at]
  rfl

end Cert.Reference9Ideal.Val

end
-- ==== Proof.AdamW.RunWGlu.lean ====
/-
  The optimiser's step on the gated linear unit's weights: what the kernel leaves.
-/
module

public import proofs.«01_k».proof.Proof.AdamW.Step
public import proofs.«01_k».proof.Proof.Gen.Kernel10Ideal.Value

@[expose] public section

noncomputable section

namespace Cert.Kernel10Ideal.Val

open Cert.Kernel10Ideal Cert.Kernel10Ideal.Gen Cert.AdamW Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The operands, as the program finds them. -/
abbrev A0 (c : Dev nD) : S256x1024.Idx → EReal := m ((c : Thread nD τ).loc main_arg0)
abbrev A1 (c : Dev nD) : S256x1024.Idx → EReal := m ((c : Thread nD τ).loc main_arg1)
abbrev A2 (c : Dev nD) : S256x1024.Idx → EReal := m ((c : Thread nD τ).loc main_arg2)
abbrev A3 (c : Dev nD) : S256x1024.Idx → EReal := m ((c : Thread nD τ).loc main_arg3)

/-! ## The body on its blocks -/

theorem hz : (![0, 0] : Fin 2 → Nat) = fun _ => 0 := funext fun a => by fin_cases a <;> rfl

variable (x0 x1 x2 x3 : Vec Ideal S256x1024 .f32)

theorem out4_at (j : S256x1024.Idx) : out0_4 (F := Ideal) x0 x1 x2 x3 j = dlt (x0 j) (x1 j) (x2 j) (x3 j) := by
  unfold out0_4
  rw [View.canon_unit_zero hz, View.ld_unit_zero (S := S256x1024) hz _ x1, View.ld_unit_zero (S := S256x1024) hz _ x2, View.ld_unit_zero (S := S256x1024) hz _ x3, View.ld_unit_zero (S := S256x1024) hz _ x0]
  unfold k0_pay4 k0_pay2 k0_pay3
  pointwise
  rfl

theorem out5_at (j : S256x1024.Idx) : out0_5 (F := Ideal) x0 x1 x2 x3 j = mom (x1 j) (x2 j) := by
  unfold out0_5
  rw [View.canon_unit_zero hz, View.ld_unit_zero (S := S256x1024) hz _ x1, View.ld_unit_zero (S := S256x1024) hz _ x2]
  unfold k0_pay5 k0_pay2
  pointwise
  rfl

theorem out6_at (j : S256x1024.Idx) : out0_6 (F := Ideal) x0 x1 x2 x3 j = vel (x1 j) (x3 j) := by
  unfold out0_6
  rw [View.canon_unit_zero hz, View.ld_unit_zero (S := S256x1024) hz _ x1, View.ld_unit_zero (S := S256x1024) hz _ x3]
  unfold k0_pay1 k0_pay3
  pointwise
  rfl

/-! ## The blocks are the rows of the arrays -/

theorem idx0 : ∀ t : Fin cfg0.N, win0_0.index t 0 = t.val ∧ win0_0.index t 1 = 0 :=
  (by decide +kernel : ∀ t : Fin grid0.N, _)
theorem idx1 : ∀ t : Fin cfg0.N, win0_1.index t 0 = t.val ∧ win0_1.index t 1 = 0 :=
  (by decide +kernel : ∀ t : Fin grid0.N, _)
theorem idx2 : ∀ t : Fin cfg0.N, win0_2.index t 0 = t.val ∧ win0_2.index t 1 = 0 :=
  (by decide +kernel : ∀ t : Fin grid0.N, _)
theorem idx3 : ∀ t : Fin cfg0.N, win0_3.index t 0 = t.val ∧ win0_3.index t 1 = 0 :=
  (by decide +kernel : ∀ t : Fin grid0.N, _)
theorem idx4 : ∀ t : Fin cfg0.N, win0_4.index t 0 = t.val ∧ win0_4.index t 1 = 0 :=
  (by decide +kernel : ∀ t : Fin grid0.N, _)
theorem idx5 : ∀ t : Fin cfg0.N, win0_5.index t 0 = t.val ∧ win0_5.index t 1 = 0 :=
  (by decide +kernel : ∀ t : Fin grid0.N, _)
theorem idx6 : ∀ t : Fin cfg0.N, win0_6.index t 0 = t.val ∧ win0_6.index t 1 = 0 :=
  (by decide +kernel : ∀ t : Fin grid0.N, _)

/-- Where a block's index lies in the array. -/
def up (t : Fin cfg0.N) (j : S256x1024.Idx) : S256x1024.Idx := fun a => match a with
  | ⟨0, _⟩ => ⟨256 * t.val + (j 0).val, by
      have hN : cfg0.N = 1 := N_0
      have ht : t.val < cfg0.N := t.isLt
      have hj : (j 0).val < 256 := (j 0).isLt
      show _ < 256; omega⟩
  | ⟨1, _⟩ => ⟨(j 1).val, (j 1).isLt⟩

theorem blk0_at (c : Dev nD) (t : Fin cfg0.N) (j : S256x1024.Idx) : (iblk m c 0 t : Vec Ideal S256x1024 .f32) j = A0 m c (up t j) := by
  unfold iblk
  rw [View.read_apply]
  refine congrArg (A0 m c) (funext fun a => Fin.ext ?_)
  match a with
  | ⟨0, _⟩ => show win0_0.index t 0 * 256 + 1 * (j 0).val = 256 * t.val + (j 0).val; rw [(idx0 t).1]; omega
  | ⟨1, _⟩ => show win0_0.index t 1 * 1024 + 1 * (j 1).val = (j 1).val; rw [(idx0 t).2]; omega

theorem blk1_at (c : Dev nD) (t : Fin cfg0.N) (j : S256x1024.Idx) : (iblk m c 1 t : Vec Ideal S256x1024 .f32) j = A1 m c (up t j) := by
  unfold iblk
  rw [View.read_apply]
  refine congrArg (A1 m c) (funext fun a => Fin.ext ?_)
  match a with
  | ⟨0, _⟩ => show win0_1.index t 0 * 256 + 1 * (j 0).val = 256 * t.val + (j 0).val; rw [(idx1 t).1]; omega
  | ⟨1, _⟩ => show win0_1.index t 1 * 1024 + 1 * (j 1).val = (j 1).val; rw [(idx1 t).2]; omega

theorem blk2_at (c : Dev nD) (t : Fin cfg0.N) (j : S256x1024.Idx) : (iblk m c 2 t : Vec Ideal S256x1024 .f32) j = A2 m c (up t j) := by
  unfold iblk
  rw [View.read_apply]
  refine congrArg (A2 m c) (funext fun a => Fin.ext ?_)
  match a with
  | ⟨0, _⟩ => show win0_2.index t 0 * 256 + 1 * (j 0).val = 256 * t.val + (j 0).val; rw [(idx2 t).1]; omega
  | ⟨1, _⟩ => show win0_2.index t 1 * 1024 + 1 * (j 1).val = (j 1).val; rw [(idx2 t).2]; omega

theorem blk3_at (c : Dev nD) (t : Fin cfg0.N) (j : S256x1024.Idx) : (iblk m c 3 t : Vec Ideal S256x1024 .f32) j = A3 m c (up t j) := by
  unfold iblk
  rw [View.read_apply]
  refine congrArg (A3 m c) (funext fun a => Fin.ext ?_)
  match a with
  | ⟨0, _⟩ => show win0_3.index t 0 * 256 + 1 * (j 0).val = 256 * t.val + (j 0).val; rw [(idx3 t).1]; omega
  | ⟨1, _⟩ => show win0_3.index t 1 * 1024 + 1 * (j 1).val = (j 1).val; rw [(idx3 t).2]; omega

/-! ## The arrays after the run -/

/-- The point that writes back the rows an index lies in. -/
def pt (i : S256x1024.Idx) : Fin cfg0.N := ⟨(i 0).val / 256, by
  have h0 : (i 0).val < 256 := (i 0).isLt
  have hN : cfg0.N = 1 := N_0
  rw [hN]; omega⟩

theorem flushed4_eq (c : Dev nD) (t : Fin cfg0.N) (hf : (cfg0.win 4).flush t = true) :
    (dats m 0 c).flushed 4 t = ((cfg0.win 4).blk t).view.read (Elt Ideal) (DLT (A0 m c) (A1 m c) (A2 m c) (A3 m c)) := by
  rw [Value.flushed4]
  funext j
  rw [View.read_apply]
  have e : ((cfg0.win 4).blk t).view.emb j = up t j := funext fun a => Fin.ext (by
    match a with
    | ⟨0, _⟩ => show win0_4.index t 0 * 256 + 1 * (j 0).val = 256 * t.val + (j 0).val; rw [(idx4 t).1]; omega
    | ⟨1, _⟩ => show win0_4.index t 1 * 1024 + 1 * (j 1).val = (j 1).val; rw [(idx4 t).2]; omega)
  refine Eq.trans ?_ (congrArg (DLT (A0 m c) (A1 m c) (A2 m c) (A3 m c)) e.symm)
  refine (out4_at (iblk m c 0 t) (iblk m c 1 t) (iblk m c 2 t) (iblk m c 3 t) j).trans ?_
  rw [blk0_at, blk1_at, blk2_at, blk3_at]
  rfl

theorem final4 (c : Dev nD) : (dats m 0 c).arrAt 4 cfg0.N = DLT (A0 m c) (A1 m c) (A2 m c) (A3 m c) :=
  (dats m 0 c).arrAt_eq_of_cover 4 (DLT (A0 m c) (A1 m c) (A2 m c) (A3 m c)) (flushed4_eq m c) fun i =>
    ⟨pt i, flush0_4 _, by
      have h0 : (i 0).val < 256 := (i 0).isLt
      have h1 : (i 1).val < 1024 := (i 1).isLt
      have hv : (pt i).val = (i 0).val / 256 := rfl
      show i ∈ ((View.whole main_v0_0).slice (win0_4.rect (pt i))).set
      rw [View.set_slice_whole, Rect.mem_set_unit]
      intro a
      match a with
      | ⟨0, _⟩ => show win0_4.index (pt i) 0 * 256 ≤ (i 0 : Nat) ∧ (i 0 : Nat) < win0_4.index (pt i) 0 * 256 + 256
                  rw [(idx4 _).1]; omega
      | ⟨1, _⟩ => show win0_4.index (pt i) 1 * 1024 ≤ (i 1 : Nat) ∧ (i 1 : Nat) < win0_4.index (pt i) 1 * 1024 + 1024
                  rw [(idx4 _).2]; omega⟩

theorem flushed5_eq (c : Dev nD) (t : Fin cfg0.N) (hf : (cfg0.win 5).flush t = true) :
    (dats m 0 c).flushed 5 t = ((cfg0.win 5).blk t).view.read (Elt Ideal) (MOM (A1 m c) (A2 m c)) := by
  rw [Value.flushed5]
  funext j
  rw [View.read_apply]
  have e : ((cfg0.win 5).blk t).view.emb j = up t j := funext fun a => Fin.ext (by
    match a with
    | ⟨0, _⟩ => show win0_5.index t 0 * 256 + 1 * (j 0).val = 256 * t.val + (j 0).val; rw [(idx5 t).1]; omega
    | ⟨1, _⟩ => show win0_5.index t 1 * 1024 + 1 * (j 1).val = (j 1).val; rw [(idx5 t).2]; omega)
  refine Eq.trans ?_ (congrArg (MOM (A1 m c) (A2 m c)) e.symm)
  refine (out5_at (iblk m c 0 t) (iblk m c 1 t) (iblk m c 2 t) (iblk m c 3 t) j).trans ?_
  rw [blk1_at, blk2_at]
  rfl

theorem final5 (c : Dev nD) : (dats m 0 c).arrAt 5 cfg0.N = MOM (A1 m c) (A2 m c) :=
  (dats m 0 c).arrAt_eq_of_cover 5 (MOM (A1 m c) (A2 m c)) (flushed5_eq m c) fun i =>
    ⟨pt i, flush0_5 _, by
      have h0 : (i 0).val < 256 := (i 0).isLt
      have h1 : (i 1).val < 1024 := (i 1).isLt
      have hv : (pt i).val = (i 0).val / 256 := rfl
      show i ∈ ((View.whole main_v0_1).slice (win0_5.rect (pt i))).set
      rw [View.set_slice_whole, Rect.mem_set_unit]
      intro a
      match a with
      | ⟨0, _⟩ => show win0_5.index (pt i) 0 * 256 ≤ (i 0 : Nat) ∧ (i 0 : Nat) < win0_5.index (pt i) 0 * 256 + 256
                  rw [(idx5 _).1]; omega
      | ⟨1, _⟩ => show win0_5.index (pt i) 1 * 1024 ≤ (i 1 : Nat) ∧ (i 1 : Nat) < win0_5.index (pt i) 1 * 1024 + 1024
                  rw [(idx5 _).2]; omega⟩

theorem flushed6_eq (c : Dev nD) (t : Fin cfg0.N) (hf : (cfg0.win 6).flush t = true) :
    (dats m 0 c).flushed 6 t = ((cfg0.win 6).blk t).view.read (Elt Ideal) (VEL (A1 m c) (A3 m c)) := by
  rw [Value.flushed6]
  funext j
  rw [View.read_apply]
  have e : ((cfg0.win 6).blk t).view.emb j = up t j := funext fun a => Fin.ext (by
    match a with
    | ⟨0, _⟩ => show win0_6.index t 0 * 256 + 1 * (j 0).val = 256 * t.val + (j 0).val; rw [(idx6 t).1]; omega
    | ⟨1, _⟩ => show win0_6.index t 1 * 1024 + 1 * (j 1).val = (j 1).val; rw [(idx6 t).2]; omega)
  refine Eq.trans ?_ (congrArg (VEL (A1 m c) (A3 m c)) e.symm)
  refine (out6_at (iblk m c 0 t) (iblk m c 1 t) (iblk m c 2 t) (iblk m c 3 t) j).trans ?_
  rw [blk1_at, blk3_at]
  rfl

theorem final6 (c : Dev nD) : (dats m 0 c).arrAt 6 cfg0.N = VEL (A1 m c) (A3 m c) :=
  (dats m 0 c).arrAt_eq_of_cover 6 (VEL (A1 m c) (A3 m c)) (flushed6_eq m c) fun i =>
    ⟨pt i, flush0_6 _, by
      have h0 : (i 0).val < 256 := (i 0).isLt
      have h1 : (i 1).val < 1024 := (i 1).isLt
      have hv : (pt i).val = (i 0).val / 256 := rfl
      show i ∈ ((View.whole main_v0_2).slice (win0_6.rect (pt i))).set
      rw [View.set_slice_whole, Rect.mem_set_unit]
      intro a
      match a with
      | ⟨0, _⟩ => show win0_6.index (pt i) 0 * 256 ≤ (i 0 : Nat) ∧ (i 0 : Nat) < win0_6.index (pt i) 0 * 256 + 256
                  rw [(idx6 _).1]; omega
      | ⟨1, _⟩ => show win0_6.index (pt i) 1 * 1024 ≤ (i 1 : Nat) ∧ (i 1 : Nat) < win0_6.index (pt i) 1 * 1024 + 1024
                  rw [(idx6 _).2]; omega⟩

/-- Every run ends with the three results at these values and the operands as they were. -/
theorem run : θ_run defs (onTc (τ := τ) (main (F := Ideal))) ⟨m, fun _ => 0, ρ⟩ fun r => ∀ c : Dev nD,
      r.2.mem ((c : Thread nD τ).loc main_v0_0) = DLT (A0 m c) (A1 m c) (A2 m c) (A3 m c)
      ∧ r.2.mem ((c : Thread nD τ).loc main_v0_1) = MOM (A1 m c) (A2 m c)
      ∧ r.2.mem ((c : Thread nD τ).loc main_v0_2) = VEL (A1 m c) (A3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2.1.trans (final6 m c), (h c).2.2.2⟩)
    (Value.run_blocks m ρ)

end Cert.Kernel10Ideal.Val

end
-- ==== Proof.AdamW.RefWGlu.lean ====
/-
  The optimiser's step on the gated linear unit's weights: what the reference's stages are at an index.
-/
module

public import proofs.«01_k».proof.Proof.AdamW.Step
public import proofs.«01_k».proof.Proof.Gen.Reference10Ideal.Read

@[expose] public section

noncomputable section

namespace Cert.Reference10Ideal.Val

open Cert.Reference10Ideal Cert.Reference10Ideal.Gen Cert.Reference10Ideal.Read Cert.AdamW Idealize.ShloMosaic Idealize.ShloMosaic.TcCoe

variable (x0 x1 x2 x3 : Vec Ideal S256x1024 .f32) (i : S256x1024.Idx)

theorem v4_at : val_main_v4 (F := Ideal) x1 x2 i = mom (x1 i) (x2 i) := by
  rw [val_main_v4_apply, val_main_v1_apply, val_main_v3_apply, val_main_v0_apply, val_main_v2_apply]
  rfl

theorem v10_at : val_main_v10 (F := Ideal) x1 x3 i = vel (x1 i) (x3 i) := by
  rw [val_main_v10_apply, val_main_v6_apply, val_main_v9_apply, val_main_v7_apply, val_main_v5_apply, val_main_v8_apply]
  rfl

theorem v23_at : val_main_v23 (F := Ideal) x0 x1 x2 x3 i = dlt (x0 i) (x1 i) (x2 i) (x3 i) := by
  rw [val_main_v23_apply, val_main_v22_apply, val_main_v21_apply, val_main_v18_apply, val_main_v20_apply, val_main_v19_apply,
    val_main_v17_apply, val_main_v16_apply, val_main_v15_apply, val_main_v14_apply, val_main_v13_apply, val_main_v12_apply,
    val_main_v11_apply, v10_at, v4_at]
  rfl

end Cert.Reference10Ideal.Val

end
-- ==== Proof.AdamW.RunConvW.lean ====
/-
  The optimiser's step on the short convolution's filter: what the kernel leaves.
-/
module

public import proofs.«01_k».proof.Proof.AdamW.Step
public import proofs.«01_k».proof.Proof.Gen.Kernel11Ideal.Value

@[expose] public section

noncomputable section

namespace Cert.Kernel11Ideal.Val

open Cert.Kernel11Ideal Cert.Kernel11Ideal.Gen Cert.AdamW Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The operands, as the program finds them. -/
abbrev A0 (c : Dev nD) : S8x256.Idx → EReal := m ((c : Thread nD τ).loc main_arg0)
abbrev A1 (c : Dev nD) : S8x256.Idx → EReal := m ((c : Thread nD τ).loc main_arg1)
abbrev A2 (c : Dev nD) : S8x256.Idx → EReal := m ((c : Thread nD τ).loc main_arg2)
abbrev A3 (c : Dev nD) : S8x256.Idx → EReal := m ((c : Thread nD τ).loc main_arg3)

/-! ## The body on its blocks -/

theorem hz : (![0, 0] : Fin 2 → Nat) = fun _ => 0 := funext fun a => by fin_cases a <;> rfl

variable (x0 x1 x2 x3 : Vec Ideal S8x256 .f32)

theorem out4_at (j : S8x256.Idx) : out0_4 (F := Ideal) x0 x1 x2 x3 j = dlt (x0 j) (x1 j) (x2 j) (x3 j) := by
  unfold out0_4
  rw [View.canon_unit_zero hz, View.ld_unit_zero (S := S8x256) hz _ x1, View.ld_unit_zero (S := S8x256) hz _ x2, View.ld_unit_zero (S := S8x256) hz _ x3, View.ld_unit_zero (S := S8x256) hz _ x0]
  unfold k0_pay4 k0_pay2 k0_pay3
  pointwise
  rfl

theorem out5_at (j : S8x256.Idx) : out0_5 (F := Ideal) x0 x1 x2 x3 j = mom (x1 j) (x2 j) := by
  unfold out0_5
  rw [View.canon_unit_zero hz, View.ld_unit_zero (S := S8x256) hz _ x1, View.ld_unit_zero (S := S8x256) hz _ x2]
  unfold k0_pay5 k0_pay2
  pointwise
  rfl

theorem out6_at (j : S8x256.Idx) : out0_6 (F := Ideal) x0 x1 x2 x3 j = vel (x1 j) (x3 j) := by
  unfold out0_6
  rw [View.canon_unit_zero hz, View.ld_unit_zero (S := S8x256) hz _ x1, View.ld_unit_zero (S := S8x256) hz _ x3]
  unfold k0_pay1 k0_pay3
  pointwise
  rfl

/-! ## The blocks are the rows of the arrays -/

theorem idx0 : ∀ t : Fin cfg0.N, win0_0.index t 0 = t.val ∧ win0_0.index t 1 = 0 :=
  (by decide +kernel : ∀ t : Fin grid0.N, _)
theorem idx1 : ∀ t : Fin cfg0.N, win0_1.index t 0 = t.val ∧ win0_1.index t 1 = 0 :=
  (by decide +kernel : ∀ t : Fin grid0.N, _)
theorem idx2 : ∀ t : Fin cfg0.N, win0_2.index t 0 = t.val ∧ win0_2.index t 1 = 0 :=
  (by decide +kernel : ∀ t : Fin grid0.N, _)
theorem idx3 : ∀ t : Fin cfg0.N, win0_3.index t 0 = t.val ∧ win0_3.index t 1 = 0 :=
  (by decide +kernel : ∀ t : Fin grid0.N, _)
theorem idx4 : ∀ t : Fin cfg0.N, win0_4.index t 0 = t.val ∧ win0_4.index t 1 = 0 :=
  (by decide +kernel : ∀ t : Fin grid0.N, _)
theorem idx5 : ∀ t : Fin cfg0.N, win0_5.index t 0 = t.val ∧ win0_5.index t 1 = 0 :=
  (by decide +kernel : ∀ t : Fin grid0.N, _)
theorem idx6 : ∀ t : Fin cfg0.N, win0_6.index t 0 = t.val ∧ win0_6.index t 1 = 0 :=
  (by decide +kernel : ∀ t : Fin grid0.N, _)

/-- Where a block's index lies in the array. -/
def up (t : Fin cfg0.N) (j : S8x256.Idx) : S8x256.Idx := fun a => match a with
  | ⟨0, _⟩ => ⟨8 * t.val + (j 0).val, by
      have hN : cfg0.N = 1 := N_0
      have ht : t.val < cfg0.N := t.isLt
      have hj : (j 0).val < 8 := (j 0).isLt
      show _ < 8; omega⟩
  | ⟨1, _⟩ => ⟨(j 1).val, (j 1).isLt⟩

theorem blk0_at (c : Dev nD) (t : Fin cfg0.N) (j : S8x256.Idx) : (iblk m c 0 t : Vec Ideal S8x256 .f32) j = A0 m c (up t j) := by
  unfold iblk
  rw [View.read_apply]
  refine congrArg (A0 m c) (funext fun a => Fin.ext ?_)
  match a with
  | ⟨0, _⟩ => show win0_0.index t 0 * 8 + 1 * (j 0).val = 8 * t.val + (j 0).val; rw [(idx0 t).1]; omega
  | ⟨1, _⟩ => show win0_0.index t 1 * 256 + 1 * (j 1).val = (j 1).val; rw [(idx0 t).2]; omega

theorem blk1_at (c : Dev nD) (t : Fin cfg0.N) (j : S8x256.Idx) : (iblk m c 1 t : Vec Ideal S8x256 .f32) j = A1 m c (up t j) := by
  unfold iblk
  rw [View.read_apply]
  refine congrArg (A1 m c) (funext fun a => Fin.ext ?_)
  match a with
  | ⟨0, _⟩ => show win0_1.index t 0 * 8 + 1 * (j 0).val = 8 * t.val + (j 0).val; rw [(idx1 t).1]; omega
  | ⟨1, _⟩ => show win0_1.index t 1 * 256 + 1 * (j 1).val = (j 1).val; rw [(idx1 t).2]; omega

theorem blk2_at (c : Dev nD) (t : Fin cfg0.N) (j : S8x256.Idx) : (iblk m c 2 t : Vec Ideal S8x256 .f32) j = A2 m c (up t j) := by
  unfold iblk
  rw [View.read_apply]
  refine congrArg (A2 m c) (funext fun a => Fin.ext ?_)
  match a with
  | ⟨0, _⟩ => show win0_2.index t 0 * 8 + 1 * (j 0).val = 8 * t.val + (j 0).val; rw [(idx2 t).1]; omega
  | ⟨1, _⟩ => show win0_2.index t 1 * 256 + 1 * (j 1).val = (j 1).val; rw [(idx2 t).2]; omega

theorem blk3_at (c : Dev nD) (t : Fin cfg0.N) (j : S8x256.Idx) : (iblk m c 3 t : Vec Ideal S8x256 .f32) j = A3 m c (up t j) := by
  unfold iblk
  rw [View.read_apply]
  refine congrArg (A3 m c) (funext fun a => Fin.ext ?_)
  match a with
  | ⟨0, _⟩ => show win0_3.index t 0 * 8 + 1 * (j 0).val = 8 * t.val + (j 0).val; rw [(idx3 t).1]; omega
  | ⟨1, _⟩ => show win0_3.index t 1 * 256 + 1 * (j 1).val = (j 1).val; rw [(idx3 t).2]; omega

/-! ## The arrays after the run -/

/-- The point that writes back the rows an index lies in. -/
def pt (i : S8x256.Idx) : Fin cfg0.N := ⟨(i 0).val / 8, by
  have h0 : (i 0).val < 8 := (i 0).isLt
  have hN : cfg0.N = 1 := N_0
  rw [hN]; omega⟩

theorem flushed4_eq (c : Dev nD) (t : Fin cfg0.N) (hf : (cfg0.win 4).flush t = true) :
    (dats m 0 c).flushed 4 t = ((cfg0.win 4).blk t).view.read (Elt Ideal) (DLT (A0 m c) (A1 m c) (A2 m c) (A3 m c)) := by
  rw [Value.flushed4]
  funext j
  rw [View.read_apply]
  have e : ((cfg0.win 4).blk t).view.emb j = up t j := funext fun a => Fin.ext (by
    match a with
    | ⟨0, _⟩ => show win0_4.index t 0 * 8 + 1 * (j 0).val = 8 * t.val + (j 0).val; rw [(idx4 t).1]; omega
    | ⟨1, _⟩ => show win0_4.index t 1 * 256 + 1 * (j 1).val = (j 1).val; rw [(idx4 t).2]; omega)
  refine Eq.trans ?_ (congrArg (DLT (A0 m c) (A1 m c) (A2 m c) (A3 m c)) e.symm)
  refine (out4_at (iblk m c 0 t) (iblk m c 1 t) (iblk m c 2 t) (iblk m c 3 t) j).trans ?_
  rw [blk0_at, blk1_at, blk2_at, blk3_at]
  rfl

theorem final4 (c : Dev nD) : (dats m 0 c).arrAt 4 cfg0.N = DLT (A0 m c) (A1 m c) (A2 m c) (A3 m c) :=
  (dats m 0 c).arrAt_eq_of_cover 4 (DLT (A0 m c) (A1 m c) (A2 m c) (A3 m c)) (flushed4_eq m c) fun i =>
    ⟨pt i, flush0_4 _, by
      have h0 : (i 0).val < 8 := (i 0).isLt
      have h1 : (i 1).val < 256 := (i 1).isLt
      have hv : (pt i).val = (i 0).val / 8 := rfl
      show i ∈ ((View.whole main_v0_0).slice (win0_4.rect (pt i))).set
      rw [View.set_slice_whole, Rect.mem_set_unit]
      intro a
      match a with
      | ⟨0, _⟩ => show win0_4.index (pt i) 0 * 8 ≤ (i 0 : Nat) ∧ (i 0 : Nat) < win0_4.index (pt i) 0 * 8 + 8
                  rw [(idx4 _).1]; omega
      | ⟨1, _⟩ => show win0_4.index (pt i) 1 * 256 ≤ (i 1 : Nat) ∧ (i 1 : Nat) < win0_4.index (pt i) 1 * 256 + 256
                  rw [(idx4 _).2]; omega⟩

theorem flushed5_eq (c : Dev nD) (t : Fin cfg0.N) (hf : (cfg0.win 5).flush t = true) :
    (dats m 0 c).flushed 5 t = ((cfg0.win 5).blk t).view.read (Elt Ideal) (MOM (A1 m c) (A2 m c)) := by
  rw [Value.flushed5]
  funext j
  rw [View.read_apply]
  have e : ((cfg0.win 5).blk t).view.emb j = up t j := funext fun a => Fin.ext (by
    match a with
    | ⟨0, _⟩ => show win0_5.index t 0 * 8 + 1 * (j 0).val = 8 * t.val + (j 0).val; rw [(idx5 t).1]; omega
    | ⟨1, _⟩ => show win0_5.index t 1 * 256 + 1 * (j 1).val = (j 1).val; rw [(idx5 t).2]; omega)
  refine Eq.trans ?_ (congrArg (MOM (A1 m c) (A2 m c)) e.symm)
  refine (out5_at (iblk m c 0 t) (iblk m c 1 t) (iblk m c 2 t) (iblk m c 3 t) j).trans ?_
  rw [blk1_at, blk2_at]
  rfl

theorem final5 (c : Dev nD) : (dats m 0 c).arrAt 5 cfg0.N = MOM (A1 m c) (A2 m c) :=
  (dats m 0 c).arrAt_eq_of_cover 5 (MOM (A1 m c) (A2 m c)) (flushed5_eq m c) fun i =>
    ⟨pt i, flush0_5 _, by
      have h0 : (i 0).val < 8 := (i 0).isLt
      have h1 : (i 1).val < 256 := (i 1).isLt
      have hv : (pt i).val = (i 0).val / 8 := rfl
      show i ∈ ((View.whole main_v0_1).slice (win0_5.rect (pt i))).set
      rw [View.set_slice_whole, Rect.mem_set_unit]
      intro a
      match a with
      | ⟨0, _⟩ => show win0_5.index (pt i) 0 * 8 ≤ (i 0 : Nat) ∧ (i 0 : Nat) < win0_5.index (pt i) 0 * 8 + 8
                  rw [(idx5 _).1]; omega
      | ⟨1, _⟩ => show win0_5.index (pt i) 1 * 256 ≤ (i 1 : Nat) ∧ (i 1 : Nat) < win0_5.index (pt i) 1 * 256 + 256
                  rw [(idx5 _).2]; omega⟩

theorem flushed6_eq (c : Dev nD) (t : Fin cfg0.N) (hf : (cfg0.win 6).flush t = true) :
    (dats m 0 c).flushed 6 t = ((cfg0.win 6).blk t).view.read (Elt Ideal) (VEL (A1 m c) (A3 m c)) := by
  rw [Value.flushed6]
  funext j
  rw [View.read_apply]
  have e : ((cfg0.win 6).blk t).view.emb j = up t j := funext fun a => Fin.ext (by
    match a with
    | ⟨0, _⟩ => show win0_6.index t 0 * 8 + 1 * (j 0).val = 8 * t.val + (j 0).val; rw [(idx6 t).1]; omega
    | ⟨1, _⟩ => show win0_6.index t 1 * 256 + 1 * (j 1).val = (j 1).val; rw [(idx6 t).2]; omega)
  refine Eq.trans ?_ (congrArg (VEL (A1 m c) (A3 m c)) e.symm)
  refine (out6_at (iblk m c 0 t) (iblk m c 1 t) (iblk m c 2 t) (iblk m c 3 t) j).trans ?_
  rw [blk1_at, blk3_at]
  rfl

theorem final6 (c : Dev nD) : (dats m 0 c).arrAt 6 cfg0.N = VEL (A1 m c) (A3 m c) :=
  (dats m 0 c).arrAt_eq_of_cover 6 (VEL (A1 m c) (A3 m c)) (flushed6_eq m c) fun i =>
    ⟨pt i, flush0_6 _, by
      have h0 : (i 0).val < 8 := (i 0).isLt
      have h1 : (i 1).val < 256 := (i 1).isLt
      have hv : (pt i).val = (i 0).val / 8 := rfl
      show i ∈ ((View.whole main_v0_2).slice (win0_6.rect (pt i))).set
      rw [View.set_slice_whole, Rect.mem_set_unit]
      intro a
      match a with
      | ⟨0, _⟩ => show win0_6.index (pt i) 0 * 8 ≤ (i 0 : Nat) ∧ (i 0 : Nat) < win0_6.index (pt i) 0 * 8 + 8
                  rw [(idx6 _).1]; omega
      | ⟨1, _⟩ => show win0_6.index (pt i) 1 * 256 ≤ (i 1 : Nat) ∧ (i 1 : Nat) < win0_6.index (pt i) 1 * 256 + 256
                  rw [(idx6 _).2]; omega⟩

/-- Every run ends with the three results at these values and the operands as they were. -/
theorem run : θ_run defs (onTc (τ := τ) (main (F := Ideal))) ⟨m, fun _ => 0, ρ⟩ fun r => ∀ c : Dev nD,
      r.2.mem ((c : Thread nD τ).loc main_v0_0) = DLT (A0 m c) (A1 m c) (A2 m c) (A3 m c)
      ∧ r.2.mem ((c : Thread nD τ).loc main_v0_1) = MOM (A1 m c) (A2 m c)
      ∧ r.2.mem ((c : Thread nD τ).loc main_v0_2) = VEL (A1 m c) (A3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2.1.trans (final6 m c), (h c).2.2.2⟩)
    (Value.run_blocks m ρ)

end Cert.Kernel11Ideal.Val

end
-- ==== Proof.AdamW.RefConvW.lean ====
/-
  The optimiser's step on the short convolution's filter: what the reference's stages are at an index.
-/
module

public import proofs.«01_k».proof.Proof.AdamW.Step
public import proofs.«01_k».proof.Proof.Gen.Reference11Ideal.Read

@[expose] public section

noncomputable section

namespace Cert.Reference11Ideal.Val

open Cert.Reference11Ideal Cert.Reference11Ideal.Gen Cert.Reference11Ideal.Read Cert.AdamW Idealize.ShloMosaic Idealize.ShloMosaic.TcCoe

variable (x0 x1 x2 x3 : Vec Ideal S8x256 .f32) (i : S8x256.Idx)

theorem v4_at : val_main_v4 (F := Ideal) x1 x2 i = mom (x1 i) (x2 i) := by
  rw [val_main_v4_apply, val_main_v1_apply, val_main_v3_apply, val_main_v0_apply, val_main_v2_apply]
  rfl

theorem v10_at : val_main_v10 (F := Ideal) x1 x3 i = vel (x1 i) (x3 i) := by
  rw [val_main_v10_apply, val_main_v6_apply, val_main_v9_apply, val_main_v7_apply, val_main_v5_apply, val_main_v8_apply]
  rfl

theorem v23_at : val_main_v23 (F := Ideal) x0 x1 x2 x3 i = dlt (x0 i) (x1 i) (x2 i) (x3 i) := by
  rw [val_main_v23_apply, val_main_v22_apply, val_main_v21_apply, val_main_v18_apply, val_main_v20_apply, val_main_v19_apply,
    val_main_v17_apply, val_main_v16_apply, val_main_v15_apply, val_main_v14_apply, val_main_v13_apply, val_main_v12_apply,
    val_main_v11_apply, v10_at, v4_at]
  rfl

end Cert.Reference11Ideal.Val

end
-- ==== Proof.AdamW.RunSmall.lean ====
/-
  The optimiser's step on the small weights, packed in rows: what the kernel leaves.
-/
module

public import proofs.«01_k».proof.Proof.AdamW.Step
public import proofs.«01_k».proof.Proof.Gen.Kernel12Ideal.Value

@[expose] public section

noncomputable section

namespace Cert.Kernel12Ideal.Val

open Cert.Kernel12Ideal Cert.Kernel12Ideal.Gen Cert.AdamW Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The operands, as the program finds them. -/
abbrev A0 (c : Dev nD) : S2208x128.Idx → EReal := m ((c : Thread nD τ).loc main_arg0)
abbrev A1 (c : Dev nD) : S2208x128.Idx → EReal := m ((c : Thread nD τ).loc main_arg1)
abbrev A2 (c : Dev nD) : S2208x128.Idx → EReal := m ((c : Thread nD τ).loc main_arg2)
abbrev A3 (c : Dev nD) : S2208x128.Idx → EReal := m ((c : Thread nD τ).loc main_arg3)

/-- Every run ends with the three results at these values and the operands as they were. -/
theorem run : θ_run defs (onTc (τ := τ) (main (F := Ideal))) ⟨m, fun _ => 0, ρ⟩ fun r => ∀ c : Dev nD,
      r.2.mem ((c : Thread nD τ).loc main_v0_0) = DLT (A1 m c) (A0 m c) (A2 m c) (A3 m c)
      ∧ r.2.mem ((c : Thread nD τ).loc main_v0_1) = MOM (A0 m c) (A2 m c)
      ∧ r.2.mem ((c : Thread nD τ).loc main_v0_2) = VEL (A0 m c) (A3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans rfl, (h c).2.1.trans rfl, (h c).2.2.1.trans rfl, (h c).2.2.2⟩) (Value.run m ρ)

end Cert.Kernel12Ideal.Val

end
-- ==== Proof.AdamW.RefSmall.lean ====
/-
  The optimiser's step on the small weights, packed in rows: what the reference's stages are at an index.
-/
module

public import proofs.«01_k».proof.Proof.AdamW.Step
public import proofs.«01_k».proof.Proof.Gen.Reference12Ideal.Read

@[expose] public section

noncomputable section

namespace Cert.Reference12Ideal.Val

open Cert.Reference12Ideal Cert.Reference12Ideal.Gen Cert.Reference12Ideal.Read Cert.AdamW Idealize.ShloMosaic Idealize.ShloMosaic.TcCoe

variable (x0 x1 x2 x3 : Vec Ideal S2208x128 .f32) (i : S2208x128.Idx)

theorem v4_at : val_main_v4 (F := Ideal) x0 x2 i = mom (x0 i) (x2 i) := by
  rw [val_main_v4_apply, val_main_v1_apply, val_main_v3_apply, val_main_v0_apply, val_main_v2_apply]
  rfl

theorem v10_at : val_main_v10 (F := Ideal) x0 x3 i = vel (x0 i) (x3 i) := by
  rw [val_main_v10_apply, val_main_v6_apply, val_main_v9_apply, val_main_v7_apply, val_main_v5_apply, val_main_v8_apply]
  rfl

theorem v23_at : val_main_v23 (F := Ideal) x0 x1 x2 x3 i = dlt (x1 i) (x0 i) (x2 i) (x3 i) := by
  rw [val_main_v23_apply, val_main_v22_apply, val_main_v21_apply, val_main_v18_apply, val_main_v20_apply, val_main_v19_apply,
    val_main_v17_apply, val_main_v16_apply, val_main_v15_apply, val_main_v14_apply, val_main_v13_apply, val_main_v12_apply,
    val_main_v11_apply, v10_at, v4_at]
  rfl

end Cert.Reference12Ideal.Val

end
-- ==== Proof.AdamW.Claim.lean ====
/-
  The optimiser's steps: the kernels and the references leave the same arrays.
-/
module

public import proofs.«01_k».proof.Proof.AdamW.RunWIn
public import proofs.«01_k».proof.Proof.AdamW.RefWIn
public import proofs.«01_k».proof.Proof.Gen.Reference8Ideal.Run
public import proofs.«01_k».proof.Proof.AdamW.RunWOut
public import proofs.«01_k».proof.Proof.AdamW.RefWOut
public import proofs.«01_k».proof.Proof.Gen.Reference9Ideal.Run
public import proofs.«01_k».proof.Proof.AdamW.RunWGlu
public import proofs.«01_k».proof.Proof.AdamW.RefWGlu
public import proofs.«01_k».proof.Proof.Gen.Reference10Ideal.Run
public import proofs.«01_k».proof.Proof.AdamW.RunConvW
public import proofs.«01_k».proof.Proof.AdamW.RefConvW
public import proofs.«01_k».proof.Proof.Gen.Reference11Ideal.Run
public import proofs.«01_k».proof.Proof.AdamW.RunSmall
public import proofs.«01_k».proof.Proof.AdamW.RefSmall
public import proofs.«01_k».proof.Proof.Gen.Reference12Ideal.Run
public import proofs.«01_k».proof.Defs

@[expose] public section

noncomputable section

namespace Cert.Proof

open Cert.AdamW Idealize.ShloMosaic Idealize.ShloMosaic.TcCoe Idealize.SL.Sem

theorem algebraic_adamw_w_in [hK : Cert.Kernel8Ideal.Facts] [hR : Cert.Reference8Ideal.Facts] :
    Cert.algebraic_Kernel8Ideal_Reference8Ideal (hKernel8Ideal := hK) (hReference8Ideal := hR) := by
  intro m g m' g' hpre hagree
  refine ⟨fun c => DLT (Cert.Kernel8Ideal.Val.A0 m c) (Cert.Kernel8Ideal.Val.A1 m c) (Cert.Kernel8Ideal.Val.A2 m c) (Cert.Kernel8Ideal.Val.A3 m c),
    fun c => MOM (Cert.Kernel8Ideal.Val.A1 m c) (Cert.Kernel8Ideal.Val.A2 m c),
    fun c => VEL (Cert.Kernel8Ideal.Val.A1 m c) (Cert.Kernel8Ideal.Val.A3 m c),
    Cert.Kernel8Ideal.Val.run m g,
    (θ_run Cert.Reference8Ideal.defs _ _).mono (fun r h c => ?_) (Cert.Reference8Ideal.Value.run m' g')⟩
  obtain ⟨a0, a1, a2, a3⟩ := hagree c
  refine ⟨((h c).1.trans (Cert.Reference8Ideal.Read.val_main_v23_eq _ _ _ _)).trans (funext fun i => ?_),
    ((h c).2.1.trans (Cert.Reference8Ideal.Read.val_main_v4_eq _ _)).trans (funext fun i => ?_),
    ((h c).2.2.1.trans (Cert.Reference8Ideal.Read.val_main_v10_eq _ _)).trans (funext fun i => ?_), (h c).2.2.2⟩
  · rw [Cert.Reference8Ideal.Val.v23_at, a0, a1, a2, a3]
    rfl
  · rw [Cert.Reference8Ideal.Val.v4_at, a1, a2]
    rfl
  · rw [Cert.Reference8Ideal.Val.v10_at, a1, a3]
    rfl

theorem algebraic_adamw_w_out [hK : Cert.Kernel9Ideal.Facts] [hR : Cert.Reference9Ideal.Facts] :
    Cert.algebraic_Kernel9Ideal_Reference9Ideal (hKernel9Ideal := hK) (hReference9Ideal := hR) := by
  intro m g m' g' hpre hagree
  refine ⟨fun c => DLT (Cert.Kernel9Ideal.Val.A0 m c) (Cert.Kernel9Ideal.Val.A1 m c) (Cert.Kernel9Ideal.Val.A2 m c) (Cert.Kernel9Ideal.Val.A3 m c),
    fun c => MOM (Cert.Kernel9Ideal.Val.A1 m c) (Cert.Kernel9Ideal.Val.A2 m c),
    fun c => VEL (Cert.Kernel9Ideal.Val.A1 m c) (Cert.Kernel9Ideal.Val.A3 m c),
    Cert.Kernel9Ideal.Val.run m g,
    (θ_run Cert.Reference9Ideal.defs _ _).mono (fun r h c => ?_) (Cert.Reference9Ideal.Value.run m' g')⟩
  obtain ⟨a0, a1, a2, a3⟩ := hagree c
  refine ⟨((h c).1.trans (Cert.Reference9Ideal.Read.val_main_v23_eq _ _ _ _)).trans (funext fun i => ?_),
    ((h c).2.1.trans (Cert.Reference9Ideal.Read.val_main_v4_eq _ _)).trans (funext fun i => ?_),
    ((h c).2.2.1.trans (Cert.Reference9Ideal.Read.val_main_v10_eq _ _)).trans (funext fun i => ?_), (h c).2.2.2⟩
  · rw [Cert.Reference9Ideal.Val.v23_at, a0, a1, a2, a3]
    rfl
  · rw [Cert.Reference9Ideal.Val.v4_at, a1, a2]
    rfl
  · rw [Cert.Reference9Ideal.Val.v10_at, a1, a3]
    rfl

theorem algebraic_adamw_w_glu [hK : Cert.Kernel10Ideal.Facts] [hR : Cert.Reference10Ideal.Facts] :
    Cert.algebraic_Kernel10Ideal_Reference10Ideal (hKernel10Ideal := hK) (hReference10Ideal := hR) := by
  intro m g m' g' hpre hagree
  refine ⟨fun c => DLT (Cert.Kernel10Ideal.Val.A0 m c) (Cert.Kernel10Ideal.Val.A1 m c) (Cert.Kernel10Ideal.Val.A2 m c) (Cert.Kernel10Ideal.Val.A3 m c),
    fun c => MOM (Cert.Kernel10Ideal.Val.A1 m c) (Cert.Kernel10Ideal.Val.A2 m c),
    fun c => VEL (Cert.Kernel10Ideal.Val.A1 m c) (Cert.Kernel10Ideal.Val.A3 m c),
    Cert.Kernel10Ideal.Val.run m g,
    (θ_run Cert.Reference10Ideal.defs _ _).mono (fun r h c => ?_) (Cert.Reference10Ideal.Value.run m' g')⟩
  obtain ⟨a0, a1, a2, a3⟩ := hagree c
  refine ⟨((h c).1.trans (Cert.Reference10Ideal.Read.val_main_v23_eq _ _ _ _)).trans (funext fun i => ?_),
    ((h c).2.1.trans (Cert.Reference10Ideal.Read.val_main_v4_eq _ _)).trans (funext fun i => ?_),
    ((h c).2.2.1.trans (Cert.Reference10Ideal.Read.val_main_v10_eq _ _)).trans (funext fun i => ?_), (h c).2.2.2⟩
  · rw [Cert.Reference10Ideal.Val.v23_at, a0, a1, a2, a3]
    rfl
  · rw [Cert.Reference10Ideal.Val.v4_at, a1, a2]
    rfl
  · rw [Cert.Reference10Ideal.Val.v10_at, a1, a3]
    rfl

theorem algebraic_adamw_conv_w [hK : Cert.Kernel11Ideal.Facts] [hR : Cert.Reference11Ideal.Facts] :
    Cert.algebraic_Kernel11Ideal_Reference11Ideal (hKernel11Ideal := hK) (hReference11Ideal := hR) := by
  intro m g m' g' hpre hagree
  refine ⟨fun c => DLT (Cert.Kernel11Ideal.Val.A0 m c) (Cert.Kernel11Ideal.Val.A1 m c) (Cert.Kernel11Ideal.Val.A2 m c) (Cert.Kernel11Ideal.Val.A3 m c),
    fun c => MOM (Cert.Kernel11Ideal.Val.A1 m c) (Cert.Kernel11Ideal.Val.A2 m c),
    fun c => VEL (Cert.Kernel11Ideal.Val.A1 m c) (Cert.Kernel11Ideal.Val.A3 m c),
    Cert.Kernel11Ideal.Val.run m g,
    (θ_run Cert.Reference11Ideal.defs _ _).mono (fun r h c => ?_) (Cert.Reference11Ideal.Value.run m' g')⟩
  obtain ⟨a0, a1, a2, a3⟩ := hagree c
  refine ⟨((h c).1.trans (Cert.Reference11Ideal.Read.val_main_v23_eq _ _ _ _)).trans (funext fun i => ?_),
    ((h c).2.1.trans (Cert.Reference11Ideal.Read.val_main_v4_eq _ _)).trans (funext fun i => ?_),
    ((h c).2.2.1.trans (Cert.Reference11Ideal.Read.val_main_v10_eq _ _)).trans (funext fun i => ?_), (h c).2.2.2⟩
  · rw [Cert.Reference11Ideal.Val.v23_at, a0, a1, a2, a3]
    rfl
  · rw [Cert.Reference11Ideal.Val.v4_at, a1, a2]
    rfl
  · rw [Cert.Reference11Ideal.Val.v10_at, a1, a3]
    rfl

theorem algebraic_adamw_small [hK : Cert.Kernel12Ideal.Facts] [hR : Cert.Reference12Ideal.Facts] :
    Cert.algebraic_Kernel12Ideal_Reference12Ideal (hKernel12Ideal := hK) (hReference12Ideal := hR) := by
  intro m g m' g' hpre hagree
  refine ⟨fun c => DLT (Cert.Kernel12Ideal.Val.A1 m c) (Cert.Kernel12Ideal.Val.A0 m c) (Cert.Kernel12Ideal.Val.A2 m c) (Cert.Kernel12Ideal.Val.A3 m c),
    fun c => MOM (Cert.Kernel12Ideal.Val.A0 m c) (Cert.Kernel12Ideal.Val.A2 m c),
    fun c => VEL (Cert.Kernel12Ideal.Val.A0 m c) (Cert.Kernel12Ideal.Val.A3 m c),
    Cert.Kernel12Ideal.Val.run m g,
    (θ_run Cert.Reference12Ideal.defs _ _).mono (fun r h c => ?_) (Cert.Reference12Ideal.Value.run m' g')⟩
  obtain ⟨a0, a1, a2, a3⟩ := hagree c
  refine ⟨((h c).1.trans (Cert.Reference12Ideal.Read.val_main_v23_eq _ _ _ _)).trans (funext fun i => ?_),
    ((h c).2.1.trans (Cert.Reference12Ideal.Read.val_main_v4_eq _ _)).trans (funext fun i => ?_),
    ((h c).2.2.1.trans (Cert.Reference12Ideal.Read.val_main_v10_eq _ _)).trans (funext fun i => ?_), (h c).2.2.2⟩
  · rw [Cert.Reference12Ideal.Val.v23_at, a0, a1, a2, a3]
    rfl
  · rw [Cert.Reference12Ideal.Val.v4_at, a0, a2]
    rfl
  · rw [Cert.Reference12Ideal.Val.v10_at, a0, a3]
    rfl

end Cert.Proof

end
-- ==== Proof.Norm0.Value.lean ====
/-
  The norm before the input projection: eight blocks of 512 rows, each row divided by the root of its mean square and
  multiplied by the gain.
-/
module

public import proofs.«01_k».proof.Proof.Shared.Norm
public import proofs.«01_k».proof.Proof.Shared.Row
public import proofs.«01_k».proof.Proof.Gen.Kernel13Ideal.Frame
public import Idealize.ShloMosaic.Lib.WritesUnit
public import Idealize.ShloMosaic.Lib.Pipeline.ReadBack

@[expose] public section

noncomputable section

namespace Cert.Shared

open Idealize.ShloMosaic

/-- The normed rows, from the rows and the gain. -/
def normed (x : (⟨2, ![4096, 2048]⟩ : Shape).Idx → EReal) (g : (⟨2, ![1, 2048]⟩ : Shape).Idx → EReal) :
    (⟨2, ![4096, 2048]⟩ : Shape).Idx → EReal := fun i =>
  at2 x (i 0).val (i 1).val * rinv (fun k => at2 x (i 0).val k.val) * at2 g 0 (i 1).val

end Cert.Shared

namespace Cert.Kernel13Ideal.Val

open Cert.Kernel13Ideal Cert.Kernel13Ideal.Gen Cert.Shared Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz2 : (![0, 0] : Fin 2 → Nat) = fun _ => 0 := by decide

/-- One block of rows, normed. -/
theorem pay1_at (x0 : Vec Ideal S512x2048 .f32) (x1 : Vec Ideal S1x2048 .f32) (j : S512x2048.Idx) :
    (k0_pay1 x0 x1) j = (x0 j * rinv (fun k => x0 (ix2 (j 0) k)) * x1 (ix2 0 (j 1)) : EReal) := by
  idx_vars j
  unfold k0_pay1 rinv msq len eps
  pointwise
  try rfl

theorem out_at (x0 : Vec Ideal S512x2048 .f32) (x1 : Vec Ideal S1x2048 .f32) (j : S512x2048.Idx) :
    (out0_2 x0 x1) j = (x0 j * rinv (fun k => x0 (ix2 (j 0) k)) * x1 (ix2 0 (j 1)) : EReal) := by
  unfold out0_2
  rw [View.canon_unit_zero hz2, View.ld_unit_zero (S := S512x2048) hz2, View.ld_unit_zero (S := S1x2048) hz2]
  exact pay1_at x0 x1 j

theorem idx0 : ∀ t : Fin cfg0.N, win0_0.index t 0 = t.val ∧ win0_0.index t 1 = 0 :=
  (by decide +kernel : ∀ t : Fin grid0.N, _)
theorem idx1 : ∀ t : Fin cfg0.N, win0_1.index t 0 = 0 ∧ win0_1.index t 1 = 0 :=
  (by decide +kernel : ∀ t : Fin grid0.N, _)
theorem idx2 : ∀ t : Fin cfg0.N, win0_2.index t 0 = t.val ∧ win0_2.index t 1 = 0 :=
  (by decide +kernel : ∀ t : Fin grid0.N, _)

/-- The operands, as the program finds them. -/
abbrev A0 (c : Dev nD) : (⟨2, ![4096, 2048]⟩ : Shape).Idx → EReal := m ((c : Thread nD τ).loc main_arg0)
abbrev A1 (c : Dev nD) : (⟨2, ![1, 2048]⟩ : Shape).Idx → EReal := m ((c : Thread nD τ).loc main_arg1)

theorem blk0_at (c : Dev nD) (t : Fin cfg0.N) (j : S512x2048.Idx) :
    (iblk m c 0 t : Vec Ideal S512x2048 .f32) j = at2 (A0 m c) (512 * t.val + (j 0).val) (j 1).val := by
  unfold iblk
  rw [View.read_apply]
  refine eq_at2 (A0 m c) _ ?_ ?_
  · show win0_0.index t 0 * 512 + 1 * (j 0).val = _; rw [(idx0 t).1]; omega
  · show win0_0.index t 1 * 2048 + 1 * (j 1).val = _; rw [(idx0 t).2]; omega

theorem blk1_at (c : Dev nD) (t : Fin cfg0.N) (j : S1x2048.Idx) :
    (iblk m c 1 t : Vec Ideal S1x2048 .f32) j = at2 (A1 m c) (j 0).val (j 1).val := by
  unfold iblk
  rw [View.read_apply]
  refine eq_at2 (A1 m c) _ ?_ ?_
  · show win0_1.index t 0 * 1 + 1 * (j 0).val = _; rw [(idx1 t).1]; omega
  · show win0_1.index t 1 * 2048 + 1 * (j 1).val = _; rw [(idx1 t).2]; omega

theorem flushed2_eq (c : Dev nD) (t : Fin cfg0.N) (hf : (cfg0.win 2).flush t = true) :
    (dats m 0 c).flushed 2 t = ((cfg0.win 2).blk t).view.read (Elt Ideal) (normed (A0 m c) (A1 m c)) := by
  show (cfg0.win 2).cut (grid0.coords t) ((dats m 0 c).after 2 t) = _
  rw [after0_2]
  funext j
  rw [View.read_apply]
  have e0 : (((cfg0.win 2).blk t).view.emb j 0).val = 512 * t.val + (j 0).val := by
    show win0_2.index t 0 * 512 + 1 * (j 0).val = _; rw [(idx2 t).1]; omega
  have e1 : (((cfg0.win 2).blk t).view.emb j 1).val = (j 1).val := by
    show win0_2.index t 1 * 2048 + 1 * (j 1).val = (j 1).val; rw [(idx2 t).2]; omega
  unfold normed
  rw [e0, e1]
  refine (out_at (iblk m c 0 t) (iblk m c 1 t) j).trans ?_
  rw [blk0_at, blk1_at]
  simp only [blk0_at]
  rfl

/-- The point that writes back the rows an index lies in. -/
def pt (i : S4096x2048.Idx) : Fin cfg0.N := ⟨(i 0).val / 512, by
  have h0 : (i 0).val < 4096 := (i 0).isLt
  have hN : cfg0.N = 8 := N_0
  rw [hN]; omega⟩

theorem final2 (c : Dev nD) : (dats m 0 c).arrAt 2 cfg0.N = normed (A0 m c) (A1 m c) :=
  (dats m 0 c).arrAt_eq_of_cover 2 (normed (A0 m c) (A1 m c)) (flushed2_eq m c) fun i =>
    ⟨pt i, flush0_2 _, by
      have h0 : (i 0).val < 4096 := (i 0).isLt
      have h1 : (i 1).val < 2048 := (i 1).isLt
      have hv : (pt i).val = (i 0).val / 512 := rfl
      show i ∈ ((View.whole main_v0).slice (win0_2.rect (pt i))).set
      rw [View.set_slice_whole, Rect.mem_set_unit]
      intro a
      match a with
      | ⟨0, _⟩ => show win0_2.index (pt i) 0 * 512 ≤ (i 0 : Nat) ∧ (i 0 : Nat) < win0_2.index (pt i) 0 * 512 + 512
                  rw [(idx2 _).1]; omega
      | ⟨1, _⟩ => show win0_2.index (pt i) 1 * 2048 ≤ (i 1 : Nat) ∧ (i 1 : Nat) < win0_2.index (pt i) 1 * 2048 + 2048
                  rw [(idx2 _).2]; omega⟩

/-- Every run ends with the normed rows in the result and the operands as they were. -/
theorem run : θ_run defs (onTc (τ := τ) (main (F := Ideal))) ⟨m, fun _ => 0, ρ⟩ fun r => ∀ c : Dev nD,
      r.2.mem ((c : Thread nD τ).loc main_v0) = normed (A0 m c) (A1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final2 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.Kernel13Ideal.Val

end
-- ==== Proof.Norm0.Claim.lean ====
/-
  The norm before the input projection: the reference's stages at an index, and the agreement with the kernel.
-/
module

public import proofs.«01_k».proof.Proof.Norm0.Value
public import proofs.«01_k».proof.Proof.Gen.Reference13Ideal.Read
public import proofs.«01_k».proof.Proof.Gen.Reference13Ideal.Run
public import proofs.«01_k».proof.Defs

@[expose] public section

noncomputable section

namespace Cert.Reference13Ideal.Val

open Cert.Reference13Ideal Cert.Reference13Ideal.Gen Cert.Reference13Ideal.Read Cert.Shared Idealize.ShloMosaic Idealize.ShloMosaic.TcCoe Idealize.SL.Sem

variable (x0 : Vec Ideal S4096x2048 .f32) (x1 : Vec Ideal S1x2048 .f32)

/-- A row of the norm's input. -/
def xr (r : Nat) (k : Fin 2048) : EReal := at2 (a := 4096) (b := 2048) x0 r k.val

theorem v1_at (i : S4096.Idx) : val_main_v1 (F := Ideal) x0 i = ∑ k, xr x0 (i 0).val k * xr x0 (i 0).val k := by
  rw [val_main_v1_apply, val_main_cst_apply]
  simp only [Ideal.ofBits_def, Ideal.ofBits_zero_f32, zero_add]
  refine Finset.sum_congr rfl fun k _ => ?_
  rw [val_main_v0_apply]
  have e : x0 (idx_main_v1 i k) = xr x0 (i 0).val k := eq_at2 (a := 4096) (b := 2048) x0 _ rfl rfl
  rw [Ideal.mulf_def, e]

theorem v7_at (i : S4096x1.Idx) : val_main_v7 (F := Ideal) x0 i = rinv (xr x0 (i 0).val) := by
  rw [val_main_v7_apply, val_main_v6_apply, val_main_v5_apply, val_main_cst_1_apply, val_main_v4_apply, val_main_v3_apply,
    val_main_cst_0_apply, val_main_v2_apply, v1_at]
  rfl

theorem v12_at (i : S4096x2048.Idx) : val_main_v12 (F := Ideal) x0 x1 i = normed x0 x1 i := by
  rw [val_main_v12_apply, val_main_v11_apply, val_main_v10_apply, val_main_v9_apply, val_main_v8_apply, v7_at]
  have e : x0 i = xr x0 (i 0).val (i 1) := eq_at2 (a := 4096) (b := 2048) x0 _ rfl rfl
  have e1 : x1 (idx_main_v10 i) = at2 (a := 1) (b := 2048) x1 0 (i 1).val := eq_at2 (a := 1) (b := 2048) x1 _ rfl rfl
  rw [e, e1]
  rfl

end Cert.Reference13Ideal.Val

namespace Cert.Proof

open Cert.Shared Idealize.ShloMosaic Idealize.ShloMosaic.TcCoe Idealize.SL.Sem

theorem algebraic_norm0 [hK : Cert.Kernel13Ideal.Facts] [hR : Cert.Reference13Ideal.Facts] :
    Cert.algebraic_Kernel13Ideal_Reference13Ideal (hKernel13Ideal := hK) (hReference13Ideal := hR) := by
  intro m g m' g' hpre hagree
  refine ⟨fun c => normed (Cert.Kernel13Ideal.Val.A0 m c) (Cert.Kernel13Ideal.Val.A1 m c),
    Cert.Kernel13Ideal.Val.run m g,
    (θ_run Cert.Reference13Ideal.defs _ _).mono (fun r h c => ?_) (Cert.Reference13Ideal.Value.run m' g')⟩
  obtain ⟨a0, a1⟩ := hagree c
  refine ⟨((h c).1.trans (Cert.Reference13Ideal.Read.val_main_v12_eq _ _)).trans (funext fun i => ?_), (h c).2⟩
  rw [Cert.Reference13Ideal.Val.v12_at, a0, a1]

end Cert.Proof

end
-- ==== Proof.Hold.Step.lean ====
/-
  The zero-order hold of one pole of the state space, and its gradient, as functions of the pole `a + i b`, of the
  step `e` and of the cotangents; with the two sums over a head's sixteen inputs, written as products with the
  matrix that repeats every column sixteen times.
-/
module

public import proofs.«01_k».proof.Proof.Shared.Sums
public import Idealize.ShloMosaic.Lib.Pipeline.Value

@[expose] public section

noncomputable section

namespace Cert.Hold

open Idealize.ShloMosaic

def mag (a e : EReal) : EReal := Ideal.exp (a * e)
def cosS (b e : EReal) : EReal := Ideal.cos (b * e)
def sinS (b e : EReal) : EReal := Ideal.sin (b * e)
/-- The discrete pole: real part, imaginary part, and the real part less one. -/
def lbr (a b e : EReal) : EReal := mag a e * cosS b e
def lbi (a b e : EReal) : EReal := mag a e * sinS b e
def nr (a b e : EReal) : EReal := lbr a b e - 1
/-- The quotient's denominator and its two numerators. -/
def den (a b : EReal) : EReal := a * a + b * b
def pN (a b e : EReal) : EReal := nr a b e * a + lbi a b e * b
def sN (a b e : EReal) : EReal := lbi a b e * a - nr a b e * b
def qr (a b e : EReal) : EReal := Ideal.div (pN a b e) (den a b)
def qi (a b e : EReal) : EReal := Ideal.div (sN a b e) (den a b)
def inv (a b : EReal) : EReal := Ideal.div 1 (den a b * den a b)

/-! The gradient: `I` and `R` are the cotangents of the quotient's imaginary and real part. -/

def uI (a b I : EReal) : EReal := Ideal.div I (den a b)
/-- The cotangent of the denominator. -/
def wD (a b e I R : EReal) : EReal := -(I * inv a b * sN a b e) + -(R * inv a b * pN a b e)
/-- The cotangents of the discrete pole's imaginary and real part. -/
def gIm (a b gi I R : EReal) : EReal := gi + uI a b I * a + uI a b R * b
def gRe (a b gr I R : EReal) : EReal := gr + -uI a b I * b + uI a b R * a
def c1 (a b e gi I R : EReal) : EReal := mag a e * gIm a b gi I R * cosS b e
def c2 (a b e gr I R : EReal) : EReal := -(mag a e * gRe a b gr I R) * sinS b e
def c3 (a b e gr gi I R : EReal) : EReal := (gIm a b gi I R * sinS b e + gRe a b gr I R * cosS b e) * mag a e
def dRe (a b e gr gi I R : EReal) : EReal :=
  lbi a b e * uI a b I + nr a b e * uI a b R + a * wD a b e I R + wD a b e I R * a + c3 a b e gr gi I R * e
def dIm (a b e gr gi I R : EReal) : EReal :=
  nr a b e * -uI a b I + lbi a b e * uI a b R + b * wD a b e I R + wD a b e I R * b + c1 a b e gi I R * e + c2 a b e gr I R * e

/-- Indices at their literal shapes. -/
abbrev sq (r h : Fin 64) : (⟨2, ![64, 64]⟩ : Shape).Idx := ix2 r h
abbrev wd (r : Fin 64) (c : Fin 1024) : (⟨2, ![64, 1024]⟩ : Shape).Idx := ix2 r c
abbrev cb (r h : Fin 64) (p : Fin 16) : (⟨3, ![64, 64, 16]⟩ : Shape).Idx := ix3 r h p

/-- The step, from the logarithm the operand holds. -/
def est (x : (⟨1, ![64]⟩ : Shape).Idx → EReal) (r : Fin 64) : EReal := Ideal.exp (x (ix1 r))

/-- The cotangents of the quotient's imaginary and real part: sums over a head's sixteen inputs. -/
def hI (br bi : (⟨3, ![64, 64, 16]⟩ : Shape).Idx → EReal) (gr gi : (⟨2, ![64, 1024]⟩ : Shape).Idx → EReal) (r h : Fin 64) : EReal :=
  ∑ p : Fin 16, (gi (wd r ⟨16 * h.val + p.val, by omega⟩) * br (cb r h p) + -gr (wd r ⟨16 * h.val + p.val, by omega⟩) * bi (cb r h p))
def hR (br bi : (⟨3, ![64, 64, 16]⟩ : Shape).Idx → EReal) (gr gi : (⟨2, ![64, 1024]⟩ : Shape).Idx → EReal) (r h : Fin 64) : EReal :=
  ∑ p : Fin 16, (gi (wd r ⟨16 * h.val + p.val, by omega⟩) * bi (cb r h p) + gr (wd r ⟨16 * h.val + p.val, by omega⟩) * br (cb r h p))

/-! ## Sums over heads and over a head's inputs -/

/-- The matrix that repeats every column sixteen times. -/
def rep (h : Fin 64) (c : Fin 1024) : EReal := if c.val / 16 = h.val then 1 else 0

theorem sum_rep_left (q : Fin 64 → EReal) (c : Fin 1024) :
    ∑ h : Fin 64, q h * rep h c = q ⟨c.val / 16, by omega⟩ := by
  have hc := c.isLt
  rw [Finset.sum_eq_single (⟨c.val / 16, by omega⟩ : Fin 64)]
  · unfold rep
    rw [if_pos rfl, mul_one]
  · intro h _ hne
    unfold rep
    rw [if_neg (fun e => hne (Fin.ext e.symm)), mul_zero]
  · exact fun h => absurd (Finset.mem_univ _) h

theorem sum_rep_right (f : Fin 1024 → EReal) (h : Fin 64) :
    ∑ c : Fin 1024, f c * rep h c = ∑ p : Fin 16, f ⟨16 * h.val + p.val, by omega⟩ := by
  have e := Fintype.sum_equiv (finProdFinEquiv (m := 64) (n := 16)).symm (fun c => f c * rep h c)
    (fun x => f (finProdFinEquiv (m := 64) (n := 16) x) * rep h (finProdFinEquiv (m := 64) (n := 16) x)) (fun c => by rw [Equiv.apply_symm_apply])
  rw [e, Fintype.sum_prod_type, Finset.sum_eq_single h]
  · refine Finset.sum_congr rfl fun p _ => ?_
    have hv : finProdFinEquiv (m := 64) (n := 16) (h, p) = (⟨16 * h.val + p.val, by omega⟩ : Fin 1024) :=
      Fin.ext (by show p.val + 16 * h.val = 16 * h.val + p.val; omega)
    rw [hv]
    unfold rep
    rw [if_pos (by show (16 * h.val + p.val) / 16 = h.val; omega), mul_one]
  · intro k _ hne
    refine Finset.sum_eq_zero fun p _ => ?_
    unfold rep
    rw [if_neg, mul_zero]
    intro hk
    refine hne (Fin.ext ?_)
    have hv : (finProdFinEquiv (m := 64) (n := 16) (k, p)).val = p.val + 16 * k.val := rfl
    omega
  · exact fun hh => absurd (Finset.mem_univ _) hh

end Cert.Hold

end
-- ==== Proof.Hold.Fwd.lean ====
/-
  The zero-order hold: the discrete poles and inputs, and the poles' powers over a chunk, index by index.
-/
module

public import proofs.«01_k».proof.Proof.Hold.Step

@[expose] public section

noncomputable section

namespace Cert.Hold

open Idealize.ShloMosaic

section
variable (x0 x1 : (⟨2, ![64, 64]⟩ : Shape).Idx → EReal) (x2 : (⟨1, ![64]⟩ : Shape).Idx → EReal) (x3 x4 : (⟨3, ![64, 64, 16]⟩ : Shape).Idx → EReal)

/-- The head a column of a widened array belongs to, and its place within the head. -/
abbrev hdF (c : Fin 1024) : Fin 64 := ⟨c.val / 16, by omega⟩
abbrev inF (c : Fin 1024) : Fin 16 := ⟨c.val % 16, by omega⟩

/-- The step over a chunk of thirty-two frames. -/
def stepC (e : EReal) : EReal := e * Ideal.ofBits .f32 0x42000000#32

/-- The discrete pole. -/
def FLR : (⟨2, ![64, 64]⟩ : Shape).Idx → EReal := fun i => lbr (x0 (sq (i 0) (i 1))) (x1 (sq (i 0) (i 1))) (est x2 (i 0))
def FLI : (⟨2, ![64, 64]⟩ : Shape).Idx → EReal := fun i => lbi (x0 (sq (i 0) (i 1))) (x1 (sq (i 0) (i 1))) (est x2 (i 0))
/-- The discrete input. -/
def FBR : (⟨2, ![64, 1024]⟩ : Shape).Idx → EReal := fun i =>
  qr (x0 (sq (i 0) (hdF (i 1)))) (x1 (sq (i 0) (hdF (i 1)))) (est x2 (i 0)) * x3 (cb (i 0) (hdF (i 1)) (inF (i 1)))
    - qi (x0 (sq (i 0) (hdF (i 1)))) (x1 (sq (i 0) (hdF (i 1)))) (est x2 (i 0)) * x4 (cb (i 0) (hdF (i 1)) (inF (i 1)))
def FBI : (⟨2, ![64, 1024]⟩ : Shape).Idx → EReal := fun i =>
  qr (x0 (sq (i 0) (hdF (i 1)))) (x1 (sq (i 0) (hdF (i 1)))) (est x2 (i 0)) * x4 (cb (i 0) (hdF (i 1)) (inF (i 1)))
    + qi (x0 (sq (i 0) (hdF (i 1)))) (x1 (sq (i 0) (hdF (i 1)))) (est x2 (i 0)) * x3 (cb (i 0) (hdF (i 1)) (inF (i 1)))
/-- The pole's power over a chunk: the real parts, then the imaginary parts. -/
def FPW : (⟨3, ![2, 64, 64]⟩ : Shape).Idx → EReal := fun i =>
  if (i 0).val = 0 then lbr (x0 (sq (i 1) (i 2))) (x1 (sq (i 1) (i 2))) (stepC (est x2 (i 1)))
  else lbi (x0 (sq (i 1) (i 2))) (x1 (sq (i 1) (i 2))) (stepC (est x2 (i 1)))
end

end Cert.Hold

end
-- ==== Proof.Hold.FwdBody.lean ====
/-
  What the body of the zero-order hold leaves in its five result buffers, in terms of the blocks it reads.
-/
module

public import proofs.«01_k».proof.Proof.Hold.Fwd
public import proofs.«01_k».proof.Proof.Gen.Kernel14Ideal.Frame
public import Idealize.ShloMosaic.Lib.Pipeline.Value

@[expose] public section

noncomputable section

namespace Cert.Kernel14Ideal.Val

open Cert.Kernel14Ideal Cert.Kernel14Ideal.Gen Cert.Shared Cert.Hold Idealize.ShloMosaic Idealize.ShloMosaic.TcCoe Idealize.SL.Sem
open Idealize.ShloMosaic.Pipeline (Dat)

variable (a b : Vec Ideal S64x64 .f32) (t : Vec Ideal S64x1 .f32) (j0 j1 : Fin 64)

/-- The step of a row. -/
def stp (r : Fin 64) : EReal := Ideal.exp (t (ix2 r (0 : Fin 1)))

theorem pay9_at (k : Fin 1) : (k0_pay9 t) (ix2 j0 k) = stp t j0 := by
  unfold k0_pay9 k0_pay5 stp
  pointwise
  rw [Subsingleton.elim k 0]

theorem pay10_at : (k0_pay10 a t) (ix2 j0 j1) = mag (a (ix2 j0 j1)) (stp t j0) := by
  unfold k0_pay10
  pointwise
  rw [pay9_at]
  rfl

theorem pay11_at : (k0_pay11 a b t) (ix2 j0 j1) = lbr (a (ix2 j0 j1)) (b (ix2 j0 j1)) (stp t j0) := by
  unfold k0_pay11
  pointwise
  rw [pay9_at, pay10_at]
  rfl

theorem pay12_at : (k0_pay12 a b t) (ix2 j0 j1) = lbi (a (ix2 j0 j1)) (b (ix2 j0 j1)) (stp t j0) := by
  unfold k0_pay12
  pointwise
  rw [pay9_at, pay10_at]
  rfl

theorem pay13_at : (k0_pay13 a b t) (ix2 j0 j1) = nr (a (ix2 j0 j1)) (b (ix2 j0 j1)) (stp t j0) := by
  unfold k0_pay13
  pointwise
  rw [pay11_at]
  rfl

theorem pay14_at : (k0_pay14 a b) (ix2 j0 j1) = den (a (ix2 j0 j1)) (b (ix2 j0 j1)) := by
  unfold k0_pay14
  pointwise
  rfl

theorem pay1_at (k : Fin 1) : (k0_pay1 (k0_pay5 t)) (ix2 j0 k) = stepC (stp t j0) := by
  unfold k0_pay1 k0_pay5 stp stepC
  pointwise
  rw [Subsingleton.elim k 0]
  try rfl

theorem pay2_at : (k0_pay2 a (k0_pay5 t)) (ix2 j0 j1) = mag (a (ix2 j0 j1)) (stepC (stp t j0)) := by
  unfold k0_pay2
  pointwise
  rw [pay1_at]
  rfl

theorem pay3_at (k : Fin 1) : (k0_pay3 a b (k0_pay5 t)) (ix3 k j0 j1) = lbr (a (ix2 j0 j1)) (b (ix2 j0 j1)) (stepC (stp t j0)) := by
  unfold k0_pay3
  pointwise
  rw [pay1_at, pay2_at]
  rfl

theorem pay4_at (k : Fin 1) : (k0_pay4 a b (k0_pay5 t)) (ix3 k j0 j1) = lbi (a (ix2 j0 j1)) (b (ix2 j0 j1)) (stepC (stp t j0)) := by
  unfold k0_pay4
  pointwise
  rw [pay1_at, pay2_at]
  rfl

/-! ## The products with the repeating matrix -/

variable (x3 x4 x5 : Vec Ideal S64x1024 .f32) (h5 : ∀ h c, x5 (ix2 h c) = rep h c)

include h5 in
theorem pay15_at (k : Fin 1024) : (k0_pay15 a b t x5) (ix2 j0 k)
    = qr (a (ix2 j0 (hdF k))) (b (ix2 j0 (hdF k))) (stp t j0) := by
  unfold k0_pay15 k0_pay8
  pointwise
  refine Eq.trans (Finset.sum_congr rfl fun h _ => ?_) (sum_rep_left (fun h => qr (a (ix2 j0 h)) (b (ix2 j0 h)) (stp t j0)) k)
  rw [pay13_at, pay12_at, pay14_at, h5]
  rfl

include h5 in
theorem pay16_at (k : Fin 1024) : (k0_pay16 a b t x5) (ix2 j0 k)
    = qi (a (ix2 j0 (hdF k))) (b (ix2 j0 (hdF k))) (stp t j0) := by
  unfold k0_pay16 k0_pay8
  pointwise
  refine Eq.trans (Finset.sum_congr rfl fun h _ => ?_) (sum_rep_left (fun h => qi (a (ix2 j0 h)) (b (ix2 j0 h)) (stp t j0)) k)
  rw [pay13_at, pay12_at, pay14_at, h5]
  rfl

/-! ## The result buffers -/

theorem out6_at : out0_6 a b t x3 x4 x5 (ix2 j0 j1) = lbr (a (ix2 j0 j1)) (b (ix2 j0 j1)) (stp t j0) := by
  unfold_out out0_6
  rw [View.canon_unit_zero hz2]
  simp only [View.ld_unit_zero (S := S64x64) hz2, View.ld_unit_zero (S := S64x1) hz2]
  exact pay11_at a b t j0 j1

theorem out7_at : out0_7 a b t x3 x4 x5 (ix2 j0 j1) = lbi (a (ix2 j0 j1)) (b (ix2 j0 j1)) (stp t j0) := by
  unfold_out out0_7
  rw [View.canon_unit_zero hz2]
  simp only [View.ld_unit_zero (S := S64x64) hz2, View.ld_unit_zero (S := S64x1) hz2]
  exact pay12_at a b t j0 j1

include h5 in
theorem out8_at (k : Fin 1024) : out0_8 a b t x3 x4 x5 (ix2 j0 k)
    = qr (a (ix2 j0 (hdF k))) (b (ix2 j0 (hdF k))) (stp t j0) * x3 (ix2 j0 k) - qi (a (ix2 j0 (hdF k))) (b (ix2 j0 (hdF k))) (stp t j0) * x4 (ix2 j0 k) := by
  unfold_out out0_8
  rw [View.canon_unit_zero hz2]
  simp only [View.ld_unit_zero (S := S64x64) hz2, View.ld_unit_zero (S := S64x1) hz2, View.ld_unit_zero (S := S64x1024) hz2]
  unfold k0_pay17 k0_pay6 k0_pay7
  pointwise
  rw [pay15_at _ _ _ _ x5 h5, pay16_at _ _ _ _ x5 h5]

include h5 in
theorem out9_at (k : Fin 1024) : out0_9 a b t x3 x4 x5 (ix2 j0 k)
    = qr (a (ix2 j0 (hdF k))) (b (ix2 j0 (hdF k))) (stp t j0) * x4 (ix2 j0 k) + qi (a (ix2 j0 (hdF k))) (b (ix2 j0 (hdF k))) (stp t j0) * x3 (ix2 j0 k) := by
  unfold_out out0_9
  rw [View.canon_unit_zero hz2]
  simp only [View.ld_unit_zero (S := S64x64) hz2, View.ld_unit_zero (S := S64x1) hz2, View.ld_unit_zero (S := S64x1024) hz2]
  unfold k0_pay18 k0_pay6 k0_pay7
  pointwise
  rw [pay15_at _ _ _ _ x5 h5, pay16_at _ _ _ _ x5 h5]

theorem emb_hi : (r0_4).emb (ix3 (0 : Fin 1) j0 j1 : S1x64x64.Idx) = (ix3 (1 : Fin 2) j0 j1 : S2x64x64.Idx) :=
  funext fun d => Fin.ext (by
    match d with
    | ⟨0, _⟩ => rfl
    | ⟨1, _⟩ => show 0 + 1 * j0.val = j0.val; omega
    | ⟨2, _⟩ => show 0 + 1 * j1.val = j1.val; omega)

theorem emb_lo : (r0_3).emb (ix3 (0 : Fin 1) j0 j1 : S1x64x64.Idx) = (ix3 (0 : Fin 2) j0 j1 : S2x64x64.Idx) :=
  funext fun d => Fin.ext (by
    match d with
    | ⟨0, _⟩ => rfl
    | ⟨1, _⟩ => show 0 + 1 * j0.val = j0.val; omega
    | ⟨2, _⟩ => show 0 + 1 * j1.val = j1.val; omega)

theorem out10_at (k : Fin 2) : out0_10 a b t x3 x4 x5 (ix3 k j0 j1)
    = if k.val = 0 then lbr (a (ix2 j0 j1)) (b (ix2 j0 j1)) (stepC (stp t j0)) else lbi (a (ix2 j0 j1)) (b (ix2 j0 j1)) (stepC (stp t j0)) := by
  unfold_out out0_10
  simp only [View.ld_unit_zero (S := S64x64) hz2, View.ld_unit_zero (S := S64x1) hz2]
  match k with
  | ⟨0, _⟩ =>
    rw [if_pos rfl]
    refine (View.canon_cons_of_not_mem _ _ (fun hm => ?_)).trans ?_
    · replace hm : (ix3 (0 : Fin 2) j0 j1 : S2x64x64.Idx) ∈ (Rect.unit (s := S2x64x64) ![1, 0, 0] S1x64x64.size inb_S2x64x64_S1x64x64_1_0_0).set := hm
      rw [Rect.mem_set_unit] at hm
      have h1 : (1 : Nat) ≤ 0 := (hm 0).1
      omega
    · exact ((congrArg _ (emb_lo j0 j1)).symm.trans (View.canon_cons_emb r0_3 _ [] (ix3 (0 : Fin 1) j0 j1 : S1x64x64.Idx))).trans (pay3_at a b t j0 j1 0)
  | ⟨1, _⟩ =>
    rw [if_neg (by show ¬ (1 : Nat) = 0; omega)]
    exact ((congrArg _ (emb_hi j0 j1)).symm.trans (View.canon_cons_emb r0_4 _ _ (ix3 (0 : Fin 1) j0 j1 : S1x64x64.Idx))).trans (pay4_at a b t j0 j1 0)

end Cert.Kernel14Ideal.Val

end
-- ==== Proof.Hold.FwdRun.lean ====
/-
  The zero-order hold: what the host code hands to the kernel, and the arrays after the run.
-/
module

public import proofs.«01_k».proof.Proof.Hold.FwdBody

@[expose] public section

noncomputable section

namespace Cert.Kernel14Ideal.Val

open Cert.Kernel14Ideal Cert.Kernel14Ideal.Gen Cert.Shared Cert.Hold Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The operands, as the program finds them. -/
abbrev A0 (c : Dev nD) : S64x64.Idx → EReal := m ((c : Thread nD τ).loc main_arg0)
abbrev A1 (c : Dev nD) : S64x64.Idx → EReal := m ((c : Thread nD τ).loc main_arg1)
abbrev A2 (c : Dev nD) : S64.Idx → EReal := m ((c : Thread nD τ).loc main_arg2)
abbrev A3 (c : Dev nD) : S64x64x16.Idx → EReal := m ((c : Thread nD τ).loc main_arg3)
abbrev A4 (c : Dev nD) : S64x64x16.Idx → EReal := m ((c : Thread nD τ).loc main_arg4)

/-! ## What the host code leaves -/

theorem V_v0 (c : Dev nD) (r : Fin 64) (k : Fin 1) : (V m c main_v0 : S64x1.Idx → EReal) (ix2 r k) = A2 m c (ix1 r) := by
  unfold V; simp only [hostOps0]; after_results
  pointwise

theorem V_v1 (c : Dev nD) (r : Fin 64) (k : Fin 1024) : (V m c main_v1 : S64x1024.Idx → EReal) (ix2 r k)
    = A3 m c (cb r ⟨k.val / 16, by omega⟩ ⟨k.val % 16, by omega⟩) := by
  unfold V; simp only [hostOps0]; after_results
  pointwise

theorem V_v2 (c : Dev nD) (r : Fin 64) (k : Fin 1024) : (V m c main_v2 : S64x1024.Idx → EReal) (ix2 r k)
    = A4 m c (cb r ⟨k.val / 16, by omega⟩ ⟨k.val % 16, by omega⟩) := by
  unfold V; simp only [hostOps0]; after_results
  pointwise

theorem V_v10 (c : Dev nD) (h : Fin 64) (k : Fin 1024) : (V m c main_v10 : S64x1024.Idx → EReal) (ix2 h k) = rep h k := by
  unfold V; simp only [hostOps0]; after_results
  pointwise
  have hk := k.isLt
  have hh := h.isLt
  have e : IntOp.cmpi .eq (IntOp.addi (BitVec.ofNat 32 h.val) 0#32) (BitVec.ofNat 32 (k.val / 16)) = if k.val / 16 = h.val then 1#1 else 0#1 := by
    by_cases hq : k.val / 16 = h.val
    · rw [if_pos hq, hq]
      simp [IntOp.cmpi, IntOp.addi]
    · rw [if_neg hq]
      have hne : BitVec.ofNat 32 h.val ≠ BitVec.ofNat 32 (k.val / 16) := fun h2 => hq (by
        have h3 := congrArg BitVec.toNat h2
        simp only [BitVec.toNat_ofNat] at h3
        omega)
      have hb : (BitVec.ofNat 32 h.val == BitVec.ofNat 32 (k.val / 16)) = false := beq_false_of_ne hne
      simp [IntOp.cmpi, IntOp.addi, hb]
  rw [e]
  unfold rep
  by_cases hq : k.val / 16 = h.val
  · rw [if_pos hq, if_pos hq]
    show (((1#1 : BitVec 1).toNat : ℝ) : EReal) = 1
    simp
  · rw [if_neg hq, if_neg hq]
    show (((0#1 : BitVec 1).toNat : ℝ) : EReal) = 0
    simp

/-! ## Every block is the whole array -/

theorem idx0 : ∀ t : Fin cfg0.N, win0_0.index t 0 = 0 ∧ win0_0.index t 1 = 0 :=
  (by decide +kernel : ∀ t : Fin grid0.N, _)
theorem idx1 : ∀ t : Fin cfg0.N, win0_1.index t 0 = 0 ∧ win0_1.index t 1 = 0 :=
  (by decide +kernel : ∀ t : Fin grid0.N, _)
theorem idx2 : ∀ t : Fin cfg0.N, win0_2.index t 0 = 0 ∧ win0_2.index t 1 = 0 :=
  (by decide +kernel : ∀ t : Fin grid0.N, _)
theorem idx3 : ∀ t : Fin cfg0.N, win0_3.index t 0 = 0 ∧ win0_3.index t 1 = 0 :=
  (by decide +kernel : ∀ t : Fin grid0.N, _)
theorem idx4 : ∀ t : Fin cfg0.N, win0_4.index t 0 = 0 ∧ win0_4.index t 1 = 0 :=
  (by decide +kernel : ∀ t : Fin grid0.N, _)
theorem idx5 : ∀ t : Fin cfg0.N, win0_5.index t 0 = 0 ∧ win0_5.index t 1 = 0 :=
  (by decide +kernel : ∀ t : Fin grid0.N, _)
theorem idx6 : ∀ t : Fin cfg0.N, win0_6.index t 0 = 0 ∧ win0_6.index t 1 = 0 :=
  (by decide +kernel : ∀ t : Fin grid0.N, _)
theorem idx7 : ∀ t : Fin cfg0.N, win0_7.index t 0 = 0 ∧ win0_7.index t 1 = 0 :=
  (by decide +kernel : ∀ t : Fin grid0.N, _)
theorem idx8 : ∀ t : Fin cfg0.N, win0_8.index t 0 = 0 ∧ win0_8.index t 1 = 0 :=
  (by decide +kernel : ∀ t : Fin grid0.N, _)
theorem idx9 : ∀ t : Fin cfg0.N, win0_9.index t 0 = 0 ∧ win0_9.index t 1 = 0 :=
  (by decide +kernel : ∀ t : Fin grid0.N, _)
theorem idx10 : ∀ t : Fin cfg0.N, win0_10.index t 0 = 0 ∧ win0_10.index t 1 = 0 ∧ win0_10.index t 2 = 0 :=
  (by decide +kernel : ∀ t : Fin grid0.N, _)

theorem blk0 (c : Dev nD) (t : Fin cfg0.N) : (iblk m c 0 t : Vec Ideal S64x64 .f32) = (V m c main_arg0 : S64x64.Idx → EReal) := by
  funext j
  unfold iblk
  rw [View.read_apply]
  refine congrArg (V m c main_arg0 : S64x64.Idx → EReal) (funext fun a => Fin.ext ?_)
  match a with
  | ⟨0, _⟩ => show win0_0.index t 0 * 64 + 1 * (j 0).val = (j 0).val; rw [(idx0 t).1]; omega
  | ⟨1, _⟩ => show win0_0.index t 1 * 64 + 1 * (j 1).val = (j 1).val; rw [(idx0 t).2]; omega

theorem blk1 (c : Dev nD) (t : Fin cfg0.N) : (iblk m c 1 t : Vec Ideal S64x64 .f32) = (V m c main_arg1 : S64x64.Idx → EReal) := by
  funext j
  unfold iblk
  rw [View.read_apply]
  refine congrArg (V m c main_arg1 : S64x64.Idx → EReal) (funext fun a => Fin.ext ?_)
  match a with
  | ⟨0, _⟩ => show win0_1.index t 0 * 64 + 1 * (j 0).val = (j 0).val; rw [(idx1 t).1]; omega
  | ⟨1, _⟩ => show win0_1.index t 1 * 64 + 1 * (j 1).val = (j 1).val; rw [(idx1 t).2]; omega

theorem blk2 (c : Dev nD) (t : Fin cfg0.N) : (iblk m c 2 t : Vec Ideal S64x1 .f32) = (V m c main_v0 : S64x1.Idx → EReal) := by
  funext j
  unfold iblk
  rw [View.read_apply]
  refine congrArg (V m c main_v0 : S64x1.Idx → EReal) (funext fun a => Fin.ext ?_)
  match a with
  | ⟨0, _⟩ => show win0_2.index t 0 * 64 + 1 * (j 0).val = (j 0).val; rw [(idx2 t).1]; omega
  | ⟨1, _⟩ => show win0_2.index t 1 * 1 + 1 * (j 1).val = (j 1).val; rw [(idx2 t).2]; omega

theorem blk3 (c : Dev nD) (t : Fin cfg0.N) : (iblk m c 3 t : Vec Ideal S64x1024 .f32) = (V m c main_v1 : S64x1024.Idx → EReal) := by
  funext j
  unfold iblk
  rw [View.read_apply]
  refine congrArg (V m c main_v1 : S64x1024.Idx → EReal) (funext fun a => Fin.ext ?_)
  match a with
  | ⟨0, _⟩ => show win0_3.index t 0 * 64 + 1 * (j 0).val = (j 0).val; rw [(idx3 t).1]; omega
  | ⟨1, _⟩ => show win0_3.index t 1 * 1024 + 1 * (j 1).val = (j 1).val; rw [(idx3 t).2]; omega

theorem blk4 (c : Dev nD) (t : Fin cfg0.N) : (iblk m c 4 t : Vec Ideal S64x1024 .f32) = (V m c main_v2 : S64x1024.Idx → EReal) := by
  funext j
  unfold iblk
  rw [View.read_apply]
  refine congrArg (V m c main_v2 : S64x1024.Idx → EReal) (funext fun a => Fin.ext ?_)
  match a with
  | ⟨0, _⟩ => show win0_4.index t 0 * 64 + 1 * (j 0).val = (j 0).val; rw [(idx4 t).1]; omega
  | ⟨1, _⟩ => show win0_4.index t 1 * 1024 + 1 * (j 1).val = (j 1).val; rw [(idx4 t).2]; omega

theorem blk5 (c : Dev nD) (t : Fin cfg0.N) : (iblk m c 5 t : Vec Ideal S64x1024 .f32) = (V m c main_v10 : S64x1024.Idx → EReal) := by
  funext j
  unfold iblk
  rw [View.read_apply]
  refine congrArg (V m c main_v10 : S64x1024.Idx → EReal) (funext fun a => Fin.ext ?_)
  match a with
  | ⟨0, _⟩ => show win0_5.index t 0 * 64 + 1 * (j 0).val = (j 0).val; rw [(idx5 t).1]; omega
  | ⟨1, _⟩ => show win0_5.index t 1 * 1024 + 1 * (j 1).val = (j 1).val; rw [(idx5 t).2]; omega

/-! ## The blocks' step and sums are the operands' -/

theorem stp_blk (c : Dev nD) (t : Fin cfg0.N) (r : Fin 64) : stp (iblk m c 2 t) r = est (A2 m c) r := by
  rw [blk2]
  exact congrArg Ideal.exp (V_v0 m c r 0)

theorem rep_blk (c : Dev nD) (t : Fin cfg0.N) (h : Fin 64) (k : Fin 1024) : (iblk m c 5 t : Vec Ideal S64x1024 .f32) (ix2 h k) = rep h k := by
  rw [blk5]
  exact V_v10 m c h k

/-! ## The arrays after the run -/

/-- The one point. -/
def pt : Fin cfg0.N := ⟨0, by decide +kernel⟩

theorem flushed6_eq (c : Dev nD) (t : Fin cfg0.N) (hf : (cfg0.win 6).flush t = true) :
    (dats m 0 c).flushed 6 t = ((cfg0.win 6).blk t).view.read (Elt Ideal) (FLR (A0 m c) (A1 m c) (A2 m c)) := by
  show (cfg0.win 6).cut (grid0.coords t) ((dats m 0 c).after 6 t) = _
  rw [after0_6]
  funext j
  rw [View.read_apply]
  have e : ((cfg0.win 6).blk t).view.emb j = (j : S64x64.Idx) := funext fun a => Fin.ext (by
    match a with
    | ⟨0, _⟩ => show win0_6.index t 0 * 64 + 1 * (j 0).val = (j 0).val; rw [(idx6 t).1]; omega
    | ⟨1, _⟩ => show win0_6.index t 1 * 64 + 1 * (j 1).val = (j 1).val; rw [(idx6 t).2]; omega)
  refine Eq.trans ?_ (congrArg (FLR (A0 m c) (A1 m c) (A2 m c)) e.symm)
  refine (?_ : out0_6 (iblk m c 0 t) (iblk m c 1 t) (iblk m c 2 t) (iblk m c 3 t) (iblk m c 4 t) (iblk m c 5 t) j = FLR (A0 m c) (A1 m c) (A2 m c) j)
  idx_vars j
  refine (out6_at (iblk m c 0 t) (iblk m c 1 t) (iblk m c 2 t) _ _ (iblk m c 3 t) (iblk m c 4 t) (iblk m c 5 t)).trans ?_
  rw [stp_blk, blk0, blk1, V_main_arg0, V_main_arg1]
  rfl

theorem final6 (c : Dev nD) : (dats m 0 c).arrAt 6 cfg0.N = FLR (A0 m c) (A1 m c) (A2 m c) :=
  (dats m 0 c).arrAt_eq_of_cover 6 (FLR (A0 m c) (A1 m c) (A2 m c)) (flushed6_eq m c) fun i =>
    ⟨pt, flush0_6 _, by
      have h0 : (i 0).val < 64 := (i 0).isLt
      have h1 : (i 1).val < 64 := (i 1).isLt
      show i ∈ ((View.whole main_v11_0).slice (win0_6.rect pt)).set
      rw [View.set_slice_whole, Rect.mem_set_unit]
      intro a
      match a with
      | ⟨0, _⟩ => show win0_6.index pt 0 * 64 ≤ (i 0 : Nat) ∧ (i 0 : Nat) < win0_6.index pt 0 * 64 + 64
                  rw [(idx6 _).1]; omega
      | ⟨1, _⟩ => show win0_6.index pt 1 * 64 ≤ (i 1 : Nat) ∧ (i 1 : Nat) < win0_6.index pt 1 * 64 + 64
                  rw [(idx6 _).2]; omega⟩

theorem flushed7_eq (c : Dev nD) (t : Fin cfg0.N) (hf : (cfg0.win 7).flush t = true) :
    (dats m 0 c).flushed 7 t = ((cfg0.win 7).blk t).view.read (Elt Ideal) (FLI (A0 m c) (A1 m c) (A2 m c)) := by
  show (cfg0.win 7).cut (grid0.coords t) ((dats m 0 c).after 7 t) = _
  rw [after0_7]
  funext j
  rw [View.read_apply]
  have e : ((cfg0.win 7).blk t).view.emb j = (j : S64x64.Idx) := funext fun a => Fin.ext (by
    match a with
    | ⟨0, _⟩ => show win0_7.index t 0 * 64 + 1 * (j 0).val = (j 0).val; rw [(idx7 t).1]; omega
    | ⟨1, _⟩ => show win0_7.index t 1 * 64 + 1 * (j 1).val = (j 1).val; rw [(idx7 t).2]; omega)
  refine Eq.trans ?_ (congrArg (FLI (A0 m c) (A1 m c) (A2 m c)) e.symm)
  refine (?_ : out0_7 (iblk m c 0 t) (iblk m c 1 t) (iblk m c 2 t) (iblk m c 3 t) (iblk m c 4 t) (iblk m c 5 t) j = FLI (A0 m c) (A1 m c) (A2 m c) j)
  idx_vars j
  refine (out7_at (iblk m c 0 t) (iblk m c 1 t) (iblk m c 2 t) _ _ (iblk m c 3 t) (iblk m c 4 t) (iblk m c 5 t)).trans ?_
  rw [stp_blk, blk0, blk1, V_main_arg0, V_main_arg1]
  rfl

theorem final7 (c : Dev nD) : (dats m 0 c).arrAt 7 cfg0.N = FLI (A0 m c) (A1 m c) (A2 m c) :=
  (dats m 0 c).arrAt_eq_of_cover 7 (FLI (A0 m c) (A1 m c) (A2 m c)) (flushed7_eq m c) fun i =>
    ⟨pt, flush0_7 _, by
      have h0 : (i 0).val < 64 := (i 0).isLt
      have h1 : (i 1).val < 64 := (i 1).isLt
      show i ∈ ((View.whole main_v11_1).slice (win0_7.rect pt)).set
      rw [View.set_slice_whole, Rect.mem_set_unit]
      intro a
      match a with
      | ⟨0, _⟩ => show win0_7.index pt 0 * 64 ≤ (i 0 : Nat) ∧ (i 0 : Nat) < win0_7.index pt 0 * 64 + 64
                  rw [(idx7 _).1]; omega
      | ⟨1, _⟩ => show win0_7.index pt 1 * 64 ≤ (i 1 : Nat) ∧ (i 1 : Nat) < win0_7.index pt 1 * 64 + 64
                  rw [(idx7 _).2]; omega⟩

theorem flushed8_eq (c : Dev nD) (t : Fin cfg0.N) (hf : (cfg0.win 8).flush t = true) :
    (dats m 0 c).flushed 8 t = ((cfg0.win 8).blk t).view.read (Elt Ideal) (FBR (A0 m c) (A1 m c) (A2 m c) (A3 m c) (A4 m c)) := by
  show (cfg0.win 8).cut (grid0.coords t) ((dats m 0 c).after 8 t) = _
  rw [after0_8]
  funext j
  rw [View.read_apply]
  have e : ((cfg0.win 8).blk t).view.emb j = (j : S64x1024.Idx) := funext fun a => Fin.ext (by
    match a with
    | ⟨0, _⟩ => show win0_8.index t 0 * 64 + 1 * (j 0).val = (j 0).val; rw [(idx8 t).1]; omega
    | ⟨1, _⟩ => show win0_8.index t 1 * 1024 + 1 * (j 1).val = (j 1).val; rw [(idx8 t).2]; omega)
  refine Eq.trans ?_ (congrArg (FBR (A0 m c) (A1 m c) (A2 m c) (A3 m c) (A4 m c)) e.symm)
  refine (?_ : out0_8 (iblk m c 0 t) (iblk m c 1 t) (iblk m c 2 t) (iblk m c 3 t) (iblk m c 4 t) (iblk m c 5 t) j = FBR (A0 m c) (A1 m c) (A2 m c) (A3 m c) (A4 m c) j)
  idx_vars j
  refine (out8_at (iblk m c 0 t) (iblk m c 1 t) (iblk m c 2 t) _ (iblk m c 3 t) (iblk m c 4 t) (iblk m c 5 t) (rep_blk m c t) _).trans ?_
  rw [stp_blk, blk0, blk1, blk3, blk4, V_main_arg0, V_main_arg1, V_v1, V_v2]
  rfl

theorem final8 (c : Dev nD) : (dats m 0 c).arrAt 8 cfg0.N = FBR (A0 m c) (A1 m c) (A2 m c) (A3 m c) (A4 m c) :=
  (dats m 0 c).arrAt_eq_of_cover 8 (FBR (A0 m c) (A1 m c) (A2 m c) (A3 m c) (A4 m c)) (flushed8_eq m c) fun i =>
    ⟨pt, flush0_8 _, by
      have h0 : (i 0).val < 64 := (i 0).isLt
      have h1 : (i 1).val < 1024 := (i 1).isLt
      show i ∈ ((View.whole main_v11_2).slice (win0_8.rect pt)).set
      rw [View.set_slice_whole, Rect.mem_set_unit]
      intro a
      match a with
      | ⟨0, _⟩ => show win0_8.index pt 0 * 64 ≤ (i 0 : Nat) ∧ (i 0 : Nat) < win0_8.index pt 0 * 64 + 64
                  rw [(idx8 _).1]; omega
      | ⟨1, _⟩ => show win0_8.index pt 1 * 1024 ≤ (i 1 : Nat) ∧ (i 1 : Nat) < win0_8.index pt 1 * 1024 + 1024
                  rw [(idx8 _).2]; omega⟩

theorem flushed9_eq (c : Dev nD) (t : Fin cfg0.N) (hf : (cfg0.win 9).flush t = true) :
    (dats m 0 c).flushed 9 t = ((cfg0.win 9).blk t).view.read (Elt Ideal) (FBI (A0 m c) (A1 m c) (A2 m c) (A3 m c) (A4 m c)) := by
  show (cfg0.win 9).cut (grid0.coords t) ((dats m 0 c).after 9 t) = _
  rw [after0_9]
  funext j
  rw [View.read_apply]
  have e : ((cfg0.win 9).blk t).view.emb j = (j : S64x1024.Idx) := funext fun a => Fin.ext (by
    match a with
    | ⟨0, _⟩ => show win0_9.index t 0 * 64 + 1 * (j 0).val = (j 0).val; rw [(idx9 t).1]; omega
    | ⟨1, _⟩ => show win0_9.index t 1 * 1024 + 1 * (j 1).val = (j 1).val; rw [(idx9 t).2]; omega)
  refine Eq.trans ?_ (congrArg (FBI (A0 m c) (A1 m c) (A2 m c) (A3 m c) (A4 m c)) e.symm)
  refine (?_ : out0_9 (iblk m c 0 t) (iblk m c 1 t) (iblk m c 2 t) (iblk m c 3 t) (iblk m c 4 t) (iblk m c 5 t) j = FBI (A0 m c) (A1 m c) (A2 m c) (A3 m c) (A4 m c) j)
  idx_vars j
  refine (out9_at (iblk m c 0 t) (iblk m c 1 t) (iblk m c 2 t) _ (iblk m c 3 t) (iblk m c 4 t) (iblk m c 5 t) (rep_blk m c t) _).trans ?_
  rw [stp_blk, blk0, blk1, blk3, blk4, V_main_arg0, V_main_arg1, V_v1, V_v2]
  rfl

theorem final9 (c : Dev nD) : (dats m 0 c).arrAt 9 cfg0.N = FBI (A0 m c) (A1 m c) (A2 m c) (A3 m c) (A4 m c) :=
  (dats m 0 c).arrAt_eq_of_cover 9 (FBI (A0 m c) (A1 m c) (A2 m c) (A3 m c) (A4 m c)) (flushed9_eq m c) fun i =>
    ⟨pt, flush0_9 _, by
      have h0 : (i 0).val < 64 := (i 0).isLt
      have h1 : (i 1).val < 1024 := (i 1).isLt
      show i ∈ ((View.whole main_v11_3).slice (win0_9.rect pt)).set
      rw [View.set_slice_whole, Rect.mem_set_unit]
      intro a
      match a with
      | ⟨0, _⟩ => show win0_9.index pt 0 * 64 ≤ (i 0 : Nat) ∧ (i 0 : Nat) < win0_9.index pt 0 * 64 + 64
                  rw [(idx9 _).1]; omega
      | ⟨1, _⟩ => show win0_9.index pt 1 * 1024 ≤ (i 1 : Nat) ∧ (i 1 : Nat) < win0_9.index pt 1 * 1024 + 1024
                  rw [(idx9 _).2]; omega⟩

theorem flushed10_eq (c : Dev nD) (t : Fin cfg0.N) (hf : (cfg0.win 10).flush t = true) :
    (dats m 0 c).flushed 10 t = ((cfg0.win 10).blk t).view.read (Elt Ideal) (FPW (A0 m c) (A1 m c) (A2 m c)) := by
  show (cfg0.win 10).cut (grid0.coords t) ((dats m 0 c).after 10 t) = _
  rw [after0_10]
  funext j
  rw [View.read_apply]
  have e : ((cfg0.win 10).blk t).view.emb j = (j : S2x64x64.Idx) := funext fun a => Fin.ext (by
    match a with
    | ⟨0, _⟩ => show win0_10.index t 0 * 2 + 1 * (j 0).val = (j 0).val; rw [(idx10 t).1]; omega
    | ⟨1, _⟩ => show win0_10.index t 1 * 64 + 1 * (j 1).val = (j 1).val; rw [(idx10 t).2.1]; omega
    | ⟨2, _⟩ => show win0_10.index t 2 * 64 + 1 * (j 2).val = (j 2).val; rw [(idx10 t).2.2]; omega)
  refine Eq.trans ?_ (congrArg (FPW (A0 m c) (A1 m c) (A2 m c)) e.symm)
  refine (?_ : out0_10 (iblk m c 0 t) (iblk m c 1 t) (iblk m c 2 t) (iblk m c 3 t) (iblk m c 4 t) (iblk m c 5 t) j = FPW (A0 m c) (A1 m c) (A2 m c) j)
  idx_vars j
  refine (out10_at (iblk m c 0 t) (iblk m c 1 t) (iblk m c 2 t) j1 j2 (iblk m c 3 t) (iblk m c 4 t) (iblk m c 5 t) j0).trans ?_
  rw [stp_blk, blk0, blk1, V_main_arg0, V_main_arg1]
  rfl

theorem final10 (c : Dev nD) : (dats m 0 c).arrAt 10 cfg0.N = FPW (A0 m c) (A1 m c) (A2 m c) :=
  (dats m 0 c).arrAt_eq_of_cover 10 (FPW (A0 m c) (A1 m c) (A2 m c)) (flushed10_eq m c) fun i =>
    ⟨pt, flush0_10 _, by
      have h0 : (i 0).val < 2 := (i 0).isLt
      have h1 : (i 1).val < 64 := (i 1).isLt
      have h2 : (i 2).val < 64 := (i 2).isLt
      show i ∈ ((View.whole main_v11_4).slice (win0_10.rect pt)).set
      rw [View.set_slice_whole, Rect.mem_set_unit]
      intro a
      match a with
      | ⟨0, _⟩ => show win0_10.index pt 0 * 2 ≤ (i 0 : Nat) ∧ (i 0 : Nat) < win0_10.index pt 0 * 2 + 2
                  rw [(idx10 _).1]; omega
      | ⟨1, _⟩ => show win0_10.index pt 1 * 64 ≤ (i 1 : Nat) ∧ (i 1 : Nat) < win0_10.index pt 1 * 64 + 64
                  rw [(idx10 _).2.1]; omega
      | ⟨2, _⟩ => show win0_10.index pt 2 * 64 ≤ (i 2 : Nat) ∧ (i 2 : Nat) < win0_10.index pt 2 * 64 + 64
                  rw [(idx10 _).2.2]; omega⟩

/-- The whole run: the discrete poles, inputs and powers, and the operands as they were. -/
theorem run : θ_run defs (onTc (τ := τ) (main (F := Ideal))) ⟨m, fun _ => 0, ρ⟩ fun r => ∀ c : Dev nD,
      r.2.mem ((c : Thread nD τ).loc main_v11_0) = FLR (A0 m c) (A1 m c) (A2 m c)
      ∧ r.2.mem ((c : Thread nD τ).loc main_v11_1) = FLI (A0 m c) (A1 m c) (A2 m c)
      ∧ r.2.mem ((c : Thread nD τ).loc main_v11_2) = FBR (A0 m c) (A1 m c) (A2 m c) (A3 m c) (A4 m c)
      ∧ r.2.mem ((c : Thread nD τ).loc main_v11_3) = FBI (A0 m c) (A1 m c) (A2 m c) (A3 m c) (A4 m c)
      ∧ r.2.mem ((c : Thread nD τ).loc main_v11_4) = FPW (A0 m c) (A1 m c) (A2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 6).trans (final6 m c),
      ((h c).1 7).trans (final7 m c),
      ((h c).1 8).trans (final8 m c),
      ((h c).1 9).trans (final9 m c),
      ((h c).1 10).trans (final10 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.Kernel14Ideal.Val
-- ==== Proof.Hold.FwdRef.lean ====
/-
  The reference of the zero-order hold: each value of the plain program, read at an index.
-/
module

public import proofs.«01_k».proof.Proof.Hold.Fwd
public import proofs.«01_k».proof.Proof.Gen.Reference14Ideal.Read
public import Idealize.ShloMosaic.Lib.IdealHost

@[expose] public section

noncomputable section

namespace Cert.Reference14Ideal.Val

open Cert.Reference14Ideal Cert.Reference14Ideal.Gen Cert.Reference14Ideal.Read Cert.Hold Cert.Shared Idealize.ShloMosaic

variable (x0 x1 : Vec Ideal S64x64 .f32) (x2 : Vec Ideal S64 .f32) (x3 x4 : Vec Ideal S64x64x16 .f32)

theorem v2_at (i : S64x64.Idx) : val_main_v2 (F := Ideal) x2 i
    = est x2 (i 0) := by
  rw [val_main_v2_apply, val_main_v1_apply, val_main_v0_apply]
  exact congrArg Ideal.exp (congrArg x2 (funext fun a => match a with | ⟨0, _⟩ => rfl))

theorem v5_at (i : S64x64.Idx) : val_main_v5 (F := Ideal) x2 i
    = est x2 (i 0) := by
  rw [val_main_v5_apply, val_main_v1_apply, val_main_v0_apply]
  exact congrArg Ideal.exp (congrArg x2 (funext fun a => match a with | ⟨0, _⟩ => rfl))

theorem v9_at (i : S64x64.Idx) : val_main_v9 (F := Ideal) x2 i
    = est x2 (i 0) := by
  rw [val_main_v9_apply, val_main_v1_apply, val_main_v0_apply]
  exact congrArg Ideal.exp (congrArg x2 (funext fun a => match a with | ⟨0, _⟩ => rfl))

theorem v4_at (i : S64x64.Idx) : val_main_v4 (F := Ideal) x0 x2 i
    = mag (x0 i) (est x2 (i 0)) := by
  rw [val_main_v4_apply, val_main_v3_apply, v2_at]
  rfl

theorem v8_at (i : S64x64.Idx) : val_main_v8 (F := Ideal) x0 x1 x2 i
    = lbr (x0 i) (x1 i) (est x2 (i 0)) := by
  rw [val_main_v8_apply, val_main_v7_apply, val_main_v6_apply, v4_at, v5_at]
  rfl

theorem v12_at (i : S64x64.Idx) : val_main_v12 (F := Ideal) x0 x1 x2 i
    = lbi (x0 i) (x1 i) (est x2 (i 0)) := by
  rw [val_main_v12_apply, val_main_v11_apply, val_main_v10_apply, v4_at, v9_at]
  rfl

theorem v14_at (i : S64x64.Idx) : val_main_v14 (F := Ideal) x0 x1 x2 i
    = nr (x0 i) (x1 i) (est x2 (i 0)) := by
  rw [val_main_v14_apply, val_main_v13_apply, val_main_cst_apply, v8_at]
  simp only [Ideal.ofBits_def, Ideal.ofBits_one_f32]
  rfl

theorem v17_at (i : S64x64.Idx) : val_main_v17 (F := Ideal) x0 x1 i
    = den (x0 i) (x1 i) := by
  rw [val_main_v17_apply, val_main_v15_apply, val_main_v16_apply]
  rfl

theorem v21_at (i : S64x64.Idx) : val_main_v21 (F := Ideal) x0 x1 x2 i
    = qr (x0 i) (x1 i) (est x2 (i 0)) := by
  rw [val_main_v21_apply, val_main_v20_apply, val_main_v18_apply, val_main_v19_apply, v14_at, v12_at, v17_at]
  rfl

theorem v25_at (i : S64x64.Idx) : val_main_v25 (F := Ideal) x0 x1 x2 i
    = qi (x0 i) (x1 i) (est x2 (i 0)) := by
  rw [val_main_v25_apply, val_main_v24_apply, val_main_v22_apply, val_main_v23_apply, v12_at, v14_at, v17_at]
  rfl

theorem v43_at (i : S64x1.Idx) : val_main_v43 (F := Ideal) x2 i
    = stepC (est x2 (i 0)) := by
  rw [val_main_v43_apply, val_main_v41_apply, val_main_v40_apply, val_main_v42_apply, val_main_cst_0_apply]
  exact congrArg (fun y => y * _) (congrArg Ideal.exp (congrArg x2 (funext fun a => match a with | ⟨0, _⟩ => rfl)))

theorem v44_at (i : S64x64.Idx) : val_main_v44 (F := Ideal) x2 i
    = stepC (est x2 (i 0)) := by
  rw [val_main_v44_apply, v43_at]
  rfl

theorem v49_at (i : S64x64.Idx) : val_main_v49 (F := Ideal) x2 i
    = stepC (est x2 (i 0)) := by
  rw [val_main_v49_apply, v43_at]
  rfl

theorem v53_at (i : S64x64.Idx) : val_main_v53 (F := Ideal) x2 i
    = stepC (est x2 (i 0)) := by
  rw [val_main_v53_apply, v43_at]
  rfl

theorem v46_at (i : S64x64.Idx) : val_main_v46 (F := Ideal) x0 x2 i
    = mag (x0 i) (stepC (est x2 (i 0))) := by
  rw [val_main_v46_apply, val_main_v45_apply, v44_at]
  rfl

theorem v52_at (i : S64x64.Idx) : val_main_v52 (F := Ideal) x0 x1 x2 i
    = lbr (x0 i) (x1 i) (stepC (est x2 (i 0))) := by
  rw [val_main_v52_apply, val_main_v51_apply, val_main_v50_apply, v46_at, v49_at]
  rfl

theorem v56_at (i : S64x64.Idx) : val_main_v56 (F := Ideal) x0 x1 x2 i
    = lbi (x0 i) (x1 i) (stepC (est x2 (i 0))) := by
  rw [val_main_v56_apply, val_main_v55_apply, val_main_v54_apply, v46_at, v53_at]
  rfl

theorem v47_at (i : S64x1024.Idx) : val_main_v47 (F := Ideal) x0 x1 x2 x3 x4 i = FBR x0 x1 x2 x3 x4 i := by
  have h0 : (i 0).val < 64 := (i 0).isLt
  have h1 : (i 1).val < 1024 := (i 1).isLt
  have e1 : idx_main_v47 i = cb (i 0) (hdF (i 1)) (inF (i 1)) := by
    funext a
    refine Fin.ext ?_
    match a with
    | ⟨0, _⟩ => show ((i 0).val * 1024 + (i 1).val) / 1024 = (i 0).val; omega
    | ⟨1, _⟩ => show ((i 0).val * 1024 + (i 1).val) / 16 % 64 = (i 1).val / 16; omega
    | ⟨2, _⟩ => show ((i 0).val * 1024 + (i 1).val) % 16 = (i 1).val % 16; omega
  rw [val_main_v47_apply, val_main_v32_apply, val_main_v28_apply, val_main_v27_apply, val_main_v26_apply, val_main_v31_apply, val_main_v30_apply, val_main_v29_apply, e1, v21_at, v25_at]
  have e4 : ∀ (y : (⟨S64x64, .f32⟩ : BufTy).Contents (Elt Ideal)) (k : S64x64.Idx), (k 0).val = (i 0).val → (k 1).val = (i 1).val / 16 → y k = y (sq (i 0) (hdF (i 1))) :=
    fun y k ha hb => congrArg y (funext fun a => Fin.ext (by match a with | ⟨0, _⟩ => exact ha | ⟨1, _⟩ => exact hb))
  rw [e4 x0 _ rfl rfl, e4 x1 _ rfl rfl, e4 x0 _ rfl rfl, e4 x1 _ rfl rfl]
  rfl

theorem v48_at (i : S64x1024.Idx) : val_main_v48 (F := Ideal) x0 x1 x2 x3 x4 i = FBI x0 x1 x2 x3 x4 i := by
  have h0 : (i 0).val < 64 := (i 0).isLt
  have h1 : (i 1).val < 1024 := (i 1).isLt
  have e1 : idx_main_v48 i = cb (i 0) (hdF (i 1)) (inF (i 1)) := by
    funext a
    refine Fin.ext ?_
    match a with
    | ⟨0, _⟩ => show ((i 0).val * 1024 + (i 1).val) / 1024 = (i 0).val; omega
    | ⟨1, _⟩ => show ((i 0).val * 1024 + (i 1).val) / 16 % 64 = (i 1).val / 16; omega
    | ⟨2, _⟩ => show ((i 0).val * 1024 + (i 1).val) % 16 = (i 1).val % 16; omega
  rw [val_main_v48_apply, val_main_v39_apply, val_main_v35_apply, val_main_v34_apply, val_main_v33_apply, val_main_v38_apply, val_main_v37_apply, val_main_v36_apply, e1, v21_at, v25_at]
  have e4 : ∀ (y : (⟨S64x64, .f32⟩ : BufTy).Contents (Elt Ideal)) (k : S64x64.Idx), (k 0).val = (i 0).val → (k 1).val = (i 1).val / 16 → y k = y (sq (i 0) (hdF (i 1))) :=
    fun y k ha hb => congrArg y (funext fun a => Fin.ext (by match a with | ⟨0, _⟩ => exact ha | ⟨1, _⟩ => exact hb))
  rw [e4 x0 _ rfl rfl, e4 x1 _ rfl rfl, e4 x0 _ rfl rfl, e4 x1 _ rfl rfl]
  rfl

theorem v57_at (k : Fin 1) (r h : Fin 64) : val_main_v57 (F := Ideal) x0 x1 x2 (ix3 k r h)
    = lbr (x0 (sq r h)) (x1 (sq r h)) (stepC (est x2 r)) := by
  have e : idx_main_v57 (ix3 k r h) = (sq r h : S64x64.Idx) := funext fun a => match a with | ⟨0, _⟩ => rfl | ⟨1, _⟩ => rfl
  rw [val_main_v57_apply, e, v52_at]
  rfl

theorem v58_at (k : Fin 1) (r h : Fin 64) : val_main_v58 (F := Ideal) x0 x1 x2 (ix3 k r h)
    = lbi (x0 (sq r h)) (x1 (sq r h)) (stepC (est x2 r)) := by
  have e : idx_main_v58 (ix3 k r h) = (sq r h : S64x64.Idx) := funext fun a => match a with | ⟨0, _⟩ => rfl | ⟨1, _⟩ => rfl
  rw [val_main_v58_apply, e, v56_at]
  rfl

theorem v59_at (i : S2x64x64.Idx) : val_main_v59 (F := Ideal) x0 x1 x2 i = FPW x0 x1 x2 i := by
  idx_vars i
  unfold val_main_v59 FPW
  pointwise
  by_cases hi : i0.val = 0
  · rw [if_pos hi, dif_pos (by omega), v57_at]
  · rw [if_neg hi, dif_neg (by omega), v58_at]

end Cert.Reference14Ideal.Val

end
-- ==== Proof.Hold.FwdClaim.lean ====
/-
  The zero-order hold: the kernel and the reference leave the same arrays.
-/
module

public import proofs.«01_k».proof.Proof.Hold.FwdRun
public import proofs.«01_k».proof.Proof.Hold.FwdRef
public import proofs.«01_k».proof.Proof.Gen.Reference14Ideal.Run
public import proofs.«01_k».proof.Defs

@[expose] public section

noncomputable section

namespace Cert.Proof

open Cert.Hold Idealize.ShloMosaic Idealize.ShloMosaic.TcCoe Idealize.SL.Sem

theorem algebraic_hold_fwd [hK : Cert.Kernel14Ideal.Facts] [hR : Cert.Reference14Ideal.Facts] :
    Cert.algebraic_Kernel14Ideal_Reference14Ideal (hKernel14Ideal := hK) (hReference14Ideal := hR) := by
  intro m g m' g' hpre hagree
  refine ⟨fun c => FLR (Cert.Kernel14Ideal.Val.A0 m c) (Cert.Kernel14Ideal.Val.A1 m c) (Cert.Kernel14Ideal.Val.A2 m c),
    fun c => FLI (Cert.Kernel14Ideal.Val.A0 m c) (Cert.Kernel14Ideal.Val.A1 m c) (Cert.Kernel14Ideal.Val.A2 m c),
    fun c => FBR (Cert.Kernel14Ideal.Val.A0 m c) (Cert.Kernel14Ideal.Val.A1 m c) (Cert.Kernel14Ideal.Val.A2 m c) (Cert.Kernel14Ideal.Val.A3 m c) (Cert.Kernel14Ideal.Val.A4 m c),
    fun c => FBI (Cert.Kernel14Ideal.Val.A0 m c) (Cert.Kernel14Ideal.Val.A1 m c) (Cert.Kernel14Ideal.Val.A2 m c) (Cert.Kernel14Ideal.Val.A3 m c) (Cert.Kernel14Ideal.Val.A4 m c),
    fun c => FPW (Cert.Kernel14Ideal.Val.A0 m c) (Cert.Kernel14Ideal.Val.A1 m c) (Cert.Kernel14Ideal.Val.A2 m c),
    Cert.Kernel14Ideal.Val.run m g,
    (θ_run Cert.Reference14Ideal.defs _ _).mono (fun r h c => ?_) (Cert.Reference14Ideal.Value.run m' g')⟩
  obtain ⟨a0, a1, a2, a3, a4⟩ := hagree c
  refine ⟨((h c).1.trans (Cert.Reference14Ideal.Read.val_main_v8_eq _ _ _)).trans (funext fun i => ?_),
    ((h c).2.1.trans (Cert.Reference14Ideal.Read.val_main_v12_eq _ _ _)).trans (funext fun i => ?_),
    ((h c).2.2.1.trans (Cert.Reference14Ideal.Read.val_main_v47_eq _ _ _ _ _)).trans (funext fun i => ?_),
    ((h c).2.2.2.1.trans (Cert.Reference14Ideal.Read.val_main_v48_eq _ _ _ _ _)).trans (funext fun i => ?_),
    ((h c).2.2.2.2.1.trans (Cert.Reference14Ideal.Read.val_main_v59_eq _ _ _)).trans (funext fun i => ?_), (h c).2.2.2.2.2⟩
  · idx_vars i
    rw [Cert.Reference14Ideal.Val.v8_at, a0, a1, a2]
    rfl
  · idx_vars i
    rw [Cert.Reference14Ideal.Val.v12_at, a0, a1, a2]
    rfl
  · rw [Cert.Reference14Ideal.Val.v47_at, a0, a1, a2, a3, a4]
  · rw [Cert.Reference14Ideal.Val.v48_at, a0, a1, a2, a3, a4]
  · rw [Cert.Reference14Ideal.Val.v59_at, a0, a1, a2]

end Cert.Proof

end
-- ==== Proof.Hold.BwdBody.lean ====
/-
  The body of the zero-order hold's gradient: each value it computes, read at an index, from the blocks it reads.
-/
module

public import proofs.«01_k».proof.Proof.Hold.Step
public import proofs.«01_k».proof.Proof.Gen.Kernel15Ideal.Frame
public import Idealize.ShloMosaic.Lib.Pipeline.Value

@[expose] public section

noncomputable section

namespace Cert.Kernel15Ideal.Val

open Cert.Kernel15Ideal Cert.Kernel15Ideal.Gen Cert.Shared Cert.Hold Idealize.ShloMosaic Idealize.ShloMosaic.TcCoe Idealize.SL.Sem
open Idealize.ShloMosaic.Pipeline (Dat)

variable (a b : Vec Ideal S64x64 .f32) (t : Vec Ideal S64x1 .f32) (j0 j1 : Fin 64)

/-- The step of a row. -/
def stp (r : Fin 64) : EReal := Ideal.exp (t (ix2 r (0 : Fin 1)))

theorem pay4_at (k : Fin 1) : (k0_pay4 t) (ix2 j0 k) = stp t j0 := by
  unfold k0_pay4 stp
  pointwise
  rw [Subsingleton.elim k 0]

theorem pay5_at : (k0_pay5 a t) (ix2 j0 j1) = mag (a (ix2 j0 j1)) (stp t j0) := by
  unfold k0_pay5
  pointwise
  rw [pay4_at]
  rfl

theorem pay6_at : (k0_pay6 b t) (ix2 j0 j1) = b (ix2 j0 j1) * stp t j0 := by
  unfold k0_pay6
  pointwise
  rw [pay4_at]

theorem pay9_at : (k0_pay9 b t) (ix2 j0 j1) = b (ix2 j0 j1) * stp t j0 := by
  unfold k0_pay9
  pointwise
  rw [pay4_at]

theorem pay7_at : (k0_pay7 b t) (ix2 j0 j1) = cosS (b (ix2 j0 j1)) (stp t j0) := by
  unfold k0_pay7
  pointwise
  rw [pay6_at]
  rfl

theorem pay8_at : (k0_pay8 b t) (ix2 j0 j1) = sinS (b (ix2 j0 j1)) (stp t j0) := by
  unfold k0_pay8
  pointwise
  rw [pay6_at]
  rfl

theorem pay10_at : (k0_pay10 b t) (ix2 j0 j1) = sinS (b (ix2 j0 j1)) (stp t j0) := by
  unfold k0_pay10
  pointwise
  rw [pay9_at]
  rfl

theorem pay11_at : (k0_pay11 b t) (ix2 j0 j1) = cosS (b (ix2 j0 j1)) (stp t j0) := by
  unfold k0_pay11
  pointwise
  rw [pay9_at]
  rfl

theorem pay12_at : (k0_pay12 a b t) (ix2 j0 j1) = lbi (a (ix2 j0 j1)) (b (ix2 j0 j1)) (stp t j0) := by
  unfold k0_pay12
  pointwise
  rw [pay5_at, pay10_at]
  rfl

theorem pay13_at : (k0_pay13 a b t) (ix2 j0 j1) = nr (a (ix2 j0 j1)) (b (ix2 j0 j1)) (stp t j0) := by
  unfold k0_pay13
  pointwise
  rw [pay5_at, pay7_at]
  rfl

theorem pay14_at : (k0_pay14 a b) (ix2 j0 j1) = den (a (ix2 j0 j1)) (b (ix2 j0 j1)) := by
  unfold k0_pay14
  pointwise
  rfl

theorem pay15_at : (k0_pay15 a b t) (ix2 j0 j1) = pN (a (ix2 j0 j1)) (b (ix2 j0 j1)) (stp t j0) := by
  unfold k0_pay15
  pointwise
  rw [pay13_at, pay12_at]
  rfl

theorem pay16_at : (k0_pay16 a b) (ix2 j0 j1) = inv (a (ix2 j0 j1)) (b (ix2 j0 j1)) := by
  unfold k0_pay16
  pointwise
  rw [pay14_at]
  rfl

theorem pay19_at : (k0_pay19 a b) (ix2 j0 j1) = inv (a (ix2 j0 j1)) (b (ix2 j0 j1)) := by
  unfold k0_pay19
  pointwise
  rw [pay14_at]
  rfl

theorem pay17_at : (k0_pay17 a b t) (ix2 j0 j1) = sN (a (ix2 j0 j1)) (b (ix2 j0 j1)) (stp t j0) := by
  unfold k0_pay17
  pointwise
  rw [pay13_at, pay12_at]
  rfl

theorem pay18_at : (k0_pay18 a b t) (ix2 j0 j1) = qi (a (ix2 j0 j1)) (b (ix2 j0 j1)) (stp t j0) := by
  unfold k0_pay18
  pointwise
  rw [pay17_at, pay14_at]
  rfl

/-! ## The products with the repeating matrix -/

variable (x5 : Vec Ideal S64x1024 .f32) (h5 : ∀ h c, x5 (ix2 h c) = rep h c)

include h5 in
theorem pay20_at (k : Fin 1024) : (k0_pay20 x5 a b t) (ix2 j0 k)
    = qr (a (ix2 j0 ⟨k.val / 16, by omega⟩)) (b (ix2 j0 ⟨k.val / 16, by omega⟩)) (stp t j0) := by
  unfold k0_pay20 k0_pay1
  pointwise
  refine Eq.trans (Finset.sum_congr rfl fun h _ => ?_) (sum_rep_left (fun h => qr (a (ix2 j0 h)) (b (ix2 j0 h)) (stp t j0)) k)
  rw [pay15_at, pay14_at, h5]
  rfl

include h5 in
theorem pay21_at (v39 : Vec Ideal S64x64 .f32) (k : Fin 1024) : (k0_pay21 (k0_pay1 x5) v39) (ix2 j0 k) = v39 (ix2 j0 ⟨k.val / 16, by omega⟩) := by
  unfold k0_pay21 k0_pay1
  pointwise
  refine Eq.trans (Finset.sum_congr rfl fun h _ => ?_) (sum_rep_left (fun h => v39 (ix2 j0 h)) k)
  rw [h5]

variable (x3 x4 x8 x9 : Vec Ideal S64x1024 .f32)

/-- The sums over a head's inputs: the cotangents of the quotient's imaginary and real part. -/
def sI (r h : Fin 64) : EReal := ∑ p : Fin 16, (x9 (ix2 r ⟨16 * h.val + p.val, by omega⟩) * x3 (ix2 r ⟨16 * h.val + p.val, by omega⟩)
  + -x8 (ix2 r ⟨16 * h.val + p.val, by omega⟩) * x4 (ix2 r ⟨16 * h.val + p.val, by omega⟩))
def sR (r h : Fin 64) : EReal := ∑ p : Fin 16, (x9 (ix2 r ⟨16 * h.val + p.val, by omega⟩) * x4 (ix2 r ⟨16 * h.val + p.val, by omega⟩)
  + x8 (ix2 r ⟨16 * h.val + p.val, by omega⟩) * x3 (ix2 r ⟨16 * h.val + p.val, by omega⟩))

include h5 in
theorem pay28_at : (k0_pay28 (k0_pay1 x5) (k0_pay2 x3) (k0_pay3 x4) x8 x9) (ix2 j0 j1) = sI x3 x4 x8 x9 j0 j1 := by
  unfold k0_pay28 k0_pay1 k0_pay2 k0_pay3 k0_pay23 k0_pay25
  pointwise
  refine Eq.trans (Finset.sum_congr rfl fun h _ => ?_) (sum_rep_right (fun c => x9 (ix2 j0 c) * x3 (ix2 j0 c) + -x8 (ix2 j0 c) * x4 (ix2 j0 c)) j1)
  rw [h5, zero_sub]

include h5 in
theorem pay29_at : (k0_pay29 (k0_pay1 x5) (k0_pay2 x3) (k0_pay3 x4) x8 x9) (ix2 j0 j1) = sR x3 x4 x8 x9 j0 j1 := by
  unfold k0_pay29 k0_pay1 k0_pay2 k0_pay3 k0_pay22 k0_pay24
  pointwise
  refine Eq.trans (Finset.sum_congr rfl fun h _ => ?_) (sum_rep_right (fun c => x9 (ix2 j0 c) * x4 (ix2 j0 c) + x8 (ix2 j0 c) * x3 (ix2 j0 c)) j1)
  rw [h5]

end Cert.Kernel15Ideal.Val

end
-- ==== Proof.Hold.BwdOut.lean ====
/-
  What the body of the zero-order hold's gradient leaves in its five result buffers, in terms of the blocks it reads.
-/
module

public import proofs.«01_k».proof.Proof.Hold.BwdBody

@[expose] public section

noncomputable section

namespace Cert.Kernel15Ideal.Val

open Cert.Kernel15Ideal Cert.Kernel15Ideal.Gen Cert.Shared Cert.Hold Idealize.ShloMosaic Idealize.ShloMosaic.TcCoe Idealize.SL.Sem
open Idealize.ShloMosaic.Pipeline (Dat)

section
variable (a b x6 x7 : Vec Ideal S64x64 .f32) (t : Vec Ideal S64x1 .f32) (x3 x4 x5 x8 x9 : Vec Ideal S64x1024 .f32)
  (h5 : ∀ h c, x5 (ix2 h c) = rep h c) (j0 j1 : Fin 64)

include h5

theorem pay30_at : (k0_pay30 (k0_pay1 x5) (k0_pay2 x3) (k0_pay3 x4) (k0_pay14 a b) x8 x9) (ix2 j0 j1)
    = uI (a (ix2 j0 j1)) (b (ix2 j0 j1)) (sI x3 x4 x8 x9 j0 j1) := by
  unfold k0_pay30
  pointwise
  rw [pay28_at _ _ x5 h5, pay14_at]
  rfl

theorem pay31_at : (k0_pay31 (k0_pay1 x5) (k0_pay2 x3) (k0_pay3 x4) (k0_pay14 a b) x8 x9) (ix2 j0 j1)
    = -uI (a (ix2 j0 j1)) (b (ix2 j0 j1)) (sI x3 x4 x8 x9 j0 j1) := by
  unfold k0_pay31
  pointwise
  rw [pay30_at _ _ _ _ _ _ _ h5, zero_sub]

theorem pay36_at : (k0_pay36 (k0_pay1 x5) (k0_pay2 x3) (k0_pay3 x4) (k0_pay14 a b) x8 x9) (ix2 j0 j1)
    = uI (a (ix2 j0 j1)) (b (ix2 j0 j1)) (sR x3 x4 x8 x9 j0 j1) := by
  unfold k0_pay36
  pointwise
  rw [pay29_at _ _ x5 h5, pay14_at]
  rfl

theorem pay32_at : (k0_pay32 (k0_pay1 x5) b (k0_pay2 x3) (k0_pay3 x4) (k0_pay14 a b) x6 x8 x9) (ix2 j0 j1)
    = x6 (ix2 j0 j1) + -uI (a (ix2 j0 j1)) (b (ix2 j0 j1)) (sI x3 x4 x8 x9 j0 j1) * b (ix2 j0 j1) := by
  unfold k0_pay32
  pointwise
  rw [pay31_at _ _ _ _ _ _ _ h5]

theorem pay34_at : (k0_pay34 (k0_pay1 x5) a (k0_pay2 x3) (k0_pay3 x4) (k0_pay14 a b) x7 x8 x9) (ix2 j0 j1)
    = x7 (ix2 j0 j1) + uI (a (ix2 j0 j1)) (b (ix2 j0 j1)) (sI x3 x4 x8 x9 j0 j1) * a (ix2 j0 j1) := by
  unfold k0_pay34
  pointwise
  rw [pay30_at _ _ _ _ _ _ _ h5]

theorem pay33_at : (k0_pay33 (k0_pay1 x5) (k0_pay2 x3) (k0_pay3 x4) (k0_pay12 a b t) (k0_pay14 a b) x8 x9) (ix2 j0 j1)
    = lbi (a (ix2 j0 j1)) (b (ix2 j0 j1)) (stp t j0) * uI (a (ix2 j0 j1)) (b (ix2 j0 j1)) (sI x3 x4 x8 x9 j0 j1) := by
  unfold k0_pay33
  pointwise
  rw [pay30_at _ _ _ _ _ _ _ h5, pay12_at]

theorem pay35_at : (k0_pay35 (k0_pay1 x5) (k0_pay2 x3) (k0_pay3 x4) (k0_pay15 a b t) (k0_pay16 a b) (k0_pay17 a b t) (k0_pay19 a b) x8 x9) (ix2 j0 j1)
    = wD (a (ix2 j0 j1)) (b (ix2 j0 j1)) (stp t j0) (sI x3 x4 x8 x9 j0 j1) (sR x3 x4 x8 x9 j0 j1) := by
  unfold k0_pay35
  pointwise
  rw [pay28_at _ _ x5 h5, pay29_at _ _ x5 h5, pay15_at, pay16_at, pay17_at, pay19_at, zero_sub, zero_sub]
  rfl

theorem pay37_at : (k0_pay37 (k0_pay1 x5) (k0_pay2 x3) (k0_pay3 x4) (k0_pay12 a b t) (k0_pay13 a b t) (k0_pay14 a b) x8 x9) (ix2 j0 j1)
    = nr (a (ix2 j0 j1)) (b (ix2 j0 j1)) (stp t j0) * -uI (a (ix2 j0 j1)) (b (ix2 j0 j1)) (sI x3 x4 x8 x9 j0 j1)
      + lbi (a (ix2 j0 j1)) (b (ix2 j0 j1)) (stp t j0) * uI (a (ix2 j0 j1)) (b (ix2 j0 j1)) (sR x3 x4 x8 x9 j0 j1) := by
  unfold k0_pay37
  pointwise
  rw [pay31_at _ _ _ _ _ _ _ h5, pay36_at _ _ _ _ _ _ _ h5, pay12_at, pay13_at]

/-! The cotangents of the discrete pole, and what they give. -/

theorem pay38_at : (k0_pay38 b (k0_pay34 (k0_pay1 x5) a (k0_pay2 x3) (k0_pay3 x4) (k0_pay14 a b) x7 x8 x9)
      (k0_pay36 (k0_pay1 x5) (k0_pay2 x3) (k0_pay3 x4) (k0_pay14 a b) x8 x9)) (ix2 j0 j1)
    = gIm (a (ix2 j0 j1)) (b (ix2 j0 j1)) (x7 (ix2 j0 j1)) (sI x3 x4 x8 x9 j0 j1) (sR x3 x4 x8 x9 j0 j1) := by
  unfold k0_pay38
  pointwise
  rw [pay34_at _ _ _ _ _ _ _ _ h5, pay36_at _ _ _ _ _ _ _ h5]
  rfl

theorem pay39_at : (k0_pay39 a (k0_pay32 (k0_pay1 x5) b (k0_pay2 x3) (k0_pay3 x4) (k0_pay14 a b) x6 x8 x9)
      (k0_pay36 (k0_pay1 x5) (k0_pay2 x3) (k0_pay3 x4) (k0_pay14 a b) x8 x9)) (ix2 j0 j1)
    = gRe (a (ix2 j0 j1)) (b (ix2 j0 j1)) (x6 (ix2 j0 j1)) (sI x3 x4 x8 x9 j0 j1) (sR x3 x4 x8 x9 j0 j1) := by
  unfold k0_pay39
  pointwise
  rw [pay32_at _ _ _ _ _ _ _ _ h5, pay36_at _ _ _ _ _ _ _ h5]
  rfl

theorem pay40_at : (k0_pay40 b (k0_pay5 a t) (k0_pay11 b t) (k0_pay34 (k0_pay1 x5) a (k0_pay2 x3) (k0_pay3 x4) (k0_pay14 a b) x7 x8 x9)
      (k0_pay36 (k0_pay1 x5) (k0_pay2 x3) (k0_pay3 x4) (k0_pay14 a b) x8 x9)) (ix2 j0 j1)
    = c1 (a (ix2 j0 j1)) (b (ix2 j0 j1)) (stp t j0) (x7 (ix2 j0 j1)) (sI x3 x4 x8 x9 j0 j1) (sR x3 x4 x8 x9 j0 j1) := by
  unfold k0_pay40
  pointwise
  rw [pay38_at _ _ _ _ _ _ _ _ h5, pay5_at, pay11_at]
  rfl

theorem pay41_at : (k0_pay41 a (k0_pay5 a t) (k0_pay8 b t) (k0_pay32 (k0_pay1 x5) b (k0_pay2 x3) (k0_pay3 x4) (k0_pay14 a b) x6 x8 x9)
      (k0_pay36 (k0_pay1 x5) (k0_pay2 x3) (k0_pay3 x4) (k0_pay14 a b) x8 x9)) (ix2 j0 j1)
    = c2 (a (ix2 j0 j1)) (b (ix2 j0 j1)) (stp t j0) (x6 (ix2 j0 j1)) (sI x3 x4 x8 x9 j0 j1) (sR x3 x4 x8 x9 j0 j1) := by
  unfold k0_pay41
  pointwise
  rw [pay39_at _ _ _ _ _ _ _ _ h5, pay5_at, pay8_at, zero_sub]
  rfl

theorem pay43_at : (k0_pay43 a b (k0_pay5 a t) (k0_pay7 b t) (k0_pay10 b t) (k0_pay32 (k0_pay1 x5) b (k0_pay2 x3) (k0_pay3 x4) (k0_pay14 a b) x6 x8 x9)
      (k0_pay34 (k0_pay1 x5) a (k0_pay2 x3) (k0_pay3 x4) (k0_pay14 a b) x7 x8 x9)
      (k0_pay36 (k0_pay1 x5) (k0_pay2 x3) (k0_pay3 x4) (k0_pay14 a b) x8 x9)) (ix2 j0 j1)
    = c3 (a (ix2 j0 j1)) (b (ix2 j0 j1)) (stp t j0) (x6 (ix2 j0 j1)) (x7 (ix2 j0 j1)) (sI x3 x4 x8 x9 j0 j1) (sR x3 x4 x8 x9 j0 j1) := by
  unfold k0_pay43
  pointwise
  rw [pay38_at _ _ _ _ _ _ _ _ h5, pay39_at _ _ _ _ _ _ _ _ h5, pay5_at, pay7_at, pay10_at]
  rfl

/-! ## The result buffers -/

theorem out10_at : out0_10 a b t x3 x4 x5 x6 x7 x8 x9 (ix2 j0 j1)
    = dRe (a (ix2 j0 j1)) (b (ix2 j0 j1)) (stp t j0) (x6 (ix2 j0 j1)) (x7 (ix2 j0 j1)) (sI x3 x4 x8 x9 j0 j1) (sR x3 x4 x8 x9 j0 j1) := by
  unfold_out out0_10
  rw [View.canon_unit_zero hz2]
  simp only [View.ld_unit_zero (S := S64x64) hz2, View.ld_unit_zero (S := S64x1) hz2, View.ld_unit_zero (S := S64x1024) hz2]
  unfold k0_pay44
  pointwise
  rw [pay43_at _ _ _ _ _ _ _ _ _ _ h5, pay33_at _ _ _ _ _ _ _ _ h5, pay35_at _ _ _ _ _ _ _ _ h5, pay36_at _ _ _ _ _ _ _ h5, pay13_at, pay4_at]
  rfl

theorem out11_at : out0_11 a b t x3 x4 x5 x6 x7 x8 x9 (ix2 j0 j1)
    = dIm (a (ix2 j0 j1)) (b (ix2 j0 j1)) (stp t j0) (x6 (ix2 j0 j1)) (x7 (ix2 j0 j1)) (sI x3 x4 x8 x9 j0 j1) (sR x3 x4 x8 x9 j0 j1) := by
  unfold_out out0_11
  rw [View.canon_unit_zero hz2]
  simp only [View.ld_unit_zero (S := S64x64) hz2, View.ld_unit_zero (S := S64x1) hz2, View.ld_unit_zero (S := S64x1024) hz2]
  unfold k0_pay42
  pointwise
  rw [pay40_at _ _ _ _ _ _ _ _ _ h5, pay41_at _ _ _ _ _ _ _ _ _ h5, pay37_at _ _ _ _ _ _ _ _ h5, pay35_at _ _ _ _ _ _ _ _ h5, pay4_at]
  rfl

theorem out12_at (k : Fin 1) : out0_12 a b t x3 x4 x5 x6 x7 x8 x9 (ix2 j0 k)
    = ((∑ h : Fin 64, b (ix2 j0 h) * c1 (a (ix2 j0 h)) (b (ix2 j0 h)) (stp t j0) (x7 (ix2 j0 h)) (sI x3 x4 x8 x9 j0 h) (sR x3 x4 x8 x9 j0 h))
      + (∑ h : Fin 64, b (ix2 j0 h) * c2 (a (ix2 j0 h)) (b (ix2 j0 h)) (stp t j0) (x6 (ix2 j0 h)) (sI x3 x4 x8 x9 j0 h) (sR x3 x4 x8 x9 j0 h))
      + (∑ h : Fin 64, a (ix2 j0 h) * c3 (a (ix2 j0 h)) (b (ix2 j0 h)) (stp t j0) (x6 (ix2 j0 h)) (x7 (ix2 j0 h)) (sI x3 x4 x8 x9 j0 h) (sR x3 x4 x8 x9 j0 h))) * stp t j0 := by
  unfold_out out0_12
  rw [View.canon_unit_zero hz2]
  simp only [View.ld_unit_zero (S := S64x64) hz2, View.ld_unit_zero (S := S64x1) hz2, View.ld_unit_zero (S := S64x1024) hz2]
  unfold k0_pay45
  pointwise
  simp only [pay40_at _ _ _ _ _ _ _ _ _ h5, pay41_at _ _ _ _ _ _ _ _ _ h5, pay43_at _ _ _ _ _ _ _ _ _ _ h5, pay4_at]

theorem out13_at (k : Fin 1024) : out0_13 a b t x3 x4 x5 x6 x7 x8 x9 (ix2 j0 k)
    = qi (a (ix2 j0 ⟨k.val / 16, by omega⟩)) (b (ix2 j0 ⟨k.val / 16, by omega⟩)) (stp t j0) * x9 (ix2 j0 k)
      + qr (a (ix2 j0 ⟨k.val / 16, by omega⟩)) (b (ix2 j0 ⟨k.val / 16, by omega⟩)) (stp t j0) * x8 (ix2 j0 k) := by
  unfold_out out0_13
  rw [View.canon_unit_zero hz2]
  simp only [View.ld_unit_zero (S := S64x64) hz2, View.ld_unit_zero (S := S64x1) hz2, View.ld_unit_zero (S := S64x1024) hz2]
  unfold k0_pay27 k0_pay23 k0_pay24
  pointwise
  rw [pay21_at _ x5 h5, pay20_at _ _ _ _ x5 h5, pay18_at]

theorem out14_at (k : Fin 1024) : out0_14 a b t x3 x4 x5 x6 x7 x8 x9 (ix2 j0 k)
    = qr (a (ix2 j0 ⟨k.val / 16, by omega⟩)) (b (ix2 j0 ⟨k.val / 16, by omega⟩)) (stp t j0) * x9 (ix2 j0 k)
      + qi (a (ix2 j0 ⟨k.val / 16, by omega⟩)) (b (ix2 j0 ⟨k.val / 16, by omega⟩)) (stp t j0) * -x8 (ix2 j0 k) := by
  unfold_out out0_14
  rw [View.canon_unit_zero hz2]
  simp only [View.ld_unit_zero (S := S64x64) hz2, View.ld_unit_zero (S := S64x1) hz2, View.ld_unit_zero (S := S64x1024) hz2]
  unfold k0_pay26 k0_pay22 k0_pay25
  pointwise
  rw [pay21_at _ x5 h5, pay20_at _ _ _ _ x5 h5, pay18_at, zero_sub]
end

end Cert.Kernel15Ideal.Val

end
-- ==== Proof.Hold.BwdRun.lean ====
/-
  The zero-order hold's gradient: what the host code hands to the kernel, and the arrays after the run.
-/
module

public import proofs.«01_k».proof.Proof.Hold.BwdOut

@[expose] public section

noncomputable section

namespace Cert.Hold

open Idealize.ShloMosaic

section
variable (x0 x1 : (⟨2, ![64, 64]⟩ : Shape).Idx → EReal) (x2 : (⟨1, ![64]⟩ : Shape).Idx → EReal) (x3 x4 : (⟨3, ![64, 64, 16]⟩ : Shape).Idx → EReal)
  (x5 x6 : (⟨2, ![64, 64]⟩ : Shape).Idx → EReal) (x7 x8 : (⟨2, ![64, 1024]⟩ : Shape).Idx → EReal)

/-- The head a column of a widened array belongs to. -/
abbrev hd (c : Fin 1024) : Fin 64 := ⟨c.val / 16, by omega⟩

/-- The five gradients, index by index. -/
def GRE : (⟨2, ![64, 64]⟩ : Shape).Idx → EReal := fun i =>
  dRe (x0 (sq (i 0) (i 1))) (x1 (sq (i 0) (i 1))) (est x2 (i 0)) (x5 (sq (i 0) (i 1))) (x6 (sq (i 0) (i 1))) (hI x3 x4 x7 x8 (i 0) (i 1)) (hR x3 x4 x7 x8 (i 0) (i 1))
def GIM : (⟨2, ![64, 64]⟩ : Shape).Idx → EReal := fun i =>
  dIm (x0 (sq (i 0) (i 1))) (x1 (sq (i 0) (i 1))) (est x2 (i 0)) (x5 (sq (i 0) (i 1))) (x6 (sq (i 0) (i 1))) (hI x3 x4 x7 x8 (i 0) (i 1)) (hR x3 x4 x7 x8 (i 0) (i 1))
def GST : (⟨2, ![64, 1]⟩ : Shape).Idx → EReal := fun i =>
  ((∑ h : Fin 64, (x1 (sq (i 0) h)) * c1 (x0 (sq (i 0) h)) (x1 (sq (i 0) h)) (est x2 (i 0)) (x6 (sq (i 0) h)) (hI x3 x4 x7 x8 (i 0) h) (hR x3 x4 x7 x8 (i 0) h))
      + (∑ h : Fin 64, (x1 (sq (i 0) h)) * c2 (x0 (sq (i 0) h)) (x1 (sq (i 0) h)) (est x2 (i 0)) (x5 (sq (i 0) h)) (hI x3 x4 x7 x8 (i 0) h) (hR x3 x4 x7 x8 (i 0) h))
      + (∑ h : Fin 64, (x0 (sq (i 0) h)) * c3 (x0 (sq (i 0) h)) (x1 (sq (i 0) h)) (est x2 (i 0)) (x5 (sq (i 0) h)) (x6 (sq (i 0) h)) (hI x3 x4 x7 x8 (i 0) h) (hR x3 x4 x7 x8 (i 0) h))) * est x2 (i 0)
def GBR : (⟨2, ![64, 1024]⟩ : Shape).Idx → EReal := fun i =>
  qi (x0 (sq (i 0) (hd (i 1)))) (x1 (sq (i 0) (hd (i 1)))) (est x2 (i 0)) * x8 (wd (i 0) (i 1)) + qr (x0 (sq (i 0) (hd (i 1)))) (x1 (sq (i 0) (hd (i 1)))) (est x2 (i 0)) * x7 (wd (i 0) (i 1))
def GBI : (⟨2, ![64, 1024]⟩ : Shape).Idx → EReal := fun i =>
  qr (x0 (sq (i 0) (hd (i 1)))) (x1 (sq (i 0) (hd (i 1)))) (est x2 (i 0)) * x8 (wd (i 0) (i 1)) + qi (x0 (sq (i 0) (hd (i 1)))) (x1 (sq (i 0) (hd (i 1)))) (est x2 (i 0)) * -x7 (wd (i 0) (i 1))
end

end Cert.Hold

namespace Cert.Kernel15Ideal.Val

open Cert.Kernel15Ideal Cert.Kernel15Ideal.Gen Cert.Shared Cert.Hold Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The operands, as the program finds them. -/
abbrev A0 (c : Dev nD) : S64x64.Idx → EReal := m ((c : Thread nD τ).loc main_arg0)
abbrev A1 (c : Dev nD) : S64x64.Idx → EReal := m ((c : Thread nD τ).loc main_arg1)
abbrev A2 (c : Dev nD) : S64.Idx → EReal := m ((c : Thread nD τ).loc main_arg2)
abbrev A3 (c : Dev nD) : S64x64x16.Idx → EReal := m ((c : Thread nD τ).loc main_arg3)
abbrev A4 (c : Dev nD) : S64x64x16.Idx → EReal := m ((c : Thread nD τ).loc main_arg4)
abbrev A5 (c : Dev nD) : S64x64.Idx → EReal := m ((c : Thread nD τ).loc main_arg5)
abbrev A6 (c : Dev nD) : S64x64.Idx → EReal := m ((c : Thread nD τ).loc main_arg6)
abbrev A7 (c : Dev nD) : S64x1024.Idx → EReal := m ((c : Thread nD τ).loc main_arg7)
abbrev A8 (c : Dev nD) : S64x1024.Idx → EReal := m ((c : Thread nD τ).loc main_arg8)

/-! ## What the host code leaves -/

theorem V_v0 (c : Dev nD) (r : Fin 64) (k : Fin 1) : (V m c main_v0 : S64x1.Idx → EReal) (ix2 r k) = A2 m c (ix1 r) := by
  unfold V; simp only [hostOps0]; after_results
  pointwise

theorem V_v1 (c : Dev nD) (r : Fin 64) (k : Fin 1024) : (V m c main_v1 : S64x1024.Idx → EReal) (ix2 r k)
    = A3 m c (cb r ⟨k.val / 16, by omega⟩ ⟨k.val % 16, by omega⟩) := by
  unfold V; simp only [hostOps0]; after_results
  pointwise

theorem V_v2 (c : Dev nD) (r : Fin 64) (k : Fin 1024) : (V m c main_v2 : S64x1024.Idx → EReal) (ix2 r k)
    = A4 m c (cb r ⟨k.val / 16, by omega⟩ ⟨k.val % 16, by omega⟩) := by
  unfold V; simp only [hostOps0]; after_results
  pointwise

theorem V_v10 (c : Dev nD) (h : Fin 64) (k : Fin 1024) : (V m c main_v10 : S64x1024.Idx → EReal) (ix2 h k) = rep h k := by
  unfold V; simp only [hostOps0]; after_results
  pointwise
  have hk := k.isLt
  have hh := h.isLt
  have e : IntOp.cmpi .eq (IntOp.addi (BitVec.ofNat 32 h.val) 0#32) (BitVec.ofNat 32 (k.val / 16)) = if k.val / 16 = h.val then 1#1 else 0#1 := by
    by_cases hq : k.val / 16 = h.val
    · rw [if_pos hq, hq]
      simp [IntOp.cmpi, IntOp.addi]
    · rw [if_neg hq]
      have hne : BitVec.ofNat 32 h.val ≠ BitVec.ofNat 32 (k.val / 16) := fun h2 => hq (by
        have h3 := congrArg BitVec.toNat h2
        simp only [BitVec.toNat_ofNat] at h3
        omega)
      have hb : (BitVec.ofNat 32 h.val == BitVec.ofNat 32 (k.val / 16)) = false := beq_false_of_ne hne
      simp [IntOp.cmpi, IntOp.addi, hb]
  rw [e]
  unfold rep
  by_cases hq : k.val / 16 = h.val
  · rw [if_pos hq, if_pos hq]
    show (((1#1 : BitVec 1).toNat : ℝ) : EReal) = 1
    simp
  · rw [if_neg hq, if_neg hq]
    show (((0#1 : BitVec 1).toNat : ℝ) : EReal) = 0
    simp

/-! ## Every block is the whole array -/

theorem idx0 : ∀ t : Fin cfg0.N, win0_0.index t 0 = 0 ∧ win0_0.index t 1 = 0 :=
  (by decide +kernel : ∀ t : Fin grid0.N, _)
theorem idx1 : ∀ t : Fin cfg0.N, win0_1.index t 0 = 0 ∧ win0_1.index t 1 = 0 :=
  (by decide +kernel : ∀ t : Fin grid0.N, _)
theorem idx2 : ∀ t : Fin cfg0.N, win0_2.index t 0 = 0 ∧ win0_2.index t 1 = 0 :=
  (by decide +kernel : ∀ t : Fin grid0.N, _)
theorem idx3 : ∀ t : Fin cfg0.N, win0_3.index t 0 = 0 ∧ win0_3.index t 1 = 0 :=
  (by decide +kernel : ∀ t : Fin grid0.N, _)
theorem idx4 : ∀ t : Fin cfg0.N, win0_4.index t 0 = 0 ∧ win0_4.index t 1 = 0 :=
  (by decide +kernel : ∀ t : Fin grid0.N, _)
theorem idx5 : ∀ t : Fin cfg0.N, win0_5.index t 0 = 0 ∧ win0_5.index t 1 = 0 :=
  (by decide +kernel : ∀ t : Fin grid0.N, _)
theorem idx6 : ∀ t : Fin cfg0.N, win0_6.index t 0 = 0 ∧ win0_6.index t 1 = 0 :=
  (by decide +kernel : ∀ t : Fin grid0.N, _)
theorem idx7 : ∀ t : Fin cfg0.N, win0_7.index t 0 = 0 ∧ win0_7.index t 1 = 0 :=
  (by decide +kernel : ∀ t : Fin grid0.N, _)
theorem idx8 : ∀ t : Fin cfg0.N, win0_8.index t 0 = 0 ∧ win0_8.index t 1 = 0 :=
  (by decide +kernel : ∀ t : Fin grid0.N, _)
theorem idx9 : ∀ t : Fin cfg0.N, win0_9.index t 0 = 0 ∧ win0_9.index t 1 = 0 :=
  (by decide +kernel : ∀ t : Fin grid0.N, _)
theorem idx10 : ∀ t : Fin cfg0.N, win0_10.index t 0 = 0 ∧ win0_10.index t 1 = 0 :=
  (by decide +kernel : ∀ t : Fin grid0.N, _)
theorem idx11 : ∀ t : Fin cfg0.N, win0_11.index t 0 = 0 ∧ win0_11.index t 1 = 0 :=
  (by decide +kernel : ∀ t : Fin grid0.N, _)
theorem idx12 : ∀ t : Fin cfg0.N, win0_12.index t 0 = 0 ∧ win0_12.index t 1 = 0 :=
  (by decide +kernel : ∀ t : Fin grid0.N, _)
theorem idx13 : ∀ t : Fin cfg0.N, win0_13.index t 0 = 0 ∧ win0_13.index t 1 = 0 :=
  (by decide +kernel : ∀ t : Fin grid0.N, _)
theorem idx14 : ∀ t : Fin cfg0.N, win0_14.index t 0 = 0 ∧ win0_14.index t 1 = 0 :=
  (by decide +kernel : ∀ t : Fin grid0.N, _)

theorem blk0 (c : Dev nD) (t : Fin cfg0.N) : (iblk m c 0 t : Vec Ideal S64x64 .f32) = (V m c main_arg0 : S64x64.Idx → EReal) := by
  funext j
  unfold iblk
  rw [View.read_apply]
  refine congrArg (V m c main_arg0 : S64x64.Idx → EReal) (funext fun a => Fin.ext ?_)
  match a with
  | ⟨0, _⟩ => show win0_0.index t 0 * 64 + 1 * (j 0).val = (j 0).val; rw [(idx0 t).1]; omega
  | ⟨1, _⟩ => show win0_0.index t 1 * 64 + 1 * (j 1).val = (j 1).val; rw [(idx0 t).2]; omega

theorem blk1 (c : Dev nD) (t : Fin cfg0.N) : (iblk m c 1 t : Vec Ideal S64x64 .f32) = (V m c main_arg1 : S64x64.Idx → EReal) := by
  funext j
  unfold iblk
  rw [View.read_apply]
  refine congrArg (V m c main_arg1 : S64x64.Idx → EReal) (funext fun a => Fin.ext ?_)
  match a with
  | ⟨0, _⟩ => show win0_1.index t 0 * 64 + 1 * (j 0).val = (j 0).val; rw [(idx1 t).1]; omega
  | ⟨1, _⟩ => show win0_1.index t 1 * 64 + 1 * (j 1).val = (j 1).val; rw [(idx1 t).2]; omega

theorem blk2 (c : Dev nD) (t : Fin cfg0.N) : (iblk m c 2 t : Vec Ideal S64x1 .f32) = (V m c main_v0 : S64x1.Idx → EReal) := by
  funext j
  unfold iblk
  rw [View.read_apply]
  refine congrArg (V m c main_v0 : S64x1.Idx → EReal) (funext fun a => Fin.ext ?_)
  match a with
  | ⟨0, _⟩ => show win0_2.index t 0 * 64 + 1 * (j 0).val = (j 0).val; rw [(idx2 t).1]; omega
  | ⟨1, _⟩ => show win0_2.index t 1 * 1 + 1 * (j 1).val = (j 1).val; rw [(idx2 t).2]; omega

theorem blk3 (c : Dev nD) (t : Fin cfg0.N) : (iblk m c 3 t : Vec Ideal S64x1024 .f32) = (V m c main_v1 : S64x1024.Idx → EReal) := by
  funext j
  unfold iblk
  rw [View.read_apply]
  refine congrArg (V m c main_v1 : S64x1024.Idx → EReal) (funext fun a => Fin.ext ?_)
  match a with
  | ⟨0, _⟩ => show win0_3.index t 0 * 64 + 1 * (j 0).val = (j 0).val; rw [(idx3 t).1]; omega
  | ⟨1, _⟩ => show win0_3.index t 1 * 1024 + 1 * (j 1).val = (j 1).val; rw [(idx3 t).2]; omega

theorem blk4 (c : Dev nD) (t : Fin cfg0.N) : (iblk m c 4 t : Vec Ideal S64x1024 .f32) = (V m c main_v2 : S64x1024.Idx → EReal) := by
  funext j
  unfold iblk
  rw [View.read_apply]
  refine congrArg (V m c main_v2 : S64x1024.Idx → EReal) (funext fun a => Fin.ext ?_)
  match a with
  | ⟨0, _⟩ => show win0_4.index t 0 * 64 + 1 * (j 0).val = (j 0).val; rw [(idx4 t).1]; omega
  | ⟨1, _⟩ => show win0_4.index t 1 * 1024 + 1 * (j 1).val = (j 1).val; rw [(idx4 t).2]; omega

theorem blk5 (c : Dev nD) (t : Fin cfg0.N) : (iblk m c 5 t : Vec Ideal S64x1024 .f32) = (V m c main_v10 : S64x1024.Idx → EReal) := by
  funext j
  unfold iblk
  rw [View.read_apply]
  refine congrArg (V m c main_v10 : S64x1024.Idx → EReal) (funext fun a => Fin.ext ?_)
  match a with
  | ⟨0, _⟩ => show win0_5.index t 0 * 64 + 1 * (j 0).val = (j 0).val; rw [(idx5 t).1]; omega
  | ⟨1, _⟩ => show win0_5.index t 1 * 1024 + 1 * (j 1).val = (j 1).val; rw [(idx5 t).2]; omega

theorem blk6 (c : Dev nD) (t : Fin cfg0.N) : (iblk m c 6 t : Vec Ideal S64x64 .f32) = (V m c main_arg5 : S64x64.Idx → EReal) := by
  funext j
  unfold iblk
  rw [View.read_apply]
  refine congrArg (V m c main_arg5 : S64x64.Idx → EReal) (funext fun a => Fin.ext ?_)
  match a with
  | ⟨0, _⟩ => show win0_6.index t 0 * 64 + 1 * (j 0).val = (j 0).val; rw [(idx6 t).1]; omega
  | ⟨1, _⟩ => show win0_6.index t 1 * 64 + 1 * (j 1).val = (j 1).val; rw [(idx6 t).2]; omega

theorem blk7 (c : Dev nD) (t : Fin cfg0.N) : (iblk m c 7 t : Vec Ideal S64x64 .f32) = (V m c main_arg6 : S64x64.Idx → EReal) := by
  funext j
  unfold iblk
  rw [View.read_apply]
  refine congrArg (V m c main_arg6 : S64x64.Idx → EReal) (funext fun a => Fin.ext ?_)
  match a with
  | ⟨0, _⟩ => show win0_7.index t 0 * 64 + 1 * (j 0).val = (j 0).val; rw [(idx7 t).1]; omega
  | ⟨1, _⟩ => show win0_7.index t 1 * 64 + 1 * (j 1).val = (j 1).val; rw [(idx7 t).2]; omega

theorem blk8 (c : Dev nD) (t : Fin cfg0.N) : (iblk m c 8 t : Vec Ideal S64x1024 .f32) = (V m c main_arg7 : S64x1024.Idx → EReal) := by
  funext j
  unfold iblk
  rw [View.read_apply]
  refine congrArg (V m c main_arg7 : S64x1024.Idx → EReal) (funext fun a => Fin.ext ?_)
  match a with
  | ⟨0, _⟩ => show win0_8.index t 0 * 64 + 1 * (j 0).val = (j 0).val; rw [(idx8 t).1]; omega
  | ⟨1, _⟩ => show win0_8.index t 1 * 1024 + 1 * (j 1).val = (j 1).val; rw [(idx8 t).2]; omega

theorem blk9 (c : Dev nD) (t : Fin cfg0.N) : (iblk m c 9 t : Vec Ideal S64x1024 .f32) = (V m c main_arg8 : S64x1024.Idx → EReal) := by
  funext j
  unfold iblk
  rw [View.read_apply]
  refine congrArg (V m c main_arg8 : S64x1024.Idx → EReal) (funext fun a => Fin.ext ?_)
  match a with
  | ⟨0, _⟩ => show win0_9.index t 0 * 64 + 1 * (j 0).val = (j 0).val; rw [(idx9 t).1]; omega
  | ⟨1, _⟩ => show win0_9.index t 1 * 1024 + 1 * (j 1).val = (j 1).val; rw [(idx9 t).2]; omega

/-! ## The blocks' step and sums are the operands' -/

theorem stp_blk (c : Dev nD) (t : Fin cfg0.N) (r : Fin 64) : stp (iblk m c 2 t) r = est (A2 m c) r := by
  rw [blk2]
  exact congrArg Ideal.exp (V_v0 m c r 0)

theorem rep_blk (c : Dev nD) (t : Fin cfg0.N) (h : Fin 64) (k : Fin 1024) : (iblk m c 5 t : Vec Ideal S64x1024 .f32) (ix2 h k) = rep h k := by
  rw [blk5]
  exact V_v10 m c h k

theorem cb_eq (r h : Fin 64) (p : Fin 16) (h1 : (16 * h.val + p.val) / 16 < 64) (h2 : (16 * h.val + p.val) % 16 < 16) :
    cb r ⟨(16 * h.val + p.val) / 16, h1⟩ ⟨(16 * h.val + p.val) % 16, h2⟩ = cb r h p := by
  have e1 : (⟨(16 * h.val + p.val) / 16, h1⟩ : Fin 64) = h := Fin.ext (by show (16 * h.val + p.val) / 16 = h.val; omega)
  have e2 : (⟨(16 * h.val + p.val) % 16, h2⟩ : Fin 16) = p := Fin.ext (by show (16 * h.val + p.val) % 16 = p.val; omega)
  rw [e1, e2]

theorem sI_blk (c : Dev nD) (t : Fin cfg0.N) (r h : Fin 64) :
    sI (iblk m c 3 t) (iblk m c 4 t) (iblk m c 8 t) (iblk m c 9 t) r h = hI (A3 m c) (A4 m c) (A7 m c) (A8 m c) r h := by
  rw [blk3, blk4, blk8, blk9, V_main_arg7, V_main_arg8]
  unfold sI hI
  refine Finset.sum_congr rfl fun p _ => ?_
  rw [V_v1, V_v2, cb_eq]

theorem sR_blk (c : Dev nD) (t : Fin cfg0.N) (r h : Fin 64) :
    sR (iblk m c 3 t) (iblk m c 4 t) (iblk m c 8 t) (iblk m c 9 t) r h = hR (A3 m c) (A4 m c) (A7 m c) (A8 m c) r h := by
  rw [blk3, blk4, blk8, blk9, V_main_arg7, V_main_arg8]
  unfold sR hR
  refine Finset.sum_congr rfl fun p _ => ?_
  rw [V_v1, V_v2, cb_eq]

/-! ## The arrays after the run -/

/-- The one point. -/
def pt : Fin cfg0.N := ⟨0, by decide +kernel⟩

theorem flushed10_eq (c : Dev nD) (t : Fin cfg0.N) (hf : (cfg0.win 10).flush t = true) :
    (dats m 0 c).flushed 10 t = ((cfg0.win 10).blk t).view.read (Elt Ideal) (GRE (A0 m c) (A1 m c) (A2 m c) (A3 m c) (A4 m c) (A5 m c) (A6 m c) (A7 m c) (A8 m c)) := by
  show (cfg0.win 10).cut (grid0.coords t) ((dats m 0 c).after 10 t) = _
  rw [after0_10]
  funext j
  rw [View.read_apply]
  have e : ((cfg0.win 10).blk t).view.emb j = (j : S64x64.Idx) := funext fun a => Fin.ext (by
    match a with
    | ⟨0, _⟩ => show win0_10.index t 0 * 64 + 1 * (j 0).val = (j 0).val; rw [(idx10 t).1]; omega
    | ⟨1, _⟩ => show win0_10.index t 1 * 64 + 1 * (j 1).val = (j 1).val; rw [(idx10 t).2]; omega)
  refine Eq.trans ?_ (congrArg (GRE (A0 m c) (A1 m c) (A2 m c) (A3 m c) (A4 m c) (A5 m c) (A6 m c) (A7 m c) (A8 m c)) e.symm)
  refine (?_ : out0_10 (iblk m c 0 t) (iblk m c 1 t) (iblk m c 2 t) (iblk m c 3 t) (iblk m c 4 t) (iblk m c 5 t) (iblk m c 6 t) (iblk m c 7 t) (iblk m c 8 t) (iblk m c 9 t) j = GRE (A0 m c) (A1 m c) (A2 m c) (A3 m c) (A4 m c) (A5 m c) (A6 m c) (A7 m c) (A8 m c) j)
  idx_vars j
  refine (out10_at (iblk m c 0 t) (iblk m c 1 t) (iblk m c 6 t) (iblk m c 7 t) (iblk m c 2 t) (iblk m c 3 t) (iblk m c 4 t) (iblk m c 5 t) (iblk m c 8 t) (iblk m c 9 t) (rep_blk m c t) _ _).trans ?_
  rw [stp_blk, sI_blk, sR_blk, blk0, blk1, blk6, blk7, V_main_arg0, V_main_arg1, V_main_arg5, V_main_arg6]
  rfl

theorem final10 (c : Dev nD) : (dats m 0 c).arrAt 10 cfg0.N = GRE (A0 m c) (A1 m c) (A2 m c) (A3 m c) (A4 m c) (A5 m c) (A6 m c) (A7 m c) (A8 m c) :=
  (dats m 0 c).arrAt_eq_of_cover 10 (GRE (A0 m c) (A1 m c) (A2 m c) (A3 m c) (A4 m c) (A5 m c) (A6 m c) (A7 m c) (A8 m c)) (flushed10_eq m c) fun i =>
    ⟨pt, flush0_10 _, by
      have h0 : (i 0).val < 64 := (i 0).isLt
      have h1 : (i 1).val < 64 := (i 1).isLt
      show i ∈ ((View.whole main_v11_0).slice (win0_10.rect pt)).set
      rw [View.set_slice_whole, Rect.mem_set_unit]
      intro a
      match a with
      | ⟨0, _⟩ => show win0_10.index pt 0 * 64 ≤ (i 0 : Nat) ∧ (i 0 : Nat) < win0_10.index pt 0 * 64 + 64
                  rw [(idx10 _).1]; omega
      | ⟨1, _⟩ => show win0_10.index pt 1 * 64 ≤ (i 1 : Nat) ∧ (i 1 : Nat) < win0_10.index pt 1 * 64 + 64
                  rw [(idx10 _).2]; omega⟩

theorem flushed11_eq (c : Dev nD) (t : Fin cfg0.N) (hf : (cfg0.win 11).flush t = true) :
    (dats m 0 c).flushed 11 t = ((cfg0.win 11).blk t).view.read (Elt Ideal) (GIM (A0 m c) (A1 m c) (A2 m c) (A3 m c) (A4 m c) (A5 m c) (A6 m c) (A7 m c) (A8 m c)) := by
  show (cfg0.win 11).cut (grid0.coords t) ((dats m 0 c).after 11 t) = _
  rw [after0_11]
  funext j
  rw [View.read_apply]
  have e : ((cfg0.win 11).blk t).view.emb j = (j : S64x64.Idx) := funext fun a => Fin.ext (by
    match a with
    | ⟨0, _⟩ => show win0_11.index t 0 * 64 + 1 * (j 0).val = (j 0).val; rw [(idx11 t).1]; omega
    | ⟨1, _⟩ => show win0_11.index t 1 * 64 + 1 * (j 1).val = (j 1).val; rw [(idx11 t).2]; omega)
  refine Eq.trans ?_ (congrArg (GIM (A0 m c) (A1 m c) (A2 m c) (A3 m c) (A4 m c) (A5 m c) (A6 m c) (A7 m c) (A8 m c)) e.symm)
  refine (?_ : out0_11 (iblk m c 0 t) (iblk m c 1 t) (iblk m c 2 t) (iblk m c 3 t) (iblk m c 4 t) (iblk m c 5 t) (iblk m c 6 t) (iblk m c 7 t) (iblk m c 8 t) (iblk m c 9 t) j = GIM (A0 m c) (A1 m c) (A2 m c) (A3 m c) (A4 m c) (A5 m c) (A6 m c) (A7 m c) (A8 m c) j)
  idx_vars j
  refine (out11_at (iblk m c 0 t) (iblk m c 1 t) (iblk m c 6 t) (iblk m c 7 t) (iblk m c 2 t) (iblk m c 3 t) (iblk m c 4 t) (iblk m c 5 t) (iblk m c 8 t) (iblk m c 9 t) (rep_blk m c t) _ _).trans ?_
  rw [stp_blk, sI_blk, sR_blk, blk0, blk1, blk6, blk7, V_main_arg0, V_main_arg1, V_main_arg5, V_main_arg6]
  rfl

theorem final11 (c : Dev nD) : (dats m 0 c).arrAt 11 cfg0.N = GIM (A0 m c) (A1 m c) (A2 m c) (A3 m c) (A4 m c) (A5 m c) (A6 m c) (A7 m c) (A8 m c) :=
  (dats m 0 c).arrAt_eq_of_cover 11 (GIM (A0 m c) (A1 m c) (A2 m c) (A3 m c) (A4 m c) (A5 m c) (A6 m c) (A7 m c) (A8 m c)) (flushed11_eq m c) fun i =>
    ⟨pt, flush0_11 _, by
      have h0 : (i 0).val < 64 := (i 0).isLt
      have h1 : (i 1).val < 64 := (i 1).isLt
      show i ∈ ((View.whole main_v11_1).slice (win0_11.rect pt)).set
      rw [View.set_slice_whole, Rect.mem_set_unit]
      intro a
      match a with
      | ⟨0, _⟩ => show win0_11.index pt 0 * 64 ≤ (i 0 : Nat) ∧ (i 0 : Nat) < win0_11.index pt 0 * 64 + 64
                  rw [(idx11 _).1]; omega
      | ⟨1, _⟩ => show win0_11.index pt 1 * 64 ≤ (i 1 : Nat) ∧ (i 1 : Nat) < win0_11.index pt 1 * 64 + 64
                  rw [(idx11 _).2]; omega⟩

theorem flushed12_eq (c : Dev nD) (t : Fin cfg0.N) (hf : (cfg0.win 12).flush t = true) :
    (dats m 0 c).flushed 12 t = ((cfg0.win 12).blk t).view.read (Elt Ideal) (GST (A0 m c) (A1 m c) (A2 m c) (A3 m c) (A4 m c) (A5 m c) (A6 m c) (A7 m c) (A8 m c)) := by
  show (cfg0.win 12).cut (grid0.coords t) ((dats m 0 c).after 12 t) = _
  rw [after0_12]
  funext j
  rw [View.read_apply]
  have e : ((cfg0.win 12).blk t).view.emb j = (j : S64x1.Idx) := funext fun a => Fin.ext (by
    match a with
    | ⟨0, _⟩ => show win0_12.index t 0 * 64 + 1 * (j 0).val = (j 0).val; rw [(idx12 t).1]; omega
    | ⟨1, _⟩ => show win0_12.index t 1 * 1 + 1 * (j 1).val = (j 1).val; rw [(idx12 t).2]; omega)
  refine Eq.trans ?_ (congrArg (GST (A0 m c) (A1 m c) (A2 m c) (A3 m c) (A4 m c) (A5 m c) (A6 m c) (A7 m c) (A8 m c)) e.symm)
  refine (?_ : out0_12 (iblk m c 0 t) (iblk m c 1 t) (iblk m c 2 t) (iblk m c 3 t) (iblk m c 4 t) (iblk m c 5 t) (iblk m c 6 t) (iblk m c 7 t) (iblk m c 8 t) (iblk m c 9 t) j = GST (A0 m c) (A1 m c) (A2 m c) (A3 m c) (A4 m c) (A5 m c) (A6 m c) (A7 m c) (A8 m c) j)
  idx_vars j
  refine (out12_at (iblk m c 0 t) (iblk m c 1 t) (iblk m c 6 t) (iblk m c 7 t) (iblk m c 2 t) (iblk m c 3 t) (iblk m c 4 t) (iblk m c 5 t) (iblk m c 8 t) (iblk m c 9 t) (rep_blk m c t) _ _).trans ?_
  simp only [stp_blk, sI_blk, sR_blk, blk0, blk1, blk6, blk7, V_main_arg0, V_main_arg1, V_main_arg5, V_main_arg6]
  rfl

theorem final12 (c : Dev nD) : (dats m 0 c).arrAt 12 cfg0.N = GST (A0 m c) (A1 m c) (A2 m c) (A3 m c) (A4 m c) (A5 m c) (A6 m c) (A7 m c) (A8 m c) :=
  (dats m 0 c).arrAt_eq_of_cover 12 (GST (A0 m c) (A1 m c) (A2 m c) (A3 m c) (A4 m c) (A5 m c) (A6 m c) (A7 m c) (A8 m c)) (flushed12_eq m c) fun i =>
    ⟨pt, flush0_12 _, by
      have h0 : (i 0).val < 64 := (i 0).isLt
      have h1 : (i 1).val < 1 := (i 1).isLt
      show i ∈ ((View.whole main_v11_2).slice (win0_12.rect pt)).set
      rw [View.set_slice_whole, Rect.mem_set_unit]
      intro a
      match a with
      | ⟨0, _⟩ => show win0_12.index pt 0 * 64 ≤ (i 0 : Nat) ∧ (i 0 : Nat) < win0_12.index pt 0 * 64 + 64
                  rw [(idx12 _).1]; omega
      | ⟨1, _⟩ => show win0_12.index pt 1 * 1 ≤ (i 1 : Nat) ∧ (i 1 : Nat) < win0_12.index pt 1 * 1 + 1
                  rw [(idx12 _).2]; omega⟩

theorem flushed13_eq (c : Dev nD) (t : Fin cfg0.N) (hf : (cfg0.win 13).flush t = true) :
    (dats m 0 c).flushed 13 t = ((cfg0.win 13).blk t).view.read (Elt Ideal) (GBR (A0 m c) (A1 m c) (A2 m c) (A7 m c) (A8 m c)) := by
  show (cfg0.win 13).cut (grid0.coords t) ((dats m 0 c).after 13 t) = _
  rw [after0_13]
  funext j
  rw [View.read_apply]
  have e : ((cfg0.win 13).blk t).view.emb j = (j : S64x1024.Idx) := funext fun a => Fin.ext (by
    match a with
    | ⟨0, _⟩ => show win0_13.index t 0 * 64 + 1 * (j 0).val = (j 0).val; rw [(idx13 t).1]; omega
    | ⟨1, _⟩ => show win0_13.index t 1 * 1024 + 1 * (j 1).val = (j 1).val; rw [(idx13 t).2]; omega)
  refine Eq.trans ?_ (congrArg (GBR (A0 m c) (A1 m c) (A2 m c) (A7 m c) (A8 m c)) e.symm)
  refine (?_ : out0_13 (iblk m c 0 t) (iblk m c 1 t) (iblk m c 2 t) (iblk m c 3 t) (iblk m c 4 t) (iblk m c 5 t) (iblk m c 6 t) (iblk m c 7 t) (iblk m c 8 t) (iblk m c 9 t) j = GBR (A0 m c) (A1 m c) (A2 m c) (A7 m c) (A8 m c) j)
  idx_vars j
  refine (out13_at (iblk m c 0 t) (iblk m c 1 t) (iblk m c 6 t) (iblk m c 7 t) (iblk m c 2 t) (iblk m c 3 t) (iblk m c 4 t) (iblk m c 5 t) (iblk m c 8 t) (iblk m c 9 t) (rep_blk m c t) _ _).trans ?_
  rw [stp_blk, blk0, blk1, blk8, blk9, V_main_arg0, V_main_arg1, V_main_arg7, V_main_arg8]
  rfl

theorem final13 (c : Dev nD) : (dats m 0 c).arrAt 13 cfg0.N = GBR (A0 m c) (A1 m c) (A2 m c) (A7 m c) (A8 m c) :=
  (dats m 0 c).arrAt_eq_of_cover 13 (GBR (A0 m c) (A1 m c) (A2 m c) (A7 m c) (A8 m c)) (flushed13_eq m c) fun i =>
    ⟨pt, flush0_13 _, by
      have h0 : (i 0).val < 64 := (i 0).isLt
      have h1 : (i 1).val < 1024 := (i 1).isLt
      show i ∈ ((View.whole main_v11_3).slice (win0_13.rect pt)).set
      rw [View.set_slice_whole, Rect.mem_set_unit]
      intro a
      match a with
      | ⟨0, _⟩ => show win0_13.index pt 0 * 64 ≤ (i 0 : Nat) ∧ (i 0 : Nat) < win0_13.index pt 0 * 64 + 64
                  rw [(idx13 _).1]; omega
      | ⟨1, _⟩ => show win0_13.index pt 1 * 1024 ≤ (i 1 : Nat) ∧ (i 1 : Nat) < win0_13.index pt 1 * 1024 + 1024
                  rw [(idx13 _).2]; omega⟩

theorem flushed14_eq (c : Dev nD) (t : Fin cfg0.N) (hf : (cfg0.win 14).flush t = true) :
    (dats m 0 c).flushed 14 t = ((cfg0.win 14).blk t).view.read (Elt Ideal) (GBI (A0 m c) (A1 m c) (A2 m c) (A7 m c) (A8 m c)) := by
  show (cfg0.win 14).cut (grid0.coords t) ((dats m 0 c).after 14 t) = _
  rw [after0_14]
  funext j
  rw [View.read_apply]
  have e : ((cfg0.win 14).blk t).view.emb j = (j : S64x1024.Idx) := funext fun a => Fin.ext (by
    match a with
    | ⟨0, _⟩ => show win0_14.index t 0 * 64 + 1 * (j 0).val = (j 0).val; rw [(idx14 t).1]; omega
    | ⟨1, _⟩ => show win0_14.index t 1 * 1024 + 1 * (j 1).val = (j 1).val; rw [(idx14 t).2]; omega)
  refine Eq.trans ?_ (congrArg (GBI (A0 m c) (A1 m c) (A2 m c) (A7 m c) (A8 m c)) e.symm)
  refine (?_ : out0_14 (iblk m c 0 t) (iblk m c 1 t) (iblk m c 2 t) (iblk m c 3 t) (iblk m c 4 t) (iblk m c 5 t) (iblk m c 6 t) (iblk m c 7 t) (iblk m c 8 t) (iblk m c 9 t) j = GBI (A0 m c) (A1 m c) (A2 m c) (A7 m c) (A8 m c) j)
  idx_vars j
  refine (out14_at (iblk m c 0 t) (iblk m c 1 t) (iblk m c 6 t) (iblk m c 7 t) (iblk m c 2 t) (iblk m c 3 t) (iblk m c 4 t) (iblk m c 5 t) (iblk m c 8 t) (iblk m c 9 t) (rep_blk m c t) _ _).trans ?_
  rw [stp_blk, blk0, blk1, blk8, blk9, V_main_arg0, V_main_arg1, V_main_arg7, V_main_arg8]
  rfl

theorem final14 (c : Dev nD) : (dats m 0 c).arrAt 14 cfg0.N = GBI (A0 m c) (A1 m c) (A2 m c) (A7 m c) (A8 m c) :=
  (dats m 0 c).arrAt_eq_of_cover 14 (GBI (A0 m c) (A1 m c) (A2 m c) (A7 m c) (A8 m c)) (flushed14_eq m c) fun i =>
    ⟨pt, flush0_14 _, by
      have h0 : (i 0).val < 64 := (i 0).isLt
      have h1 : (i 1).val < 1024 := (i 1).isLt
      show i ∈ ((View.whole main_v11_4).slice (win0_14.rect pt)).set
      rw [View.set_slice_whole, Rect.mem_set_unit]
      intro a
      match a with
      | ⟨0, _⟩ => show win0_14.index pt 0 * 64 ≤ (i 0 : Nat) ∧ (i 0 : Nat) < win0_14.index pt 0 * 64 + 64
                  rw [(idx14 _).1]; omega
      | ⟨1, _⟩ => show win0_14.index pt 1 * 1024 ≤ (i 1 : Nat) ∧ (i 1 : Nat) < win0_14.index pt 1 * 1024 + 1024
                  rw [(idx14 _).2]; omega⟩

/-- The whole run: the five gradients, and the operands as they were. -/
theorem run : θ_run defs (onTc (τ := τ) (main (F := Ideal))) ⟨m, fun _ => 0, ρ⟩ fun r => ∀ c : Dev nD,
      r.2.mem ((c : Thread nD τ).loc main_v11_0) = GRE (A0 m c) (A1 m c) (A2 m c) (A3 m c) (A4 m c) (A5 m c) (A6 m c) (A7 m c) (A8 m c)
      ∧ r.2.mem ((c : Thread nD τ).loc main_v11_1) = GIM (A0 m c) (A1 m c) (A2 m c) (A3 m c) (A4 m c) (A5 m c) (A6 m c) (A7 m c) (A8 m c)
      ∧ r.2.mem ((c : Thread nD τ).loc main_v11_2) = GST (A0 m c) (A1 m c) (A2 m c) (A3 m c) (A4 m c) (A5 m c) (A6 m c) (A7 m c) (A8 m c)
      ∧ r.2.mem ((c : Thread nD τ).loc main_v11_3) = GBR (A0 m c) (A1 m c) (A2 m c) (A7 m c) (A8 m c)
      ∧ r.2.mem ((c : Thread nD τ).loc main_v11_4) = GBI (A0 m c) (A1 m c) (A2 m c) (A7 m c) (A8 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨((h c).1 10).trans (final10 m c),
      ((h c).1 11).trans (final11 m c),
      ((h c).1 12).trans (final12 m c),
      ((h c).1 13).trans (final13 m c),
      ((h c).1 14).trans (final14 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 6).trans (((dats m 0 c).arrAt_in 6 rfl _).trans ((A_eq m c 6).trans (V_main_arg5 m c))),
      ((h c).1 7).trans (((dats m 0 c).arrAt_in 7 rfl _).trans ((A_eq m c 7).trans (V_main_arg6 m c))),
      ((h c).1 8).trans (((dats m 0 c).arrAt_in 8 rfl _).trans ((A_eq m c 8).trans (V_main_arg7 m c))),
      ((h c).1 9).trans (((dats m 0 c).arrAt_in 9 rfl _).trans ((A_eq m c 9).trans (V_main_arg8 m c)))⟩)
    (run_main m ρ)

end Cert.Kernel15Ideal.Val
-- ==== Proof.Hold.BwdRef.lean ====
/-
  The reference of the zero-order hold's gradient: each value of the plain program, read at an index.
-/
module

public import proofs.«01_k».proof.Proof.Hold.Step
public import proofs.«01_k».proof.Proof.Gen.Reference15Ideal.Read
public import Idealize.ShloMosaic.Lib.IdealHost

@[expose] public section

noncomputable section

namespace Cert.Reference15Ideal.Val

open Cert.Reference15Ideal Cert.Reference15Ideal.Gen Cert.Reference15Ideal.Read Cert.Hold Cert.Shared Idealize.ShloMosaic

variable (x0 x1 : Vec Ideal S64x64 .f32) (x2 : Vec Ideal S64 .f32) (x3 x4 : Vec Ideal S64x64x16 .f32) (x5 x6 : Vec Ideal S64x64 .f32)
  (x7 x8 : Vec Ideal S64x1024 .f32)

theorem v2_at (i : S64x64.Idx) : val_main_v2 (F := Ideal) x2 i
    = est x2 (i 0) := by
  rw [val_main_v2_apply, val_main_v1_apply, val_main_v0_apply]
  exact congrArg Ideal.exp (congrArg x2 (funext fun a => match a with | ⟨0, _⟩ => rfl))

theorem v5_at (i : S64x64.Idx) : val_main_v5 (F := Ideal) x2 i
    = est x2 (i 0) := by
  rw [val_main_v5_apply, val_main_v1_apply, val_main_v0_apply]
  exact congrArg Ideal.exp (congrArg x2 (funext fun a => match a with | ⟨0, _⟩ => rfl))

theorem v10_at (i : S64x64.Idx) : val_main_v10 (F := Ideal) x2 i
    = est x2 (i 0) := by
  rw [val_main_v10_apply, val_main_v1_apply, val_main_v0_apply]
  exact congrArg Ideal.exp (congrArg x2 (funext fun a => match a with | ⟨0, _⟩ => rfl))

theorem v117_at (i : S64x64.Idx) : val_main_v117 (F := Ideal) x2 i
    = est x2 (i 0) := by
  rw [val_main_v117_apply, val_main_v1_apply, val_main_v0_apply]
  exact congrArg Ideal.exp (congrArg x2 (funext fun a => match a with | ⟨0, _⟩ => rfl))

theorem v129_at (i : S64x64.Idx) : val_main_v129 (F := Ideal) x2 i
    = est x2 (i 0) := by
  rw [val_main_v129_apply, val_main_v1_apply, val_main_v0_apply]
  exact congrArg Ideal.exp (congrArg x2 (funext fun a => match a with | ⟨0, _⟩ => rfl))

theorem v137_at (i : S64x64.Idx) : val_main_v137 (F := Ideal) x2 i
    = est x2 (i 0) := by
  rw [val_main_v137_apply, val_main_v1_apply, val_main_v0_apply]
  exact congrArg Ideal.exp (congrArg x2 (funext fun a => match a with | ⟨0, _⟩ => rfl))

theorem v4_at (i : S64x64.Idx) : val_main_v4 (F := Ideal) x0 x2 i
    = mag (x0 i) (est x2 (i 0)) := by
  rw [val_main_v4_apply, val_main_v3_apply, v2_at]
  rfl

theorem v7_at (i : S64x64.Idx) : val_main_v7 (F := Ideal) x1 x2 i
    = cosS (x1 i) (est x2 (i 0)) := by
  rw [val_main_v7_apply, val_main_v6_apply, v5_at]
  rfl

theorem v8_at (i : S64x64.Idx) : val_main_v8 (F := Ideal) x1 x2 i
    = sinS (x1 i) (est x2 (i 0)) := by
  rw [val_main_v8_apply, val_main_v6_apply, v5_at]
  rfl

theorem v12_at (i : S64x64.Idx) : val_main_v12 (F := Ideal) x1 x2 i
    = sinS (x1 i) (est x2 (i 0)) := by
  rw [val_main_v12_apply, val_main_v11_apply, v10_at]
  rfl

theorem v13_at (i : S64x64.Idx) : val_main_v13 (F := Ideal) x1 x2 i
    = cosS (x1 i) (est x2 (i 0)) := by
  rw [val_main_v13_apply, val_main_v11_apply, v10_at]
  rfl

theorem v14_at (i : S64x64.Idx) : val_main_v14 (F := Ideal) x0 x1 x2 i
    = lbi (x0 i) (x1 i) (est x2 (i 0)) := by
  rw [val_main_v14_apply, v4_at, v12_at]
  rfl

theorem v16_at (i : S64x64.Idx) : val_main_v16 (F := Ideal) x0 x1 x2 i
    = nr (x0 i) (x1 i) (est x2 (i 0)) := by
  rw [val_main_v16_apply, val_main_v9_apply, val_main_v15_apply, val_main_cst_apply, v4_at, v7_at]
  simp only [Ideal.ofBits_def, Ideal.ofBits_one_f32]
  rfl

theorem v19_at (i : S64x64.Idx) : val_main_v19 (F := Ideal) x0 x1 i
    = den (x0 i) (x1 i) := by
  rw [val_main_v19_apply, val_main_v17_apply, val_main_v18_apply]
  rfl

theorem v22_at (i : S64x64.Idx) : val_main_v22 (F := Ideal) x0 x1 x2 i
    = pN (x0 i) (x1 i) (est x2 (i 0)) := by
  rw [val_main_v22_apply, val_main_v20_apply, val_main_v21_apply, v16_at, v14_at]
  rfl

theorem v23_at (i : S64x64.Idx) : val_main_v23 (F := Ideal) x0 x1 x2 i
    = qr (x0 i) (x1 i) (est x2 (i 0)) := by
  rw [val_main_v23_apply, v22_at, v19_at]
  rfl

theorem v26_at (i : S64x64.Idx) : val_main_v26 (F := Ideal) x0 x1 i
    = inv (x0 i) (x1 i) := by
  rw [val_main_v26_apply, val_main_v25_apply, val_main_v24_apply, val_main_cst_0_apply, v19_at]
  simp only [Ideal.ofBits_def, Ideal.ofBits_one_f32]
  rfl

theorem v29_at (i : S64x64.Idx) : val_main_v29 (F := Ideal) x0 x1 x2 i
    = sN (x0 i) (x1 i) (est x2 (i 0)) := by
  rw [val_main_v29_apply, val_main_v27_apply, val_main_v28_apply, v16_at, v14_at]
  rfl

theorem v30_at (i : S64x64.Idx) : val_main_v30 (F := Ideal) x0 x1 x2 i
    = qi (x0 i) (x1 i) (est x2 (i 0)) := by
  rw [val_main_v30_apply, v29_at, v19_at]
  rfl

theorem v33_at (i : S64x64.Idx) : val_main_v33 (F := Ideal) x0 x1 i
    = inv (x0 i) (x1 i) := by
  rw [val_main_v33_apply, val_main_v32_apply, val_main_v31_apply, val_main_cst_1_apply, v19_at]
  simp only [Ideal.ofBits_def, Ideal.ofBits_one_f32]
  rfl

theorem v55_at (i : S64x64.Idx) : val_main_v55 (F := Ideal) x3 x8 i
    = ∑ p : Fin 16, x8 (wd (i 0) ⟨16 * (i 1).val + p.val, by have h1 : (i 1).val < 64 := (i 1).isLt; omega⟩) * x3 (cb (i 0) (i 1) p) := by
  rw [val_main_v55_apply, val_main_cst_3_apply]
  simp only [Ideal.ofBits_def, Ideal.ofBits_zero_f32, zero_add, Fin.sum_univ_one]
  rw [val_main_v54_apply, val_main_v53_apply, val_main_cst_2_apply]
  simp only [Ideal.ofBits_def, Ideal.ofBits_zero_f32, zero_add]
  refine Finset.sum_congr rfl fun p _ => ?_
  rw [val_main_v52_apply, val_main_v49_apply]
  have h0 : (i 0).val < 64 := (i 0).isLt
  have h1 : (i 1).val < 64 := (i 1).isLt
  have hp : p.val < 16 := p.isLt
  have e2 : idx_main_v53 (idx_main_v54 (idx_main_v55 i 0)) p = cb (i 0) (i 1) p := by
    funext a
    refine Fin.ext ?_
    match a with
    | ⟨0, _⟩ => show (((i 0).val * 64 + (i 1).val) * 1 + 0) / 64 = (i 0).val; omega
    | ⟨1, _⟩ => show (((i 0).val * 64 + (i 1).val) * 1 + 0) % 64 = (i 1).val; omega
    | ⟨2, _⟩ => rfl
  rw [e2]
  have e3 : idx_main_v49 (cb (i 0) (i 1) p) = wd (i 0) ⟨16 * (i 1).val + p.val, by omega⟩ := by
    funext a
    refine Fin.ext ?_
    match a with
    | ⟨0, _⟩ => show (((i 0).val * 64 + (i 1).val) * 16 + p.val) / 1024 = (i 0).val; omega
    | ⟨1, _⟩ => show (((i 0).val * 64 + (i 1).val) * 16 + p.val) % 1024 = 16 * (i 1).val + p.val; omega
  rw [e3]
  rfl

theorem v61_at (i : S64x64.Idx) : val_main_v61 (F := Ideal) x4 x8 i
    = ∑ p : Fin 16, x8 (wd (i 0) ⟨16 * (i 1).val + p.val, by have h1 : (i 1).val < 64 := (i 1).isLt; omega⟩) * x4 (cb (i 0) (i 1) p) := by
  rw [val_main_v61_apply, val_main_cst_5_apply]
  simp only [Ideal.ofBits_def, Ideal.ofBits_zero_f32, zero_add, Fin.sum_univ_one]
  rw [val_main_v60_apply, val_main_v59_apply, val_main_cst_4_apply]
  simp only [Ideal.ofBits_def, Ideal.ofBits_zero_f32, zero_add]
  refine Finset.sum_congr rfl fun p _ => ?_
  rw [val_main_v58_apply, val_main_v49_apply]
  have h0 : (i 0).val < 64 := (i 0).isLt
  have h1 : (i 1).val < 64 := (i 1).isLt
  have hp : p.val < 16 := p.isLt
  have e2 : idx_main_v59 (idx_main_v60 (idx_main_v61 i 0)) p = cb (i 0) (i 1) p := by
    funext a
    refine Fin.ext ?_
    match a with
    | ⟨0, _⟩ => show (((i 0).val * 64 + (i 1).val) * 1 + 0) / 64 = (i 0).val; omega
    | ⟨1, _⟩ => show (((i 0).val * 64 + (i 1).val) * 1 + 0) % 64 = (i 1).val; omega
    | ⟨2, _⟩ => rfl
  rw [e2]
  have e3 : idx_main_v49 (cb (i 0) (i 1) p) = wd (i 0) ⟨16 * (i 1).val + p.val, by omega⟩ := by
    funext a
    refine Fin.ext ?_
    match a with
    | ⟨0, _⟩ => show (((i 0).val * 64 + (i 1).val) * 16 + p.val) / 1024 = (i 0).val; omega
    | ⟨1, _⟩ => show (((i 0).val * 64 + (i 1).val) * 16 + p.val) % 1024 = 16 * (i 1).val + p.val; omega
  rw [e3]
  rfl

theorem v69_at (i : S64x64.Idx) : val_main_v69 (F := Ideal) x4 x7 i
    = ∑ p : Fin 16, -x7 (wd (i 0) ⟨16 * (i 1).val + p.val, by have h1 : (i 1).val < 64 := (i 1).isLt; omega⟩) * x4 (cb (i 0) (i 1) p) := by
  rw [val_main_v69_apply, val_main_cst_7_apply]
  simp only [Ideal.ofBits_def, Ideal.ofBits_zero_f32, zero_add, Fin.sum_univ_one]
  rw [val_main_v68_apply, val_main_v67_apply, val_main_cst_6_apply]
  simp only [Ideal.ofBits_def, Ideal.ofBits_zero_f32, zero_add]
  refine Finset.sum_congr rfl fun p _ => ?_
  rw [val_main_v66_apply, val_main_v62_apply, val_main_v48_apply]
  have h0 : (i 0).val < 64 := (i 0).isLt
  have h1 : (i 1).val < 64 := (i 1).isLt
  have hp : p.val < 16 := p.isLt
  have e2 : idx_main_v67 (idx_main_v68 (idx_main_v69 i 0)) p = cb (i 0) (i 1) p := by
    funext a
    refine Fin.ext ?_
    match a with
    | ⟨0, _⟩ => show (((i 0).val * 64 + (i 1).val) * 1 + 0) / 64 = (i 0).val; omega
    | ⟨1, _⟩ => show (((i 0).val * 64 + (i 1).val) * 1 + 0) % 64 = (i 1).val; omega
    | ⟨2, _⟩ => rfl
  rw [e2]
  have e3 : idx_main_v48 (cb (i 0) (i 1) p) = wd (i 0) ⟨16 * (i 1).val + p.val, by omega⟩ := by
    funext a
    refine Fin.ext ?_
    match a with
    | ⟨0, _⟩ => show (((i 0).val * 64 + (i 1).val) * 16 + p.val) / 1024 = (i 0).val; omega
    | ⟨1, _⟩ => show (((i 0).val * 64 + (i 1).val) * 16 + p.val) % 1024 = 16 * (i 1).val + p.val; omega
  rw [e3]
  rfl

theorem v77_at (i : S64x64.Idx) : val_main_v77 (F := Ideal) x3 x7 i
    = ∑ p : Fin 16, x7 (wd (i 0) ⟨16 * (i 1).val + p.val, by have h1 : (i 1).val < 64 := (i 1).isLt; omega⟩) * x3 (cb (i 0) (i 1) p) := by
  rw [val_main_v77_apply, val_main_cst_9_apply]
  simp only [Ideal.ofBits_def, Ideal.ofBits_zero_f32, zero_add, Fin.sum_univ_one]
  rw [val_main_v76_apply, val_main_v75_apply, val_main_cst_8_apply]
  simp only [Ideal.ofBits_def, Ideal.ofBits_zero_f32, zero_add]
  refine Finset.sum_congr rfl fun p _ => ?_
  rw [val_main_v74_apply, val_main_v48_apply]
  have h0 : (i 0).val < 64 := (i 0).isLt
  have h1 : (i 1).val < 64 := (i 1).isLt
  have hp : p.val < 16 := p.isLt
  have e2 : idx_main_v75 (idx_main_v76 (idx_main_v77 i 0)) p = cb (i 0) (i 1) p := by
    funext a
    refine Fin.ext ?_
    match a with
    | ⟨0, _⟩ => show (((i 0).val * 64 + (i 1).val) * 1 + 0) / 64 = (i 0).val; omega
    | ⟨1, _⟩ => show (((i 0).val * 64 + (i 1).val) * 1 + 0) % 64 = (i 1).val; omega
    | ⟨2, _⟩ => rfl
  rw [e2]
  have e3 : idx_main_v48 (cb (i 0) (i 1) p) = wd (i 0) ⟨16 * (i 1).val + p.val, by omega⟩ := by
    funext a
    refine Fin.ext ?_
    match a with
    | ⟨0, _⟩ => show (((i 0).val * 64 + (i 1).val) * 16 + p.val) / 1024 = (i 0).val; omega
    | ⟨1, _⟩ => show (((i 0).val * 64 + (i 1).val) * 16 + p.val) % 1024 = 16 * (i 1).val + p.val; omega
  rw [e3]
  rfl

theorem v70_at (i : S64x64.Idx) : val_main_v70 (F := Ideal) x3 x4 x7 x8 i
    = hI x3 x4 x7 x8 (i 0) (i 1) := by
  rw [val_main_v70_apply, v55_at, v69_at]
  exact Finset.sum_add_distrib.symm

theorem v78_at (i : S64x64.Idx) : val_main_v78 (F := Ideal) x3 x4 x7 x8 i
    = hR x3 x4 x7 x8 (i 0) (i 1) := by
  rw [val_main_v78_apply, v61_at, v77_at]
  exact Finset.sum_add_distrib.symm

theorem v82_at (i : S64x64.Idx) : val_main_v82 (F := Ideal) x0 x1 x3 x4 x7 x8 i
    = uI (x0 i) (x1 i) (hI x3 x4 x7 x8 (i 0) (i 1)) := by
  rw [val_main_v82_apply, v70_at, v19_at]
  rfl

theorem v83_at (i : S64x64.Idx) : val_main_v83 (F := Ideal) x0 x1 x3 x4 x7 x8 i
    = -uI (x0 i) (x1 i) (hI x3 x4 x7 x8 (i 0) (i 1)) := by
  rw [val_main_v83_apply, v82_at]
  rfl

theorem v94_at (i : S64x64.Idx) : val_main_v94 (F := Ideal) x0 x1 x3 x4 x7 x8 i
    = uI (x0 i) (x1 i) (hR x3 x4 x7 x8 (i 0) (i 1)) := by
  rw [val_main_v94_apply, v78_at, v19_at]
  rfl

theorem v93_at (i : S64x64.Idx) : val_main_v93 (F := Ideal) x0 x1 x2 x3 x4 x7 x8 i
    = wD (x0 i) (x1 i) (est x2 (i 0)) (hI x3 x4 x7 x8 (i 0) (i 1)) (hR x3 x4 x7 x8 (i 0) (i 1)) := by
  rw [val_main_v93_apply, val_main_v81_apply, val_main_v80_apply, val_main_v79_apply, val_main_v92_apply, val_main_v91_apply, val_main_v90_apply, v70_at, v33_at, v29_at, v78_at, v26_at, v22_at]
  rfl

theorem v98_at (i : S64x64.Idx) : val_main_v98 (F := Ideal) x0 x1 x3 x4 x6 x7 x8 i
    = gIm (x0 i) (x1 i) (x6 i) (hI x3 x4 x7 x8 (i 0) (i 1)) (hR x3 x4 x7 x8 (i 0) (i 1)) := by
  rw [val_main_v98_apply, val_main_v89_apply, val_main_v88_apply, val_main_v97_apply, v82_at, v94_at]
  rfl

theorem v102_at (i : S64x64.Idx) : val_main_v102 (F := Ideal) x0 x1 x3 x4 x5 x7 x8 i
    = gRe (x0 i) (x1 i) (x5 i) (hI x3 x4 x7 x8 (i 0) (i 1)) (hR x3 x4 x7 x8 (i 0) (i 1)) := by
  rw [val_main_v102_apply, val_main_v86_apply, val_main_v85_apply, val_main_v101_apply, v83_at, v94_at]
  rfl

theorem v113_at (i : S64x64.Idx) : val_main_v113 (F := Ideal) x0 x1 x2 x3 x4 x6 x7 x8 i
    = c1 (x0 i) (x1 i) (est x2 (i 0)) (x6 i) (hI x3 x4 x7 x8 (i 0) (i 1)) (hR x3 x4 x7 x8 (i 0) (i 1)) := by
  rw [val_main_v113_apply, val_main_v111_apply, v4_at, v98_at, v13_at]
  rfl

theorem v124_at (i : S64x64.Idx) : val_main_v124 (F := Ideal) x0 x1 x2 x3 x4 x5 x7 x8 i
    = c2 (x0 i) (x1 i) (est x2 (i 0)) (x5 i) (hI x3 x4 x7 x8 (i 0) (i 1)) (hR x3 x4 x7 x8 (i 0) (i 1)) := by
  rw [val_main_v124_apply, val_main_v123_apply, val_main_v120_apply, v4_at, v102_at, v8_at]
  rfl

theorem v132_at (i : S64x64.Idx) : val_main_v132 (F := Ideal) x0 x1 x2 x3 x4 x5 x6 x7 x8 i
    = c3 (x0 i) (x1 i) (est x2 (i 0)) (x5 i) (x6 i) (hI x3 x4 x7 x8 (i 0) (i 1)) (hR x3 x4 x7 x8 (i 0) (i 1)) := by
  rw [val_main_v132_apply, val_main_v122_apply, val_main_v112_apply, val_main_v121_apply, v98_at, v12_at, v102_at, v7_at, v4_at]
  rfl

theorem v139_at (i : S64x64.Idx) : val_main_v139 (F := Ideal) x0 x1 x2 x3 x4 x5 x6 x7 x8 i
    = dRe (x0 i) (x1 i) (est x2 (i 0)) (x5 i) (x6 i) (hI x3 x4 x7 x8 (i 0) (i 1)) (hR x3 x4 x7 x8 (i 0) (i 1)) := by
  rw [val_main_v139_apply, val_main_v110_apply, val_main_v108_apply, val_main_v100_apply, val_main_v87_apply, val_main_v99_apply, val_main_v107_apply, val_main_v109_apply, val_main_v138_apply, v14_at, v82_at, v16_at, v94_at, v93_at, v132_at, v137_at]
  rfl

theorem v131_at (i : S64x64.Idx) : val_main_v131 (F := Ideal) x0 x1 x2 x3 x4 x5 x6 x7 x8 i
    = dIm (x0 i) (x1 i) (est x2 (i 0)) (x5 i) (x6 i) (hI x3 x4 x7 x8 (i 0) (i 1)) (hR x3 x4 x7 x8 (i 0) (i 1)) := by
  rw [val_main_v131_apply, val_main_v119_apply, val_main_v106_apply, val_main_v104_apply, val_main_v96_apply, val_main_v84_apply, val_main_v95_apply, val_main_v103_apply, val_main_v105_apply, val_main_v118_apply, val_main_v130_apply, v16_at, v83_at, v14_at, v94_at, v93_at, v113_at, v117_at, v124_at, v129_at]
  rfl

theorem v116_at (i : S64x1.Idx) : val_main_v116 (F := Ideal) x0 x1 x2 x3 x4 x6 x7 x8 i
    = ∑ h : Fin 64, (x1 (sq (i 0) h)) * c1 (x0 (sq (i 0) h)) (x1 (sq (i 0) h)) (est x2 (i 0)) (x6 (sq (i 0) h)) (hI x3 x4 x7 x8 (i 0) h) (hR x3 x4 x7 x8 (i 0) h) := by
  rw [val_main_v116_apply, val_main_v115_apply, val_main_cst_10_apply]
  simp only [Ideal.ofBits_def, Ideal.ofBits_zero_f32, zero_add]
  refine Finset.sum_congr rfl fun h _ => ?_
  rw [val_main_v114_apply]
  have h1 : (i 1).val < 1 := (i 1).isLt
  have e2 : idx_main_v115 (idx_main_v116 i) h = sq (i 0) h := by
    funext a
    refine Fin.ext ?_
    match a with
    | ⟨0, _⟩ => show (i 0).val * 1 + (i 1).val = (i 0).val; omega
    | ⟨1, _⟩ => rfl
  rw [e2, v113_at]
  rfl

theorem v127_at (i : S64x1.Idx) : val_main_v127 (F := Ideal) x0 x1 x2 x3 x4 x5 x7 x8 i
    = ∑ h : Fin 64, (x1 (sq (i 0) h)) * c2 (x0 (sq (i 0) h)) (x1 (sq (i 0) h)) (est x2 (i 0)) (x5 (sq (i 0) h)) (hI x3 x4 x7 x8 (i 0) h) (hR x3 x4 x7 x8 (i 0) h) := by
  rw [val_main_v127_apply, val_main_v126_apply, val_main_cst_11_apply]
  simp only [Ideal.ofBits_def, Ideal.ofBits_zero_f32, zero_add]
  refine Finset.sum_congr rfl fun h _ => ?_
  rw [val_main_v125_apply]
  have h1 : (i 1).val < 1 := (i 1).isLt
  have e2 : idx_main_v126 (idx_main_v127 i) h = sq (i 0) h := by
    funext a
    refine Fin.ext ?_
    match a with
    | ⟨0, _⟩ => show (i 0).val * 1 + (i 1).val = (i 0).val; omega
    | ⟨1, _⟩ => rfl
  rw [e2, v124_at]
  rfl

theorem v135_at (i : S64x1.Idx) : val_main_v135 (F := Ideal) x0 x1 x2 x3 x4 x5 x6 x7 x8 i
    = ∑ h : Fin 64, (x0 (sq (i 0) h)) * c3 (x0 (sq (i 0) h)) (x1 (sq (i 0) h)) (est x2 (i 0)) (x5 (sq (i 0) h)) (x6 (sq (i 0) h)) (hI x3 x4 x7 x8 (i 0) h) (hR x3 x4 x7 x8 (i 0) h) := by
  rw [val_main_v135_apply, val_main_v134_apply, val_main_cst_12_apply]
  simp only [Ideal.ofBits_def, Ideal.ofBits_zero_f32, zero_add]
  refine Finset.sum_congr rfl fun h _ => ?_
  rw [val_main_v133_apply]
  have h1 : (i 1).val < 1 := (i 1).isLt
  have e2 : idx_main_v134 (idx_main_v135 i) h = sq (i 0) h := by
    funext a
    refine Fin.ext ?_
    match a with
    | ⟨0, _⟩ => show (i 0).val * 1 + (i 1).val = (i 0).val; omega
    | ⟨1, _⟩ => rfl
  rw [e2, v132_at]
  rfl

theorem v142_at (i : S64x1.Idx) : val_main_v142 (F := Ideal) x0 x1 x2 x3 x4 x5 x6 x7 x8 i
    = ((∑ h : Fin 64, (x1 (sq (i 0) h)) * c1 (x0 (sq (i 0) h)) (x1 (sq (i 0) h)) (est x2 (i 0)) (x6 (sq (i 0) h)) (hI x3 x4 x7 x8 (i 0) h) (hR x3 x4 x7 x8 (i 0) h))
      + (∑ h : Fin 64, (x1 (sq (i 0) h)) * c2 (x0 (sq (i 0) h)) (x1 (sq (i 0) h)) (est x2 (i 0)) (x5 (sq (i 0) h)) (hI x3 x4 x7 x8 (i 0) h) (hR x3 x4 x7 x8 (i 0) h))
      + (∑ h : Fin 64, (x0 (sq (i 0) h)) * c3 (x0 (sq (i 0) h)) (x1 (sq (i 0) h)) (est x2 (i 0)) (x5 (sq (i 0) h)) (x6 (sq (i 0) h)) (hI x3 x4 x7 x8 (i 0) h) (hR x3 x4 x7 x8 (i 0) h))) * est x2 (i 0) := by
  rw [val_main_v142_apply, val_main_v141_apply, val_main_v140_apply, val_main_cst_13_apply, val_main_v0_apply]
  simp only [Ideal.ofBits_def, Ideal.ofBits_zero_f32, zero_add, Fin.sum_univ_one]
  rw [val_main_v136_apply, val_main_v128_apply, v116_at, v127_at, v135_at]
  refine congrArg₂ (· * ·) rfl ?_
  exact congrArg Ideal.exp (congrArg x2 (funext fun a => match a with | ⟨0, _⟩ => rfl))

theorem v143_at (i : S64x1024.Idx) : val_main_v143 (F := Ideal) x0 x1 x2 x7 x8 i
    = qi (x0 (sq (i 0) ⟨(i 1).val / 16, by have h1 : (i 1).val < 1024 := (i 1).isLt; omega⟩)) (x1 (sq (i 0) ⟨(i 1).val / 16, by have h1 : (i 1).val < 1024 := (i 1).isLt; omega⟩)) (est x2 (i 0)) * x8 i + qr (x0 (sq (i 0) ⟨(i 1).val / 16, by have h1 : (i 1).val < 1024 := (i 1).isLt; omega⟩)) (x1 (sq (i 0) ⟨(i 1).val / 16, by have h1 : (i 1).val < 1024 := (i 1).isLt; omega⟩)) (est x2 (i 0)) * x7 i := by
  have h0 : (i 0).val < 64 := (i 0).isLt
  have h1 : (i 1).val < 1024 := (i 1).isLt
  have e1 : idx_main_v143 i = cb (i 0) ⟨(i 1).val / 16, by omega⟩ ⟨(i 1).val % 16, by omega⟩ := by
    funext a
    refine Fin.ext ?_
    match a with
    | ⟨0, _⟩ => show ((i 0).val * 1024 + (i 1).val) / 1024 = (i 0).val; omega
    | ⟨1, _⟩ => show ((i 0).val * 1024 + (i 1).val) / 16 % 64 = (i 1).val / 16; omega
    | ⟨2, _⟩ => show ((i 0).val * 1024 + (i 1).val) % 16 = (i 1).val % 16; omega
  have e7 : idx_main_v48 (idx_main_v143 i) = i := by
    rw [e1]
    funext a
    refine Fin.ext ?_
    match a with
    | ⟨0, _⟩ => show (((i 0).val * 64 + (i 1).val / 16) * 16 + (i 1).val % 16) / 1024 = (i 0).val; omega
    | ⟨1, _⟩ => show (((i 0).val * 64 + (i 1).val / 16) * 16 + (i 1).val % 16) % 1024 = (i 1).val; omega
  have e8 : idx_main_v49 (idx_main_v143 i) = i := e7
  rw [val_main_v143_apply, val_main_v73_apply, val_main_v51_apply, val_main_v50_apply, val_main_v44_apply, val_main_v72_apply, val_main_v71_apply, val_main_v34_apply, val_main_v48_apply, val_main_v49_apply, e7, e8, e1, v23_at, v30_at]
  have e4 : ∀ (y : (⟨S64x64, .f32⟩ : BufTy).Contents (Elt Ideal)) (k : S64x64.Idx), (k 0).val = (i 0).val → (k 1).val = (i 1).val / 16 → y k = y (sq (i 0) ⟨(i 1).val / 16, by omega⟩) :=
    fun y k ha hb => congrArg y (funext fun a => Fin.ext (by match a with | ⟨0, _⟩ => exact ha | ⟨1, _⟩ => exact hb))
  rw [e4 x0 _ rfl rfl, e4 x1 _ rfl rfl, e4 x0 _ rfl rfl, e4 x1 _ rfl rfl]
  rfl

theorem v144_at (i : S64x1024.Idx) : val_main_v144 (F := Ideal) x0 x1 x2 x7 x8 i
    = qr (x0 (sq (i 0) ⟨(i 1).val / 16, by have h1 : (i 1).val < 1024 := (i 1).isLt; omega⟩)) (x1 (sq (i 0) ⟨(i 1).val / 16, by have h1 : (i 1).val < 1024 := (i 1).isLt; omega⟩)) (est x2 (i 0)) * x8 i + qi (x0 (sq (i 0) ⟨(i 1).val / 16, by have h1 : (i 1).val < 1024 := (i 1).isLt; omega⟩)) (x1 (sq (i 0) ⟨(i 1).val / 16, by have h1 : (i 1).val < 1024 := (i 1).isLt; omega⟩)) (est x2 (i 0)) * -x7 i := by
  have h0 : (i 0).val < 64 := (i 0).isLt
  have h1 : (i 1).val < 1024 := (i 1).isLt
  have e1 : idx_main_v144 i = cb (i 0) ⟨(i 1).val / 16, by omega⟩ ⟨(i 1).val % 16, by omega⟩ := by
    funext a
    refine Fin.ext ?_
    match a with
    | ⟨0, _⟩ => show ((i 0).val * 1024 + (i 1).val) / 1024 = (i 0).val; omega
    | ⟨1, _⟩ => show ((i 0).val * 1024 + (i 1).val) / 16 % 64 = (i 1).val / 16; omega
    | ⟨2, _⟩ => show ((i 0).val * 1024 + (i 1).val) % 16 = (i 1).val % 16; omega
  have e7 : idx_main_v48 (idx_main_v144 i) = i := by
    rw [e1]
    funext a
    refine Fin.ext ?_
    match a with
    | ⟨0, _⟩ => show (((i 0).val * 64 + (i 1).val / 16) * 16 + (i 1).val % 16) / 1024 = (i 0).val; omega
    | ⟨1, _⟩ => show (((i 0).val * 64 + (i 1).val / 16) * 16 + (i 1).val % 16) % 1024 = (i 1).val; omega
  have e8 : idx_main_v49 (idx_main_v144 i) = i := e7
  rw [val_main_v144_apply, val_main_v65_apply, val_main_v57_apply, val_main_v56_apply, val_main_v41_apply, val_main_v64_apply, val_main_v63_apply, val_main_v37_apply, val_main_v62_apply, val_main_v48_apply, val_main_v49_apply, e7, e8, e1, v23_at, v30_at]
  have e4 : ∀ (y : (⟨S64x64, .f32⟩ : BufTy).Contents (Elt Ideal)) (k : S64x64.Idx), (k 0).val = (i 0).val → (k 1).val = (i 1).val / 16 → y k = y (sq (i 0) ⟨(i 1).val / 16, by omega⟩) :=
    fun y k ha hb => congrArg y (funext fun a => Fin.ext (by match a with | ⟨0, _⟩ => exact ha | ⟨1, _⟩ => exact hb))
  rw [e4 x0 _ rfl rfl, e4 x1 _ rfl rfl, e4 x0 _ rfl rfl, e4 x1 _ rfl rfl]
  rfl

end Cert.Reference15Ideal.Val

end
-- ==== Proof.Hold.BwdClaim.lean ====
/-
  The zero-order hold's gradient: the kernel and the reference leave the same arrays.
-/
module

public import proofs.«01_k».proof.Proof.Hold.BwdRun
public import proofs.«01_k».proof.Proof.Hold.BwdRef
public import proofs.«01_k».proof.Proof.Gen.Reference15Ideal.Run
public import proofs.«01_k».proof.Defs

@[expose] public section

noncomputable section

namespace Cert.Proof

open Cert.Hold Idealize.ShloMosaic Idealize.ShloMosaic.TcCoe Idealize.SL.Sem

theorem algebraic_hold_bwd [hK : Cert.Kernel15Ideal.Facts] [hR : Cert.Reference15Ideal.Facts] :
    Cert.algebraic_Kernel15Ideal_Reference15Ideal (hKernel15Ideal := hK) (hReference15Ideal := hR) := by
  intro m g m' g' hpre hagree
  refine ⟨fun c => GRE (Cert.Kernel15Ideal.Val.A0 m c) (Cert.Kernel15Ideal.Val.A1 m c) (Cert.Kernel15Ideal.Val.A2 m c) (Cert.Kernel15Ideal.Val.A3 m c) (Cert.Kernel15Ideal.Val.A4 m c) (Cert.Kernel15Ideal.Val.A5 m c) (Cert.Kernel15Ideal.Val.A6 m c) (Cert.Kernel15Ideal.Val.A7 m c) (Cert.Kernel15Ideal.Val.A8 m c),
    fun c => GIM (Cert.Kernel15Ideal.Val.A0 m c) (Cert.Kernel15Ideal.Val.A1 m c) (Cert.Kernel15Ideal.Val.A2 m c) (Cert.Kernel15Ideal.Val.A3 m c) (Cert.Kernel15Ideal.Val.A4 m c) (Cert.Kernel15Ideal.Val.A5 m c) (Cert.Kernel15Ideal.Val.A6 m c) (Cert.Kernel15Ideal.Val.A7 m c) (Cert.Kernel15Ideal.Val.A8 m c),
    fun c => GST (Cert.Kernel15Ideal.Val.A0 m c) (Cert.Kernel15Ideal.Val.A1 m c) (Cert.Kernel15Ideal.Val.A2 m c) (Cert.Kernel15Ideal.Val.A3 m c) (Cert.Kernel15Ideal.Val.A4 m c) (Cert.Kernel15Ideal.Val.A5 m c) (Cert.Kernel15Ideal.Val.A6 m c) (Cert.Kernel15Ideal.Val.A7 m c) (Cert.Kernel15Ideal.Val.A8 m c),
    fun c => GBR (Cert.Kernel15Ideal.Val.A0 m c) (Cert.Kernel15Ideal.Val.A1 m c) (Cert.Kernel15Ideal.Val.A2 m c) (Cert.Kernel15Ideal.Val.A7 m c) (Cert.Kernel15Ideal.Val.A8 m c),
    fun c => GBI (Cert.Kernel15Ideal.Val.A0 m c) (Cert.Kernel15Ideal.Val.A1 m c) (Cert.Kernel15Ideal.Val.A2 m c) (Cert.Kernel15Ideal.Val.A7 m c) (Cert.Kernel15Ideal.Val.A8 m c),
    Cert.Kernel15Ideal.Val.run m g,
    (θ_run Cert.Reference15Ideal.defs _ _).mono (fun r h c => ?_) (Cert.Reference15Ideal.Value.run m' g')⟩
  obtain ⟨a0, a1, a2, a3, a4, a5, a6, a7, a8⟩ := hagree c
  refine ⟨((h c).1.trans (Cert.Reference15Ideal.Read.val_main_v139_eq m' c)).trans (funext fun i => ?_),
    ((h c).2.1.trans (Cert.Reference15Ideal.Read.val_main_v131_eq m' c)).trans (funext fun i => ?_),
    ((h c).2.2.1.trans (Cert.Reference15Ideal.Read.val_main_v142_eq m' c)).trans (funext fun i => ?_),
    ((h c).2.2.2.1.trans (Cert.Reference15Ideal.Read.val_main_v143_eq _ _ _ _ _)).trans (funext fun i => ?_),
    ((h c).2.2.2.2.1.trans (Cert.Reference15Ideal.Read.val_main_v144_eq _ _ _ _ _)).trans (funext fun i => ?_), (h c).2.2.2.2.2⟩
  · idx_vars i
    rw [Cert.Reference15Ideal.Val.v139_at, a0, a1, a2, a3, a4, a5, a6, a7, a8]
    rfl
  · idx_vars i
    rw [Cert.Reference15Ideal.Val.v131_at, a0, a1, a2, a3, a4, a5, a6, a7, a8]
    rfl
  · idx_vars i
    rw [Cert.Reference15Ideal.Val.v142_at, a0, a1, a2, a3, a4, a5, a6, a7, a8]
    rfl
  · idx_vars i
    rw [Cert.Reference15Ideal.Val.v143_at, a0, a1, a2, a7, a8]
    rfl
  · idx_vars i
    rw [Cert.Reference15Ideal.Val.v144_at, a0, a1, a2, a7, a8]
    rfl

end Cert.Proof

end
-- ==== Proof.Hold.Claim.lean ====
/-
  The zero-order hold: its forward call and its gradient call.
-/
module

public import proofs.«01_k».proof.Proof.Hold.FwdClaim
public import proofs.«01_k».proof.Proof.Hold.BwdClaim
-- ==== Proof.lean ====
/-
  The certificate: every program runs to the end and leaves its arguments as they were, the idealized kernels stand for
  the printed ones, and the kernels' results equal the references' over the reals.
-/
module

public import proofs.«01_k».proof.Defs
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.InProj.Ok
public import proofs.«01_k».proof.Proof.Gen.Kernel7Ideal.Frame
public import proofs.«01_k».proof.Proof.InProj.OkIdeal
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13.Frame
public import proofs.«01_k».proof.Proof.Gen.Kernel13Ideal.Frame
public import proofs.«01_k».proof.Proof.Gen.Reference13Ideal.Run
public import proofs.«01_k».proof.Proof.Gen.Reference13Ideal.Read
public import proofs.«01_k».proof.Proof.Gen.Kernel14.Frame
public import proofs.«01_k».proof.Proof.Gen.Kernel14Ideal.Frame
public import proofs.«01_k».proof.Proof.Gen.Reference14Ideal.Run
public import proofs.«01_k».proof.Proof.Gen.Reference14Ideal.Read
public import proofs.«01_k».proof.Proof.Gen.Kernel15.Frame
public import proofs.«01_k».proof.Proof.Gen.Kernel15Ideal.Frame
public import proofs.«01_k».proof.Proof.Gen.Reference15Ideal.Run
public import proofs.«01_k».proof.Proof.Gen.Reference15Ideal.Read
public import proofs.«01_k».proof.Proof.PreNorm.Claim
public import proofs.«01_k».proof.Proof.GradWIn.Claim
public import proofs.«01_k».proof.Proof.GradWOut.Claim
public import proofs.«01_k».proof.Proof.OutProj.Claim
public import proofs.«01_k».proof.Proof.GateFwd.Claim
public import proofs.«01_k».proof.Proof.InProj.Claim
public import proofs.«01_k».proof.Proof.AdamW.Claim
public import proofs.«01_k».proof.Proof.Norm0.Claim
public import proofs.«01_k».proof.Proof.Hold.Claim
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Gen.Kernel5
public import proofs.«01_k».proof.Proof.Gen.Kernel5Ideal
public import proofs.«01_k».proof.Proof.Gen.Reference5Ideal
public import proofs.«01_k».proof.Proof.Gen.Kernel6
public import proofs.«01_k».proof.Proof.Gen.Kernel6Ideal
public import proofs.«01_k».proof.Proof.Gen.Reference6Ideal
public import proofs.«01_k».proof.Proof.Gen.Kernel7
public import proofs.«01_k».proof.Proof.Gen.Kernel7Ideal
public import proofs.«01_k».proof.Proof.Gen.Reference7Ideal
public import proofs.«01_k».proof.Proof.Gen.Kernel8
public import proofs.«01_k».proof.Proof.Gen.Kernel8Ideal
public import proofs.«01_k».proof.Proof.Gen.Reference8Ideal
public import proofs.«01_k».proof.Proof.Gen.Kernel9
public import proofs.«01_k».proof.Proof.Gen.Kernel9Ideal
public import proofs.«01_k».proof.Proof.Gen.Reference9Ideal
public import proofs.«01_k».proof.Proof.Gen.Kernel10
public import proofs.«01_k».proof.Proof.Gen.Kernel10Ideal
public import proofs.«01_k».proof.Proof.Gen.Reference10Ideal
public import proofs.«01_k».proof.Proof.Gen.Kernel11
public import proofs.«01_k».proof.Proof.Gen.Kernel11Ideal
public import proofs.«01_k».proof.Proof.Gen.Reference11Ideal
public import proofs.«01_k».proof.Proof.Gen.Kernel12
public import proofs.«01_k».proof.Proof.Gen.Kernel12Ideal
public import proofs.«01_k».proof.Proof.Gen.Reference12Ideal
public import proofs.«01_k».proof.Proof.Gen.Kernel13
public import proofs.«01_k».proof.Proof.Gen.Kernel13Ideal
public import proofs.«01_k».proof.Proof.Gen.Reference13Ideal
public import proofs.«01_k».proof.Proof.Gen.Kernel14
public import proofs.«01_k».proof.Proof.Gen.Kernel14Ideal
public import proofs.«01_k».proof.Proof.Gen.Reference14Ideal
public import proofs.«01_k».proof.Proof.Gen.Kernel15
public import proofs.«01_k».proof.Proof.Gen.Kernel15Ideal
public import proofs.«01_k».proof.Proof.Gen.Reference15Ideal
public import proofs.«01_k».proof.Proof.Gen.Pre_pre_finite
public import proofs.«01_k».proof.Proof.Gen.Pre_out_finite
public import proofs.«01_k».proof.Proof.Gen.Pre_on_mesh

@[expose] public section

noncomputable section

namespace Cert.Proof

open Idealize.ShloMosaic Idealize.SL.Sem

/-- The reference runs to the end and leaves its arguments as they were; it has no semaphores. -/
theorem frame_Reference2Ideal :
    Cert.quiescent_Reference2Ideal := fun m ρ _ =>
  (θ_run Cert.Reference2Ideal.defs _ _).mono (fun r h => ⟨fun c => (h c).2.2, Idealize.ShloMosaic.sem_eq_zero_of_no_sems (by decide) r.2⟩)
    (Cert.Reference2Ideal.Value.run m ρ)

/-- The reference runs to the end and leaves its arguments as they were under the precondition; it has no semaphores. -/
theorem frame_Reference2Ideal_pre_pre_finite :
    Cert.quiescent_Reference2Ideal_pre_pre_finite := fun m ρ _ =>
  (θ_run Cert.Reference2Ideal.defs _ _).mono (fun r h => ⟨fun c => (h c).2.2, Idealize.ShloMosaic.sem_eq_zero_of_no_sems (by decide) r.2⟩)
    (Cert.Reference2Ideal.Value.run m ρ)

/-- The reference runs to the end and leaves its arguments as they were; it has no semaphores. -/
theorem frame_Reference3Ideal :
    Cert.quiescent_Reference3Ideal := fun m ρ _ =>
  (θ_run Cert.Reference3Ideal.defs _ _).mono (fun r h => ⟨fun c => (h c).2.2, Idealize.ShloMosaic.sem_eq_zero_of_no_sems (by decide) r.2⟩)
    (Cert.Reference3Ideal.Value.run m ρ)

/-- The reference runs to the end and leaves its arguments as they were; it has no semaphores. -/
theorem frame_Reference4Ideal :
    Cert.quiescent_Reference4Ideal := fun m ρ _ =>
  (θ_run Cert.Reference4Ideal.defs _ _).mono (fun r h => ⟨fun c => (h c).2.2, Idealize.ShloMosaic.sem_eq_zero_of_no_sems (by decide) r.2⟩)
    (Cert.Reference4Ideal.Value.run m ρ)

/-- The reference runs to the end and leaves its arguments as they were; it has no semaphores. -/
theorem frame_Reference5Ideal :
    Cert.quiescent_Reference5Ideal := fun m ρ _ =>
  (θ_run Cert.Reference5Ideal.defs _ _).mono (fun r h => ⟨fun c => (h c).2.2.2.2.2, Idealize.ShloMosaic.sem_eq_zero_of_no_sems (by decide) r.2⟩)
    (Cert.Reference5Ideal.Value.run m ρ)

/-- The reference runs to the end and leaves its arguments as they were under the precondition; it has no semaphores. -/
theorem frame_Reference5Ideal_pre_out_finite :
    Cert.quiescent_Reference5Ideal_pre_out_finite := fun m ρ _ =>
  (θ_run Cert.Reference5Ideal.defs _ _).mono (fun r h => ⟨fun c => (h c).2.2.2.2.2, Idealize.ShloMosaic.sem_eq_zero_of_no_sems (by decide) r.2⟩)
    (Cert.Reference5Ideal.Value.run m ρ)

/-- The reference runs to the end and leaves its arguments as they were; it has no semaphores. -/
theorem frame_Reference6Ideal :
    Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run m ρ)

/-- The reference runs to the end and leaves its arguments as they were; it has no semaphores. -/
theorem frame_Reference7Ideal :
    Cert.quiescent_Reference7Ideal := fun m ρ _ =>
  (θ_run Cert.Reference7Ideal.defs _ _).mono (fun r h => ⟨fun c => (h c).2, Idealize.ShloMosaic.sem_eq_zero_of_no_sems (by decide) r.2⟩)
    (Cert.Reference7Ideal.Value.run m ρ)

/-- The reference runs to the end and leaves its arguments as they were under the precondition; it has no semaphores. -/
theorem frame_Reference7Ideal_pre_on_mesh :
    Cert.quiescent_Reference7Ideal_pre_on_mesh := fun m ρ _ =>
  (θ_run Cert.Reference7Ideal.defs _ _).mono (fun r h => ⟨fun c => (h c).2, Idealize.ShloMosaic.sem_eq_zero_of_no_sems (by decide) r.2⟩)
    (Cert.Reference7Ideal.Value.run m ρ)

/-- The reference runs to the end and leaves its arguments as they were; it has no semaphores. -/
theorem frame_Reference8Ideal :
    Cert.quiescent_Reference8Ideal := fun m ρ _ =>
  (θ_run Cert.Reference8Ideal.defs _ _).mono (fun r h => ⟨fun c => (h c).2.2.2, Idealize.ShloMosaic.sem_eq_zero_of_no_sems (by decide) r.2⟩)
    (Cert.Reference8Ideal.Value.run m ρ)

/-- The reference runs to the end and leaves its arguments as they were; it has no semaphores. -/
theorem frame_Reference9Ideal :
    Cert.quiescent_Reference9Ideal := fun m ρ _ =>
  (θ_run Cert.Reference9Ideal.defs _ _).mono (fun r h => ⟨fun c => (h c).2.2.2, Idealize.ShloMosaic.sem_eq_zero_of_no_sems (by decide) r.2⟩)
    (Cert.Reference9Ideal.Value.run m ρ)

/-- The reference runs to the end and leaves its arguments as they were; it has no semaphores. -/
theorem frame_Reference10Ideal :
    Cert.quiescent_Reference10Ideal := fun m ρ _ =>
  (θ_run Cert.Reference10Ideal.defs _ _).mono (fun r h => ⟨fun c => (h c).2.2.2, Idealize.ShloMosaic.sem_eq_zero_of_no_sems (by decide) r.2⟩)
    (Cert.Reference10Ideal.Value.run m ρ)

/-- The reference runs to the end and leaves its arguments as they were; it has no semaphores. -/
theorem frame_Reference11Ideal :
    Cert.quiescent_Reference11Ideal := fun m ρ _ =>
  (θ_run Cert.Reference11Ideal.defs _ _).mono (fun r h => ⟨fun c => (h c).2.2.2, Idealize.ShloMosaic.sem_eq_zero_of_no_sems (by decide) r.2⟩)
    (Cert.Reference11Ideal.Value.run m ρ)

/-- The reference runs to the end and leaves its arguments as they were; it has no semaphores. -/
theorem frame_Reference12Ideal :
    Cert.quiescent_Reference12Ideal := fun m ρ _ =>
  (θ_run Cert.Reference12Ideal.defs _ _).mono (fun r h => ⟨fun c => (h c).2.2.2, Idealize.ShloMosaic.sem_eq_zero_of_no_sems (by decide) r.2⟩)
    (Cert.Reference12Ideal.Value.run m ρ)

/-- The reference runs to the end and leaves its arguments as they were; it has no semaphores. -/
theorem frame_Reference13Ideal :
    Cert.quiescent_Reference13Ideal := fun m ρ _ =>
  (θ_run Cert.Reference13Ideal.defs _ _).mono (fun r h => ⟨fun c => (h c).2, Idealize.ShloMosaic.sem_eq_zero_of_no_sems (by decide) r.2⟩)
    (Cert.Reference13Ideal.Value.run m ρ)

/-- The reference runs to the end and leaves its arguments as they were; it has no semaphores. -/
theorem frame_Reference14Ideal :
    Cert.quiescent_Reference14Ideal := fun m ρ _ =>
  (θ_run Cert.Reference14Ideal.defs _ _).mono (fun r h => ⟨fun c => (h c).2.2.2.2.2, Idealize.ShloMosaic.sem_eq_zero_of_no_sems (by decide) r.2⟩)
    (Cert.Reference14Ideal.Value.run m ρ)

/-- The reference runs to the end and leaves its arguments as they were; it has no semaphores. -/
theorem frame_Reference15Ideal :
    Cert.quiescent_Reference15Ideal := fun m ρ _ =>
  (θ_run Cert.Reference15Ideal.defs _ _).mono (fun r h => ⟨fun c => (h c).2.2.2.2.2, Idealize.ShloMosaic.sem_eq_zero_of_no_sems (by decide) r.2⟩)
    (Cert.Reference15Ideal.Value.run m ρ)

/-- Every claim of the certificate. -/
theorem claim : Cert.Claim :=
  ⟨Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Kernel11.Gen.facts,
    Cert.Kernel11Ideal.Gen.facts,
    Cert.Reference11Ideal.Gen.facts,
    Cert.Kernel12.Gen.facts,
    Cert.Kernel12Ideal.Gen.facts,
    Cert.Reference12Ideal.Gen.facts,
    Cert.Kernel13.Gen.facts,
    Cert.Kernel13Ideal.Gen.facts,
    Cert.Reference13Ideal.Gen.facts,
    Cert.Kernel14.Gen.facts,
    Cert.Kernel14Ideal.Gen.facts,
    Cert.Reference14Ideal.Gen.facts,
    Cert.Kernel15.Gen.facts,
    Cert.Kernel15Ideal.Gen.facts,
    Cert.Reference15Ideal.Gen.facts,
    Cert.Pre_pre_finite.Gen.facts,
    Cert.Pre_out_finite.Gen.facts,
    Cert.Pre_on_mesh.Gen.facts,
    fun m ρ _ => Cert.Kernel2.Gen.frame m ρ,
    fun m ρ _ => Cert.Kernel2Ideal.Gen.frame m ρ,
    fun m ρ _ => Cert.Kernel2Ideal.Gen.frame m ρ,
    frame_Reference2Ideal,
    frame_Reference2Ideal_pre_pre_finite,
    fun m ρ _ => Cert.Kernel3.Gen.frame m ρ,
    fun m ρ _ => Cert.Kernel3Ideal.Gen.frame m ρ,
    frame_Reference3Ideal,
    fun m ρ _ => Cert.Kernel4.Gen.frame m ρ,
    fun m ρ _ => Cert.Kernel4Ideal.Gen.frame m ρ,
    frame_Reference4Ideal,
    fun m ρ _ => Cert.Kernel5.Gen.frame m ρ,
    fun m ρ _ => Cert.Kernel5Ideal.Gen.frame m ρ,
    fun m ρ _ => Cert.Kernel5Ideal.Gen.frame m ρ,
    frame_Reference5Ideal,
    frame_Reference5Ideal_pre_out_finite,
    fun m ρ _ => Cert.Kernel6.Gen.frame m ρ,
    fun m ρ _ => Cert.Kernel6Ideal.Gen.frame m ρ,
    frame_Reference6Ideal,
    fun m ρ h => Cert.Kernel7.Gen.frame m ρ (Cert.Kernel7.Val.ok_of_pre m h),
    fun m ρ h => Cert.Kernel7Ideal.Gen.frame m ρ (Cert.Kernel7Ideal.Val.ok_of_pre m h),
    frame_Reference7Ideal,
    frame_Reference7Ideal_pre_on_mesh,
    fun m ρ _ => Cert.Kernel8.Gen.frame m ρ,
    fun m ρ _ => Cert.Kernel8Ideal.Gen.frame m ρ,
    frame_Reference8Ideal,
    fun m ρ _ => Cert.Kernel9.Gen.frame m ρ,
    fun m ρ _ => Cert.Kernel9Ideal.Gen.frame m ρ,
    frame_Reference9Ideal,
    fun m ρ _ => Cert.Kernel10.Gen.frame m ρ,
    fun m ρ _ => Cert.Kernel10Ideal.Gen.frame m ρ,
    frame_Reference10Ideal,
    fun m ρ _ => Cert.Kernel11.Gen.frame m ρ,
    fun m ρ _ => Cert.Kernel11Ideal.Gen.frame m ρ,
    frame_Reference11Ideal,
    fun m ρ _ => Cert.Kernel12.Gen.frame m ρ,
    fun m ρ _ => Cert.Kernel12Ideal.Gen.frame m ρ,
    frame_Reference12Ideal,
    fun m ρ _ => Cert.Kernel13.Gen.frame m ρ,
    fun m ρ _ => Cert.Kernel13Ideal.Gen.frame m ρ,
    frame_Reference13Ideal,
    fun m ρ _ => Cert.Kernel14.Gen.frame m ρ,
    fun m ρ _ => Cert.Kernel14Ideal.Gen.frame m ρ,
    frame_Reference14Ideal,
    fun m ρ _ => Cert.Kernel15.Gen.frame m ρ,
    fun m ρ _ => Cert.Kernel15Ideal.Gen.frame m ρ,
    frame_Reference15Ideal,
    trivial,
    Cert.Proof.algebraic_pre_norm,
    trivial,
    Cert.Proof.algebraic_grad_w_in,
    trivial,
    Cert.Proof.algebraic_grad_w_out,
    trivial,
    Cert.Proof.algebraic_out_proj,
    trivial,
    Cert.Proof.algebraic_gate_fwd,
    trivial,
    Cert.Proof.algebraic_in_proj,
    trivial,
    Cert.Proof.algebraic_adamw_w_in,
    trivial,
    Cert.Proof.algebraic_adamw_w_out,
    trivial,
    Cert.Proof.algebraic_adamw_w_glu,
    trivial,
    Cert.Proof.algebraic_adamw_conv_w,
    trivial,
    Cert.Proof.algebraic_adamw_small,
    trivial,
    Cert.Proof.algebraic_norm0,
    trivial,
    Cert.Proof.algebraic_hold_fwd,
    trivial,
    Cert.Proof.algebraic_hold_bwd⟩

end Cert.Proof

end
